-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre_mlstm [hPre_pre_mlstm : Cert.Pre_pre_mlstm.Facts] (m : (ℓ : Loc Cert.KernelIdeal.nD Cert.KernelIdeal.τ Cert.KernelIdeal.sig) → Buf (Elt Ideal) ℓ) : Prop :=
  ∀ c : Dev Cert.KernelIdeal.nD,
    (Cert.Pre_pre_mlstm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_pre_mlstm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_pre_mlstm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre_mlstm [hPre_pre_mlstm : Cert.Pre_pre_mlstm.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre_mlstm.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_pre_mlstm.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_pre_mlstm.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Experts [hPre_pre_moe : Cert.Pre_pre_moe.Facts] (m : (ℓ : Loc Cert.Experts.nD Cert.Experts.τ Cert.Experts.sig) → Buf (Elt Bits) ℓ) : Prop :=
  ∀ c : Dev Cert.Experts.nD,
    (Cert.Pre_pre_moe.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))).1 = (fun _ => 1#1)
    ∧ (Cert.Pre_pre_moe.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))).2 = (fun _ => 1#1)

def Pre_ExpertsIdeal [hPre_pre_moe : Cert.Pre_pre_moe.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_pre_moe.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))).1 = (fun _ => 1#1)
    ∧ (Cert.Pre_pre_moe.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))).2 = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_pre_moe [hPre_pre_moe : Cert.Pre_pre_moe.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_pre_moe.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4))).1 = (fun _ => 1#1)
    ∧ (Cert.Pre_pre_moe.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4))).2 = (fun _ => 1#1)

def Pre_Combine [hPre_pre_mix : Cert.Pre_pre_mix.Facts] (m : (ℓ : Loc Cert.Combine.nD Cert.Combine.τ Cert.Combine.sig) → Buf (Elt Bits) ℓ) : Prop :=
  ∀ c : Dev Cert.Combine.nD,
    (Cert.Pre_pre_mix.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3)) (m ((c.tc : Thread Cert.Combine.nD Cert.Combine.τ).loc Cert.Combine.main_arg4))).1 = (fun _ => 1#1)
    ∧ (Cert.Pre_pre_mix.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3)) (m ((c.tc : Thread Cert.Combine.nD Cert.Combine.τ).loc Cert.Combine.main_arg4))).2 = (fun _ => 1#1)

def Pre_CombineIdeal [hPre_pre_mix : Cert.Pre_pre_mix.Facts] (m : (ℓ : Loc Cert.CombineIdeal.nD Cert.CombineIdeal.τ Cert.CombineIdeal.sig) → Buf (Elt Ideal) ℓ) : Prop :=
  ∀ c : Dev Cert.CombineIdeal.nD,
    (Cert.Pre_pre_mix.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4))).1 = (fun _ => 1#1)
    ∧ (Cert.Pre_pre_mix.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4))).2 = (fun _ => 1#1)

def Pre_CombineRefIdeal (m : (ℓ : Loc Cert.CombineRefIdeal.nD Cert.CombineRefIdeal.τ Cert.CombineRefIdeal.sig) → Buf (Elt Ideal) ℓ) : Prop :=
  True

def Pre_CombineRefIdeal_pre_mix [hPre_pre_mix : Cert.Pre_pre_mix.Facts] (m : (ℓ : Loc Cert.CombineRefIdeal.nD Cert.CombineRefIdeal.τ Cert.CombineRefIdeal.sig) → Buf (Elt Ideal) ℓ) : Prop :=
  ∀ c : Dev Cert.CombineRefIdeal.nD,
    (Cert.Pre_pre_mix.fn (F := Ideal) (m ((c.tc : Thread Cert.CombineRefIdeal.nD Cert.CombineRefIdeal.τ).loc Cert.CombineRefIdeal.main_arg0)) (m ((c.tc : Thread Cert.CombineRefIdeal.nD Cert.CombineRefIdeal.τ).loc Cert.CombineRefIdeal.main_arg1)) (m ((c.tc : Thread Cert.CombineRefIdeal.nD Cert.CombineRefIdeal.τ).loc Cert.CombineRefIdeal.main_arg2)) (m ((c.tc : Thread Cert.CombineRefIdeal.nD Cert.CombineRefIdeal.τ).loc Cert.CombineRefIdeal.main_arg3)) (m ((c.tc : Thread Cert.CombineRefIdeal.nD Cert.CombineRefIdeal.τ).loc Cert.CombineRefIdeal.main_arg4))).1 = (fun _ => 1#1)
    ∧ (Cert.Pre_pre_mix.fn (F := Ideal) (m ((c.tc : Thread Cert.CombineRefIdeal.nD Cert.CombineRefIdeal.τ).loc Cert.CombineRefIdeal.main_arg0)) (m ((c.tc : Thread Cert.CombineRefIdeal.nD Cert.CombineRefIdeal.τ).loc Cert.CombineRefIdeal.main_arg1)) (m ((c.tc : Thread Cert.CombineRefIdeal.nD Cert.CombineRefIdeal.τ).loc Cert.CombineRefIdeal.main_arg2)) (m ((c.tc : Thread Cert.CombineRefIdeal.nD Cert.CombineRefIdeal.τ).loc Cert.CombineRefIdeal.main_arg3)) (m ((c.tc : Thread Cert.CombineRefIdeal.nD Cert.CombineRefIdeal.τ).loc Cert.CombineRefIdeal.main_arg4))).2 = (fun _ => 1#1)

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanIdeal_pre_s5 [hPre_pre_s5 : Cert.Pre_pre_s5.Facts] (m : (ℓ : Loc Cert.ScanIdeal.nD Cert.ScanIdeal.τ Cert.ScanIdeal.sig) → Buf (Elt Ideal) ℓ) : Prop :=
  ∀ c : Dev Cert.ScanIdeal.nD,
    (Cert.Pre_pre_s5.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6))).1 = (fun _ => 1#1)
    ∧ (Cert.Pre_pre_s5.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6))).2.1 = (fun _ => 1#1)
    ∧ (Cert.Pre_pre_s5.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6))).2.2.1 = (fun _ => 1#1)
    ∧ (Cert.Pre_pre_s5.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6))).2.2.2.1 = (fun _ => 1#1)
    ∧ (Cert.Pre_pre_s5.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6))).2.2.2.2.1 = (fun _ => 1#1)
    ∧ (Cert.Pre_pre_s5.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6))).2.2.2.2.2.1 = (fun _ => 1#1)
    ∧ (Cert.Pre_pre_s5.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6))).2.2.2.2.2.2 = (fun _ => 1#1)

def Pre_ScanRefIdeal (m : (ℓ : Loc Cert.ScanRefIdeal.nD Cert.ScanRefIdeal.τ Cert.ScanRefIdeal.sig) → Buf (Elt Ideal) ℓ) : Prop :=
  True

def Pre_ScanRefIdeal_pre_s5 [hPre_pre_s5 : Cert.Pre_pre_s5.Facts] (m : (ℓ : Loc Cert.ScanRefIdeal.nD Cert.ScanRefIdeal.τ Cert.ScanRefIdeal.sig) → Buf (Elt Ideal) ℓ) : Prop :=
  ∀ c : Dev Cert.ScanRefIdeal.nD,
    (Cert.Pre_pre_s5.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6))).1 = (fun _ => 1#1)
    ∧ (Cert.Pre_pre_s5.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6))).2.1 = (fun _ => 1#1)
    ∧ (Cert.Pre_pre_s5.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6))).2.2.1 = (fun _ => 1#1)
    ∧ (Cert.Pre_pre_s5.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6))).2.2.2.1 = (fun _ => 1#1)
    ∧ (Cert.Pre_pre_s5.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6))).2.2.2.2.1 = (fun _ => 1#1)
    ∧ (Cert.Pre_pre_s5.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6))).2.2.2.2.2.1 = (fun _ => 1#1)
    ∧ (Cert.Pre_pre_s5.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_pre_mlstm [hKernelIdeal : Cert.KernelIdeal.Facts] [hPre_pre_mlstm : Cert.Pre_pre_mlstm.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre_mlstm m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_pre_mlstm [hReferenceIdeal : Cert.ReferenceIdeal.Facts] [hPre_pre_mlstm : Cert.Pre_pre_mlstm.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre_mlstm m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
      ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_Experts [hExperts : Cert.Experts.Facts] [hPre_pre_moe : Cert.Pre_pre_moe.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] [hPre_pre_moe : Cert.Pre_pre_moe.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_ExpertsRefIdeal_pre_pre_moe [hExpertsRefIdeal : Cert.ExpertsRefIdeal.Facts] [hPre_pre_moe : Cert.Pre_pre_moe.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_pre_moe m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_Combine [hCombine : Cert.Combine.Facts] [hPre_pre_mix : Cert.Pre_pre_mix.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4))
      ∧ r.2.sem = fun _ => 0)

def quiescent_CombineIdeal [hCombineIdeal : Cert.CombineIdeal.Facts] [hPre_pre_mix : Cert.Pre_pre_mix.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4))
      ∧ r.2.sem = fun _ => 0)

def quiescent_CombineRefIdeal_pre_pre_mix [hCombineRefIdeal : Cert.CombineRefIdeal.Facts] [hPre_pre_mix : Cert.Pre_pre_mix.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal_pre_mix m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5)
      ∧ r.2.mem ((c.tc : Thread Cert.Scan.nD Cert.Scan.τ).loc Cert.Scan.main_arg6) = m ((c.tc : Thread Cert.Scan.nD Cert.Scan.τ).loc Cert.Scan.main_arg6))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6))
      ∧ r.2.sem = fun _ => 0)

def quiescent_ScanIdeal_pre_pre_s5 [hScanIdeal : Cert.ScanIdeal.Facts] [hPre_pre_s5 : Cert.Pre_pre_s5.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal_pre_s5 m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5)
      ∧ r.2.mem ((c.tc : Thread Cert.ScanRefIdeal.nD Cert.ScanRefIdeal.τ).loc Cert.ScanRefIdeal.main_arg6) = m ((c.tc : Thread Cert.ScanRefIdeal.nD Cert.ScanRefIdeal.τ).loc Cert.ScanRefIdeal.main_arg6))
      ∧ r.2.sem = fun _ => 0)

def quiescent_ScanRefIdeal_pre_pre_s5 [hScanRefIdeal : Cert.ScanRefIdeal.Facts] [hPre_pre_s5 : Cert.Pre_pre_s5.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal_pre_s5 m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5)
      ∧ r.2.mem ((c.tc : Thread Cert.ScanRefIdeal.nD Cert.ScanRefIdeal.τ).loc Cert.ScanRefIdeal.main_arg6) = m ((c.tc : Thread Cert.ScanRefIdeal.nD Cert.ScanRefIdeal.τ).loc Cert.ScanRefIdeal.main_arg6))
      ∧ r.2.sem = fun _ => 0)

def preserves_Kernel_KernelIdeal : Prop :=
  True

def algebraic_KernelIdeal_ReferenceIdeal_pre_pre_mlstm [hKernelIdeal : Cert.KernelIdeal.Facts] [hReferenceIdeal : Cert.ReferenceIdeal.Facts] [hPre_pre_mlstm : Cert.Pre_pre_mlstm.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre_mlstm m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v15) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)
      ∧ m' ((c.tc : Thread Cert.GluRefIdeal.nD Cert.GluRefIdeal.τ).loc Cert.GluRefIdeal.main_arg4) = m ((c.tc : Thread Cert.GluIdeal.nD Cert.GluIdeal.τ).loc Cert.GluIdeal.main_arg4)) →
    ∃ (v0 : (c : Dev Cert.GluIdeal.nD) → Buf (Elt Ideal) ((c.tc : Thread Cert.GluIdeal.nD Cert.GluIdeal.τ).loc Cert.GluIdeal.main_v3)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v3) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v41) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3)
          ∧ r.2.mem ((c.tc : Thread Cert.GluRefIdeal.nD Cert.GluRefIdeal.τ).loc Cert.GluRefIdeal.main_arg4) = m' ((c.tc : Thread Cert.GluRefIdeal.nD Cert.GluRefIdeal.τ).loc Cert.GluRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_Experts_ExpertsIdeal : Prop :=
  True

def algebraic_ExpertsIdeal_ExpertsRefIdeal [hExpertsIdeal : Cert.ExpertsIdeal.Facts] [hExpertsRefIdeal : Cert.ExpertsRefIdeal.Facts] [hPre_pre_moe : Cert.Pre_pre_moe.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v31) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4))

def preserves_Combine_CombineIdeal : Prop :=
  True

def algebraic_CombineIdeal_CombineRefIdeal [hCombineIdeal : Cert.CombineIdeal.Facts] [hCombineRefIdeal : Cert.CombineRefIdeal.Facts] [hPre_pre_mix : Cert.Pre_pre_mix.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)) →
    ∃ (v0 : (c : Dev Cert.CombineIdeal.nD) → Buf (Elt Ideal) ((c.tc : Thread Cert.CombineIdeal.nD Cert.CombineIdeal.τ).loc Cert.CombineIdeal.main_v5)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v5) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v39) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4))

def preserves_Scan_ScanIdeal : Prop :=
  True

def algebraic_ScanIdeal_ScanRefIdeal_pre_pre_s5 [hScanIdeal : Cert.ScanIdeal.Facts] [hScanRefIdeal : Cert.ScanRefIdeal.Facts] [hPre_pre_s5 : Cert.Pre_pre_s5.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal_pre_s5 m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)
      ∧ m' ((c.tc : Thread Cert.ScanRefIdeal.nD Cert.ScanRefIdeal.τ).loc Cert.ScanRefIdeal.main_arg5) = m ((c.tc : Thread Cert.ScanIdeal.nD Cert.ScanIdeal.τ).loc Cert.ScanIdeal.main_arg5)
      ∧ m' ((c.tc : Thread Cert.ScanRefIdeal.nD Cert.ScanRefIdeal.τ).loc Cert.ScanRefIdeal.main_arg6) = m ((c.tc : Thread Cert.ScanIdeal.nD Cert.ScanIdeal.τ).loc Cert.ScanIdeal.main_arg6)) →
    ∃ (v0 : (c : Dev Cert.ScanIdeal.nD) → Buf (Elt Ideal) ((c.tc : Thread Cert.ScanIdeal.nD Cert.ScanIdeal.τ).loc Cert.ScanIdeal.main_v248)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v248) = v0 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
          ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v54) = v0 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3)
          ∧ r.2.mem ((c.tc : Thread Cert.ScanRefIdeal.nD Cert.ScanRefIdeal.τ).loc Cert.ScanRefIdeal.main_arg4) = m' ((c.tc : Thread Cert.ScanRefIdeal.nD Cert.ScanRefIdeal.τ).loc Cert.ScanRefIdeal.main_arg4)
          ∧ r.2.mem ((c.tc : Thread Cert.ScanRefIdeal.nD Cert.ScanRefIdeal.τ).loc Cert.ScanRefIdeal.main_arg5) = m' ((c.tc : Thread Cert.ScanRefIdeal.nD Cert.ScanRefIdeal.τ).loc Cert.ScanRefIdeal.main_arg5)
          ∧ r.2.mem ((c.tc : Thread Cert.ScanRefIdeal.nD Cert.ScanRefIdeal.τ).loc Cert.ScanRefIdeal.main_arg6) = m' ((c.tc : Thread Cert.ScanRefIdeal.nD Cert.ScanRefIdeal.τ).loc Cert.ScanRefIdeal.main_arg6))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hGlu : Cert.Glu.Facts) (hGluIdeal : Cert.GluIdeal.Facts) (hGluRefIdeal : Cert.GluRefIdeal.Facts) (hOutProj : Cert.OutProj.Facts) (hOutProjIdeal : Cert.OutProjIdeal.Facts) (hOutProjRefIdeal : Cert.OutProjRefIdeal.Facts) (hExperts : Cert.Experts.Facts) (hExpertsIdeal : Cert.ExpertsIdeal.Facts) (hExpertsRefIdeal : Cert.ExpertsRefIdeal.Facts) (hCombine : Cert.Combine.Facts) (hCombineIdeal : Cert.CombineIdeal.Facts) (hCombineRefIdeal : Cert.CombineRefIdeal.Facts) (hScan : Cert.Scan.Facts) (hScanIdeal : Cert.ScanIdeal.Facts) (hScanRefIdeal : Cert.ScanRefIdeal.Facts) (hPre_pre_mlstm : Cert.Pre_pre_mlstm.Facts) (hPre_pre_moe : Cert.Pre_pre_moe.Facts) (hPre_pre_mix : Cert.Pre_pre_mix.Facts) (hPre_pre_s5 : Cert.Pre_pre_s5.Facts),
    quiescent_Kernel (hKernel := hKernel)
    ∧ quiescent_KernelIdeal (hKernelIdeal := hKernelIdeal)
    ∧ quiescent_KernelIdeal_pre_pre_mlstm (hKernelIdeal := hKernelIdeal) (hPre_pre_mlstm := hPre_pre_mlstm)
    ∧ quiescent_ReferenceIdeal (hReferenceIdeal := hReferenceIdeal)
    ∧ quiescent_ReferenceIdeal_pre_pre_mlstm (hReferenceIdeal := hReferenceIdeal) (hPre_pre_mlstm := hPre_pre_mlstm)
    ∧ quiescent_InProj (hInProj := hInProj)
    ∧ quiescent_InProjIdeal (hInProjIdeal := hInProjIdeal)
    ∧ quiescent_InProjRefIdeal (hInProjRefIdeal := hInProjRefIdeal)
    ∧ quiescent_Glu (hGlu := hGlu)
    ∧ quiescent_GluIdeal (hGluIdeal := hGluIdeal)
    ∧ quiescent_GluRefIdeal (hGluRefIdeal := hGluRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Experts (hExperts := hExperts) (hPre_pre_moe := hPre_pre_moe)
    ∧ quiescent_ExpertsIdeal (hExpertsIdeal := hExpertsIdeal) (hPre_pre_moe := hPre_pre_moe)
    ∧ quiescent_ExpertsRefIdeal (hExpertsRefIdeal := hExpertsRefIdeal)
    ∧ quiescent_ExpertsRefIdeal_pre_pre_moe (hExpertsRefIdeal := hExpertsRefIdeal) (hPre_pre_moe := hPre_pre_moe)
    ∧ quiescent_Combine (hCombine := hCombine) (hPre_pre_mix := hPre_pre_mix)
    ∧ quiescent_CombineIdeal (hCombineIdeal := hCombineIdeal) (hPre_pre_mix := hPre_pre_mix)
    ∧ quiescent_CombineRefIdeal (hCombineRefIdeal := hCombineRefIdeal)
    ∧ quiescent_CombineRefIdeal_pre_pre_mix (hCombineRefIdeal := hCombineRefIdeal) (hPre_pre_mix := hPre_pre_mix)
    ∧ quiescent_Scan (hScan := hScan)
    ∧ quiescent_ScanIdeal (hScanIdeal := hScanIdeal)
    ∧ quiescent_ScanIdeal_pre_pre_s5 (hScanIdeal := hScanIdeal) (hPre_pre_s5 := hPre_pre_s5)
    ∧ quiescent_ScanRefIdeal (hScanRefIdeal := hScanRefIdeal)
    ∧ quiescent_ScanRefIdeal_pre_pre_s5 (hScanRefIdeal := hScanRefIdeal) (hPre_pre_s5 := hPre_pre_s5)
    ∧ preserves_Kernel_KernelIdeal
    ∧ algebraic_KernelIdeal_ReferenceIdeal_pre_pre_mlstm (hKernelIdeal := hKernelIdeal) (hReferenceIdeal := hReferenceIdeal) (hPre_pre_mlstm := hPre_pre_mlstm)
    ∧ preserves_InProj_InProjIdeal
    ∧ algebraic_InProjIdeal_InProjRefIdeal (hInProjIdeal := hInProjIdeal) (hInProjRefIdeal := hInProjRefIdeal)
    ∧ preserves_Glu_GluIdeal
    ∧ algebraic_GluIdeal_GluRefIdeal (hGluIdeal := hGluIdeal) (hGluRefIdeal := hGluRefIdeal)
    ∧ preserves_OutProj_OutProjIdeal
    ∧ algebraic_OutProjIdeal_OutProjRefIdeal (hOutProjIdeal := hOutProjIdeal) (hOutProjRefIdeal := hOutProjRefIdeal)
    ∧ preserves_Experts_ExpertsIdeal
    ∧ algebraic_ExpertsIdeal_ExpertsRefIdeal (hExpertsIdeal := hExpertsIdeal) (hExpertsRefIdeal := hExpertsRefIdeal) (hPre_pre_moe := hPre_pre_moe)
    ∧ preserves_Combine_CombineIdeal
    ∧ algebraic_CombineIdeal_CombineRefIdeal (hCombineIdeal := hCombineIdeal) (hCombineRefIdeal := hCombineRefIdeal) (hPre_pre_mix := hPre_pre_mix)
    ∧ preserves_Scan_ScanIdeal
    ∧ algebraic_ScanIdeal_ScanRefIdeal_pre_pre_s5 (hScanIdeal := hScanIdeal) (hScanRefIdeal := hScanRefIdeal) (hPre_pre_s5 := hPre_pre_s5)
-- ==== Pre_pre_mix.lean ====
abbrev S2x16384 : Shape := ⟨2, ![2, 16384]⟩
abbrev S16384x2048 : Shape := ⟨2, ![16384, 2048]⟩
abbrev S16384x2 : Shape := ⟨2, ![16384, 2]⟩
abbrev S2048 : Shape := ⟨1, ![2048]⟩
abbrev S655360x128 : Shape := ⟨2, ![655360, 128]⟩
abbrev S_ : Shape := ⟨0, ![]⟩

class Facts : Prop where
  bcast_S_S2x16384 : S_.BroadcastsInDim S2x16384 (![] : Fin 0 → Fin S2x16384.rank)

variable [Facts]

def fn {F : FTy → Type} [FloatOps F] (main_arg0 : IVec S2x16384 32) (main_arg1 : FVec F S16384x2048 .f32) (main_arg2 : FVec F S16384x2 .f32) (main_arg3 : FVec F S2048 .f32) (main_arg4 : FVec F S655360x128 .f32) : IVec S2x16384 1 × IVec S2x16384 1 :=
  let main_c : IVec S_ 32 := constantI S_ 32 0#32
  let main_v0 : IVec S2x16384 32 := broadcastInDim S2x16384 ![] bcast_S_S2x16384 main_c
  let main_v1 : IVec S2x16384 1 := cmpi .sge main_arg0 main_v0
  let main_c_0 : IVec S_ 32 := constantI S_ 32 40960#32
  let main_v2 : IVec S2x16384 32 := broadcastInDim S2x16384 ![] bcast_S_S2x16384 main_c_0
  let main_v3 : IVec S2x16384 1 := cmpi .slt main_arg0 main_v2
  (main_v1, main_v3)
-- ==== Pre_pre_mlstm.lean ====
abbrev S16384x6144 : Shape := ⟨2, ![16384, 6144]⟩
abbrev S16384x16 : Shape := ⟨2, ![16384, 16]⟩
abbrev S16x16384 : Shape := ⟨2, ![16, 16384]⟩
abbrev S2048 : Shape := ⟨1, ![2048]⟩
abbrev S16384x4096 : Shape := ⟨2, ![16384, 4096]⟩
abbrev S_ : Shape := ⟨0, ![]⟩

class Facts : Prop where
  slices_S16384x6144_S16384x4096_0_0 : S16384x6144.Slices ![0, 0] S16384x4096
  bitsLt_bf16_f32 : FTy.bits .bf16 < FTy.bits .f32
  bcast_S_S16384x4096 : S_.BroadcastsInDim S16384x4096 (![] : Fin 0 → Fin S16384x4096.rank)
  bcast_S_S16384x16 : S_.BroadcastsInDim S16384x16 (![] : Fin 0 → Fin S16384x16.rank)
  transposes_S16384x16_S16x16384_1_0 : S16384x16.Transposes [1, 0] S16x16384

variable [Facts]

def fn {F : FTy → Type} [FloatOps F] (main_arg0 : FVec F S16384x6144 .bf16) (main_arg1 : FVec F S16384x16 .f32) (main_arg2 : FVec F S16x16384 .f32) (main_arg3 : FVec F S2048 .f32) : IVec S16384x4096 1 × IVec S16384x16 1 × IVec S16x16384 1 :=
  let main_v0 : FVec F S16384x4096 .bf16 := (extractStridedSlice S16384x4096 ![0, 0] · slices_S16384x6144_S16384x4096_0_0) main_arg0
  let main_v1 : FVec F S16384x4096 .f32 := (extf .f32 · bitsLt_bf16_f32) main_v0
  let main_v2 : FVec F S16384x4096 .f32 := Host.absf main_v1
  let main_cst : FVec F S_ .f32 := constant S_ .f32 0x7F800000#32
  let main_v3 : FVec F S16384x4096 .f32 := broadcastInDim S16384x4096 ![] bcast_S_S16384x4096 main_cst
  let main_v4 : IVec S16384x4096 1 := cmpf .olt main_v2 main_v3
  let main_v5 : FVec F S16384x16 .f32 := Host.absf main_arg1
  let main_cst_0 : FVec F S_ .f32 := constant S_ .f32 0x7F800000#32
  let main_v6 : FVec F S16384x16 .f32 := broadcastInDim S16384x16 ![] bcast_S_S16384x16 main_cst_0
  let main_v7 : IVec S16384x16 1 := cmpf .olt main_v5 main_v6
  let main_v8 : FVec F S16x16384 .f32 := (transpose S16x16384 [1, 0] · transposes_S16384x16_S16x16384_1_0) main_arg1
  let main_v9 : IVec S16x16384 1 := cmpf .oeq main_arg2 main_v8
  (main_v4, main_v7, main_v9)
-- ==== Pre_pre_moe.lean ====
abbrev S320 : Shape := ⟨1, ![320]⟩
abbrev S1 : Shape := ⟨1, ![1]⟩
abbrev S655360x128 : Shape := ⟨2, ![655360, 128]⟩
abbrev S2x64x2048x1536 : Shape := ⟨4, ![2, 64, 2048, 1536]⟩
abbrev S2x64x768x2048 : Shape := ⟨4, ![2, 64, 768, 2048]⟩
abbrev S_ : Shape := ⟨0, ![]⟩

class Facts : Prop where
  bcast_S_S320 : S_.BroadcastsInDim S320 (![] : Fin 0 → Fin S320.rank)

variable [Facts]

def fn {F : FTy → Type} [FloatOps F] (main_arg0 : IVec S320 32) (main_arg1 : IVec S1 32) (main_arg2 : FVec F S655360x128 .f32) (main_arg3 : FVec F S2x64x2048x1536 .f32) (main_arg4 : FVec F S2x64x768x2048 .f32) : IVec S320 1 × IVec S320 1 :=
  let main_c : IVec S_ 32 := constantI S_ 32 0#32
  let main_v0 : IVec S320 32 := broadcastInDim S320 ![] bcast_S_S320 main_c
  let main_v1 : IVec S320 1 := cmpi .sge main_arg0 main_v0
  let main_c_0 : IVec S_ 32 := constantI S_ 32 64#32
  let main_v2 : IVec S320 32 := broadcastInDim S320 ![] bcast_S_S320 main_c_0
  let main_v3 : IVec S320 1 := cmpi .slt main_arg0 main_v2
  (main_v1, main_v3)
-- ==== Pre_pre_s5.lean ====
abbrev S16384x2048 : Shape := ⟨2, ![16384, 2048]⟩
abbrev S128x64 : Shape := ⟨2, ![128, 64]⟩
abbrev S128x64x16 : Shape := ⟨3, ![128, 64, 16]⟩
abbrev S128x16x64 : Shape := ⟨3, ![128, 16, 64]⟩
abbrev S_ : Shape := ⟨0, ![]⟩

class Facts : Prop where
  bitsLt_bf16_f32 : FTy.bits .bf16 < FTy.bits .f32
  bcast_S_S16384x2048 : S_.BroadcastsInDim S16384x2048 (![] : Fin 0 → Fin S16384x2048.rank)
  bcast_S_S128x64 : S_.BroadcastsInDim S128x64 (![] : Fin 0 → Fin S128x64.rank)
  bcast_S_S128x64x16 : S_.BroadcastsInDim S128x64x16 (![] : Fin 0 → Fin S128x64x16.rank)
  bcast_S_S128x16x64 : S_.BroadcastsInDim S128x16x64 (![] : Fin 0 → Fin S128x16x64.rank)

variable [Facts]

def fn_part1 {F : FTy → Type} [FloatOps F] (main_arg6 : FVec F S128x16x64 .f32) (main_v3 : IVec S16384x2048 1) (main_v6 : IVec S128x64 1) (main_v9 : IVec S128x64 1) (main_v12 : IVec S128x64x16 1) (main_v15 : IVec S128x64x16 1) (main_v16 : FVec F S128x16x64 .f32) (main_v17 : FVec F S128x16x64 .f32) : IVec S16384x2048 1 × IVec S128x64 1 × IVec S128x64 1 × IVec S128x64x16 1 × IVec S128x64x16 1 × IVec S128x16x64 1 × IVec S128x16x64 1 :=
  let main_v18 : IVec S128x16x64 1 := cmpf .olt main_v16 main_v17
  let main_v19 : FVec F S128x16x64 .f32 := Host.absf main_arg6
  let main_cst_5 : FVec F S_ .f32 := constant S_ .f32 0x7F800000#32
  let main_v20 : FVec F S128x16x64 .f32 := broadcastInDim S128x16x64 ![] bcast_S_S128x16x64 main_cst_5
  let main_v21 : IVec S128x16x64 1 := cmpf .olt main_v19 main_v20
  (main_v3, main_v6, main_v9, main_v12, main_v15, main_v18, main_v21)

def fn {F : FTy → Type} [FloatOps F] (main_arg0 : FVec F S16384x2048 .bf16) (main_arg1 : FVec F S128x64 .f32) (main_arg2 : FVec F S128x64 .f32) (main_arg3 : FVec F S128x64x16 .f32) (main_arg4 : FVec F S128x64x16 .f32) (main_arg5 : FVec F S128x16x64 .f32) (main_arg6 : FVec F S128x16x64 .f32) : IVec S16384x2048 1 × IVec S128x64 1 × IVec S128x64 1 × IVec S128x64x16 1 × IVec S128x64x16 1 × IVec S128x16x64 1 × IVec S128x16x64 1 :=
  let main_v0 : FVec F S16384x2048 .f32 := (extf .f32 · bitsLt_bf16_f32) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_v7 : FVec F S128x64 .f32 := Host.absf main_arg2
  let main_cst_1 : FVec F S_ .f32 := constant S_ .f32 0x7F800000#32
  let main_v8 : FVec F S128x64 .f32 := broadcastInDim S128x64 ![] bcast_S_S128x64 main_cst_1
  let main_v9 : IVec S128x64 1 := cmpf .olt main_v7 main_v8
  let main_v10 : FVec F S128x64x16 .f32 := Host.absf main_arg3
  let main_cst_2 : FVec F S_ .f32 := constant S_ .f32 0x7F800000#32
  let main_v11 : FVec F S128x64x16 .f32 := broadcastInDim S128x64x16 ![] bcast_S_S128x64x16 main_cst_2
  let main_v12 : IVec S128x64x16 1 := cmpf .olt main_v10 main_v11
  let main_v13 : FVec F S128x64x16 .f32 := Host.absf main_arg4
  let main_cst_3 : FVec F S_ .f32 := constant S_ .f32 0x7F800000#32
  let main_v14 : FVec F S128x64x16 .f32 := broadcastInDim S128x64x16 ![] bcast_S_S128x64x16 main_cst_3
  let main_v15 : IVec S128x64x16 1 := cmpf .olt main_v13 main_v14
  let main_v16 : FVec F S128x16x64 .f32 := Host.absf main_arg5
  let main_cst_4 : FVec F S_ .f32 := constant S_ .f32 0x7F800000#32
  let main_v17 : FVec F S128x16x64 .f32 := broadcastInDim S128x16x64 ![] bcast_S_S128x16x64 main_cst_4
  fn_part1 (F := F) main_arg6 main_v3 main_v6 main_v9 main_v12 main_v15 main_v16 main_v17
-- ==== Kernel.lean ====
abbrev S16384x6144 : Shape := ⟨2, ![16384, 6144]⟩
abbrev S16384x16 : Shape := ⟨2, ![16384, 16]⟩
abbrev S16x16384 : Shape := ⟨2, ![16, 16384]⟩
abbrev S2048 : Shape := ⟨1, ![2048]⟩
abbrev S1x2048 : Shape := ⟨2, ![1, 2048]⟩
abbrev S16384x2048 : Shape := ⟨2, ![16384, 2048]⟩
abbrev S256x128 : Shape := ⟨2, ![256, 128]⟩
abbrev S256x256 : Shape := ⟨2, ![256, 256]⟩
abbrev S256x16 : Shape := ⟨2, ![256, 16]⟩
abbrev S16x256 : Shape := ⟨2, ![16, 256]⟩
abbrev S1x256 : Shape := ⟨2, ![1, 256]⟩
abbrev S128x256 : Shape := ⟨2, ![128, 256]⟩
abbrev S1x128 : Shape := ⟨2, ![1, 128]⟩
abbrev S256 : Shape := ⟨1, ![256]⟩
abbrev S256x1 : Shape := ⟨2, ![256, 1]⟩
abbrev S1x1 : Shape := ⟨2, ![1, 1]⟩
abbrev S1 : Shape := ⟨1, ![1]⟩
abbrev S128 : Shape := ⟨1, ![128]⟩

abbrev nBuf : Space → Nat
  | .hbm => 6
  | .vmem => 19
  | .smem => 0
  | _ => 0

abbrev bufTy : (tb : Table) → Fin (tcTables nBuf tb) → BufTy
  | .hbm, ⟨0, _⟩ => ⟨S16384x6144, .bf16⟩
  | .hbm, ⟨1, _⟩ => ⟨S16384x16, .f32⟩
  | .hbm, ⟨2, _⟩ => ⟨S16x16384, .f32⟩
  | .hbm, ⟨3, _⟩ => ⟨S2048, .f32⟩
  | .hbm, ⟨4, _⟩ => ⟨S1x2048, .f32⟩
  | .hbm, ⟨5, _⟩ => ⟨S16384x2048, .bf16⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x16, .f32⟩
  | .local _ .vmem, ⟨9, _⟩ => ⟨S256x16, .f32⟩
  | .local _ .vmem, ⟨10, _⟩ => ⟨S16x256, .f32⟩
  | .local _ .vmem, ⟨11, _⟩ => ⟨S16x256, .f32⟩
  | .local _ .vmem, ⟨12, _⟩ => ⟨S1x256, .f32⟩
  | .local _ .vmem, ⟨13, _⟩ => ⟨S1x256, .f32⟩
  | .local _ .vmem, ⟨14, _⟩ => ⟨S256x256, .bf16⟩
  | .local _ .vmem, ⟨15, _⟩ => ⟨S256x256, .bf16⟩
  | .local _ .vmem, ⟨16, _⟩ => ⟨S128x256, .f32⟩
  | .local _ .vmem, ⟨17, _⟩ => ⟨S1x128, .f32⟩
  | .local _ .vmem, ⟨18, _⟩ => ⟨S1x128, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 8, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c16_i32_0 : BitVec 32 := 16#32
  let v2 : BitVec 32 := Scalar.addi c16_i32_0 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S16384x6144 : Shape := ⟨2, ![16384, 6144]⟩
abbrev S16384x16 : Shape := ⟨2, ![16384, 16]⟩
abbrev S16x16384 : Shape := ⟨2, ![16, 16384]⟩
abbrev S2048 : Shape := ⟨1, ![2048]⟩
abbrev S4x4096x6144 : Shape := ⟨3, ![4, 4096, 6144]⟩
abbrev S4x4096x1024 : Shape := ⟨3, ![4, 4096, 1024]⟩
abbrev S4x4096x2048 : Shape := ⟨3, ![4, 4096, 2048]⟩
abbrev S4x4096x16 : Shape := ⟨3, ![4, 4096, 16]⟩
abbrev S4x4096x8 : Shape := ⟨3, ![4, 4096, 8]⟩
abbrev S4x4096x8x128 : Shape := ⟨4, ![4, 4096, 8, 128]⟩
abbrev S4x8x4096x128 : Shape := ⟨4, ![4, 8, 4096, 128]⟩
abbrev S_ : Shape := ⟨0, ![]⟩
abbrev S4x4096x8x256 : Shape := ⟨4, ![4, 4096, 8, 256]⟩
abbrev S4x8x4096x256 : Shape := ⟨4, ![4, 8, 4096, 256]⟩
abbrev S4x8x4096 : Shape := ⟨3, ![4, 8, 4096]⟩
abbrev S4096x4096 : Shape := ⟨2, ![4096, 4096]⟩
abbrev S4x8x4096x1 : Shape := ⟨4, ![4, 8, 4096, 1]⟩
abbrev S4x8x1x4096 : Shape := ⟨4, ![4, 8, 1, 4096]⟩
abbrev S4x8x4096x4096 : Shape := ⟨4, ![4, 8, 4096, 4096]⟩
abbrev S8x1x256 : Shape := ⟨3, ![8, 1, 256]⟩
abbrev S1x8x1x256 : Shape := ⟨4, ![1, 8, 1, 256]⟩
abbrev S16384x2048 : Shape := ⟨2, ![16384, 2048]⟩

abbrev nBuf : Space → Nat
  | .hbm => 103
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S16384x16, .f32⟩
  | .hbm, ⟨2, _⟩ => ⟨S16x16384, .f32⟩
  | .hbm, ⟨3, _⟩ => ⟨S2048, .f32⟩
  | .hbm, ⟨4, _⟩ => ⟨S4x4096x6144, .bf16⟩
  | .hbm, ⟨5, _⟩ => ⟨S4x4096x1024, .bf16⟩
  | .hbm, ⟨6, _⟩ => ⟨S4x4096x1024, .bf16⟩
  | .hbm, ⟨7, _⟩ => ⟨S4x4096x2048, .bf16⟩
  | .hbm, ⟨8, _⟩ => ⟨S4x4096x2048, .bf16⟩
  | .hbm, ⟨9, _⟩ => ⟨S4x4096x16, .f32⟩
  | .hbm, ⟨10, _⟩ => ⟨S4x4096x8, .f32⟩
  | .hbm, ⟨11, _⟩ => ⟨S4x4096x8, .f32⟩
  | .hbm, ⟨12, _⟩ => ⟨S4x4096x1024, .f32⟩
  | .hbm, ⟨13, _⟩ => ⟨S4x4096x8x128, .f32⟩
  | .hbm, ⟨14, _⟩ => ⟨S4x8x4096x128, .f32⟩
  | .hbm, ⟨15, _⟩ => ⟨S4x4096x1024, .f32⟩
  | .hbm, ⟨16, _⟩ => ⟨S4x4096x8x128, .f32⟩
  | .hbm, ⟨17, _⟩ => ⟨S4x8x4096x128, .f32⟩
  | .hbm, ⟨18, _⟩ => ⟨S_, .f32⟩
  | .hbm, ⟨19, _⟩ => ⟨S4x8x4096x128, .f32⟩
  | .hbm, ⟨20, _⟩ => ⟨S4x8x4096x128, .f32⟩
  | .hbm, ⟨21, _⟩ => ⟨S4x4096x2048, .f32⟩
  | .hbm, ⟨22, _⟩ => ⟨S4x4096x8x256, .f32⟩
  | .hbm, ⟨23, _⟩ => ⟨S4x8x4096x256, .f32⟩
  | .hbm, ⟨24, _⟩ => ⟨S4x8x4096, .f32⟩
  | .hbm, ⟨25, _⟩ => ⟨S4x8x4096, .f32⟩
  | .hbm, ⟨26, _⟩ => ⟨S_, .i1⟩
  | .hbm, ⟨27, _⟩ => ⟨S4096x4096, .i1⟩
  | .hbm, ⟨28, _⟩ => ⟨S4096x4096, .i32⟩
  | .hbm, ⟨29, _⟩ => ⟨S_, .i32⟩
  | .hbm, ⟨30, _⟩ => ⟨S4096x4096, .i32⟩
  | .hbm, ⟨31, _⟩ => ⟨S4096x4096, .i32⟩
  | .hbm, ⟨32, _⟩ => ⟨S4096x4096, .i32⟩
  | .hbm, ⟨33, _⟩ => ⟨S4096x4096, .i1⟩
  | .hbm, ⟨34, _⟩ => ⟨S_, .i1⟩
  | .hbm, ⟨35, _⟩ => ⟨S4096x4096, .i1⟩
  | .hbm, ⟨36, _⟩ => ⟨S4096x4096, .i1⟩
  | .hbm, ⟨37, _⟩ => ⟨S_, .f32⟩
  | .hbm, ⟨38, _⟩ => ⟨S_, .f32⟩
  | .hbm, ⟨39, _⟩ => ⟨S4x8x4096, .f32⟩
  | .hbm, ⟨40, _⟩ => ⟨S4x8x4096x1, .f32⟩
  | .hbm, ⟨41, _⟩ => ⟨S4x8x1x4096, .f32⟩
  | .hbm, ⟨42, _⟩ => ⟨S4x8x4096x4096, .f32⟩
  | .hbm, ⟨43, _⟩ => ⟨S4x8x4096x4096, .f32⟩
  | .hbm, ⟨44, _⟩ => ⟨S4x8x4096x4096, .f32⟩
  | .hbm, ⟨45, _⟩ => ⟨S4x8x1x4096, .f32⟩
  | .hbm, ⟨46, _⟩ => ⟨S4x8x4096x4096, .f32⟩
  | .hbm, ⟨47, _⟩ => ⟨S4x8x4096x4096, .f32⟩
  | .hbm, ⟨48, _⟩ => ⟨S_, .f32⟩
  | .hbm, ⟨49, _⟩ => ⟨S_, .f32⟩
  | .hbm, ⟨50, _⟩ => ⟨S4x8x4096x4096, .i1⟩
  | .hbm, ⟨51, _⟩ => ⟨S4x8x4096x4096, .f32⟩
  | .hbm, ⟨52, _⟩ => ⟨S4x8x4096x4096, .f32⟩
  | .hbm, ⟨53, _⟩ => ⟨S_, .f32⟩
  | .hbm, ⟨54, _⟩ => ⟨S4x8x4096, .f32⟩
  | .hbm, ⟨55, _⟩ => ⟨S4x8x4096, .f32⟩
  | .hbm, ⟨56, _⟩ => ⟨S4x8x4096x4096, .f32⟩
  | .hbm, ⟨57, _⟩ => ⟨S4x8x4096x1, .f32⟩
  | .hbm, ⟨58, _⟩ => ⟨S4x8x4096x4096, .f32⟩
  | .hbm, ⟨59, _⟩ => ⟨S4x8x4096x4096, .f32⟩
  | .hbm, ⟨60, _⟩ => ⟨S4x8x4096x4096, .f32⟩
  | .hbm, ⟨61, _⟩ => ⟨S4x8x4096x4096, .f32⟩
  | .hbm, ⟨62, _⟩ => ⟨S4x8x4096x256, .f32⟩
  | .hbm, ⟨63, _⟩ => ⟨S_, .f32⟩
  | .hbm, ⟨64, _⟩ => ⟨S4x8x4096, .f32⟩
  | .hbm, ⟨65, _⟩ => ⟨S4x8x4096, .f32⟩
  | .hbm, ⟨66, _⟩ => ⟨S4x8x4096, .f32⟩
  | .hbm, ⟨67, _⟩ => ⟨S4x8x4096, .f32⟩
  | .hbm, ⟨68, _⟩ => ⟨S4x8x4096, .f32⟩
  | .hbm, ⟨69, _⟩ => ⟨S4x8x4096x1, .f32⟩
  | .hbm, ⟨70, _⟩ => ⟨S4x8x4096x256, .f32⟩
  | .hbm, ⟨71, _⟩ => ⟨S4x8x4096x256, .f32⟩
  | .hbm, ⟨72, _⟩ => ⟨S4x8x4096x256, .f32⟩
  | .hbm, ⟨73, _⟩ => ⟨S_, .f32⟩
  | .hbm, ⟨74, _⟩ => ⟨S4x8x4096, .f32⟩
  | .hbm, ⟨75, _⟩ => ⟨S4x8x4096x1, .f32⟩
  | .hbm, ⟨76, _⟩ => ⟨S_, .f32⟩
  | .hbm, ⟨77, _⟩ => ⟨S4x8x4096x1, .f32⟩
  | .hbm, ⟨78, _⟩ => ⟨S4x8x4096x1, .f32⟩
  | .hbm, ⟨79, _⟩ => ⟨S_, .f32⟩
  | .hbm, ⟨80, _⟩ => ⟨S4x8x4096x1, .f32⟩
  | .hbm, ⟨81, _⟩ => ⟨S4x8x4096x1, .f32⟩
  | .hbm, ⟨82, _⟩ => ⟨S4x8x4096x1, .f32⟩
  | .hbm, ⟨83, _⟩ => ⟨S4x8x4096x256, .f32⟩
  | .hbm, ⟨84, _⟩ => ⟨S4x8x4096x256, .f32⟩
  | .hbm, ⟨85, _⟩ => ⟨S8x1x256, .f32⟩
  | .hbm, ⟨86, _⟩ => ⟨S1x8x1x256, .f32⟩
  | .hbm, ⟨87, _⟩ => ⟨S4x8x4096x256, .f32⟩
  | .hbm, ⟨88, _⟩ => ⟨S4x8x4096x256, .f32⟩
  | .hbm, ⟨89, _⟩ => ⟨S4x4096x8x256, .f32⟩
  | .hbm, ⟨90, _⟩ => ⟨S16384x2048, .f32⟩
  | .hbm, ⟨91, _⟩ => ⟨S4x4096x2048, .f32⟩
  | .hbm, ⟨92, _⟩ => ⟨S16384x2048, .f32⟩
  | .hbm, ⟨93, _⟩ => ⟨S16384x2048, .f32⟩
  | .hbm, ⟨94, _⟩ => ⟨S16384x2048, .f32⟩
  | .hbm, ⟨95, _⟩ => ⟨S_, .f32⟩
  | .hbm, ⟨96, _⟩ => ⟨S16384x2048, .f32⟩
  | .hbm, ⟨97, _⟩ => ⟨S16384x2048, .f32⟩
  | .hbm, ⟨98, _⟩ => ⟨S_, .f32⟩
  | .hbm, ⟨99, _⟩ => ⟨S16384x2048, .f32⟩
  | .hbm, ⟨100, _⟩ => ⟨S16384x2048, .f32⟩
  | .hbm, ⟨101, _⟩ => ⟨S16384x2048, .f32⟩
  | .hbm, ⟨102, _⟩ => ⟨S16384x2048, .bf16⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c : Ref sig .tc := ⟨.hbm, 26, rfl⟩
abbrev main_v21 : Ref sig .tc := ⟨.hbm, 27, rfl⟩
abbrev main_call0_v0 : Ref sig .tc := ⟨.hbm, 28, rfl⟩
abbrev main_call0_c : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_c_0 : Ref sig .tc := ⟨.hbm, 34, rfl⟩
abbrev main_call0_v5 : Ref sig .tc := ⟨.hbm, 35, rfl⟩
abbrev main_v22 : Ref sig .tc := ⟨.hbm, 36, rfl⟩
abbrev main_call1_call0_cst : Ref sig .tc := ⟨.hbm, 37, rfl⟩
abbrev main_call1_call0_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_0 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v32 : Ref sig .tc := ⟨.hbm, 52, rfl⟩
abbrev main_cst_1 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_2 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_3 : Ref sig .tc := ⟨.hbm, 73, rfl⟩
abbrev main_v51 : Ref sig .tc := ⟨.hbm, 74, rfl⟩
abbrev main_v52 : Ref sig .tc := ⟨.hbm, 75, rfl⟩
abbrev main_cst_4 : Ref sig .tc := ⟨.hbm, 76, rfl⟩
abbrev main_v53 : Ref sig .tc := ⟨.hbm, 77, rfl⟩
abbrev main_v54 : Ref sig .tc := ⟨.hbm, 78, rfl⟩
abbrev main_cst_5 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_6 : Ref sig .tc := ⟨.hbm, 95, rfl⟩
abbrev main_v70 : Ref sig .tc := ⟨.hbm, 96, rfl⟩
abbrev main_v71 : Ref sig .tc := ⟨.hbm, 97, rfl⟩
abbrev main_cst_7 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩

abbrev nD : Nat := 1
abbrev τ : Topo := Topo.v7x

variable {F : FTy → Type} [FloatOps F]
-- ==== InProj.lean ====
abbrev S16384x2048 : Shape := ⟨2, ![16384, 2048]⟩
abbrev S2048 : Shape := ⟨1, ![2048]⟩
abbrev S2048x6160 : Shape := ⟨2, ![2048, 6160]⟩
abbrev S2048x6144 : Shape := ⟨2, ![2048, 6144]⟩
abbrev S1x2048 : Shape := ⟨2, ![1, 2048]⟩
abbrev S16384x6144 : Shape := ⟨2, ![16384, 6144]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6160, .f32⟩
  | .hbm, ⟨3, _⟩ => ⟨S2048x6144, .f32⟩
  | .hbm, ⟨4, _⟩ => ⟨S2048x6144, .bf16⟩
  | .hbm, ⟨5, _⟩ => ⟨S1x2048, .f32⟩
  | .hbm, ⟨6, _⟩ => ⟨S16384x6144, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .bf16⟩
  | .local _ .vmem, ⟨6, _⟩ => ⟨S1024x512, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S16384x2048 : Shape := ⟨2, ![16384, 2048]⟩
abbrev S2048 : Shape := ⟨1, ![2048]⟩
abbrev S2048x6160 : Shape := ⟨2, ![2048, 6160]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048x6144 : Shape := ⟨2, ![2048, 6144]⟩
abbrev S16384x6144 : Shape := ⟨2, ![16384, 6144]⟩

abbrev nBuf : Space → Nat
  | .hbm => 22
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6160, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S2048x6144, .f32⟩
  | .hbm, ⟨20, _⟩ => ⟨S16384x6144, .f32⟩
  | .hbm, ⟨21, _⟩ => ⟨S16384x6144, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Glu.lean ====
abbrev S16384x2048 : Shape := ⟨2, ![16384, 2048]⟩
abbrev S2048 : Shape := ⟨1, ![2048]⟩
abbrev S2048x4096 : Shape := ⟨2, ![2048, 4096]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048, .f32⟩
  | .hbm, ⟨3, _⟩ => ⟨S2048, .f32⟩
  | .hbm, ⟨4, _⟩ => ⟨S2048x4096, .f32⟩
  | .hbm, ⟨5, _⟩ => ⟨S2048x4096, .bf16⟩
  | .hbm, ⟨6, _⟩ => ⟨S1x2048, .f32⟩
  | .hbm, ⟨7, _⟩ => ⟨S1x2048, .f32⟩
  | .hbm, ⟨8, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S1x2048, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== GluRefIdeal.lean ====
abbrev S16384x2048 : Shape := ⟨2, ![16384, 2048]⟩
abbrev S2048 : Shape := ⟨1, ![2048]⟩
abbrev S2048x4096 : Shape := ⟨2, ![2048, 4096]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x4096 : Shape := ⟨2, ![16384, 4096]⟩

abbrev nBuf : Space → Nat
  | .hbm => 56
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048, .f32⟩
  | .hbm, ⟨3, _⟩ => ⟨S2048, .f32⟩
  | .hbm, ⟨4, _⟩ => ⟨S2048x4096, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S_, .f32⟩
  | .hbm, ⟨37, _⟩ => ⟨S16384x2048, .f32⟩
  | .hbm, ⟨38, _⟩ => ⟨S16384x2048, .f32⟩
  | .hbm, ⟨39, _⟩ => ⟨S_, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S16384x4096, .f32⟩
  | .hbm, ⟨44, _⟩ => ⟨S16384x2048, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S_, .f32⟩
  | .hbm, ⟨49, _⟩ => ⟨S16384x2048, .f32⟩
  | .hbm, ⟨50, _⟩ => ⟨S16384x2048, .f32⟩
  | .hbm, ⟨51, _⟩ => ⟨S_, .f32⟩
  | .hbm, ⟨52, _⟩ => ⟨S16384x2048, .f32⟩
  | .hbm, ⟨53, _⟩ => ⟨S16384x2048, .f32⟩
  | .hbm, ⟨54, _⟩ => ⟨S16384x2048, .f32⟩
  | .hbm, ⟨55, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== OutProj.lean ====
abbrev S16384x2048 : Shape := ⟨2, ![16384, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048x2048, .bf16⟩
  | .hbm, ⟨4, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S16384x2048 : Shape := ⟨2, ![16384, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S16384x2048, .f32⟩
  | .hbm, ⟨4, _⟩ => ⟨S16384x2048, .f32⟩
  | .hbm, ⟨5, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Experts.lean ====
abbrev S320 : Shape := ⟨1, ![320]⟩
abbrev S1 : Shape := ⟨1, ![1]⟩
abbrev S655360x128 : Shape := ⟨2, ![655360, 128]⟩
abbrev S2x64x2048x1536 : Shape := ⟨4, ![2, 64, 2048, 1536]⟩
abbrev S2x64x768x2048 : Shape := ⟨4, ![2, 64, 768, 2048]⟩
abbrev S2048x128 : Shape := ⟨2, ![2048, 128]⟩
abbrev S1x1x2048x1536 : Shape := ⟨4, ![1, 1, 2048, 1536]⟩
abbrev S1x1x768x2048 : Shape := ⟨4, ![1, 1, 768, 2048]⟩
abbrev S128x2048 : Shape := ⟨2, ![128, 2048]⟩
abbrev S2048x1536 : Shape := ⟨2, ![2048, 1536]⟩
abbrev S768x2048 : Shape := ⟨2, ![768, 2048]⟩
abbrev S128x128 : Shape := ⟨2, ![128, 128]⟩
abbrev S128x1536 : Shape := ⟨2, ![128, 1536]⟩
abbrev S128x768 : Shape := ⟨2, ![128, 768]⟩

abbrev nBuf : Space → Nat
  | .hbm => 4
  | .vmem => 11
  | .smem => 2
  | _ => 0

abbrev bufTy : (tb : Table) → Fin (tcTables nBuf tb) → BufTy
  | .hbm, ⟨0, _⟩ => ⟨S655360x128, .f32⟩
  | .hbm, ⟨1, _⟩ => ⟨S2x64x2048x1536, .f32⟩
  | .hbm, ⟨2, _⟩ => ⟨S2x64x768x2048, .f32⟩
  | .hbm, ⟨3, _⟩ => ⟨S655360x128, .f32⟩
  | .local _ .vmem, ⟨0, _⟩ => ⟨S2048x128, .f32⟩
  | .local _ .vmem, ⟨1, _⟩ => ⟨S2048x128, .f32⟩
  | .local _ .vmem, ⟨2, _⟩ => ⟨S1x1x2048x1536, .f32⟩
  | .local _ .vmem, ⟨3, _⟩ => ⟨S1x1x2048x1536, .f32⟩
  | .local _ .vmem, ⟨4, _⟩ => ⟨S1x1x768x2048, .f32⟩
  | .local _ .vmem, ⟨5, _⟩ => ⟨S1x1x768x2048, .f32⟩
  | .local _ .vmem, ⟨6, _⟩ => ⟨S2048x128, .f32⟩
  | .local _ .vmem, ⟨7, _⟩ => ⟨S2048x128, .f32⟩
  | .local _ .vmem, ⟨8, _⟩ => ⟨S128x2048, .bf16⟩
  | .local _ .vmem, ⟨9, _⟩ => ⟨S2048x1536, .bf16⟩
  | .local _ .vmem, ⟨10, _⟩ => ⟨S768x2048, .bf16⟩
  | .local _ .smem, ⟨0, _⟩ => ⟨S320, .i32⟩
  | .local _ .smem, ⟨1, _⟩ => ⟨S1, .i32⟩
  | _, _ => ⟨S655360x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![320], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S320.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S320.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ExpertsRefIdeal.lean ====
abbrev S320 : Shape := ⟨1, ![320]⟩
abbrev S1 : Shape := ⟨1, ![1]⟩
abbrev S655360x128 : Shape := ⟨2, ![655360, 128]⟩
abbrev S2x64x2048x1536 : Shape := ⟨4, ![2, 64, 2048, 1536]⟩
abbrev S2x64x768x2048 : Shape := ⟨4, ![2, 64, 768, 2048]⟩
abbrev S320x128x2048 : Shape := ⟨3, ![320, 128, 2048]⟩
abbrev S1x64x2048x1536 : Shape := ⟨4, ![1, 64, 2048, 1536]⟩
abbrev S64x2048x1536 : Shape := ⟨3, ![64, 2048, 1536]⟩
abbrev S_ : Shape := ⟨0, ![]⟩
abbrev S320x1 : Shape := ⟨2, ![320, 1]⟩
abbrev S320x2048x1536 : Shape := ⟨3, ![320, 2048, 1536]⟩
abbrev S320x128x1536 : Shape := ⟨3, ![320, 128, 1536]⟩
abbrev S320x128x768 : Shape := ⟨3, ![320, 128, 768]⟩
abbrev S1x64x768x2048 : Shape := ⟨4, ![1, 64, 768, 2048]⟩
abbrev S64x768x2048 : Shape := ⟨3, ![64, 768, 2048]⟩
abbrev S320x768x2048 : Shape := ⟨3, ![320, 768, 2048]⟩
abbrev S320x1x1 : Shape := ⟨3, ![320, 1, 1]⟩

abbrev nBuf : Space → Nat
  | .hbm => 53
  | .vmem => 0
  | .smem => 0
  | _ => 0

abbrev bufTy : (tb : Table) → Fin (tcTables nBuf tb) → BufTy
  | .hbm, ⟨0, _⟩ => ⟨S320, .i32⟩
  | .hbm, ⟨1, _⟩ => ⟨S1, .i32⟩
  | .hbm, ⟨2, _⟩ => ⟨S655360x128, .f32⟩
  | .hbm, ⟨3, _⟩ => ⟨S2x64x2048x1536, .f32⟩
  | .hbm, ⟨4, _⟩ => ⟨S2x64x768x2048, .f32⟩
  | .hbm, ⟨5, _⟩ => ⟨S320x128x2048, .f32⟩
  | .hbm, ⟨6, _⟩ => ⟨S1x64x2048x1536, .f32⟩
  | .hbm, ⟨7, _⟩ => ⟨S64x2048x1536, .f32⟩
  | .hbm, ⟨8, _⟩ => ⟨S_, .i32⟩
  | .hbm, ⟨9, _⟩ => ⟨S320, .i32⟩
  | .hbm, ⟨10, _⟩ => ⟨S320, .i1⟩
  | .hbm, ⟨11, _⟩ => ⟨S_, .i32⟩
  | .hbm, ⟨12, _⟩ => ⟨S320, .i32⟩
  | .hbm, ⟨13, _⟩ => ⟨S320, .i32⟩
  | .hbm, ⟨14, _⟩ => ⟨S320, .i32⟩
  | .hbm, ⟨15, _⟩ => ⟨S320x1, .i32⟩
  | .hbm, ⟨16, _⟩ => ⟨S320x2048x1536, .f32⟩
  | .hbm, ⟨17, _⟩ => ⟨S320x128x1536, .f32⟩
  | .hbm, ⟨18, _⟩ => ⟨S320x128x768, .f32⟩
  | .hbm, ⟨19, _⟩ => ⟨S320x128x768, .f32⟩
  | .hbm, ⟨20, _⟩ => ⟨S320x128x768, .f32⟩
  | .hbm, ⟨21, _⟩ => ⟨S_, .f32⟩
  | .hbm, ⟨22, _⟩ => ⟨S320x128x768, .f32⟩
  | .hbm, ⟨23, _⟩ => ⟨S320x128x768, .f32⟩
  | .hbm, ⟨24, _⟩ => ⟨S_, .f32⟩
  | .hbm, ⟨25, _⟩ => ⟨S320x128x768, .f32⟩
  | .hbm, ⟨26, _⟩ => ⟨S320x128x768, .f32⟩
  | .hbm, ⟨27, _⟩ => ⟨S320x128x768, .f32⟩
  | .hbm, ⟨28, _⟩ => ⟨S320x128x768, .f32⟩
  | .hbm, ⟨29, _⟩ => ⟨S320x128x768, .f32⟩
  | .hbm, ⟨30, _⟩ => ⟨S1x64x768x2048, .f32⟩
  | .hbm, ⟨31, _⟩ => ⟨S64x768x2048, .f32⟩
  | .hbm, ⟨32, _⟩ => ⟨S_, .i32⟩
  | .hbm, ⟨33, _⟩ => ⟨S320, .i32⟩
  | .hbm, ⟨34, _⟩ => ⟨S320, .i1⟩
  | .hbm, ⟨35, _⟩ => ⟨S_, .i32⟩
  | .hbm, ⟨36, _⟩ => ⟨S320, .i32⟩
  | .hbm, ⟨37, _⟩ => ⟨S320, .i32⟩
  | .hbm, ⟨38, _⟩ => ⟨S320, .i32⟩
  | .hbm, ⟨39, _⟩ => ⟨S320x1, .i32⟩
  | .hbm, ⟨40, _⟩ => ⟨S320x768x2048, .f32⟩
  | .hbm, ⟨41, _⟩ => ⟨S320x128x2048, .f32⟩
  | .hbm, ⟨42, _⟩ => ⟨S320, .i32⟩
  | .hbm, ⟨43, _⟩ => ⟨S320x1x1, .i32⟩
  | .hbm, ⟨44, _⟩ => ⟨S_, .i32⟩
  | .hbm, ⟨45, _⟩ => ⟨S320x1x1, .i32⟩
  | .hbm, ⟨46, _⟩ => ⟨S320x1x1, .i1⟩
  | .hbm, ⟨47, _⟩ => ⟨S_, .f32⟩
  | .hbm, ⟨48, _⟩ => ⟨S_, .f32⟩
  | .hbm, ⟨49, _⟩ => ⟨S320x128x2048, .i1⟩
  | .hbm, ⟨50, _⟩ => ⟨S320x128x2048, .f32⟩
  | .hbm, ⟨51, _⟩ => ⟨S320x128x2048, .f32⟩
  | .hbm, ⟨52, _⟩ => ⟨S655360x128, .f32⟩
  | _, _ => ⟨S320, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v30 : Ref sig .tc := ⟨.hbm, 51, rfl⟩
abbrev main_v31 : Ref sig .tc := ⟨.hbm, 52, rfl⟩

abbrev nD : Nat := 1
abbrev τ : Topo := Topo.v7x

variable {F : FTy → Type} [FloatOps F]
-- ==== Combine.lean ====
abbrev S2x16384 : Shape := ⟨2, ![2, 16384]⟩
abbrev S16384x2048 : Shape := ⟨2, ![16384, 2048]⟩
abbrev S16384x2 : Shape := ⟨2, ![16384, 2]⟩
abbrev S2048 : Shape := ⟨1, ![2048]⟩
abbrev S655360x128 : Shape := ⟨2, ![655360, 128]⟩
abbrev S1x2048 : Shape := ⟨2, ![1, 2048]⟩
abbrev S1x16384 : Shape := ⟨2, ![1, 16384]⟩
abbrev S16384 : Shape := ⟨1, ![16384]⟩
abbrev S256x2048 : Shape := ⟨2, ![256, 2048]⟩
abbrev S256x2 : Shape := ⟨2, ![256, 2]⟩
abbrev S2x4096x128 : Shape := ⟨3, ![2, 4096, 128]⟩
abbrev S_ : Shape := ⟨0, ![]⟩
abbrev S1 : Shape := ⟨1, ![1]⟩
abbrev S1x4096x128 : Shape := ⟨3, ![1, 4096, 128]⟩
abbrev S4096x128 : Shape := ⟨2, ![4096, 128]⟩
abbrev S16x128 : Shape := ⟨2, ![16, 128]⟩
abbrev S256x1 : Shape := ⟨2, ![256, 1]⟩
abbrev S1x256x128 : Shape := ⟨3, ![1, 256, 128]⟩
abbrev S256x128 : Shape := ⟨2, ![256, 128]⟩
abbrev S256 : Shape := ⟨1, ![256]⟩

abbrev nBuf : Space → Nat
  | .hbm => 9
  | .vmem => 8
  | .smem => 2
  | _ => 0

abbrev bufTy : (tb : Table) → Fin (tcTables nBuf tb) → BufTy
  | .hbm, ⟨0, _⟩ => ⟨S2x16384, .i32⟩
  | .hbm, ⟨1, _⟩ => ⟨S16384x2048, .f32⟩
  | .hbm, ⟨2, _⟩ => ⟨S16384x2, .f32⟩
  | .hbm, ⟨3, _⟩ => ⟨S2048, .f32⟩
  | .hbm, ⟨4, _⟩ => ⟨S655360x128, .f32⟩
  | .hbm, ⟨5, _⟩ => ⟨S1x2048, .f32⟩
  | .hbm, ⟨6, _⟩ => ⟨S1x16384, .i32⟩
  | .hbm, ⟨7, _⟩ => ⟨S1x16384, .i32⟩
  | .hbm, ⟨8, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x2, .f32⟩
  | .local _ .vmem, ⟨3, _⟩ => ⟨S256x2, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S2x4096x128, .f32⟩
  | .local _ .smem, ⟨0, _⟩ => ⟨S16384, .i32⟩
  | .local _ .smem, ⟨1, _⟩ => ⟨S16384, .i32⟩
  | _, _ => ⟨S2x16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v3 : Ref sig .tc := ⟨.hbm, 7, rfl⟩
abbrev main_v5 : Ref sig .tc := ⟨.hbm, 8, rfl⟩
abbrev main_v2 : Ref sig .tc := ⟨.smem, 0, rfl⟩
abbrev main_v4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

abbrev pre0 : Pipeline.Prefetch sig := ⟨2, ![main_v2.idx, main_v4.idx], fun | 0 => main_v2.names | 1 => main_v4.names | ⟨_ + 2, h⟩ => absurd h (Nat.not_lt.2 (Nat.le_add_left _ _)), fun | 0 => rfl | 1 => rfl | ⟨_ + 2, h⟩ => absurd h (Nat.not_lt.2 (Nat.le_add_left _ _))⟩

@[reducible] def k0_t1_loop : Scf.Loop 32 :=
  let c0_i32 : BitVec 32 := 0#32
  let c256_i32_0 : BitVec 32 := 256#32
  let v1 : BitVec 32 := Scalar.addi c0_i32 c256_i32_0
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg10 : BitVec 32 := Scf.iv c0_i32 c1_i32 k0_t1
  let v277 : BitVec 32 := Scalar.addi v0 arg10
  let v278 : Index := Scalar.indexCast v277
  ![v278.toNat]
def k0_mult1 (v279 : BitVec 32) : BitVec 32 :=
  let c16_i32 : BitVec 32 := 16#32
  let v280 : BitVec 32 := Scalar.muli v279 c16_i32
  v280

def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c16_i32_161 : BitVec 32 := 16#32
  let v282 : BitVec 32 := Scalar.muli arg10 c16_i32_161
  v282
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c16_i32_161 : BitVec 32 := 16#32
  let v282 : BitVec 32 := Scalar.muli arg10 c16_i32_161
  let v283 : BitVec 32 := v282
  let c0_i32_165 : BitVec 32 := 0#32
  ![v283.toNat, 0]
def k0_off3 (v279 : BitVec 32) : Fin 2 → Nat :=
  let c16_i32 : BitVec 32 := 16#32
  let v280 : BitVec 32 := Scalar.muli v279 c16_i32
  let v281 : BitVec 32 := v280
  let c0_i32_166 : BitVec 32 := 0#32
  ![v281.toNat, 0]

def k0_chk1 (v279 : BitVec 32) : Prop :=
  (16 ∣ (k0_mult1 v279).toNat) ∧
  (∀ a, (k0_off3 v279) a + S16x128.size a ≤ S655360x128.size a)
theorem k0_mult1_dvd : ∀ (v279 : BitVec 32) (k0_hw1 : k0_chk1 v279), 16 ∣ (k0_mult1 v279).toNat := fun v279 k0_hw1 => k0_hw1.1
theorem k0_off3_inb : ∀ (v279 : BitVec 32) (k0_hw1 : k0_chk1 v279), ∀ a, (k0_off3 v279) a + S16x128.size a ≤ S655360x128.size a := fun v279 k0_hw1 => k0_hw1.2

def k0_off4 (i : grid0.Coords) (k0_t1 : Fin k0_t1_loop.trips) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg10 : BitVec 32 := Scf.iv c0_i32 c1_i32 k0_t1
  let v288 : BitVec 32 := Scalar.addi v0 arg10
  let v289 : Index := Scalar.indexCast v288
  ![v289.toNat]
def k0_mult3 (v290 : BitVec 32) : BitVec 32 :=
  let c16_i32_167 : BitVec 32 := 16#32
  let v291 : BitVec 32 := Scalar.muli v290 c16_i32_167
  v291

def k0_mult4 (k0_t1 : Fin k0_t1_loop.trips) : BitVec 32 :=
  let c0_i32 : BitVec 32 := 0#32
  let c1_i32 : BitVec 32 := 1#32
  let arg10 : BitVec 32 := Scf.iv c0_i32 c1_i32 k0_t1
  let c16_i32_168 : BitVec 32 := 16#32
  let v293 : BitVec 32 := Scalar.muli arg10 c16_i32_168
  v293
def k0_off5 (k0_t1 : Fin k0_t1_loop.trips) : Fin 2 → Nat :=
  let c0_i32 : BitVec 32 := 0#32
  let c1_i32 : BitVec 32 := 1#32
  let arg10 : BitVec 32 := Scf.iv c0_i32 c1_i32 k0_t1
  let c16_i32_168 : BitVec 32 := 16#32
  let v293 : BitVec 32 := Scalar.muli arg10 c16_i32_168
  let v294 : BitVec 32 := v293
  let c0_i32_172 : BitVec 32 := 0#32
  ![v294.toNat, 0]
def k0_off6 (v290 : BitVec 32) : Fin 2 → Nat :=
  let c16_i32_167 : BitVec 32 := 16#32
  let v291 : BitVec 32 := Scalar.muli v290 c16_i32_167
  let v292 : BitVec 32 := v291
  let c0_i32_173 : BitVec 32 := 0#32
  ![v292.toNat, 0]

def k0_chk2 (v290 : BitVec 32) : Prop :=
  (16 ∣ (k0_mult3 v290).toNat) ∧
  (∀ a, (k0_off6 v290) a + S16x128.size a ≤ S655360x128.size a)
theorem k0_mult3_dvd : ∀ (v290 : BitVec 32) (k0_hw2 : k0_chk2 v290), 16 ∣ (k0_mult3 v290).toNat := fun v290 k0_hw2 => k0_hw2.1
theorem k0_off6_inb : ∀ (v290 : BitVec 32) (k0_hw2 : k0_chk2 v290), ∀ a, (k0_off6 v290) a + S16x128.size a ≤ S655360x128.size a := fun v290 k0_hw2 => k0_hw2.2

@[reducible] def k0_t2_loop : Scf.Loop 32 :=
  let c0_i32_2 : BitVec 32 := 0#32
  let c256_i32_3 : BitVec 32 := 256#32
  let v2 : BitVec 32 := Scalar.addi c0_i32_2 c256_i32_3
  let c1_i32_4 : BitVec 32 := 1#32
  ⟨c0_i32_2, v2, c1_i32_4⟩
def k0_off7 (i : grid0.Coords) (k0_t2 : Fin k0_t2_loop.trips) : Fin 1 → Nat :=
  let arg0 : BitVec 32 := BitVec.ofNat 32 (i 0).val
  let c256_i32 : BitVec 32 := 256#32
  let v0 : BitVec 32 := Scalar.muli arg0 c256_i32
  let c0_i32_2 : BitVec 32 := 0#32
  let c1_i32_4 : BitVec 32 := 1#32
  let arg10 : BitVec 32 := Scf.iv c0_i32_2 c1_i32_4 k0_t2
  let v277 : BitVec 32 := Scalar.addi v0 arg10
  let v278 : Index := Scalar.indexCast v277
  ![v278.toNat]
def k0_mult5 (v279 : BitVec 32) : BitVec 32 :=
  let c16_i32 : BitVec 32 := 16#32
  let v280 : BitVec 32 := Scalar.muli v279 c16_i32
  v280

def k0_mult6 (k0_t2 : Fin k0_t2_loop.trips) : BitVec 32 :=
  let c0_i32_2 : BitVec 32 := 0#32
  let c1_i32_4 : BitVec 32 := 1#32
  let arg10 : BitVec 32 := Scf.iv c0_i32_2 c1_i32_4 k0_t2
  let c16_i32_161 : BitVec 32 := 16#32
  let v282 : BitVec 32 := Scalar.muli arg10 c16_i32_161
  v282
def k0_off8 (k0_t2 : Fin k0_t2_loop.trips) : Fin 2 → Nat :=
  let c0_i32_2 : BitVec 32 := 0#32
  let c1_i32_4 : BitVec 32 := 1#32
  let arg10 : BitVec 32 := Scf.iv c0_i32_2 c1_i32_4 k0_t2
  let c16_i32_161 : BitVec 32 := 16#32
  let v282 : BitVec 32 := Scalar.muli arg10 c16_i32_161
  let v283 : BitVec 32 := v282
  let c0_i32_165 : BitVec 32 := 0#32
  ![v283.toNat, 0]
def k0_off9 (v279 : BitVec 32) : Fin 2 → Nat :=
  let c16_i32 : BitVec 32 := 16#32
  let v280 : BitVec 32 := Scalar.muli v279 c16_i32
  let v281 : BitVec 32 := v280
  let c0_i32_166 : BitVec 32 := 0#32
  ![v281.toNat, 0]

def k0_chk3 (v279 : BitVec 32) : Prop :=
  (16 ∣ (k0_mult5 v279).toNat) ∧
  (∀ a, (k0_off9 v279) a + S16x128.size a ≤ S655360x128.size a)
theorem k0_mult5_dvd : ∀ (v279 : BitVec 32) (k0_hw3 : k0_chk3 v279), 16 ∣ (k0_mult5 v279).toNat := fun v279 k0_hw3 => k0_hw3.1
theorem k0_off9_inb : ∀ (v279 : BitVec 32) (k0_hw3 : k0_chk3 v279), ∀ a, (k0_off9 v279) a + S16x128.size a ≤ S655360x128.size a := fun v279 k0_hw3 => k0_hw3.2

def k0_off10 (i : grid0.Coords) (k0_t2 : Fin k0_t2_loop.trips) : Fin 1 → Nat :=
  let arg0 : BitVec 32 := BitVec.ofNat 32 (i 0).val
  let c256_i32 : BitVec 32 := 256#32
  let v0 : BitVec 32 := Scalar.muli arg0 c256_i32
  let c0_i32_2 : BitVec 32 := 0#32
  let c1_i32_4 : BitVec 32 := 1#32
  let arg10 : BitVec 32 := Scf.iv c0_i32_2 c1_i32_4 k0_t2
  let v288 : BitVec 32 := Scalar.addi v0 arg10
  let v289 : Index := Scalar.indexCast v288
  ![v289.toNat]
def k0_mult7 (v290 : BitVec 32) : BitVec 32 :=
  let c16_i32_167 : BitVec 32 := 16#32
  let v291 : BitVec 32 := Scalar.muli v290 c16_i32_167
  v291

def k0_mult8 (k0_t2 : Fin k0_t2_loop.trips) : BitVec 32 :=
  let c0_i32_2 : BitVec 32 := 0#32
  let c1_i32_4 : BitVec 32 := 1#32
  let arg10 : BitVec 32 := Scf.iv c0_i32_2 c1_i32_4 k0_t2
  let c16_i32_168 : BitVec 32 := 16#32
  let v293 : BitVec 32 := Scalar.muli arg10 c16_i32_168
  v293
def k0_off11 (k0_t2 : Fin k0_t2_loop.trips) : Fin 2 → Nat :=
  let c0_i32_2 : BitVec 32 := 0#32
  let c1_i32_4 : BitVec 32 := 1#32
  let arg10 : BitVec 32 := Scf.iv c0_i32_2 c1_i32_4 k0_t2
  let c16_i32_168 : BitVec 32 := 16#32
  let v293 : BitVec 32 := Scalar.muli arg10 c16_i32_168
  let v294 : BitVec 32 := v293
  let c0_i32_172 : BitVec 32 := 0#32
  ![v294.toNat, 0]
def k0_off12 (v290 : BitVec 32) : Fin 2 → Nat :=
  let c16_i32_167 : BitVec 32 := 16#32
  let v291 : BitVec 32 := Scalar.muli v290 c16_i32_167
  let v292 : BitVec 32 := v291
  let c0_i32_173 : BitVec 32 := 0#32
  ![v292.toNat, 0]

def k0_chk4 (v290 : BitVec 32) : Prop :=
  (16 ∣ (k0_mult7 v290).toNat) ∧
  (∀ a, (k0_off12 v290) a + S16x128.size a ≤ S655360x128.size a)
theorem k0_mult7_dvd : ∀ (v290 : BitVec 32) (k0_hw4 : k0_chk4 v290), 16 ∣ (k0_mult7 v290).toNat := fun v290 k0_hw4 => k0_hw4.1
theorem k0_off12_inb : ∀ (v290 : BitVec 32) (k0_hw4 : k0_chk4 v290), ∀ a, (k0_off12 v290) a + S16x128.size a ≤ S655360x128.size a := fun v290 k0_hw4 => k0_hw4.2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CombineRefIdeal.lean ====
abbrev S2x16384 : Shape := ⟨2, ![2, 16384]⟩
abbrev S16384x2048 : Shape := ⟨2, ![16384, 2048]⟩
abbrev S16384x2 : Shape := ⟨2, ![16384, 2]⟩
abbrev S2048 : Shape := ⟨1, ![2048]⟩
abbrev S655360x128 : Shape := ⟨2, ![655360, 128]⟩
abbrev S40960x2048 : Shape := ⟨2, ![40960, 2048]⟩
abbrev S16384x1 : Shape := ⟨2, ![16384, 1]⟩
abbrev S1x16384 : Shape := ⟨2, ![1, 16384]⟩
abbrev S16384 : Shape := ⟨1, ![16384]⟩
abbrev S_ : Shape := ⟨0, ![]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S2x16384, .i32⟩
  | .hbm, ⟨1, _⟩ => ⟨S16384x2048, .f32⟩
  | .hbm, ⟨2, _⟩ => ⟨S16384x2, .f32⟩
  | .hbm, ⟨3, _⟩ => ⟨S2048, .f32⟩
  | .hbm, ⟨4, _⟩ => ⟨S655360x128, .f32⟩
  | .hbm, ⟨5, _⟩ => ⟨S40960x2048, .f32⟩
  | .hbm, ⟨6, _⟩ => ⟨S16384x1, .f32⟩
  | .hbm, ⟨7, _⟩ => ⟨S1x16384, .i32⟩
  | .hbm, ⟨8, _⟩ => ⟨S16384, .i32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384x1, .i32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x1, .f32⟩
  | .hbm, ⟨21, _⟩ => ⟨S1x16384, .i32⟩
  | .hbm, ⟨22, _⟩ => ⟨S16384, .i32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S16384x1, .i32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x2048, .f32⟩
  | .hbm, ⟨48, _⟩ => ⟨S16384x2048, .f32⟩
  | .hbm, ⟨49, _⟩ => ⟨S1x2048, .f32⟩
  | .hbm, ⟨50, _⟩ => ⟨S16384x2048, .f32⟩
  | .hbm, ⟨51, _⟩ => ⟨S16384x2048, .f32⟩
  | _, _ => ⟨S2x16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Scan.lean ====
abbrev S16384x2048 : Shape := ⟨2, ![16384, 2048]⟩
abbrev S128x64 : Shape := ⟨2, ![128, 64]⟩
abbrev S128x64x16 : Shape := ⟨3, ![128, 64, 16]⟩
abbrev S128x16x64 : Shape := ⟨3, ![128, 16, 64]⟩
abbrev S17 : Shape := ⟨1, ![17]⟩
abbrev S128x1x64 : Shape := ⟨3, ![128, 1, 64]⟩
abbrev S1x17x1 : Shape := ⟨3, ![1, 17, 1]⟩
abbrev S128x17x64 : Shape := ⟨3, ![128, 17, 64]⟩
abbrev S16 : Shape := ⟨1, ![16]⟩
abbrev S_ : Shape := ⟨0, ![]⟩
abbrev S16x1 : Shape := ⟨2, ![16, 1]⟩
abbrev S128x16x1x64 : Shape := ⟨4, ![128, 16, 1, 64]⟩
abbrev S128x1x16x64 : Shape := ⟨4, ![128, 1, 16, 64]⟩
abbrev S128x16x16x64 : Shape := ⟨4, ![128, 16, 16, 64]⟩
abbrev S128x256x64 : Shape := ⟨3, ![128, 256, 64]⟩
abbrev S128x64x16x1 : Shape := ⟨4, ![128, 64, 16, 1]⟩
abbrev S128x64x1x16 : Shape := ⟨4, ![128, 64, 1, 16]⟩
abbrev S128x64x16x16 : Shape := ⟨4, ![128, 64, 16, 16]⟩
abbrev S128x64x256 : Shape := ⟨3, ![128, 64, 256]⟩
abbrev S128x16x16x16 : Shape := ⟨4, ![128, 16, 16, 16]⟩
abbrev S1x16 : Shape := ⟨2, ![1, 16]⟩
abbrev S16x16 : Shape := ⟨2, ![16, 16]⟩
abbrev S16x16x1 : Shape := ⟨3, ![16, 16, 1]⟩
abbrev S128x16x16x16x16 : Shape := ⟨5, ![128, 16, 16, 16, 16]⟩
abbrev S1x16x16x1x1 : Shape := ⟨5, ![1, 16, 16, 1, 1]⟩
abbrev S128x256x256 : Shape := ⟨3, ![128, 256, 256]⟩
abbrev S8 : Shape := ⟨1, ![8]⟩
abbrev S1x8x1 : Shape := ⟨3, ![1, 8, 1]⟩
abbrev S128x8x64 : Shape := ⟨3, ![128, 8, 64]⟩
abbrev S64x2x256x64 : Shape := ⟨4, ![64, 2, 256, 64]⟩
abbrev S64x2x256x2x2x64 : Shape := ⟨6, ![64, 2, 256, 2, 2, 64]⟩
abbrev S64x2x64x256 : Shape := ⟨4, ![64, 2, 64, 256]⟩
abbrev S64x2x2x64x2x256 : Shape := ⟨6, ![64, 2, 2, 64, 2, 256]⟩
abbrev S64x2x256x256 : Shape := ⟨4, ![64, 2, 256, 256]⟩
abbrev S64x2x256x2x256 : Shape := ⟨5, ![64, 2, 256, 2, 256]⟩
abbrev S64x1x256x64 : Shape := ⟨4, ![64, 1, 256, 64]⟩
abbrev S64x256x64 : Shape := ⟨3, ![64, 256, 64]⟩
abbrev S1 : Shape := ⟨1, ![1]⟩
abbrev S3 : Shape := ⟨1, ![3]⟩
abbrev S64x1x64x256 : Shape := ⟨4, ![64, 1, 64, 256]⟩
abbrev S64x64x256 : Shape := ⟨3, ![64, 64, 256]⟩
abbrev S64x1x256x256 : Shape := ⟨4, ![64, 1, 256, 256]⟩
abbrev S64x256x256 : Shape := ⟨3, ![64, 256, 256]⟩
abbrev S2 : Shape := ⟨1, ![2]⟩
abbrev S64x512x256 : Shape := ⟨3, ![64, 512, 256]⟩
abbrev S64x256x512 : Shape := ⟨3, ![64, 256, 512]⟩
abbrev S64x512x512 : Shape := ⟨3, ![64, 512, 512]⟩
abbrev S64x2x8x64 : Shape := ⟨4, ![64, 2, 8, 64]⟩
abbrev S64x8x2x64 : Shape := ⟨4, ![64, 8, 2, 64]⟩
abbrev S64x8x128 : Shape := ⟨3, ![64, 8, 128]⟩
abbrev S64x8x256 : Shape := ⟨3, ![64, 8, 256]⟩
abbrev S4x256x16x64x2x16 : Shape := ⟨6, ![4, 256, 16, 64, 2, 16]⟩
abbrev S64x4x256x2x16x16 : Shape := ⟨6, ![64, 4, 256, 2, 16, 16]⟩
abbrev S64x1024x512 : Shape := ⟨3, ![64, 1024, 512]⟩
abbrev S1x1024x512 : Shape := ⟨3, ![1, 1024, 512]⟩
abbrev S1x512x256 : Shape := ⟨3, ![1, 512, 256]⟩
abbrev S1x512x512 : Shape := ⟨3, ![1, 512, 512]⟩
abbrev S1x256x512 : Shape := ⟨3, ![1, 256, 512]⟩
abbrev S1x8x256 : Shape := ⟨3, ![1, 8, 256]⟩
abbrev S1024x512 : Shape := ⟨2, ![1024, 512]⟩
abbrev S512x256 : Shape := ⟨2, ![512, 256]⟩
abbrev S1024x256 : Shape := ⟨2, ![1024, 256]⟩
abbrev S1024x1 : Shape := ⟨2, ![1024, 1]⟩
abbrev S1024x128 : Shape := ⟨2, ![1024, 128]⟩
abbrev S1x1x128 : Shape := ⟨3, ![1, 1, 128]⟩
abbrev S1x128 : Shape := ⟨2, ![1, 128]⟩
abbrev S512x512 : Shape := ⟨2, ![512, 512]⟩
abbrev S256x512 : Shape := ⟨2, ![256, 512]⟩

abbrev nBuf : Space → Nat
  | .hbm => 308
  | .vmem => 12
  | .smem => 0
  | _ => 0

abbrev hbmTy0_0 (i : Nat) : BufTy := match i % 128 with
  | 0 => ⟨S16384x2048, .bf16⟩
  | 1 => ⟨S128x64, .f32⟩
  | 2 => ⟨S128x64, .f32⟩
  | 3 => ⟨S128x64x16, .f32⟩
  | 4 => ⟨S128x64x16, .f32⟩
  | 5 => ⟨S128x16x64, .f32⟩
  | 6 => ⟨S128x16x64, .f32⟩
  | 7 => ⟨S17, .f32⟩
  | 8 => ⟨S128x1x64, .f32⟩
  | 9 => ⟨S1x17x1, .f32⟩
  | 10 => ⟨S128x17x64, .f32⟩
  | 11 => ⟨S128x17x64, .f32⟩
  | 12 => ⟨S128x17x64, .f32⟩
  | 13 => ⟨S128x17x64, .f32⟩
  | 14 => ⟨S128x1x64, .f32⟩
  | 15 => ⟨S1x17x1, .f32⟩
  | 16 => ⟨S128x17x64, .f32⟩
  | 17 => ⟨S128x17x64, .f32⟩
  | 18 => ⟨S128x17x64, .f32⟩
  | 19 => ⟨S128x17x64, .f32⟩
  | 20 => ⟨S128x17x64, .f32⟩
  | 21 => ⟨S128x17x64, .f32⟩
  | 22 => ⟨S128x17x64, .f32⟩
  | 23 => ⟨S16, .i32⟩
  | 24 => ⟨S_, .i32⟩
  | 25 => ⟨S16, .i32⟩
  | 26 => ⟨S16, .i32⟩
  | 27 => ⟨S_, .i32⟩
  | 28 => ⟨S16, .i32⟩
  | 29 => ⟨S16, .i1⟩
  | 30 => ⟨S_, .i32⟩
  | 31 => ⟨S16, .i32⟩
  | 32 => ⟨S16, .i32⟩
  | 33 => ⟨S16, .i32⟩
  | 34 => ⟨S16x1, .i32⟩
  | 35 => ⟨S128x16x64, .f32⟩
  | 36 => ⟨S128x16x1x64, .f32⟩
  | 37 => ⟨S16, .i32⟩
  | 38 => ⟨S_, .i32⟩
  | 39 => ⟨S16, .i32⟩
  | 40 => ⟨S16, .i32⟩
  | 41 => ⟨S_, .i32⟩
  | 42 => ⟨S16, .i32⟩
  | 43 => ⟨S16, .i1⟩
  | 44 => ⟨S_, .i32⟩
  | 45 => ⟨S16, .i32⟩
  | 46 => ⟨S16, .i32⟩
  | 47 => ⟨S16, .i32⟩
  | 48 => ⟨S16x1, .i32⟩
  | 49 => ⟨S128x16x64, .f32⟩
  | 50 => ⟨S128x16x1x64, .f32⟩
  | 51 => ⟨S128x16x64, .f32⟩
  | 52 => ⟨S128x1x16x64, .f32⟩
  | 53 => ⟨S128x16x64, .f32⟩
  | 54 => ⟨S128x1x16x64, .f32⟩
  | 55 => ⟨S128x16x16x64, .f32⟩
  | 56 => ⟨S128x16x16x64, .f32⟩
  | 57 => ⟨S128x16x16x64, .f32⟩
  | 58 => ⟨S128x16x16x64, .f32⟩
  | 59 => ⟨S128x16x16x64, .f32⟩
  | 60 => ⟨S128x16x16x64, .f32⟩
  | 61 => ⟨S128x16x16x64, .f32⟩
  | 62 => ⟨S128x256x64, .f32⟩
  | 63 => ⟨S128x16x16x64, .f32⟩
  | 64 => ⟨S128x16x16x64, .f32⟩
  | 65 => ⟨S128x16x16x64, .f32⟩
  | 66 => ⟨S128x16x16x64, .f32⟩
  | 67 => ⟨S128x16x16x64, .f32⟩
  | 68 => ⟨S128x16x16x64, .f32⟩
  | 69 => ⟨S128x16x16x64, .f32⟩
  | 70 => ⟨S128x256x64, .f32⟩
  | 71 => ⟨S128x16x64, .f32⟩
  | 72 => ⟨S128x64x16, .f32⟩
  | 73 => ⟨S128x64x16x1, .f32⟩
  | 74 => ⟨S128x16x64, .f32⟩
  | 75 => ⟨S128x64x16, .f32⟩
  | 76 => ⟨S128x64x16x1, .f32⟩
  | 77 => ⟨S128x64x16, .f32⟩
  | 78 => ⟨S128x64x1x16, .f32⟩
  | 79 => ⟨S128x64x16, .f32⟩
  | 80 => ⟨S128x64x1x16, .f32⟩
  | 81 => ⟨S128x64x16x16, .f32⟩
  | 82 => ⟨S128x64x16x16, .f32⟩
  | 83 => ⟨S128x64x16x16, .f32⟩
  | 84 => ⟨S128x64x16x16, .f32⟩
  | 85 => ⟨S128x64x16x16, .f32⟩
  | 86 => ⟨S128x64x16x16, .f32⟩
  | 87 => ⟨S128x64x16x16, .f32⟩
  | 88 => ⟨S128x64x256, .f32⟩
  | 89 => ⟨S128x64x16x16, .f32⟩
  | 90 => ⟨S128x64x16x16, .f32⟩
  | 91 => ⟨S128x64x16x16, .f32⟩
  | 92 => ⟨S128x64x16x16, .f32⟩
  | 93 => ⟨S128x64x16x16, .f32⟩
  | 94 => ⟨S128x64x16x16, .f32⟩
  | 95 => ⟨S128x64x16x16, .f32⟩
  | 96 => ⟨S128x64x256, .f32⟩
  | 97 => ⟨S128x1x16x64, .f32⟩
  | 98 => ⟨S128x16x64, .f32⟩
  | 99 => ⟨S128x16x1x64, .f32⟩
  | 100 => ⟨S128x16x16x64, .f32⟩
  | 101 => ⟨S128x16x16x64, .f32⟩
  | 102 => ⟨S128x16x16x64, .f32⟩
  | 103 => ⟨S128x1x16x64, .f32⟩
  | 104 => ⟨S128x16x64, .f32⟩
  | 105 => ⟨S128x16x1x64, .f32⟩
  | 106 => ⟨S128x16x16x64, .f32⟩
  | 107 => ⟨S128x16x16x64, .f32⟩
  | 108 => ⟨S128x16x16x64, .f32⟩
  | 109 => ⟨S128x16x16x64, .f32⟩
  | 110 => ⟨S128x1x16x64, .f32⟩
  | 111 => ⟨S128x16x64, .f32⟩
  | 112 => ⟨S128x16x1x64, .f32⟩
  | 113 => ⟨S128x16x16x64, .f32⟩
  | 114 => ⟨S128x16x16x64, .f32⟩
  | 115 => ⟨S128x16x16x64, .f32⟩
  | 116 => ⟨S128x1x16x64, .f32⟩
  | 117 => ⟨S128x16x64, .f32⟩
  | 118 => ⟨S128x16x1x64, .f32⟩
  | 119 => ⟨S128x16x16x64, .f32⟩
  | 120 => ⟨S128x16x16x64, .f32⟩
  | 121 => ⟨S128x16x16x64, .f32⟩
  | 122 => ⟨S128x16x16x64, .f32⟩
  | 123 => ⟨S128x16x16x16, .f32⟩
  | 124 => ⟨S128x16x16x16, .f32⟩
  | 125 => ⟨S128x16x16x16, .f32⟩
  | 126 => ⟨S16, .i32⟩
  | 127 => ⟨S16x1, .i32⟩
  | _ => ⟨S16384x2048, .bf16⟩

abbrev hbmTy0_1 (i : Nat) : BufTy := match i % 128 with
  | 0 => ⟨S16, .i32⟩
  | 1 => ⟨S1x16, .i32⟩
  | 2 => ⟨S16x16, .i32⟩
  | 3 => ⟨S16x16, .i32⟩
  | 4 => ⟨S16x16, .i32⟩
  | 5 => ⟨S_, .i32⟩
  | 6 => ⟨S_, .i32⟩
  | 7 => ⟨S_, .i32⟩
  | 8 => ⟨S16x16, .i32⟩
  | 9 => ⟨S16x16, .i32⟩
  | 10 => ⟨S_, .i32⟩
  | 11 => ⟨S16x16, .i32⟩
  | 12 => ⟨S16x16, .i32⟩
  | 13 => ⟨S_, .i32⟩
  | 14 => ⟨S16x16, .i32⟩
  | 15 => ⟨S16x16, .i1⟩
  | 16 => ⟨S_, .i32⟩
  | 17 => ⟨S16x16, .i32⟩
  | 18 => ⟨S16x16, .i32⟩
  | 19 => ⟨S16x16, .i32⟩
  | 20 => ⟨S16x16x1, .i32⟩
  | 21 => ⟨S128x16x16x16x16, .f32⟩
  | 22 => ⟨S16x16, .i32⟩
  | 23 => ⟨S16x16, .i32⟩
  | 24 => ⟨S16x16, .i1⟩
  | 25 => ⟨S1x16x16x1x1, .i1⟩
  | 26 => ⟨S_, .f32⟩
  | 27 => ⟨S_, .f32⟩
  | 28 => ⟨S128x16x16x16x16, .i1⟩
  | 29 => ⟨S128x16x16x16x16, .f32⟩
  | 30 => ⟨S128x16x16x16x16, .f32⟩
  | 31 => ⟨S128x16x16x16x16, .f32⟩
  | 32 => ⟨S128x256x256, .f32⟩
  | 33 => ⟨S8, .f32⟩
  | 34 => ⟨S_, .f32⟩
  | 35 => ⟨S8, .f32⟩
  | 36 => ⟨S8, .f32⟩
  | 37 => ⟨S_, .f32⟩
  | 38 => ⟨S8, .f32⟩
  | 39 => ⟨S8, .f32⟩
  | 40 => ⟨S128x1x64, .f32⟩
  | 41 => ⟨S1x8x1, .f32⟩
  | 42 => ⟨S128x8x64, .f32⟩
  | 43 => ⟨S128x8x64, .f32⟩
  | 44 => ⟨S128x8x64, .f32⟩
  | 45 => ⟨S128x8x64, .f32⟩
  | 46 => ⟨S128x1x64, .f32⟩
  | 47 => ⟨S1x8x1, .f32⟩
  | 48 => ⟨S128x8x64, .f32⟩
  | 49 => ⟨S128x8x64, .f32⟩
  | 50 => ⟨S128x8x64, .f32⟩
  | 51 => ⟨S128x8x64, .f32⟩
  | 52 => ⟨S128x8x64, .f32⟩
  | 53 => ⟨S128x8x64, .f32⟩
  | 54 => ⟨S128x8x64, .f32⟩
  | 55 => ⟨S64x2x256x64, .f32⟩
  | 56 => ⟨S64x2x256x64, .f32⟩
  | 57 => ⟨S_, .f32⟩
  | 58 => ⟨S64x2x256x2x2x64, .f32⟩
  | 59 => ⟨S64x2x64x256, .f32⟩
  | 60 => ⟨S128x64x256, .f32⟩
  | 61 => ⟨S64x2x64x256, .f32⟩
  | 62 => ⟨S_, .f32⟩
  | 63 => ⟨S64x2x2x64x2x256, .f32⟩
  | 64 => ⟨S64x2x256x256, .f32⟩
  | 65 => ⟨S_, .f32⟩
  | 66 => ⟨S64x2x256x2x256, .f32⟩
  | 67 => ⟨S64x1x256x64, .f32⟩
  | 68 => ⟨S64x256x64, .f32⟩
  | 69 => ⟨S_, .i32⟩
  | 70 => ⟨S1, .i32⟩
  | 71 => ⟨S_, .i32⟩
  | 72 => ⟨S1, .i32⟩
  | 73 => ⟨S_, .i32⟩
  | 74 => ⟨S1, .i32⟩
  | 75 => ⟨S3, .i32⟩
  | 76 => ⟨S64x2x256x2x2x64, .f32⟩
  | 77 => ⟨S64x1x256x64, .f32⟩
  | 78 => ⟨S64x256x64, .f32⟩
  | 79 => ⟨S_, .i32⟩
  | 80 => ⟨S1, .i32⟩
  | 81 => ⟨S_, .i32⟩
  | 82 => ⟨S1, .i32⟩
  | 83 => ⟨S_, .i32⟩
  | 84 => ⟨S1, .i32⟩
  | 85 => ⟨S3, .i32⟩
  | 86 => ⟨S64x2x256x2x2x64, .f32⟩
  | 87 => ⟨S64x1x64x256, .f32⟩
  | 88 => ⟨S64x64x256, .f32⟩
  | 89 => ⟨S_, .i32⟩
  | 90 => ⟨S1, .i32⟩
  | 91 => ⟨S_, .i32⟩
  | 92 => ⟨S1, .i32⟩
  | 93 => ⟨S_, .i32⟩
  | 94 => ⟨S1, .i32⟩
  | 95 => ⟨S3, .i32⟩
  | 96 => ⟨S64x2x2x64x2x256, .f32⟩
  | 97 => ⟨S64x1x64x256, .f32⟩
  | 98 => ⟨S64x64x256, .f32⟩
  | 99 => ⟨S_, .i32⟩
  | 100 => ⟨S1, .i32⟩
  | 101 => ⟨S_, .i32⟩
  | 102 => ⟨S1, .i32⟩
  | 103 => ⟨S_, .i32⟩
  | 104 => ⟨S1, .i32⟩
  | 105 => ⟨S3, .i32⟩
  | 106 => ⟨S64x2x2x64x2x256, .f32⟩
  | 107 => ⟨S64x1x256x256, .f32⟩
  | 108 => ⟨S64x256x256, .f32⟩
  | 109 => ⟨S_, .i32⟩
  | 110 => ⟨S1, .i32⟩
  | 111 => ⟨S_, .i32⟩
  | 112 => ⟨S1, .i32⟩
  | 113 => ⟨S2, .i32⟩
  | 114 => ⟨S64x2x256x2x256, .f32⟩
  | 115 => ⟨S64x1x256x64, .f32⟩
  | 116 => ⟨S64x256x64, .f32⟩
  | 117 => ⟨S_, .i32⟩
  | 118 => ⟨S1, .i32⟩
  | 119 => ⟨S_, .i32⟩
  | 120 => ⟨S1, .i32⟩
  | 121 => ⟨S_, .i32⟩
  | 122 => ⟨S1, .i32⟩
  | 123 => ⟨S3, .i32⟩
  | 124 => ⟨S64x2x256x2x2x64, .f32⟩
  | 125 => ⟨S64x1x256x64, .f32⟩
  | 126 => ⟨S64x256x64, .f32⟩
  | 127 => ⟨S_, .i32⟩
  | _ => ⟨S16384x2048, .bf16⟩

abbrev hbmTy0_2 (i : Nat) : BufTy := match i % 128 with
  | 0 => ⟨S1, .i32⟩
  | 1 => ⟨S_, .i32⟩
  | 2 => ⟨S1, .i32⟩
  | 3 => ⟨S_, .i32⟩
  | 4 => ⟨S1, .i32⟩
  | 5 => ⟨S3, .i32⟩
  | 6 => ⟨S64x2x256x2x2x64, .f32⟩
  | 7 => ⟨S64x1x64x256, .f32⟩
  | 8 => ⟨S64x64x256, .f32⟩
  | 9 => ⟨S_, .i32⟩
  | 10 => ⟨S1, .i32⟩
  | 11 => ⟨S_, .i32⟩
  | 12 => ⟨S1, .i32⟩
  | 13 => ⟨S_, .i32⟩
  | 14 => ⟨S1, .i32⟩
  | 15 => ⟨S3, .i32⟩
  | 16 => ⟨S64x2x2x64x2x256, .f32⟩
  | 17 => ⟨S64x1x64x256, .f32⟩
  | 18 => ⟨S64x64x256, .f32⟩
  | 19 => ⟨S_, .i32⟩
  | 20 => ⟨S1, .i32⟩
  | 21 => ⟨S_, .i32⟩
  | 22 => ⟨S1, .i32⟩
  | 23 => ⟨S_, .i32⟩
  | 24 => ⟨S1, .i32⟩
  | 25 => ⟨S3, .i32⟩
  | 26 => ⟨S64x2x2x64x2x256, .f32⟩
  | 27 => ⟨S64x1x256x256, .f32⟩
  | 28 => ⟨S64x256x256, .f32⟩
  | 29 => ⟨S_, .i32⟩
  | 30 => ⟨S1, .i32⟩
  | 31 => ⟨S_, .i32⟩
  | 32 => ⟨S1, .i32⟩
  | 33 => ⟨S2, .i32⟩
  | 34 => ⟨S64x2x256x2x256, .f32⟩
  | 35 => ⟨S64x512x256, .f32⟩
  | 36 => ⟨S64x512x256, .bf16⟩
  | 37 => ⟨S64x256x512, .f32⟩
  | 38 => ⟨S64x256x512, .bf16⟩
  | 39 => ⟨S64x512x512, .f32⟩
  | 40 => ⟨S64x512x512, .bf16⟩
  | 41 => ⟨S64x2x8x64, .f32⟩
  | 42 => ⟨S64x8x2x64, .f32⟩
  | 43 => ⟨S64x8x128, .f32⟩
  | 44 => ⟨S64x2x8x64, .f32⟩
  | 45 => ⟨S64x8x2x64, .f32⟩
  | 46 => ⟨S64x8x128, .f32⟩
  | 47 => ⟨S64x8x256, .f32⟩
  | 48 => ⟨S4x256x16x64x2x16, .bf16⟩
  | 49 => ⟨S64x4x256x2x16x16, .bf16⟩
  | 50 => ⟨S64x1024x512, .bf16⟩
  | 51 => ⟨S64x1024x512, .bf16⟩
  | _ => ⟨S16384x2048, .bf16⟩

abbrev hbmTy (i : Nat) : BufTy := match i / 128 with
  | 0 => hbmTy0_0 i
  | 1 => hbmTy0_1 i
  | 2 => hbmTy0_2 i
  | _ => ⟨S16384x2048, .bf16⟩

abbrev bufTy : (tb : Table) → Fin (tcTables nBuf tb) → BufTy
  | .hbm, ⟨i, _⟩ => hbmTy i
  | .local _ .vmem, ⟨0, _⟩ => ⟨S1x1024x512, .bf16⟩
  | .local _ .vmem, ⟨1, _⟩ => ⟨S1x1024x512, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x512, .bf16⟩
  | .local _ .vmem, ⟨5, _⟩ => ⟨S1x512x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x8x256, .f32⟩
  | .local _ .vmem, ⟨9, _⟩ => ⟨S1x8x256, .f32⟩
  | .local _ .vmem, ⟨10, _⟩ => ⟨S1x1024x512, .bf16⟩
  | .local _ .vmem, ⟨11, _⟩ => ⟨S1x1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_c_0 : Ref sig .tc := ⟨.hbm, 27, rfl⟩
abbrev main_v19 : Ref sig .tc := ⟨.hbm, 28, rfl⟩
abbrev main_v20 : Ref sig .tc := ⟨.hbm, 29, rfl⟩
abbrev main_c_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_2 : Ref sig .tc := ⟨.hbm, 38, rfl⟩
abbrev main_v28 : Ref sig .tc := ⟨.hbm, 39, rfl⟩
abbrev main_v29 : Ref sig .tc := ⟨.hbm, 40, rfl⟩
abbrev main_c_3 : Ref sig .tc := ⟨.hbm, 41, rfl⟩
abbrev main_v30 : Ref sig .tc := ⟨.hbm, 42, rfl⟩
abbrev main_v31 : Ref sig .tc := ⟨.hbm, 43, rfl⟩
abbrev main_c_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_c_5 : Ref sig .tc := ⟨.hbm, 133, rfl⟩
abbrev main_c_6 : Ref sig .tc := ⟨.hbm, 134, rfl⟩
abbrev main_call0_v0 : Ref sig .tc := ⟨.hbm, 135, rfl⟩
abbrev main_call0_v1 : Ref sig .tc := ⟨.hbm, 136, rfl⟩
abbrev main_call0_v2 : Ref sig .tc := ⟨.hbm, 137, rfl⟩
abbrev main_call0_v3 : Ref sig .tc := ⟨.hbm, 138, rfl⟩
abbrev main_call0_v4 : Ref sig .tc := ⟨.hbm, 139, rfl⟩
abbrev main_v120 : Ref sig .tc := ⟨.hbm, 140, rfl⟩
abbrev main_c_7 : Ref sig .tc := ⟨.hbm, 141, rfl⟩
abbrev main_v121 : Ref sig .tc := ⟨.hbm, 142, rfl⟩
abbrev main_v122 : Ref sig .tc := ⟨.hbm, 143, rfl⟩
abbrev main_c_8 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_cst : Ref sig .tc := ⟨.hbm, 154, rfl⟩
abbrev main_call1_v0 : Ref sig .tc := ⟨.hbm, 155, rfl⟩
abbrev main_call1_v1 : Ref sig .tc := ⟨.hbm, 156, rfl⟩
abbrev main_call1_v2 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_cst_9 : Ref sig .tc := ⟨.hbm, 162, rfl⟩
abbrev main_v136 : Ref sig .tc := ⟨.hbm, 163, rfl⟩
abbrev main_v137 : Ref sig .tc := ⟨.hbm, 164, rfl⟩
abbrev main_cst_10 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_cst_11 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_cst_12 : Ref sig .tc := ⟨.hbm, 190, rfl⟩
abbrev main_v161 : Ref sig .tc := ⟨.hbm, 191, rfl⟩
abbrev main_v162 : Ref sig .tc := ⟨.hbm, 192, rfl⟩
abbrev main_cst_13 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_c_14 : Ref sig .tc := ⟨.hbm, 197, rfl⟩
abbrev main_v166 : Ref sig .tc := ⟨.hbm, 198, rfl⟩
abbrev main_c_15 : Ref sig .tc := ⟨.hbm, 199, rfl⟩
abbrev main_v167 : Ref sig .tc := ⟨.hbm, 200, rfl⟩
abbrev main_c_16 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_c_17 : Ref sig .tc := ⟨.hbm, 207, rfl⟩
abbrev main_v173 : Ref sig .tc := ⟨.hbm, 208, rfl⟩
abbrev main_c_18 : Ref sig .tc := ⟨.hbm, 209, rfl⟩
abbrev main_v174 : Ref sig .tc := ⟨.hbm, 210, rfl⟩
abbrev main_c_19 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_c_20 : Ref sig .tc := ⟨.hbm, 217, rfl⟩
abbrev main_v180 : Ref sig .tc := ⟨.hbm, 218, rfl⟩
abbrev main_c_21 : Ref sig .tc := ⟨.hbm, 219, rfl⟩
abbrev main_v181 : Ref sig .tc := ⟨.hbm, 220, rfl⟩
abbrev main_c_22 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_c_23 : Ref sig .tc := ⟨.hbm, 227, rfl⟩
abbrev main_v187 : Ref sig .tc := ⟨.hbm, 228, rfl⟩
abbrev main_c_24 : Ref sig .tc := ⟨.hbm, 229, rfl⟩
abbrev main_v188 : Ref sig .tc := ⟨.hbm, 230, rfl⟩
abbrev main_c_25 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_c_26 : Ref sig .tc := ⟨.hbm, 237, rfl⟩
abbrev main_v194 : Ref sig .tc := ⟨.hbm, 238, rfl⟩
abbrev main_c_27 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_c_28 : Ref sig .tc := ⟨.hbm, 245, rfl⟩
abbrev main_v200 : Ref sig .tc := ⟨.hbm, 246, rfl⟩
abbrev main_c_29 : Ref sig .tc := ⟨.hbm, 247, rfl⟩
abbrev main_v201 : Ref sig .tc := ⟨.hbm, 248, rfl⟩
abbrev main_c_30 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_c_31 : Ref sig .tc := ⟨.hbm, 255, rfl⟩
abbrev main_v207 : Ref sig .tc := ⟨.hbm, 256, rfl⟩
abbrev main_c_32 : Ref sig .tc := ⟨.hbm, 257, rfl⟩
abbrev main_v208 : Ref sig .tc := ⟨.hbm, 258, rfl⟩
abbrev main_c_33 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_c_34 : Ref sig .tc := ⟨.hbm, 265, rfl⟩
abbrev main_v214 : Ref sig .tc := ⟨.hbm, 266, rfl⟩
abbrev main_c_35 : Ref sig .tc := ⟨.hbm, 267, rfl⟩
abbrev main_v215 : Ref sig .tc := ⟨.hbm, 268, rfl⟩
abbrev main_c_36 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_c_37 : Ref sig .tc := ⟨.hbm, 275, rfl⟩
abbrev main_v221 : Ref sig .tc := ⟨.hbm, 276, rfl⟩
abbrev main_c_38 : Ref sig .tc := ⟨.hbm, 277, rfl⟩
abbrev main_v222 : Ref sig .tc := ⟨.hbm, 278, rfl⟩
abbrev main_c_39 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_c_40 : Ref sig .tc := ⟨.hbm, 285, rfl⟩
abbrev main_v228 : Ref sig .tc := ⟨.hbm, 286, rfl⟩
abbrev main_c_41 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_v238 : Ref sig .tc := ⟨.hbm, 297, rfl⟩
abbrev main_v239 : Ref sig .tc := ⟨.hbm, 298, rfl⟩
abbrev main_v240 : Ref sig .tc := ⟨.hbm, 299, rfl⟩
abbrev main_v241 : Ref sig .tc := ⟨.hbm, 300, rfl⟩
abbrev main_v242 : Ref sig .tc := ⟨.hbm, 301, rfl⟩
abbrev main_v243 : Ref sig .tc := ⟨.hbm, 302, rfl⟩
abbrev main_v244 : Ref sig .tc := ⟨.hbm, 303, rfl⟩
abbrev main_v245 : Ref sig .tc := ⟨.hbm, 304, rfl⟩
abbrev main_v246 : Ref sig .tc := ⟨.hbm, 305, rfl⟩
abbrev main_v247 : Ref sig .tc := ⟨.hbm, 306, rfl⟩
abbrev main_v248 : Ref sig .tc := ⟨.hbm, 307, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ScanRefIdeal.lean ====
abbrev S16384x2048 : Shape := ⟨2, ![16384, 2048]⟩
abbrev S128x64 : Shape := ⟨2, ![128, 64]⟩
abbrev S128x64x16 : Shape := ⟨3, ![128, 64, 16]⟩
abbrev S128x16x64 : Shape := ⟨3, ![128, 16, 64]⟩
abbrev S4x4096x128x16 : Shape := ⟨4, ![4, 4096, 128, 16]⟩
abbrev S128x64x4x4096 : Shape := ⟨4, ![128, 64, 4, 4096]⟩
abbrev S4x4096x128x64 : Shape := ⟨4, ![4, 4096, 128, 64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096x1 : Shape := ⟨4, ![1, 4096, 4096, 1]⟩
abbrev S128x1x1x64 : Shape := ⟨4, ![128, 1, 1, 64]⟩
abbrev S128x4096x4096x64 : Shape := ⟨4, ![128, 4096, 4096, 64]⟩
abbrev S_ : Shape := ⟨0, ![]⟩
abbrev S128x16x4x4096 : Shape := ⟨4, ![128, 16, 4, 4096]⟩
abbrev S4x256x16x64x2x16 : Shape := ⟨6, ![4, 256, 16, 64, 2, 16]⟩
abbrev S64x4x256x2x16x16 : Shape := ⟨6, ![64, 4, 256, 2, 16, 16]⟩
abbrev S64x1024x512 : Shape := ⟨3, ![64, 1024, 512]⟩

abbrev nBuf : Space → Nat
  | .hbm => 72
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S128x64, .f32⟩
  | .hbm, ⟨2, _⟩ => ⟨S128x64, .f32⟩
  | .hbm, ⟨3, _⟩ => ⟨S128x64x16, .f32⟩
  | .hbm, ⟨4, _⟩ => ⟨S128x64x16, .f32⟩
  | .hbm, ⟨5, _⟩ => ⟨S128x16x64, .f32⟩
  | .hbm, ⟨6, _⟩ => ⟨S128x16x64, .f32⟩
  | .hbm, ⟨7, _⟩ => ⟨S16384x2048, .f32⟩
  | .hbm, ⟨8, _⟩ => ⟨S4x4096x128x16, .f32⟩
  | .hbm, ⟨9, _⟩ => ⟨S128x64x4x4096, .f32⟩
  | .hbm, ⟨10, _⟩ => ⟨S4x4096x128x64, .f32⟩
  | .hbm, ⟨11, _⟩ => ⟨S128x64x4x4096, .f32⟩
  | .hbm, ⟨12, _⟩ => ⟨S4x4096x128x64, .f32⟩
  | .hbm, ⟨13, _⟩ => ⟨S4096, .i32⟩
  | .hbm, ⟨14, _⟩ => ⟨S4096x1, .i32⟩
  | .hbm, ⟨15, _⟩ => ⟨S4096, .i32⟩
  | .hbm, ⟨16, _⟩ => ⟨S1x4096, .i32⟩
  | .hbm, ⟨17, _⟩ => ⟨S4096x4096, .i32⟩
  | .hbm, ⟨18, _⟩ => ⟨S4096x4096, .i32⟩
  | .hbm, ⟨19, _⟩ => ⟨S4096x4096, .i32⟩
  | .hbm, ⟨20, _⟩ => ⟨S1x4096x4096x1, .i32⟩
  | .hbm, ⟨21, _⟩ => ⟨S128x1x1x64, .f32⟩
  | .hbm, ⟨22, _⟩ => ⟨S1x4096x4096x1, .f32⟩
  | .hbm, ⟨23, _⟩ => ⟨S128x4096x4096x64, .f32⟩
  | .hbm, ⟨24, _⟩ => ⟨S128x4096x4096x64, .f32⟩
  | .hbm, ⟨25, _⟩ => ⟨S128x4096x4096x64, .f32⟩
  | .hbm, ⟨26, _⟩ => ⟨S128x1x1x64, .f32⟩
  | .hbm, ⟨27, _⟩ => ⟨S1x4096x4096x1, .f32⟩
  | .hbm, ⟨28, _⟩ => ⟨S128x4096x4096x64, .f32⟩
  | .hbm, ⟨29, _⟩ => ⟨S128x4096x4096x64, .f32⟩
  | .hbm, ⟨30, _⟩ => ⟨S128x4096x4096x64, .f32⟩
  | .hbm, ⟨31, _⟩ => ⟨S_, .i32⟩
  | .hbm, ⟨32, _⟩ => ⟨S1x4096x4096x1, .i32⟩
  | .hbm, ⟨33, _⟩ => ⟨S1x4096x4096x1, .i1⟩
  | .hbm, ⟨34, _⟩ => ⟨S128x4096x4096x64, .f32⟩
  | .hbm, ⟨35, _⟩ => ⟨S128x4096x4096x64, .f32⟩
  | .hbm, ⟨36, _⟩ => ⟨S128x4096x4096x64, .f32⟩
  | .hbm, ⟨37, _⟩ => ⟨S_, .f32⟩
  | .hbm, ⟨38, _⟩ => ⟨S_, .f32⟩
  | .hbm, ⟨39, _⟩ => ⟨S128x4096x4096x64, .i1⟩
  | .hbm, ⟨40, _⟩ => ⟨S128x4096x4096x64, .f32⟩
  | .hbm, ⟨41, _⟩ => ⟨S128x4096x4096x64, .f32⟩
  | .hbm, ⟨42, _⟩ => ⟨S_, .i32⟩
  | .hbm, ⟨43, _⟩ => ⟨S1x4096x4096x1, .i32⟩
  | .hbm, ⟨44, _⟩ => ⟨S1x4096x4096x1, .i1⟩
  | .hbm, ⟨45, _⟩ => ⟨S128x4096x4096x64, .f32⟩
  | .hbm, ⟨46, _⟩ => ⟨S128x4096x4096x64, .f32⟩
  | .hbm, ⟨47, _⟩ => ⟨S128x4096x4096x64, .f32⟩
  | .hbm, ⟨48, _⟩ => ⟨S_, .f32⟩
  | .hbm, ⟨49, _⟩ => ⟨S_, .f32⟩
  | .hbm, ⟨50, _⟩ => ⟨S128x4096x4096x64, .i1⟩
  | .hbm, ⟨51, _⟩ => ⟨S128x4096x4096x64, .f32⟩
  | .hbm, ⟨52, _⟩ => ⟨S128x4096x4096x64, .f32⟩
  | .hbm, ⟨53, _⟩ => ⟨S128x64x4x4096, .f32⟩
  | .hbm, ⟨54, _⟩ => ⟨S4x4096x128x64, .f32⟩
  | .hbm, ⟨55, _⟩ => ⟨S128x64x4x4096, .f32⟩
  | .hbm, ⟨56, _⟩ => ⟨S4x4096x128x64, .f32⟩
  | .hbm, ⟨57, _⟩ => ⟨S4x4096x128x64, .f32⟩
  | .hbm, ⟨58, _⟩ => ⟨S128x64x4x4096, .f32⟩
  | .hbm, ⟨59, _⟩ => ⟨S4x4096x128x64, .f32⟩
  | .hbm, ⟨60, _⟩ => ⟨S128x64x4x4096, .f32⟩
  | .hbm, ⟨61, _⟩ => ⟨S4x4096x128x64, .f32⟩
  | .hbm, ⟨62, _⟩ => ⟨S4x4096x128x64, .f32⟩
  | .hbm, ⟨63, _⟩ => ⟨S128x16x4x4096, .f32⟩
  | .hbm, ⟨64, _⟩ => ⟨S4x4096x128x16, .f32⟩
  | .hbm, ⟨65, _⟩ => ⟨S128x16x4x4096, .f32⟩
  | .hbm, ⟨66, _⟩ => ⟨S4x4096x128x16, .f32⟩
  | .hbm, ⟨67, _⟩ => ⟨S4x4096x128x16, .f32⟩
  | .hbm, ⟨68, _⟩ => ⟨S4x256x16x64x2x16, .f32⟩
  | .hbm, ⟨69, _⟩ => ⟨S64x4x256x2x16x16, .f32⟩
  | .hbm, ⟨70, _⟩ => ⟨S64x1024x512, .f32⟩
  | .hbm, ⟨71, _⟩ => ⟨S64x1024x512, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v29 : Ref sig .tc := ⟨.hbm, 41, rfl⟩
abbrev main_c_0 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_1 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]
-- ==== Proof.MLstmMath.lean ====
/-
  The real-number mathematics of the stabilised mLSTM recurrence of one (batch, head) pair: the cumulative log forget
  gate, the running stabiliser, and the stabilised decayed sum, with the one lemma by which a chunk of any length
  carries them from one prefix to the next.
-/
module

public import Idealize.ShloMosaic.Lib.Pointwise

@[expose] public section

noncomputable section

namespace Cert.MLstm

open Finset Idealize.ShloMosaic

/-- The sum of the first `t` log forget gates. -/
def cum (f : ℕ → ℝ) (t : ℕ) : ℝ := ∑ j ∈ range t, f j

/-- The running stabiliser: zero at the start, then the larger of its decayed predecessor and the new log input gate. -/
def stab (f i : ℕ → ℝ) : ℕ → ℝ
  | 0 => 0
  | t + 1 => max (stab f i t + f t) (i t)

/-- The stabilised decayed sum of `g` over the first `t` positions. -/
def acc (f i g : ℕ → ℝ) (t : ℕ) : ℝ := ∑ s ∈ range t, Real.exp (cum f t - cum f (s + 1) + i s - stab f i t) * g s

variable (f i g : ℕ → ℝ)

theorem cum_zero : cum f 0 = 0 := by simp [cum]

theorem cum_succ (t : ℕ) : cum f (t + 1) = cum f t + f t := by simp [cum, sum_range_succ]

theorem acc_zero : acc f i g 0 = 0 := by simp [acc]

/-- The log forget gates of positions `P … P + n - 1` sum to the difference of the two cumulative sums. -/
theorem cum_add (P n : ℕ) : ∑ s ∈ range n, f (P + s) = cum f (P + n) - cum f P := by
  simp [cum, sum_range_add]

/-- The stabiliser after `n` more positions dominates its decayed self. -/
theorem stab_ge_carry (P n : ℕ) : cum f (P + n) - cum f P + stab f i P ≤ stab f i (P + n) := by
  induction n with
  | zero => simp
  | succ n ih =>
    have h1 : stab f i (P + n) + f (P + n) ≤ stab f i (P + (n + 1)) := le_max_left _ _
    have h2 := cum_succ f (P + n)
    rw [← add_assoc] at h1 ⊢
    linarith

/-- It dominates the decayed log input gate of each of these positions. -/
theorem stab_ge_gate (P n s : ℕ) (hs : s < n) :
    cum f (P + n) - cum f (P + s + 1) + i (P + s) ≤ stab f i (P + n) := by
  induction n with
  | zero => omega
  | succ n ih =>
    have h1 : stab f i (P + n) + f (P + n) ≤ stab f i (P + (n + 1)) := le_max_left _ _
    have h0 : i (P + n) ≤ stab f i (P + (n + 1)) := le_max_right _ _
    have h2 := cum_succ f (P + n)
    rw [← add_assoc] at h1 h0 ⊢
    rcases Nat.lt_succ_iff_lt_or_eq.1 hs with h | h
    · have := ih h
      linarith
    · subst h
      linarith

/-- And it is one of them. -/
theorem stab_attained (P n : ℕ) : stab f i (P + n) = cum f (P + n) - cum f P + stab f i P
    ∨ ∃ s, s < n ∧ stab f i (P + n) = cum f (P + n) - cum f (P + s + 1) + i (P + s) := by
  induction n with
  | zero => left; simp
  | succ n ih =>
    have h2 := cum_succ f (P + n)
    have hd : stab f i (P + (n + 1)) = max (stab f i (P + n) + f (P + n)) (i (P + n)) := rfl
    rw [← add_assoc] at hd ⊢
    rcases le_total (stab f i (P + n) + f (P + n)) (i (P + n)) with h | h
    · right
      refine ⟨n, Nat.lt_succ_self n, ?_⟩
      rw [hd, max_eq_right h]
      linarith
    · rw [max_eq_left h] at hd
      rcases ih with e | ⟨s, hs, e⟩
      · left
        rw [hd]
        linarith
      · right
        refine ⟨s, Nat.lt_succ_of_lt hs, ?_⟩
        rw [hd]
        linarith

/-- THE CHUNK STEP: the stabilised sum after `n` more positions is the decayed earlier sum plus the chunk's own terms. -/
theorem acc_add (P n : ℕ) : acc f i g (P + n)
    = Real.exp (cum f (P + n) - cum f P + stab f i P - stab f i (P + n)) * acc f i g P
      + ∑ s ∈ range n, Real.exp (cum f (P + n) - cum f (P + s + 1) + i (P + s) - stab f i (P + n)) * g (P + s) := by
  unfold acc
  rw [sum_range_add, mul_sum]
  congr 1
  refine sum_congr rfl fun s _ => ?_
  rw [← mul_assoc, ← Real.exp_add]
  congr 2
  ring

/-- A combination of stabilised sums is the stabilised sum of the combination. -/
theorem acc_sum {ι : Type} (t : ℕ) (S : Finset ι) (q : ι → ℝ) (G : ι → ℕ → ℝ) :
    ∑ d ∈ S, q d * acc f i (G d) t = acc f i (fun s => ∑ d ∈ S, q d * G d s) t := by
  unfold acc
  simp only [mul_sum]
  rw [sum_comm]
  refine sum_congr rfl fun s _ => sum_congr rfl fun d _ => by ring

theorem acc_congr (t : ℕ) {g g' : ℕ → ℝ} (h : ∀ s, g s = g' s) : acc f i g t = acc f i g' t := by
  rw [funext h]

/-- The output of the mLSTM at position `t` and value channel `e`: the stabilised weighted sum of the values over the
    larger of the magnitude of the sum of the weights and the stabiliser's own floor. -/
def outAt (f i : ℕ → ℝ) (w : ℕ → ℝ) (v : ℕ → ℝ) (t : ℕ) : ℝ :=
  acc f i (fun s => w s * v s) (t + 1) / max |acc f i w (t + 1)| (Real.exp (-stab f i (t + 1)))

/-! ## Extended reals: finite sums and maxima of real entries -/

theorem coe_sum {ι : Type} (S : Finset ι) (g : ι → ℝ) : ((∑ s ∈ S, g s : ℝ) : EReal) = ∑ s ∈ S, (g s : EReal) := by
  classical
  induction S using Finset.induction_on with
  | empty => simp
  | insert a S ha ih => rw [sum_insert ha, sum_insert ha, EReal.coe_add, ih]

theorem exp_coe (r : ℝ) : Ideal.exp (r : EReal) = ((Real.exp r : ℝ) : EReal) := rfl

theorem exp_bot : Ideal.exp (⊥ : EReal) = 0 := rfl

theorem div_coe_coe (a : ℝ) {b : ℝ} (hb : b ≠ 0) : Ideal.div (a : EReal) (b : EReal) = ((a / b : ℝ) : EReal) := by
  rw [Ideal.div_coe hb, ← EReal.coe_mul, mul_one_div]

theorem coe_max (a b : ℝ) : ((max a b : ℝ) : EReal) = max (a : EReal) (b : EReal) :=
  EReal.coe_strictMono.monotone.map_max

theorem coe_abs (a : ℝ) : ((|a| : ℝ) : EReal) = max (a : EReal) (-(a : EReal)) := by
  rw [← EReal.coe_neg, ← coe_max]
  rfl

/-- The output's quotient on finite operands. -/
theorem quot_coe {N D m : EReal} {n d s : ℝ} (hN : N = (n : EReal)) (hD : D = (d : EReal)) (hm : m = (s : EReal)) :
    Ideal.div N (max (FloatOps.absf (F := Ideal) (φ := .f32) D) (Ideal.exp (-m))) = ((n / max |d| (Real.exp (-s)) : ℝ) : EReal) := by
  subst hN hD hm
  rw [← EReal.coe_neg, exp_coe]
  refine (congrArg (fun z => Ideal.div _ (max z _)) (coe_abs _).symm).trans ?_
  rw [← coe_max, div_coe_coe _ (lt_max_of_lt_right (Real.exp_pos _)).ne']

theorem mul_add_coe {X A B : EReal} {x a b : ℝ} (hX : X = (x : EReal)) (hA : A = (a : EReal)) (hB : B = (b : EReal)) :
    X * A + B = ((x * a + b : ℝ) : EReal) := by
  subst hX hA hB
  rw [EReal.coe_add, EReal.coe_mul]

theorem ofBits_neg_inf : Ideal.ofBits .f32 0xFF800000#32 = ⊥ := by simp [Ideal.ofBits, Ideal.ieee]

/-- The key scale, one over the square root of the head width, as the number its float word denotes. -/
def keyScale : ℝ := 11863283 * ((2 : ℝ) ^ 27)⁻¹

theorem ofBits_keyScale : Ideal.ofBits .f32 0x3DB504F3#32 = ((keyScale : ℝ) : EReal) := by
  simp [Ideal.ofBits, Ideal.ieee, keyScale]

theorem select_eq {α : Type} {x y : ℕ} (hx : x < 2 ^ 31) (hy : y < 2 ^ 31) (a b : α) :
    Scalar.select (IntOp.cmpi .eq (BitVec.ofNat 32 x) (BitVec.ofNat 32 y)) a b = if x = y then a else b := by
  have e : (BitVec.ofNat 32 x = BitVec.ofNat 32 y) ↔ x = y := by
    constructor
    · intro h
      have := congrArg BitVec.toNat h
      simp only [BitVec.toNat_ofNat] at this
      omega
    · rintro rfl; rfl
  by_cases h : x = y
  · subst h
    simp [Scalar.select, IntOp.cmpi]
  · rw [if_neg h]
    have h' : (BitVec.ofNat 32 x == BitVec.ofNat 32 y) = false := beq_eq_false_iff_ne.2 fun c => h (e.1 c)
    simp [Scalar.select, IntOp.cmpi, h']

theorem select_sle {α : Type} {x y : ℕ} (hx : x < 2 ^ 31) (hy : y < 2 ^ 31) (a b : α) :
    Scalar.select (IntOp.cmpi .sle (BitVec.ofNat 32 x) (BitVec.ofNat 32 y)) a b = if x ≤ y then a else b := by
  have e : (BitVec.ofNat 32 x).sle (BitVec.ofNat 32 y) = decide (x ≤ y) := by
    rw [BitVec.sle_eq_decide, BitVec.toInt_eq_toNat_of_lt, BitVec.toInt_eq_toNat_of_lt]
    · simp only [BitVec.toNat_ofNat]
      rw [Nat.mod_eq_of_lt (by omega), Nat.mod_eq_of_lt (by omega)]
      simp
    · simp only [BitVec.toNat_ofNat]; omega
    · simp only [BitVec.toNat_ofNat]; omega
  by_cases h : x ≤ y
  · simp [Scalar.select, IntOp.cmpi, e, h]
  · simp [Scalar.select, IntOp.cmpi, e, h]

/-- A sum over a chunk masked to its first `n` positions. -/
theorem sum_mask {N n : ℕ} (hn : n ≤ N) (g : ℕ → ℝ) :
    ∑ s : Fin N, (if (s : ℕ) < n then g s else 0) = ∑ s ∈ range n, g s := by
  rw [Fin.sum_univ_eq_sum_range (fun s => if s < n then g s else 0) N, ← sum_filter]
  refine sum_congr ?_ fun _ _ => rfl
  ext s
  simp only [mem_filter, mem_range]
  omega

/-- The stabiliser as a chunk computes it: the larger of the decayed carry and the maximum of the masked log weights. -/
theorem max_fold {N n P : ℕ} (hn : n ≤ N) (a : EReal) (d : Fin N → EReal)
    (ha : a = ((cum f (P + n) - cum f P + stab f i P : ℝ) : EReal))
    (hd : ∀ s : Fin N, d s = if (s : ℕ) < n then ((cum f (P + n) - cum f (P + s + 1) + i (P + s) : ℝ) : EReal) else ⊥) :
    max a (univ.fold max ⊥ d) = ((stab f i (P + n) : ℝ) : EReal) := by
  apply le_antisymm
  · refine max_le ?_ ?_
    · rw [ha]
      exact EReal.coe_le_coe_iff.2 (stab_ge_carry f i P n)
    · rw [Finset.fold_max_le]
      refine ⟨bot_le, fun s _ => ?_⟩
      rw [hd]
      split
      · next h => exact EReal.coe_le_coe_iff.2 (stab_ge_gate f i P n s h)
      · exact bot_le
  · rcases stab_attained f i P n with e | ⟨s, hs, e⟩
    · rw [e, ← ha]
      exact le_max_left _ _
    · refine le_max_of_le_right ?_
      rw [Finset.le_fold_max]
      right
      refine ⟨⟨s, by omega⟩, mem_univ _, ?_⟩
      rw [hd, if_pos hs, e]

end Cert.MLstm

end
-- ==== Proof.MLstmKernel.lean ====
/-
  The mLSTM kernel's chunk body over the real numbers: each value the body computes from a chunk of real queries, keys,
  values and gates and from the state at the chunk's start, in closed form.
-/
module

public import proofs.«01_k».proof.Proof.MLstmMath
public import proofs.«01_k».proof.Proof.Gen.KernelIdeal.Skeleton

@[expose] public section

set_option maxRecDepth 16384

noncomputable section

namespace Cert.KernelIdeal.MLstm

open Cert.KernelIdeal Cert.KernelIdeal.Gen Cert.MLstm Idealize.ShloMosaic Idealize.ShloMosaic.TcCoe Idealize.SL.Sem Finset

/-! ## The gate columns and rows of one head -/

theorem pay4_eq (j : grid0.Coords) (h : Fin 8) (hj : (j 1).val = h.val) (x4 : Vec Ideal S256x16 .f32) (r : Fin 256) :
    k0_pay4 j x4 (ix2 r 0) = x4 (ix2 r (⟨h.val, by omega⟩ : Fin 16)) := by
  pointwise [k0_pay4]
  rw [hj]
  refine (sum_congr rfl fun (x : Fin 16) _ => select_eq (by omega) (by omega) _ _).trans ?_
  refine (sum_eq_single (⟨h.val, by omega⟩ : Fin 16) (fun x _ hx => if_neg fun c => hx (Fin.ext c)) (by simp)).trans ?_
  exact if_pos rfl

theorem pay5_eq (j : grid0.Coords) (h : Fin 8) (hj : (j 1).val = h.val) (x4 : Vec Ideal S256x16 .f32) (r : Fin 256) :
    k0_pay5 j x4 (ix2 r 0) = x4 (ix2 r (⟨h.val + 8, by omega⟩ : Fin 16)) := by
  pointwise [k0_pay5]
  rw [hj, show Scalar.addi (BitVec.ofNat 32 h.val) 8#32 = BitVec.ofNat 32 (h.val + 8) from (BitVec.ofNat_add _ _).symm]
  refine (sum_congr rfl fun (x : Fin 16) _ => select_eq (by omega) (by omega) _ _).trans ?_
  refine (sum_eq_single (⟨h.val + 8, by omega⟩ : Fin 16) (fun x _ hx => if_neg fun c => hx (Fin.ext c)) (by simp)).trans ?_
  exact if_pos rfl

theorem pay6_eq (j : grid0.Coords) (h : Fin 8) (hj : (j 1).val = h.val) (x5 : Vec Ideal S16x256 .f32) (s : Fin 256) :
    k0_pay6 j x5 (ix2 0 s) = x5 (ix2 (⟨h.val, by omega⟩ : Fin 16) s) := by
  pointwise [k0_pay6]
  rw [hj]
  refine (sum_congr rfl fun (x : Fin 16) _ => select_eq (by omega) (by omega) _ _).trans ?_
  refine (sum_eq_single (⟨h.val, by omega⟩ : Fin 16) (fun x _ hx => if_neg fun c => hx (Fin.ext c)) (by simp)).trans ?_
  exact if_pos rfl

theorem pay8_eq (j : grid0.Coords) (h : Fin 8) (hj : (j 1).val = h.val) (x5 : Vec Ideal S16x256 .f32) (r s : Fin 256) :
    k0_pay8 j x5 (ix2 r s) = x5 (ix2 (⟨h.val + 8, by omega⟩ : Fin 16) s) := by
  pointwise [k0_pay8]
  rw [hj, show Scalar.addi (BitVec.ofNat 32 h.val) 8#32 = BitVec.ofNat 32 (h.val + 8) from (BitVec.ofNat_add _ _).symm]
  refine (sum_congr rfl fun (x : Fin 16) _ => select_eq (by omega) (by omega) _ _).trans ?_
  refine (sum_eq_single (⟨h.val + 8, by omega⟩ : Fin 16) (fun x _ hx => if_neg fun c => hx (Fin.ext c)) (by simp)).trans ?_
  exact if_pos rfl

/-! ## The chunk's weights -/

/-- The row numbers and column numbers of a chunk's square. -/
abbrev rowNo : IVec S256x256 32 := iota .tc S256x256 32 [0] iota_S256x256_d0_w32
abbrev colNo : IVec S256x256 32 := iota .tc S256x256 32 [1] iota_S256x256_d1_w32

variable (f i : ℕ → ℝ) (q k : ℕ → Fin 128 → ℝ) (v : ℕ → Fin 256 → ℝ) (P : ℕ)

/-- A masked sum of real entries over a chunk. -/
theorem sum_select_le (g : ℕ → ℝ) (r : Fin 256) :
    ∑ s : Fin 256, (if (s : ℕ) ≤ r then ((g s : ℝ) : EReal) else 0) = ((∑ s ∈ range (r + 1), g s : ℝ) : EReal) := by
  rw [← sum_mask (show (r : ℕ) + 1 ≤ 256 by omega) g, coe_sum]
  refine sum_congr rfl fun s _ => ?_
  by_cases h : (s : ℕ) ≤ r
  · rw [if_pos h, if_pos (by omega)]
  · rw [if_neg h, if_neg (by omega), EReal.coe_zero]

section Weights

variable (v19 : FVec Ideal S256x1 .f32) (v25 : FVec Ideal S1x256 .f32) (v37 : FVec Ideal S256x256 .f32) (v49 : Vec Ideal S1x1 .f32)
  (v12 : FVec Ideal S256x1 .f32)

theorem pay7_eq (r s : Fin 256) : k0_pay7 (ix2 r s) = IntOp.cmpi .sle (BitVec.ofNat 32 s) (BitVec.ofNat 32 r) := by
  pointwise [k0_pay7]

theorem pay10_eq (h37 : ∀ r s : Fin 256, v37 (ix2 r s) = ((f (P + s) : ℝ) : EReal)) (r : Fin 256) :
    k0_pay10 k0_pay7 v37 k0_pay9 (ix2 r 0) = ((cum f (P + (r + 1)) - cum f P : ℝ) : EReal) := by
  pointwise [k0_pay10, k0_pay7, k0_pay9]
  rw [← cum_add f P (r + 1), ← sum_select_le (fun s => f (P + s)) r]
  refine sum_congr rfl fun (s : Fin 256) _ => ?_
  rw [h37]
  exact select_sle (by omega) (by omega) _ _

theorem pay11_eq (h37 : ∀ r s : Fin 256, v37 (ix2 r s) = ((f (P + s) : ℝ) : EReal)) (h49 : v49 (ix2 0 0) = ((stab f i P : ℝ) : EReal))
    (r : Fin 256) :
    k0_pay11 k0_pay7 v37 k0_pay9 v49 (ix2 r 0) = ((cum f (P + (r + 1)) - cum f P + stab f i P : ℝ) : EReal) := by
  pointwise [k0_pay11]
  rw [pay10_eq f P v37 h37, h49, ← EReal.coe_add]

theorem pay12_eq (h37 : ∀ r s : Fin 256, v37 (ix2 r s) = ((f (P + s) : ℝ) : EReal)) (h19 : ∀ r : Fin 256, v19 (ix2 r 0) = ((f (P + r) : ℝ) : EReal))
    (h25 : ∀ s : Fin 256, v25 (ix2 0 s) = ((i (P + s) : ℝ) : EReal)) (r s : Fin 256) :
    k0_pay12 v19 v25 rowNo colNo k0_pay7 v37 k0_pay9 (ix2 r s)
      = if (s : ℕ) < r + 1 then ((cum f (P + (r + 1)) - cum f (P + s + 1) + i (P + s) : ℝ) : EReal) else ⊥ := by
  pointwise [k0_pay12, rowNo, colNo]
  rw [pay10_eq f P v37 h37, h25, ofBits_neg_inf, pay7_eq]
  have hs : ∑ x : Fin 256, Scalar.select (IntOp.cmpi CmpIPredicate.sle (BitVec.ofNat 32 x) (BitVec.ofNat 32 s)) (v19 (ix2 x 0)) (0 : EReal)
      = ((cum f (P + (s + 1)) - cum f P : ℝ) : EReal) := by
    rw [← cum_add f P (s + 1), ← sum_select_le (fun x => f (P + x)) s]
    refine sum_congr rfl fun (x : Fin 256) _ => ?_
    rw [h19]
    exact select_sle (by omega) (by omega) _ _
  refine (select_sle (by omega) (by omega) _ _).trans ?_
  by_cases hle : (s : ℕ) ≤ r
  · rw [if_pos hle, if_pos (by omega)]
    refine (congrArg (fun z : EReal => ((cum f (P + (r + 1)) - cum f P : ℝ) : EReal) - z + ((i (P + s) : ℝ) : EReal)) hs).trans ?_
    rw [← EReal.coe_sub, ← EReal.coe_add]
    congr 1
    rw [← add_assoc P s 1]
    ring
  · rw [if_neg hle, if_neg (by omega)]

theorem pay13_eq (h37 : ∀ r s : Fin 256, v37 (ix2 r s) = ((f (P + s) : ℝ) : EReal)) (h19 : ∀ r : Fin 256, v19 (ix2 r 0) = ((f (P + r) : ℝ) : EReal))
    (h25 : ∀ s : Fin 256, v25 (ix2 0 s) = ((i (P + s) : ℝ) : EReal)) (h49 : v49 (ix2 0 0) = ((stab f i P : ℝ) : EReal)) (r : Fin 256) :
    k0_pay13 v19 v25 rowNo colNo k0_pay7 v37 k0_pay9 v49 (ix2 r 0) = ((stab f i (P + (r + 1)) : ℝ) : EReal) := by
  pointwise [k0_pay13]
  rw [ofBits_neg_inf]
  exact max_fold f i (N := 256) (n := r + 1) (by omega) _ _ (pay11_eq f i P v37 v49 h37 h49 r)
    (fun s => pay12_eq f i P v19 v25 v37 h37 h19 h25 r s)

theorem pay14_eq (h37 : ∀ r s : Fin 256, v37 (ix2 r s) = ((f (P + s) : ℝ) : EReal)) (h19 : ∀ r : Fin 256, v19 (ix2 r 0) = ((f (P + r) : ℝ) : EReal))
    (h25 : ∀ s : Fin 256, v25 (ix2 0 s) = ((i (P + s) : ℝ) : EReal)) (h49 : v49 (ix2 0 0) = ((stab f i P : ℝ) : EReal)) (r : Fin 256) :
    k0_pay14 v19 v25 rowNo colNo k0_pay7 v37 k0_pay9 v49 (ix2 r 0)
      = ((Real.exp (cum f (P + (r + 1)) - cum f P + stab f i P - stab f i (P + (r + 1))) : ℝ) : EReal) := by
  pointwise [k0_pay14]
  rw [pay11_eq f i P v37 v49 h37 h49, pay13_eq f i P v19 v25 v37 v49 h37 h19 h25 h49, ← EReal.coe_sub, exp_coe]

theorem pay17_eq (h37 : ∀ r s : Fin 256, v37 (ix2 r s) = ((f (P + s) : ℝ) : EReal)) (h19 : ∀ r : Fin 256, v19 (ix2 r 0) = ((f (P + r) : ℝ) : EReal))
    (h25 : ∀ s : Fin 256, v25 (ix2 0 s) = ((i (P + s) : ℝ) : EReal)) (h49 : v49 (ix2 0 0) = ((stab f i P : ℝ) : EReal))
    (x0 x1 : Vec Ideal S256x128 .bf16) (h0 : ∀ (r : Fin 256) (d : Fin 128), x0 (ix2 r d) = ((q (P + r) d : ℝ) : EReal))
    (h1 : ∀ (r : Fin 256) (d : Fin 128), x1 (ix2 r d) = ((k (P + r) d : ℝ) : EReal)) (r s : Fin 256) :
    k0_pay17 v19 v25 rowNo colNo k0_pay7 v37 k0_pay9 v49 x0 x1 (ix2 r s)
      = if (s : ℕ) ≤ r then ((Real.exp (cum f (P + (r + 1)) - cum f (P + s + 1) + i (P + s) - stab f i (P + (r + 1)))
          * (keyScale * ∑ d, q (P + r) d * k (P + s) d) : ℝ) : EReal) else 0 := by
  pointwise [k0_pay17]
  rw [pay12_eq f i P v19 v25 v37 h37 h19 h25, pay13_eq f i P v19 v25 v37 v49 h37 h19 h25 h49, ofBits_keyScale]
  have hd : ∑ d : Fin 128, x0 (ix2 r d) * x1 (ix2 s d) = ((∑ d, q (P + r) d * k (P + s) d : ℝ) : EReal) := by
    rw [coe_sum]
    refine sum_congr rfl fun d _ => ?_
    rw [h0, h1, EReal.coe_mul]
  refine (congrArg (· * _) hd).trans ?_
  by_cases hle : (s : ℕ) ≤ r
  · rw [if_pos (show (s : ℕ) < r + 1 by omega), if_pos hle, ← EReal.coe_sub, exp_coe, ← EReal.coe_mul, ← EReal.coe_mul]
    congr 1
    ring
  · rw [if_neg (show ¬(s : ℕ) < r + 1 by omega), if_neg hle, EReal.bot_sub, exp_bot, zero_mul, mul_zero]

end Weights

/-! ## The chunk's output -/

theorem pay19_eq (v61 v66 : FVec Ideal S256x1 .f32) (x0 : Vec Ideal S256x128 .bf16) (x2 : Vec Ideal S256x256 .bf16)
    (xs1 : Vec Ideal S1x128 .f32) (v77 : FVec Ideal S256x256 .f32) (xs0 : Vec Ideal S128x256 .f32)
    (h61 : ∀ r : Fin 256, v61 (ix2 r 0) = ((stab f i (P + (r + 1)) : ℝ) : EReal))
    (h66 : ∀ r : Fin 256, v66 (ix2 r 0) = ((Real.exp (cum f (P + (r + 1)) - cum f P + stab f i P - stab f i (P + (r + 1))) : ℝ) : EReal))
    (h0 : ∀ (r : Fin 256) (d : Fin 128), x0 (ix2 r d) = ((q (P + r) d : ℝ) : EReal))
    (h2 : ∀ (r : Fin 256) (e : Fin 256), x2 (ix2 r e) = ((v (P + r) e : ℝ) : EReal))
    (h77 : ∀ r s : Fin 256, v77 (ix2 r s) = if (s : ℕ) ≤ r then
        ((Real.exp (cum f (P + (r + 1)) - cum f (P + s + 1) + i (P + s) - stab f i (P + (r + 1)))
          * (keyScale * ∑ d, q (P + r) d * k (P + s) d) : ℝ) : EReal) else 0)
    (hs0 : ∀ (d : Fin 128) (e : Fin 256), xs0 (ix2 d e) = ((acc f i (fun s => keyScale * k s d * v s e) P : ℝ) : EReal))
    (hs1 : ∀ d : Fin 128, xs1 (ix2 0 d) = ((acc f i (fun s => keyScale * k s d) P : ℝ) : EReal)) (r e : Fin 256) :
    k0_pay19 v61 v66 x0 x2 (k0_pay15 x0) xs1 v77 (k0_pay18 xs0) (constant S256x256 .f32 0x00000000#32) (ix2 r e)
      = ((outAt f i (fun s => keyScale * ∑ d, q (P + r) d * k s d) (fun s => v s e) (P + r) : ℝ) : EReal) := by
  pointwise [k0_pay19, k0_pay15, k0_pay18]
  have hqc : ∑ d : Fin 128, x0 (ix2 r d) * xs0 (ix2 d e)
      = ((acc f i (fun s => (keyScale * ∑ d, q (P + r) d * k s d) * v s e) P : ℝ) : EReal) := by
    rw [← acc_congr f i P (fun s => show ∑ d, q (P + r) d * (keyScale * k s d * v s e) = _ by
      rw [mul_sum, sum_mul]; exact sum_congr rfl fun d _ => by ring), ← acc_sum f i P univ (q (P + r)), coe_sum]
    refine sum_congr rfl fun d _ => ?_
    rw [h0, hs0, EReal.coe_mul]
  have hqn : ∑ d : Fin 128, x0 (ix2 r d) * xs1 (ix2 0 d)
      = ((acc f i (fun s => keyScale * ∑ d, q (P + r) d * k s d) P : ℝ) : EReal) := by
    rw [← acc_congr f i P (fun s => show ∑ d, q (P + r) d * (keyScale * k s d) = _ by
      rw [mul_sum]; exact sum_congr rfl fun d _ => by ring), ← acc_sum f i P univ (q (P + r)), coe_sum]
    refine sum_congr rfl fun d _ => ?_
    rw [h0, hs1, EReal.coe_mul]
  have hsv : ∑ s : Fin 256, v77 (ix2 r s) * x2 (ix2 s e)
      = ((∑ s ∈ range (r + 1), Real.exp (cum f (P + (r + 1)) - cum f (P + s + 1) + i (P + s) - stab f i (P + (r + 1)))
          * ((keyScale * ∑ d, q (P + r) d * k (P + s) d) * v (P + s) e) : ℝ) : EReal) := by
    rw [← sum_select_le (fun s => Real.exp (cum f (P + (r + 1)) - cum f (P + s + 1) + i (P + s) - stab f i (P + (r + 1)))
          * ((keyScale * ∑ d, q (P + r) d * k (P + s) d) * v (P + s) e)) r]
    refine sum_congr rfl fun s _ => ?_
    rw [h77, h2]
    by_cases hle : (s : ℕ) ≤ r
    · rw [if_pos hle, if_pos hle, ← EReal.coe_mul, mul_assoc]
    · rw [if_neg hle, if_neg hle, zero_mul]
  have hs : ∑ s : Fin 256, v77 (ix2 r s)
      = ((∑ s ∈ range (r + 1), Real.exp (cum f (P + (r + 1)) - cum f (P + s + 1) + i (P + s) - stab f i (P + (r + 1)))
          * (keyScale * ∑ d, q (P + r) d * k (P + s) d) : ℝ) : EReal) := by
    rw [← sum_select_le (fun s => Real.exp (cum f (P + (r + 1)) - cum f (P + s + 1) + i (P + s) - stab f i (P + (r + 1)))
          * (keyScale * ∑ d, q (P + r) d * k (P + s) d)) r]
    exact sum_congr rfl fun s _ => h77 r s
  have hnum := acc_add f i (fun s => (keyScale * ∑ d, q (P + r) d * k s d) * v s e) P (r + 1)
  have hden := acc_add f i (fun s => keyScale * ∑ d, q (P + r) d * k s d) P (r + 1)
  rw [zero_sub]
  refine (quot_coe (mul_add_coe (h66 r) hqc hsv) (mul_add_coe (h66 r) hqn hs) (h61 r)).trans ?_
  rw [← hnum, ← hden]
  rfl

/-! ## The state after the chunk -/

section State

variable (v12 v41 : FVec Ideal S256x1 .f32) (v49 : Vec Ideal S1x1 .f32)

theorem pay20_eq (h41 : ∀ r : Fin 256, v41 (ix2 r 0) = ((cum f (P + (r + 1)) - cum f P : ℝ) : EReal)) :
    k0_pay20 v41 (ix2 0 0) = ((cum f (P + 256) - cum f P : ℝ) : EReal) := by
  pointwise [k0_pay20]
  exact h41 255

theorem pay21_eq (h12 : ∀ r : Fin 256, v12 (ix2 r 0) = ((i (P + r) : ℝ) : EReal))
    (h41 : ∀ r : Fin 256, v41 (ix2 r 0) = ((cum f (P + (r + 1)) - cum f P : ℝ) : EReal)) (r : Fin 256) :
    k0_pay21 v12 v41 (ix2 r 0) = ((cum f (P + 256) - cum f (P + r + 1) + i (P + r) : ℝ) : EReal) := by
  pointwise [k0_pay21]
  rw [pay20_eq f P v41 h41, h41, h12, ← EReal.coe_sub, ← EReal.coe_add]
  congr 1
  rw [← add_assoc P r 1]
  ring

theorem pay22_eq (h12 : ∀ r : Fin 256, v12 (ix2 r 0) = ((i (P + r) : ℝ) : EReal))
    (h41 : ∀ r : Fin 256, v41 (ix2 r 0) = ((cum f (P + (r + 1)) - cum f P : ℝ) : EReal))
    (h49 : v49 (ix2 0 0) = ((stab f i P : ℝ) : EReal)) :
    k0_pay22 v12 v41 v49 (ix2 0 0) = ((stab f i (P + 256) : ℝ) : EReal) := by
  pointwise [k0_pay22]
  rw [ofBits_neg_inf]
  refine max_fold f i (N := 256) (n := 256) le_rfl _ _ ?_ (fun s => ?_)
  · rw [pay20_eq f P v41 h41, h49, ← EReal.coe_add]
  · rw [if_pos s.isLt]
    exact pay21_eq f i P v12 v41 h12 h41 s

theorem pay23_eq (h12 : ∀ r : Fin 256, v12 (ix2 r 0) = ((i (P + r) : ℝ) : EReal))
    (h41 : ∀ r : Fin 256, v41 (ix2 r 0) = ((cum f (P + (r + 1)) - cum f P : ℝ) : EReal))
    (h49 : v49 (ix2 0 0) = ((stab f i P : ℝ) : EReal)) :
    k0_pay23 v12 v41 v49 (ix2 0 0) = ((Real.exp (cum f (P + 256) - cum f P + stab f i P - stab f i (P + 256)) : ℝ) : EReal) := by
  pointwise [k0_pay23]
  rw [pay20_eq f P v41 h41, h49, pay22_eq f i P v12 v41 v49 h12 h41 h49, ← EReal.coe_add, ← EReal.coe_sub, exp_coe]

theorem pay24_eq (h12 : ∀ r : Fin 256, v12 (ix2 r 0) = ((i (P + r) : ℝ) : EReal))
    (h41 : ∀ r : Fin 256, v41 (ix2 r 0) = ((cum f (P + (r + 1)) - cum f P : ℝ) : EReal))
    (h49 : v49 (ix2 0 0) = ((stab f i P : ℝ) : EReal)) (r : Fin 256) :
    k0_pay24 v12 v41 v49 (ix2 r 0)
      = ((Real.exp (cum f (P + 256) - cum f (P + r + 1) + i (P + r) - stab f i (P + 256)) * keyScale : ℝ) : EReal) := by
  pointwise [k0_pay24]
  rw [pay21_eq f i P v12 v41 h12 h41, pay22_eq f i P v12 v41 v49 h12 h41 h49, ofBits_keyScale, ← EReal.coe_sub, exp_coe, ← EReal.coe_mul]

theorem pay25_eq (h12 : ∀ r : Fin 256, v12 (ix2 r 0) = ((i (P + r) : ℝ) : EReal))
    (h41 : ∀ r : Fin 256, v41 (ix2 r 0) = ((cum f (P + (r + 1)) - cum f P : ℝ) : EReal))
    (h49 : v49 (ix2 0 0) = ((stab f i P : ℝ) : EReal))
    (x1 : Vec Ideal S256x128 .bf16) (x2 : Vec Ideal S256x256 .bf16) (xs0 : Vec Ideal S128x256 .f32)
    (h1 : ∀ (r : Fin 256) (d : Fin 128), x1 (ix2 r d) = ((k (P + r) d : ℝ) : EReal))
    (h2 : ∀ (r : Fin 256) (e : Fin 256), x2 (ix2 r e) = ((v (P + r) e : ℝ) : EReal))
    (hs0 : ∀ (d : Fin 128) (e : Fin 256), xs0 (ix2 d e) = ((acc f i (fun s => keyScale * k s d * v s e) P : ℝ) : EReal))
    (d : Fin 128) (e : Fin 256) :
    k0_pay25 v12 v41 v49 x1 x2 xs0 (ix2 d e) = ((acc f i (fun s => keyScale * k s d * v s e) (P + 256) : ℝ) : EReal) := by
  pointwise [k0_pay25]
  rw [pay23_eq f i P v12 v41 v49 h12 h41 h49, hs0, acc_add f i _ P 256, EReal.coe_add, EReal.coe_mul]
  refine congrArg _ ?_
  rw [← Fin.sum_univ_eq_sum_range (fun s => Real.exp (cum f (P + 256) - cum f (P + s + 1) + i (P + s) - stab f i (P + 256))
    * (keyScale * k (P + s) d * v (P + s) e)) 256, coe_sum]
  refine sum_congr rfl fun s _ => ?_
  rw [h1, h2, pay24_eq f i P v12 v41 v49 h12 h41 h49, ← EReal.coe_mul, ← EReal.coe_mul]
  congr 1
  ring

theorem pay27_eq (h12 : ∀ r : Fin 256, v12 (ix2 r 0) = ((i (P + r) : ℝ) : EReal))
    (h41 : ∀ r : Fin 256, v41 (ix2 r 0) = ((cum f (P + (r + 1)) - cum f P : ℝ) : EReal))
    (h49 : v49 (ix2 0 0) = ((stab f i P : ℝ) : EReal))
    (x1 : Vec Ideal S256x128 .bf16) (xs1 : Vec Ideal S1x128 .f32)
    (h1 : ∀ (r : Fin 256) (d : Fin 128), x1 (ix2 r d) = ((k (P + r) d : ℝ) : EReal))
    (hs1 : ∀ d : Fin 128, xs1 (ix2 0 d) = ((acc f i (fun s => keyScale * k s d) P : ℝ) : EReal)) (d : Fin 128) :
    k0_pay27 (k0_pay16 x1) (k0_pay24 v12 v41 v49) (k0_pay26 v12 v41 v49 xs1) (ix2 0 d)
      = ((acc f i (fun s => keyScale * k s d) (P + 256) : ℝ) : EReal) := by
  pointwise [k0_pay27, k0_pay16, k0_pay26]
  rw [pay23_eq f i P v12 v41 v49 h12 h41 h49, hs1, acc_add f i _ P 256, EReal.coe_add, EReal.coe_mul]
  refine congrArg _ ?_
  rw [← Fin.sum_univ_eq_sum_range (fun s => Real.exp (cum f (P + 256) - cum f (P + s + 1) + i (P + s) - stab f i (P + 256))
    * (keyScale * k (P + s) d)) 256, coe_sum]
  refine sum_congr rfl fun s _ => ?_
  rw [h1, pay24_eq f i P v12 v41 v49 h12 h41 h49, ← EReal.coe_mul]
  congr 1
  ring

theorem pay28_eq (v107 : FVec Ideal S1x1 .f32) (l : Fin 128) : k0_pay28 v107 (ix2 0 l) = v107 (ix2 0 0) := by
  pointwise [k0_pay28]

end State

end Cert.KernelIdeal.MLstm

end
-- ==== Proof.MLstmSeq.lean ====
/-
  The mLSTM layer's result as one closed form over its arrays: the queries, keys, values and output gates `Z`, the gate
  logits `G` and the head norms' gains `g`, each read as a matrix of extended reals.
-/
module

public import proofs.«01_k».proof.Proof.MLstmMath

@[expose] public section

noncomputable section

namespace Cert.MLstm

open Finset Idealize.ShloMosaic

variable (Z : Fin 16384 → Fin 6144 → EReal) (G : Fin 16384 → Fin 16 → EReal) (g : Fin 2048 → EReal)

/-- The row of position `s` of sequence `b`; the positions of a sequence are its 4096 rows. -/
def rowAt (b : Fin 4) (s : ℕ) : Fin 16384 := ⟨(4096 * b + s) % 16384, Nat.mod_lt _ (by norm_num)⟩

theorem rowAt_eq (b : Fin 4) (s : ℕ) (r : Fin 16384) (h : r.val = 4096 * b + s) : rowAt b s = r := by
  apply Fin.ext
  show (4096 * b.val + s) % 16384 = r.val
  rw [← h, Nat.mod_eq_of_lt r.isLt]

/-- The sequences of one head of one sequence of the batch: queries, keys, values, input and forget gates. -/
def seqQ (b : Fin 4) (h : Fin 8) (s : ℕ) (d : Fin 128) : ℝ := (Z (rowAt b s) ⟨128 * h + d, by omega⟩).toReal
def seqK (b : Fin 4) (h : Fin 8) (s : ℕ) (d : Fin 128) : ℝ := (Z (rowAt b s) ⟨1024 + 128 * h + d, by omega⟩).toReal
def seqV (b : Fin 4) (h : Fin 8) (s : ℕ) (e : Fin 256) : ℝ := (Z (rowAt b s) ⟨2048 + 256 * h + e, by omega⟩).toReal
def seqI (b : Fin 4) (h : Fin 8) (s : ℕ) : ℝ := (G (rowAt b s) ⟨h, by omega⟩).toReal
def seqF (b : Fin 4) (h : Fin 8) (s : ℕ) : ℝ := (G (rowAt b s) ⟨h + 8, by omega⟩).toReal

/-- The head's output before its norm, at position `t` and channel `e`. -/
def headOut (b : Fin 4) (h : Fin 8) (t : ℕ) (e : Fin 256) : EReal :=
  ((outAt (seqF G b h) (seqI G b h) (fun s => keyScale * ∑ d, seqQ Z b h t d * seqK Z b h s d) (fun s => seqV Z b h s e) t : ℝ) : EReal)

/-- A head's root-mean-square norm and output gate, over the head's row `H`, its gain `γ` and its gate logit `o`. -/
def gated (H : Fin 256 → EReal) (γ o : EReal) (e : Fin 256) : EReal :=
  Ideal.div 1 (1 + Ideal.exp (-o))
    * (H e * Ideal.rsqrt (Ideal.div (∑ x, H x * H x) (Ideal.ofBits .f32 0x43800000#32) + Ideal.ofBits .f32 0x358637BD#32) * γ)

/-- The layer's result at position `t` of sequence `b`, channel `e` of head `h`. -/
def result (b : Fin 4) (h : Fin 8) (t : ℕ) (e : Fin 256) : EReal :=
  gated (headOut Z G b h t) (g ⟨256 * h + e, by omega⟩) (Z (rowAt b t) ⟨4096 + 256 * h + e, by omega⟩) e

end Cert.MLstm

end
-- ==== Proof.MLstmState.lean ====
/-
  The mLSTM kernel's carried state: what the chunk body leaves at every grid point, by induction over a head's chunks.
-/
module

public import proofs.«01_k».proof.Proof.MLstmKernel
public import proofs.«01_k».proof.Proof.MLstmSeq
public import proofs.«01_k».proof.Proof.Gen.KernelIdeal.Value
public import Idealize.ShloMosaic.Lib.Pipeline.ValueKit

@[expose] public section

set_option maxRecDepth 16384

noncomputable section

namespace Cert.KernelIdeal.MLstm

open Cert.KernelIdeal Cert.KernelIdeal.Gen Cert.MLstm Idealize.ShloMosaic Idealize.ShloMosaic.TcCoe Idealize.SL.Sem Finset

theorem idx : ∀ t : Fin cfg0.N, win0_0.index t = ![t.val / 128 * 16 + t.val % 16, t.val / 16 % 8]
    ∧ win0_1.index t = ![t.val / 128 * 16 + t.val % 16, 8 + t.val / 16 % 8]
    ∧ win0_2.index t = ![t.val / 128 * 16 + t.val % 16, 8 + t.val / 16 % 8]
    ∧ win0_3.index t = ![t.val / 128 * 16 + t.val % 16, 16 + t.val / 16 % 8]
    ∧ win0_4.index t = ![t.val / 128 * 16 + t.val % 16, 0]
    ∧ win0_5.index t = ![0, t.val / 128 * 16 + t.val % 16]
    ∧ win0_6.index t = ![0, t.val / 16 % 8]
    ∧ win0_7.index t = ![t.val / 128 * 16 + t.val % 16, t.val / 16 % 8] :=
  (by decide +kernel : ∀ t : Fin grid0.N, _)

theorem coord_head : ∀ t : Fin cfg0.N, (grid0.coords t 1).val = t.val / 16 % 8 :=
  (by decide +kernel : ∀ t : Fin grid0.N, _)

variable (m : (ℓ : Loc nD τ sig) → Buf (Elt Ideal) ℓ) (c : Dev nD)

/-- The arguments as matrices. -/
abbrev argZ : Fin 16384 → Fin 6144 → EReal := fun r x => (m ((c : Thread nD τ).loc main_arg0) : FVec Ideal S16384x6144 .bf16) (ix2 r x)
abbrev argG : Fin 16384 → Fin 16 → EReal := fun r x => (m ((c : Thread nD τ).loc main_arg1) : FVec Ideal S16384x16 .f32) (ix2 r x)
abbrev argR : Fin 16 → Fin 16384 → EReal := fun x r => (m ((c : Thread nD τ).loc main_arg2) : FVec Ideal S16x16384 .f32) (ix2 x r)
abbrev argN : Fin 2048 → EReal := fun x => (m ((c : Thread nD τ).loc main_arg3) : FVec Ideal S2048 .f32) (ix1 x)

/-- The sequence of the batch, the head and the chunk's first position of a grid point. -/
def ptB (t : Fin cfg0.N) : Fin 4 := ⟨t.val / 128, by have : t.val < 512 := t.isLt; omega⟩
def ptH (t : Fin cfg0.N) : Fin 8 := ⟨t.val / 16 % 8, by omega⟩
def ptP (t : Fin cfg0.N) : ℕ := 256 * (t.val % 16)

/-- The row of a chunk's position. -/
theorem row_eq (t : Fin cfg0.N) (r : Fin 256) : rowAt (ptB t) (ptP t + r)
    = ⟨(t.val / 128 * 16 + t.val % 16) * 256 + r, by have : t.val < 512 := t.isLt; omega⟩ :=
  rowAt_eq (ptB t) (ptP t + r) _ (by simp only [ptB, ptP]; omega)

theorem blk0 (t : Fin cfg0.N) (r : Fin 256) (d : Fin 128) : (iblk m c 0 t : Vec Ideal S256x128 .bf16) (ix2 r d)
    = argZ m c (rowAt (ptB t) (ptP t + r)) ⟨128 * ptH t + d, by omega⟩ := by
  rw [row_eq]
  simp only [ptH]
  blk_point [iblk, V, idx t]

theorem blk1 (t : Fin cfg0.N) (r : Fin 256) (d : Fin 128) : (iblk m c 1 t : Vec Ideal S256x128 .bf16) (ix2 r d)
    = argZ m c (rowAt (ptB t) (ptP t + r)) ⟨1024 + 128 * ptH t + d, by omega⟩ := by
  rw [row_eq]
  simp only [ptH]
  blk_point [iblk, V, idx t]

theorem blk2 (t : Fin cfg0.N) (r : Fin 256) (e : Fin 256) : (iblk m c 2 t : Vec Ideal S256x256 .bf16) (ix2 r e)
    = argZ m c (rowAt (ptB t) (ptP t + r)) ⟨2048 + 256 * ptH t + e, by omega⟩ := by
  rw [row_eq]
  simp only [ptH]
  blk_point [iblk, V, idx t]

theorem blk3 (t : Fin cfg0.N) (r : Fin 256) (e : Fin 256) : (iblk m c 3 t : Vec Ideal S256x256 .bf16) (ix2 r e)
    = argZ m c (rowAt (ptB t) (ptP t + r)) ⟨4096 + 256 * ptH t + e, by omega⟩ := by
  rw [row_eq]
  simp only [ptH]
  blk_point [iblk, V, idx t]

theorem blk4 (t : Fin cfg0.N) (r : Fin 256) (x : Fin 16) : (iblk m c 4 t : Vec Ideal S256x16 .f32) (ix2 r x)
    = argG m c (rowAt (ptB t) (ptP t + r)) x := by
  rw [row_eq]
  blk_point [iblk, V, idx t]

theorem blk5 (t : Fin cfg0.N) (x : Fin 16) (r : Fin 256) : (iblk m c 5 t : Vec Ideal S16x256 .f32) (ix2 x r)
    = argR m c x (rowAt (ptB t) (ptP t + r)) := by
  rw [row_eq]
  blk_point [iblk, V, idx t]

theorem blk6 (t : Fin cfg0.N) (e : Fin 256) : (iblk m c 6 t : Vec Ideal S1x256 .f32) (ix2 0 e)
    = argN m c ⟨256 * ptH t + e, by omega⟩ := by
  simp only [ptH]
  blk_point [iblk, V, idx t]

/-! ## One chunk -/

/-- What the precondition gives: finite queries, keys and values, finite gates, and the gate rows the gate columns' transpose. -/
structure Finite (Z : Fin 16384 → Fin 6144 → EReal) (G : Fin 16384 → Fin 16 → EReal) (R : Fin 16 → Fin 16384 → EReal) : Prop where
  z : ∀ r x, x.val < 4096 → Z r x = ((Z r x).toReal : EReal)
  g : ∀ r x, G r x = ((G r x).toReal : EReal)
  t : ∀ x r, R x r = G r x

section Chunk

variable (f i : ℕ → ℝ) (q k : ℕ → Fin 128 → ℝ) (v : ℕ → Fin 256 → ℝ) (P : ℕ) (j : grid0.Coords) (h : Fin 8) (hj : (j 1).val = h.val)
  (x0 x1 : Vec Ideal S256x128 .bf16) (x2 : Vec Ideal S256x256 .bf16) (x4 : Vec Ideal S256x16 .f32) (x5 : Vec Ideal S16x256 .f32)
  (v49 : Vec Ideal S1x1 .f32) (xs0 : Vec Ideal S128x256 .f32) (xs1 : Vec Ideal S1x128 .f32)
  (h0 : ∀ (r : Fin 256) (d : Fin 128), x0 (ix2 r d) = ((q (P + r) d : ℝ) : EReal))
  (h1 : ∀ (r : Fin 256) (d : Fin 128), x1 (ix2 r d) = ((k (P + r) d : ℝ) : EReal))
  (h2 : ∀ (r : Fin 256) (e : Fin 256), x2 (ix2 r e) = ((v (P + r) e : ℝ) : EReal))
  (h4i : ∀ r : Fin 256, x4 (ix2 r (⟨h.val, by omega⟩ : Fin 16)) = ((i (P + r) : ℝ) : EReal))
  (h4f : ∀ r : Fin 256, x4 (ix2 r (⟨h.val + 8, by omega⟩ : Fin 16)) = ((f (P + r) : ℝ) : EReal))
  (h5i : ∀ r : Fin 256, x5 (ix2 (⟨h.val, by omega⟩ : Fin 16) r) = ((i (P + r) : ℝ) : EReal))
  (h5f : ∀ r : Fin 256, x5 (ix2 (⟨h.val + 8, by omega⟩ : Fin 16) r) = ((f (P + r) : ℝ) : EReal))
  (h49 : v49 (ix2 0 0) = ((stab f i P : ℝ) : EReal))
  (hs0 : ∀ (d : Fin 128) (e : Fin 256), xs0 (ix2 d e) = ((acc f i (fun s => keyScale * k s d * v s e) P : ℝ) : EReal))
  (hs1 : ∀ d : Fin 128, xs1 (ix2 0 d) = ((acc f i (fun s => keyScale * k s d) P : ℝ) : EReal))

include hj h4i in
theorem colI (r : Fin 256) : k0_pay4 j x4 (ix2 r 0) = ((i (P + r) : ℝ) : EReal) := (pay4_eq j h hj x4 r).trans (h4i r)

include hj h4f in
theorem colF (r : Fin 256) : k0_pay5 j x4 (ix2 r 0) = ((f (P + r) : ℝ) : EReal) := (pay5_eq j h hj x4 r).trans (h4f r)

include hj h5i in
theorem rowI (r : Fin 256) : k0_pay6 j x5 (ix2 0 r) = ((i (P + r) : ℝ) : EReal) := (pay6_eq j h hj x5 r).trans (h5i r)

include hj h5f in
theorem rowF (r s : Fin 256) : k0_pay8 j x5 (ix2 r s) = ((f (P + s) : ℝ) : EReal) := (pay8_eq j h hj x5 r s).trans (h5f s)

include hj h1 h2 h4i h5f h49 hs0 in
theorem chunk_C (d : Fin 128) (e : Fin 256) :
    k0_pay25 (k0_pay4 j x4) (k0_pay10 k0_pay7 (k0_pay8 j x5) k0_pay9) v49 x1 x2 xs0 (ix2 d e)
      = ((acc f i (fun s => keyScale * k s d * v s e) (P + 256) : ℝ) : EReal) :=
  pay25_eq f i k v P _ _ v49 (colI i P j h hj x4 h4i) (pay10_eq f P _ (rowF f P j h hj x5 h5f)) h49 x1 x2 xs0 h1 h2 hs0 d e

include hj h1 h4i h5f h49 hs1 in
theorem chunk_n (d : Fin 128) :
    k0_pay27 (k0_pay16 x1) (k0_pay24 (k0_pay4 j x4) (k0_pay10 k0_pay7 (k0_pay8 j x5) k0_pay9) v49)
        (k0_pay26 (k0_pay4 j x4) (k0_pay10 k0_pay7 (k0_pay8 j x5) k0_pay9) v49 xs1) (ix2 0 d)
      = ((acc f i (fun s => keyScale * k s d) (P + 256) : ℝ) : EReal) :=
  pay27_eq f i k P _ _ v49 (colI i P j h hj x4 h4i) (pay10_eq f P _ (rowF f P j h hj x5 h5f)) h49 x1 xs1 h1 hs1 d

include hj h4i h5f h49 in
theorem chunk_m (l : Fin 128) :
    k0_pay28 (k0_pay22 (k0_pay4 j x4) (k0_pay10 k0_pay7 (k0_pay8 j x5) k0_pay9) v49) (ix2 0 l) = ((stab f i (P + 256) : ℝ) : EReal) :=
  (pay28_eq _ l).trans (pay22_eq f i P _ _ v49 (colI i P j h hj x4 h4i) (pay10_eq f P _ (rowF f P j h hj x5 h5f)) h49)

include hj h0 h1 h2 h4f h5i h5f h49 hs0 hs1 in
theorem chunk_h (r e : Fin 256) :
    k0_pay19 (k0_pay13 (k0_pay5 j x4) (k0_pay6 j x5) rowNo colNo k0_pay7 (k0_pay8 j x5) k0_pay9 v49)
        (k0_pay14 (k0_pay5 j x4) (k0_pay6 j x5) rowNo colNo k0_pay7 (k0_pay8 j x5) k0_pay9 v49) x0 x2 (k0_pay15 x0) xs1
        (k0_pay17 (k0_pay5 j x4) (k0_pay6 j x5) rowNo colNo k0_pay7 (k0_pay8 j x5) k0_pay9 v49 x0 x1) (k0_pay18 xs0)
        (constant S256x256 .f32 0x00000000#32) (ix2 r e)
      = ((outAt f i (fun s => keyScale * ∑ d, q (P + r) d * k s d) (fun s => v s e) (P + r) : ℝ) : EReal) :=
  pay19_eq f i q k v P _ _ x0 x2 xs1 _ xs0
    (pay13_eq f i P _ _ _ v49 (rowF f P j h hj x5 h5f) (colF f P j h hj x4 h4f) (rowI i P j h hj x5 h5i) h49)
    (pay14_eq f i P _ _ _ v49 (rowF f P j h hj x5 h5f) (colF f P j h hj x4 h4f) (rowI i P j h hj x5 h5i) h49) h0 h2
    (pay17_eq f i q k P _ _ _ v49 (rowF f P j h hj x5 h5f) (colF f P j h hj x4 h4f) (rowI i P j h hj x5 h5i) h49 x0 x1 h0 h1) hs0 hs1 r e

end Chunk

/-! ## The state at a chunk's start -/

theorem read_stab (h : (Memref.whole cc0_scratch2).IsWhole) (X : Vec Ideal S1x128 .f32) :
    (View.ld (View.read (Elt Ideal) (View.whole cc0_scratch2) (h.unread X)) (Rect.unit ![0,0] ![1,1] inb_S1x128_S1x1_0_0)
      : Vec Ideal S1x1 .f32) (ix2 0 0) = X (ix2 0 0) := by
  refine (congrFun (congrArg (fun Y => View.ld Y (Rect.unit ![0,0] ![1,1] inb_S1x128_S1x1_0_0)) (h.read_unread (Val := Elt Ideal) X)) (ix2 0 0)).trans ?_
  exact View.ld_unit_apply_of X _ _ _ _ (ix2 0 0) (fun a => by fin_cases a <;> rfl)

theorem read_stab_start (B : LoadRect S1x128) (y : B.shape.Idx) : (View.whole cc0_scratch2).readCov (Val := Elt Ideal)
      [⟨Rect.unit (s := S1x128) ![0, 0] ![1, 128] inb_S1x128_S1x128_0_0, k0_pay3 (F := Ideal)⟩] B y = (0 : EReal) := by
  refine (congrFun (View.readCov_eq_canon' (Val := Elt Ideal) (View.whole cc0_scratch2) _ _) y).trans ?_
  refine (congrFun (View.canon_unit_zero (Val := Elt Ideal) (S := S1x128) (e := .f32) (by funext a; fin_cases a <;> rfl) inb_S1x128_S1x128_0_0 (k0_pay3 (F := Ideal))) _).trans ?_
  generalize LoadRect.idx _ _ = z
  idx_vars z
  pointwise [k0_pay3]

theorem start_C (d : Fin 128) (e : Fin 256) : k0_pay1 (F := Ideal) (ix2 d e) = 0 := by pointwise [k0_pay1]
theorem start_n (d : Fin 128) : k0_pay2 (F := Ideal) (ix2 0 d) = 0 := by pointwise [k0_pay2]

/-! ## The state after every grid point -/

variable {m c}
variable (H : Finite (argZ m c) (argG m c) (argR m c))

/-- What the three carried scratches hold after point `t`: the sums and the stabiliser at the chunk's end. -/
structure StateAt (m : (ℓ : Loc nD τ sig) → Buf (Elt Ideal) ℓ) (c : Dev nD) (t : Fin cfg0.N) (P : ℕ) (C : Vec Ideal S128x256 .f32) (n M : Vec Ideal S1x128 .f32) : Prop where
  C : ∀ (d : Fin 128) (e : Fin 256), C (ix2 d e) = ((acc (seqF (argG m c) (ptB t) (ptH t)) (seqI (argG m c) (ptB t) (ptH t))
    (fun s => keyScale * seqK (argZ m c) (ptB t) (ptH t) s d * seqV (argZ m c) (ptB t) (ptH t) s e) P : ℝ) : EReal)
  n : ∀ d : Fin 128, n (ix2 0 d) = ((acc (seqF (argG m c) (ptB t) (ptH t)) (seqI (argG m c) (ptB t) (ptH t))
    (fun s => keyScale * seqK (argZ m c) (ptB t) (ptH t) s d) P : ℝ) : EReal)
  m : ∀ l : Fin 128, M (ix2 0 l) = ((stab (seqF (argG m c) (ptB t) (ptH t)) (seqI (argG m c) (ptB t) (ptH t)) P : ℝ) : EReal)

include H

theorem fin0 (t : Fin cfg0.N) (r : Fin 256) (d : Fin 128) : (iblk m c 0 t : Vec Ideal S256x128 .bf16) (ix2 r d)
    = ((seqQ (argZ m c) (ptB t) (ptH t) (ptP t + r) d : ℝ) : EReal) := (blk0 m c t r d).trans (H.z _ _ (by dsimp only; omega))

theorem fin1 (t : Fin cfg0.N) (r : Fin 256) (d : Fin 128) : (iblk m c 1 t : Vec Ideal S256x128 .bf16) (ix2 r d)
    = ((seqK (argZ m c) (ptB t) (ptH t) (ptP t + r) d : ℝ) : EReal) := (blk1 m c t r d).trans (H.z _ _ (by dsimp only; omega))

theorem fin2 (t : Fin cfg0.N) (r : Fin 256) (e : Fin 256) : (iblk m c 2 t : Vec Ideal S256x256 .bf16) (ix2 r e)
    = ((seqV (argZ m c) (ptB t) (ptH t) (ptP t + r) e : ℝ) : EReal) := (blk2 m c t r e).trans (H.z _ _ (by dsimp only; omega))

theorem fin4i (t : Fin cfg0.N) (r : Fin 256) : (iblk m c 4 t : Vec Ideal S256x16 .f32) (ix2 r (⟨(ptH t).val, by omega⟩ : Fin 16))
    = ((seqI (argG m c) (ptB t) (ptH t) (ptP t + r) : ℝ) : EReal) := (blk4 m c t r _).trans (H.g _ _)

theorem fin4f (t : Fin cfg0.N) (r : Fin 256) : (iblk m c 4 t : Vec Ideal S256x16 .f32) (ix2 r (⟨(ptH t).val + 8, by omega⟩ : Fin 16))
    = ((seqF (argG m c) (ptB t) (ptH t) (ptP t + r) : ℝ) : EReal) := (blk4 m c t r _).trans (H.g _ _)

theorem fin5i (t : Fin cfg0.N) (r : Fin 256) : (iblk m c 5 t : Vec Ideal S16x256 .f32) (ix2 (⟨(ptH t).val, by omega⟩ : Fin 16) r)
    = ((seqI (argG m c) (ptB t) (ptH t) (ptP t + r) : ℝ) : EReal) := (blk5 m c t _ r).trans ((H.t _ _).trans (H.g _ _))

theorem fin5f (t : Fin cfg0.N) (r : Fin 256) : (iblk m c 5 t : Vec Ideal S16x256 .f32) (ix2 (⟨(ptH t).val + 8, by omega⟩ : Fin 16) r)
    = ((seqF (argG m c) (ptB t) (ptH t) (ptP t + r) : ℝ) : EReal) := (blk5 m c t _ r).trans ((H.t _ _).trans (H.g _ _))

/-- A chunk started from the state at its first position ends with the state at its last; and its output is the head's. -/
theorem chunk_state (t : Fin cfg0.N) (C : Vec Ideal S128x256 .f32) (n : Vec Ideal S1x128 .f32) (v49 : Vec Ideal S1x1 .f32)
    (hC : ∀ (d : Fin 128) (e : Fin 256), C (ix2 d e) = ((acc (seqF (argG m c) (ptB t) (ptH t)) (seqI (argG m c) (ptB t) (ptH t))
      (fun s => keyScale * seqK (argZ m c) (ptB t) (ptH t) s d * seqV (argZ m c) (ptB t) (ptH t) s e) (ptP t) : ℝ) : EReal))
    (hn : ∀ d : Fin 128, n (ix2 0 d) = ((acc (seqF (argG m c) (ptB t) (ptH t)) (seqI (argG m c) (ptB t) (ptH t))
      (fun s => keyScale * seqK (argZ m c) (ptB t) (ptH t) s d) (ptP t) : ℝ) : EReal))
    (hm : v49 (ix2 0 0) = ((stab (seqF (argG m c) (ptB t) (ptH t)) (seqI (argG m c) (ptB t) (ptH t)) (ptP t) : ℝ) : EReal)) :
    StateAt m c t (ptP t + 256)
      (k0_pay25 (k0_pay4 (grid0.coords t) (iblk m c 4 t)) (k0_pay10 k0_pay7 (k0_pay8 (grid0.coords t) (iblk m c 5 t)) k0_pay9) v49 (iblk m c 1 t) (iblk m c 2 t) C)
      (k0_pay27 (k0_pay16 (iblk m c 1 t)) (k0_pay24 (k0_pay4 (grid0.coords t) (iblk m c 4 t)) (k0_pay10 k0_pay7 (k0_pay8 (grid0.coords t) (iblk m c 5 t)) k0_pay9) v49)
        (k0_pay26 (k0_pay4 (grid0.coords t) (iblk m c 4 t)) (k0_pay10 k0_pay7 (k0_pay8 (grid0.coords t) (iblk m c 5 t)) k0_pay9) v49 n))
      (k0_pay28 (k0_pay22 (k0_pay4 (grid0.coords t) (iblk m c 4 t)) (k0_pay10 k0_pay7 (k0_pay8 (grid0.coords t) (iblk m c 5 t)) k0_pay9) v49)) where
  C := chunk_C _ _ _ _ (ptP t) (grid0.coords t) (ptH t) (coord_head t) _ _ _ _ v49 C (fin1 H t) (fin2 H t) (fin4i H t) (fin5f H t) hm hC
  n := chunk_n _ _ _ (ptP t) (grid0.coords t) (ptH t) (coord_head t) _ _ _ v49 n (fin1 H t) (fin4i H t) (fin5f H t) hm hn
  m := chunk_m _ _ (ptP t) (grid0.coords t) (ptH t) (coord_head t) _ _ v49 (fin4i H t) (fin5f H t) hm

omit H in
/-- A head's first chunk starts at position zero. -/
theorem start (t : Fin cfg0.N) (h0 : t.val % 16 = 0) : ptP t = 0 := by simp only [ptP, h0]

theorem state_A (t : Fin cfg0.N) (h0 : t.val % 16 = 0) : StateAt m c t (ptP t + 256)
    (outsAt0 m c t.val t.isLt).2.1 (outsAt0 m c t.val t.isLt).2.2.1 (outsAt0 m c t.val t.isLt).2.2.2 := by
  rw [outsAt0_A m c t h0]; dsimp only; frame_out
  refine chunk_state H t _ _ _ (fun d e => ?_) (fun d => ?_) ?_
  · rw [start_C, start t h0, acc_zero, EReal.coe_zero]
  · rw [start_n, start t h0, acc_zero, EReal.coe_zero]
  · refine (read_stab_start _ _).trans ?_
    rw [start t h0]; rfl

theorem state_B (t : Fin cfg0.N) (h0 : ¬t.val % 16 = 0)
    (ih : StateAt m c t (ptP t) (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2) : StateAt m c t (ptP t + 256)
    (outsAt0 m c t.val t.isLt).2.1 (outsAt0 m c t.val t.isLt).2.2.1 (outsAt0 m c t.val t.isLt).2.2.2 := by
  rw [outsAt0_B m c t h0]; dsimp only; frame_out
  refine chunk_state H t _ _ _ (fun d e => ?_) (fun d => ?_) ?_
  · exact (congrFun (Memref.IsWhole.read_unread (Val := Elt Ideal) _ _) _).trans (ih.C d e)
  · exact (congrFun (Memref.IsWhole.read_unread (Val := Elt Ideal) _ _) _).trans (ih.n d)
  · exact (read_stab _ _).trans (ih.m 0)

omit H in
/-- The state at a chunk's start, from the one at the end of the chunk before. -/
theorem state_prev (t : Fin cfg0.N) (h0 : ¬t.val % 16 = 0) (hn : t.val - 1 < cfg0.N) {C n M}
    (h : StateAt m c ⟨t.val - 1, hn⟩ (ptP ⟨t.val - 1, hn⟩ + 256) C n M) : StateAt m c t (ptP t) C n M := by
  have hB : ptB ⟨t.val - 1, hn⟩ = ptB t := Fin.ext (by simp only [ptB]; omega)
  have hH : ptH ⟨t.val - 1, hn⟩ = ptH t := Fin.ext (by simp only [ptH]; omega)
  have hP : ptP ⟨t.val - 1, hn⟩ + 256 = ptP t := by simp only [ptP]; omega
  rw [hP] at h
  exact ⟨by have := h.C; rwa [hB, hH] at this, by have := h.n; rwa [hB, hH] at this, by have := h.m; rwa [hB, hH] at this⟩

/-- The state after every point is the head's at the chunk's end. -/
theorem state : ∀ (n : ℕ) (hn : n < cfg0.N), StateAt m c ⟨n, hn⟩ (ptP ⟨n, hn⟩ + 256)
    (outsAt0 m c n hn).2.1 (outsAt0 m c n hn).2.2.1 (outsAt0 m c n hn).2.2.2 := by
  intro n
  induction n with
  | zero => exact fun hn => state_A H ⟨0, hn⟩ rfl
  | succ n ih =>
    intro hn
    by_cases h0 : (n + 1) % 16 = 0
    · exact state_A H ⟨n + 1, hn⟩ h0
    · exact state_B H ⟨n + 1, hn⟩ h0 (state_prev ⟨n + 1, hn⟩ h0 _ (ih _))

/-! ## The output -/

omit H in
theorem pay29_eq (h : FVec Ideal S256x256 .f32) (x6 : Vec Ideal S1x256 .f32) (x3 : Vec Ideal S256x256 .bf16) (r e : Fin 256) :
    k0_pay29 h x6 x3 (ix2 r e) = gated (fun e => h (ix2 r e)) (x6 (ix2 0 e)) (x3 (ix2 r e)) e := by
  pointwise [k0_pay29]
  rw [zero_sub]
  rfl

theorem out_chunk (t : Fin cfg0.N) (C : Vec Ideal S128x256 .f32) (n : Vec Ideal S1x128 .f32) (v49 : Vec Ideal S1x1 .f32)
    (hC : ∀ (d : Fin 128) (e : Fin 256), C (ix2 d e) = ((acc (seqF (argG m c) (ptB t) (ptH t)) (seqI (argG m c) (ptB t) (ptH t))
      (fun s => keyScale * seqK (argZ m c) (ptB t) (ptH t) s d * seqV (argZ m c) (ptB t) (ptH t) s e) (ptP t) : ℝ) : EReal))
    (hn : ∀ d : Fin 128, n (ix2 0 d) = ((acc (seqF (argG m c) (ptB t) (ptH t)) (seqI (argG m c) (ptB t) (ptH t))
      (fun s => keyScale * seqK (argZ m c) (ptB t) (ptH t) s d) (ptP t) : ℝ) : EReal))
    (hm : v49 (ix2 0 0) = ((stab (seqF (argG m c) (ptB t) (ptH t)) (seqI (argG m c) (ptB t) (ptH t)) (ptP t) : ℝ) : EReal)) (r e : Fin 256) :
    k0_pay29 (k0_pay19 (k0_pay13 (k0_pay5 (grid0.coords t) (iblk m c 4 t)) (k0_pay6 (grid0.coords t) (iblk m c 5 t)) rowNo colNo k0_pay7 (k0_pay8 (grid0.coords t) (iblk m c 5 t)) k0_pay9 v49)
        (k0_pay14 (k0_pay5 (grid0.coords t) (iblk m c 4 t)) (k0_pay6 (grid0.coords t) (iblk m c 5 t)) rowNo colNo k0_pay7 (k0_pay8 (grid0.coords t) (iblk m c 5 t)) k0_pay9 v49)
        (iblk m c 0 t) (iblk m c 2 t) (k0_pay15 (iblk m c 0 t)) n
        (k0_pay17 (k0_pay5 (grid0.coords t) (iblk m c 4 t)) (k0_pay6 (grid0.coords t) (iblk m c 5 t)) rowNo colNo k0_pay7 (k0_pay8 (grid0.coords t) (iblk m c 5 t)) k0_pay9 v49 (iblk m c 0 t) (iblk m c 1 t)) (k0_pay18 C)
        (constant S256x256 .f32 0x00000000#32)) (iblk m c 6 t) (iblk m c 3 t) (ix2 r e)
      = result (argZ m c) (argG m c) (argN m c) (ptB t) (ptH t) (ptP t + r) e := by
  refine (pay29_eq _ _ _ r e).trans ?_
  unfold result
  rw [blk6, blk3]
  congr 1
  funext e'
  exact chunk_h _ _ _ _ _ (ptP t) (grid0.coords t) (ptH t) (coord_head t) _ _ _ _ _ v49 C n (fin0 H t) (fin1 H t) (fin2 H t) (fin4f H t) (fin5i H t) (fin5f H t) hm hC hn r e'

theorem out (t : Fin cfg0.N) (r e : Fin 256) : (outsAt0 m c t.val t.isLt).1 (ix2 r e)
    = result (argZ m c) (argG m c) (argN m c) (ptB t) (ptH t) (ptP t + r) e := by
  by_cases h0 : t.val % 16 = 0
  · rw [outsAt0_A m c t h0]; dsimp only; frame_out
    refine out_chunk H t _ _ _ (fun d e => ?_) (fun d => ?_) ?_ r e
    · rw [start_C, start t h0, acc_zero, EReal.coe_zero]
    · rw [start_n, start t h0, acc_zero, EReal.coe_zero]
    · refine (read_stab_start _ _).trans ?_
      rw [start t h0]; rfl
  · have ih := state_prev t h0 (Nat.lt_of_le_of_lt (Nat.sub_le _ _) t.isLt) (state H _ _)
    rw [outsAt0_B m c t h0]; dsimp only; frame_out
    refine out_chunk H t _ _ _ (fun d e => ?_) (fun d => ?_) ?_ r e
    · exact (congrFun (Memref.IsWhole.read_unread (Val := Elt Ideal) _ _) _).trans (ih.C d e)
    · exact (congrFun (Memref.IsWhole.read_unread (Val := Elt Ideal) _ _) _).trans (ih.n d)
    · exact (read_stab _ _).trans (ih.m 0)

/-- The result array of the kernel. -/
def resultArray (Z : Fin 16384 → Fin 6144 → EReal) (G : Fin 16384 → Fin 16 → EReal) (g : Fin 2048 → EReal) : FVec Ideal S16384x2048 .bf16 :=
  fun y => result Z G g ⟨(y 0).val / 4096, by have : (y 0).val < 16384 := (y 0).isLt; omega⟩
    ⟨(y 1).val / 256, by have : (y 1).val < 2048 := (y 1).isLt; omega⟩ ((y 0).val % 4096) ⟨(y 1).val % 256, by omega⟩

omit H in
theorem resultArray_at (Z : Fin 16384 → Fin 6144 → EReal) (G : Fin 16384 → Fin 16 → EReal) (g : Fin 2048 → EReal)
    (y : S16384x2048.Idx) (b : Fin 4) (h : Fin 8) (t : ℕ) (e : Fin 256) (ht : t < 4096) (h0 : (y 0).val = 4096 * b + t) (h1 : (y 1).val = 256 * h + e) :
    resultArray Z G g y = result Z G g b h t e := by
  unfold resultArray
  congr 1
  · exact Fin.ext (by dsimp only; omega)
  · exact Fin.ext (by dsimp only; omega)
  · omega
  · exact Fin.ext (by dsimp only; omega)

theorem final : (dats m 0 c).arrAt 7 cfg0.N = resultArray (argZ m c) (argG m c) (argN m c) := by
  refine (dats m 0 c).arrAt_eq_of_covers 7 _ (by decide +kernel) fun t _ y => ?_
  blk_simp
  rw [after0_7]
  idx_vars y
  have ht : t.val < 512 := t.isLt
  refine (out H t y0 y1).trans (resultArray_at _ _ _ _ (ptB t) (ptH t) _ _ ?_ ?_ ?_).symm
  · simp only [ptP]; omega
  · blk_simp [idx t]
    simp only [ptB, ptP]
    omega
  · blk_simp [idx t]
    simp only [ptH]
    omega

end Cert.KernelIdeal.MLstm

end
-- ==== Proof.MLstmPre.lean ====
/-
  What the mLSTM claim's precondition says of its arguments.
-/
module

public import proofs.«01_k».proof.Defs
public import proofs.«01_k».proof.Proof.Gen.Pre_pre_mlstm
public import proofs.«01_k».proof.Proof.MLstmState

@[expose] public section

set_option maxRecDepth 16384

noncomputable section

namespace Cert.KernelIdeal.MLstm

open Cert.KernelIdeal Cert.KernelIdeal.Gen Cert.MLstm Idealize.ShloMosaic Idealize.ShloMosaic.TcCoe Idealize.SL.Sem

/-- A number whose absolute value is below infinity is a real number. -/
theorem real_of_abs_lt (x : EReal) (h : BitVec.ofBool (decide (FloatOps.absf (F := Ideal) (φ := .f32) x < Ideal.ofBits FTy.f32 0x7F800000#32)) = 1#1) :
    x = (x.toReal : EReal) := by
  have top : Ideal.ofBits FTy.f32 0x7F800000#32 = (⊤ : EReal) := by simp [Ideal.ofBits, Ideal.ieee]
  rw [top] at h
  have lt : max x (-x) < (⊤ : EReal) := by
    by_contra no
    rw [decide_eq_false (show ¬ FloatOps.absf (F := Ideal) (φ := .f32) x < (⊤ : EReal) from no)] at h
    exact absurd h (by decide)
  refine (EReal.coe_toReal ?_ ?_).symm
  · rintro rfl; simp at lt
  · rintro rfl; simp at lt

/-- Under the precondition the queries, keys and values are real, the gate columns are real, and the gate rows are the gate columns transposed. -/
theorem finite_of_pre (m : (ℓ : Loc nD τ sig) → Buf (Elt Ideal) ℓ) (hp : @Cert.Pre_KernelIdeal_pre_mlstm Cert.Pre_pre_mlstm.Gen.facts m) (c : Dev nD) :
    Finite (argZ m c) (argG m c) (argR m c) where
  z r x hx := by
    have e := congrFun (hp c).1 (ix2 r (⟨x.val, hx⟩ : Fin 4096))
    revert e
    pointwise [Cert.Pre_pre_mlstm.fn]
    exact real_of_abs_lt _
  g r x := by
    have e := congrFun (hp c).2.1 (ix2 r x)
    revert e
    pointwise [Cert.Pre_pre_mlstm.fn]
    exact real_of_abs_lt _
  t x r := by
    have e := congrFun (hp c).2.2 (ix2 x r)
    revert e
    pointwise [Cert.Pre_pre_mlstm.fn]
    intro e
    by_contra no
    rw [decide_eq_false (show ¬ m ((c : Thread nD τ).loc main_arg2) (ix2 x r) = m ((c : Thread nD τ).loc main_arg1) (ix2 r x) from no)] at e
    exact absurd e (by decide)

end Cert.KernelIdeal.MLstm

end
-- ==== Proof.MLstmStages.lean ====
/-
  The mLSTM reference's composed term, cut into stages, and each stage read at an index from the stages before it.
-/
module

public import proofs.«01_k».proof.Proof.Gen.ReferenceIdeal.Run
public import Idealize.ShloMosaic.Lib.Pointwise

@[expose] public section

set_option maxRecDepth 16384

noncomputable section

namespace Cert.ReferenceIdeal.MLstm

open Cert.ReferenceIdeal Cert.ReferenceIdeal.Gen Idealize.ShloMosaic Idealize.ShloMosaic.TcCoe Idealize.SL.Sem Finset

/-- The forget gates, one row per head. -/
def rF (G : FVec Ideal S16384x16 .f32) : FVec Ideal S4x8x4096 .f32 :=
  transpose S4x8x4096 [0, 2, 1] (extractStridedSlice S4x4096x8 ![0, 0, 8] (shapeCast _ G shapeCasts_S16384x16_S4x4096x16) slices_S4x4096x16_S4x4096x8_0_0_8) transposes_S4x4096x8_S4x8x4096_0_2_1

/-- The input gates, one row per head. -/
def rI (G : FVec Ideal S16384x16 .f32) : FVec Ideal S4x8x4096 .f32 :=
  transpose S4x8x4096 [0, 2, 1] (extractStridedSlice S4x4096x8 ![0, 0, 0] (shapeCast _ G shapeCasts_S16384x16_S4x4096x16) slices_S4x4096x16_S4x4096x8_0_0_0) transposes_S4x4096x8_S4x8x4096_0_2_1

/-- Their running sums. -/
def rB (G : FVec Ideal S16384x16 .f32) : FVec Ideal S4x8x4096 .f32 :=
  Host.reduceWindowAdd ![1, 1, 4096] ![1, 1, 1] ![0, 0, 4095] ![0, 0, 0] (rF G) (broadcastInDim S_ ![] bcast_S_S_ (constant S_ .f32 0x00000000#32)) reduceWindows_S4x8x4096_S4x8x4096_w1s1p0_0_w1s1p0_0_w4096s1p4095_0 h_S_

/-- The logarithmic weights of every pair of positions. -/
def rD (G : FVec Ideal S16384x16 .f32) : FVec Ideal S4x8x4096x4096 .f32 :=
  select (broadcastInDim S4x8x4096x4096 ![2, 3] bcast_S4096x4096_S4x8x4096x4096_2_3 (select (cmpi .sge (addi (iotaInDim S4096x4096 32 0) (broadcastInDim S4096x4096 ![] bcast_S_S4096x4096 (constantI S_ 32 0#32))) (iotaInDim S4096x4096 32 1)) (broadcastInDim S4096x4096 ![] bcast_S_S4096x4096 (constantI S_ 1 1#1)) (broadcastInDim S4096x4096 ![] bcast_S_S4096x4096 (constantI S_ 1 0#1)))) (addf (subf (broadcastInDim S4x8x4096x4096 ![0, 1, 2, 3] bcast_S4x8x4096x1_S4x8x4096x4096_0_1_2_3 (broadcastInDim S4x8x4096x1 ![0, 1, 2] bcast_S4x8x4096_S4x8x4096x1_0_1_2 (rB G))) (broadcastInDim S4x8x4096x4096 ![0, 1, 2, 3] bcast_S4x8x1x4096_S4x8x4096x4096_0_1_2_3 (broadcastInDim S4x8x1x4096 ![0, 1, 3] bcast_S4x8x4096_S4x8x1x4096_0_1_3 (rB G)))) (broadcastInDim S4x8x4096x4096 ![0, 1, 2, 3] bcast_S4x8x1x4096_S4x8x4096x4096_0_1_2_3 (broadcastInDim S4x8x1x4096 ![0, 1, 3] bcast_S4x8x4096_S4x8x1x4096_0_1_3 (rI G)))) (broadcastInDim S4x8x4096x4096 ![] bcast_S_S4x8x4096x4096 (id (constant S_ .f32 0xFF800000#32)))

/-- The stabiliser of every position. -/
def rM (G : FVec Ideal S16384x16 .f32) : FVec Ideal S4x8x4096 .f32 :=
  maximumf (rB G) (Host.reduce FloatOps.maximumf (rD G) (constant S_ .f32 0xFF800000#32) reducesTo_S4x8x4096x4096_S4x8x4096_d3 h_S_)

/-- The queries. -/
def rQ (Z : FVec Ideal S16384x6144 .bf16) : FVec Ideal S4x8x4096x128 .f32 :=
  transpose S4x8x4096x128 [0, 2, 1, 3] (shapeCast _ (extf .f32 (extractStridedSlice S4x4096x1024 ![0, 0, 0] (shapeCast _ Z shapeCasts_S16384x6144_S4x4096x6144) slices_S4x4096x6144_S4x4096x1024_0_0_0) bitsLt_bf16_f32) shapeCasts_S4x4096x1024_S4x4096x8x128) transposes_S4x4096x8x128_S4x8x4096x128_0_2_1_3

/-- The scaled keys. -/
def rK (Z : FVec Ideal S16384x6144 .bf16) : FVec Ideal S4x8x4096x128 .f32 :=
  mulf (transpose S4x8x4096x128 [0, 2, 1, 3] (shapeCast _ (extf .f32 (extractStridedSlice S4x4096x1024 ![0, 0, 1024] (shapeCast _ Z shapeCasts_S16384x6144_S4x4096x6144) slices_S4x4096x6144_S4x4096x1024_0_0_1024) bitsLt_bf16_f32) shapeCasts_S4x4096x1024_S4x4096x8x128) transposes_S4x4096x8x128_S4x8x4096x128_0_2_1_3) (broadcastInDim S4x8x4096x128 ![] bcast_S_S4x8x4096x128 (constant S_ .f32 0x3DB504F3#32))

/-- The weights of every pair of positions. -/
def rS (Z : FVec Ideal S16384x6144 .bf16) (G : FVec Ideal S16384x16 .f32) : FVec Ideal S4x8x4096x4096 .f32 :=
  mulf (Host.dotGeneral dot_S4x8x4096x128_S4x8x4096x128_S4x8x4096x4096_3_3_2_2_01_01 none (rQ Z) (rK Z)) (Host.exp (subf (rD G) (broadcastInDim S4x8x4096x4096 ![0, 1, 2, 3] bcast_S4x8x4096x1_S4x8x4096x4096_0_1_2_3 (broadcastInDim S4x8x4096x1 ![0, 1, 2] bcast_S4x8x4096_S4x8x4096x1_0_1_2 (rM G)))))

/-- The heads before their norm. -/
def rH (Z : FVec Ideal S16384x6144 .bf16) (G : FVec Ideal S16384x16 .f32) : FVec Ideal S4x8x4096x256 .f32 :=
  Host.divf (Host.dotGeneral dot_S4x8x4096x4096_S4x8x4096x256_S4x8x4096x256_3_2_2_3_01_01 none (rS Z G) (transpose S4x8x4096x256 [0, 2, 1, 3] (shapeCast _ (extf .f32 (extractStridedSlice S4x4096x2048 ![0, 0, 2048] (shapeCast _ Z shapeCasts_S16384x6144_S4x4096x6144) slices_S4x4096x6144_S4x4096x2048_0_0_2048) bitsLt_bf16_f32) shapeCasts_S4x4096x2048_S4x4096x8x256) transposes_S4x4096x8x256_S4x8x4096x256_0_2_1_3)) (broadcastInDim S4x8x4096x256 ![0, 1, 2, 3] bcast_S4x8x4096x1_S4x8x4096x256_0_1_2_3 (broadcastInDim S4x8x4096x1 ![0, 1, 2] bcast_S4x8x4096_S4x8x4096x1_0_1_2 (maximumf (Host.absf (Host.reduceAdd (rS Z G) (constant S_ .f32 0x00000000#32) reducesTo_S4x8x4096x4096_S4x8x4096_d3 h_S_)) (Host.exp (Host.negf (rM G))))))

/-- The layer, from its heads. -/
def rY (Z : FVec Ideal S16384x6144 .bf16) (G : FVec Ideal S16384x16 .f32) (g : FVec Ideal S2048 .f32) : FVec Ideal S16384x2048 .bf16 :=
  truncf .bf16 (mulf (Host.divf (broadcastInDim S16384x2048 ![] bcast_S_S16384x2048 (constant S_ .f32 0x3F800000#32)) (addf (broadcastInDim S16384x2048 ![] bcast_S_S16384x2048 (constant S_ .f32 0x3F800000#32)) (Host.exp (Host.negf (shapeCast _ (extf .f32 (extractStridedSlice S4x4096x2048 ![0, 0, 4096] (shapeCast _ Z shapeCasts_S16384x6144_S4x4096x6144) slices_S4x4096x6144_S4x4096x2048_0_0_4096) bitsLt_bf16_f32) shapeCasts_S4x4096x2048_S16384x2048))))) (shapeCast _ (transpose S4x4096x8x256 [0, 2, 1, 3] (mulf (mulf (rH Z G) (broadcastInDim S4x8x4096x256 ![0, 1, 2, 3] bcast_S4x8x4096x1_S4x8x4096x256_0_1_2_3 (Host.rsqrt (addf (Host.divf (broadcastInDim S4x8x4096x1 ![0, 1, 2] bcast_S4x8x4096_S4x8x4096x1_0_1_2 (Host.reduceAdd (mulf (rH Z G) (rH Z G)) (constant S_ .f32 0x00000000#32) reducesTo_S4x8x4096x256_S4x8x4096_d3 h_S_)) (broadcastInDim S4x8x4096x1 ![] bcast_S_S4x8x4096x1 (constant S_ .f32 0x43800000#32))) (broadcastInDim S4x8x4096x1 ![] bcast_S_S4x8x4096x1 (constant S_ .f32 0x358637BD#32)))))) (broadcastInDim S4x8x4096x256 ![0, 1, 2, 3] bcast_S1x8x1x256_S4x8x4096x256_0_1_2_3 (broadcastInDim S1x8x1x256 ![1, 2, 3] bcast_S8x1x256_S1x8x1x256_1_2_3 (shapeCast _ g shapeCasts_S2048_S8x1x256)))) transposes_S4x8x4096x256_S4x4096x8x256_0_2_1_3) shapeCasts_S4x4096x8x256_S16384x2048)) bitsLt_bf16_f32
theorem stages (m : (ℓ : Loc nD τ sig) → Buf (Elt Ideal) ℓ) (c : Dev nD) : Cert.ReferenceIdeal.Value.res_main_v75 m c
    = rY (m ((c : Thread nD τ).loc main_arg0)) (m ((c : Thread nD τ).loc main_arg1)) (m ((c : Thread nD τ).loc main_arg3)) := by
  unfold Cert.ReferenceIdeal.Value.res_main_v75 rY rH rS rK rQ rM rD rB rI rF
  rfl

variable (Z : FVec Ideal S16384x6144 .bf16) (G : FVec Ideal S16384x16 .f32) (g : FVec Ideal S2048 .f32)

theorem rF_at (b : Fin 4) (h : Fin 8) (t : Fin 4096) :
    rF G (ix3 b h t) = G (ix2 (⟨b * 4096 + t, by omega⟩ : Fin 16384) (⟨8 + h, by omega⟩ : Fin 16)) := by
  pointwise [rF]

theorem rI_at (b : Fin 4) (h : Fin 8) (t : Fin 4096) :
    rI G (ix3 b h t) = G (ix2 (⟨b * 4096 + t, by omega⟩ : Fin 16384) (⟨h, by omega⟩ : Fin 16)) := by
  pointwise [rI]

theorem rD_at (b : Fin 4) (h : Fin 8) (t s : Fin 4096) : rD G (ix4 b h t s)
    = Scalar.select (Scalar.select (IntOp.cmpi CmpIPredicate.sge (IntOp.addi (BitVec.ofNat 32 t) 0#32) (BitVec.ofNat 32 s)) 1#1 0#1)
      (rB G (ix3 b h t) - rB G (ix3 b h s) + rI G (ix3 b h s)) (Ideal.ofBits .f32 0xFF800000#32) := by
  pointwise [rD, id]

/-- A maximum over the last axis. -/
theorem reduceMax_at (X : FVec Ideal S4x8x4096x4096 .f32) (b : Fin 4) (h : Fin 8) (t : Fin 4096) :
    Host.reduce FloatOps.maximumf X (constant S_ .f32 0xFF800000#32) reducesTo_S4x8x4096x4096_S4x8x4096_d3 h_S_ (ix3 b h t)
      = fold max (Ideal.ofBits .f32 0xFF800000#32) (fun s => X (ix4 b h t s)) univ := by
  refine (Host.reduce_eq_fold_single (max : EReal → EReal → EReal) X _ _ (by decide) _ _).trans ?_
  refine congrArg (fun f => fold max (Ideal.ofBits .f32 0xFF800000#32) f univ) (funext fun s => congrArg X (funext fun a => Fin.ext ?_))
  fin_cases a <;> rfl

theorem rM_at (b : Fin 4) (h : Fin 8) (t : Fin 4096) : rM G (ix3 b h t)
    = max (rB G (ix3 b h t)) (fold max (Ideal.ofBits .f32 0xFF800000#32) (fun s => rD G (ix4 b h t s)) univ) := by
  unfold rM
  exact congrArg (max _) (reduceMax_at (rD G) b h t)

theorem rQ_at (b : Fin 4) (h : Fin 8) (t : Fin 4096) (d : Fin 128) :
    rQ Z (ix4 b h t d) = Z (ix2 (⟨b * 4096 + t, by omega⟩ : Fin 16384) (⟨h * 128 + d, by omega⟩ : Fin 6144)) := by
  pointwise [rQ]

theorem rK_at (b : Fin 4) (h : Fin 8) (t : Fin 4096) (d : Fin 128) : rK Z (ix4 b h t d)
    = Z (ix2 (⟨b * 4096 + t, by omega⟩ : Fin 16384) (⟨1024 + (h * 128 + d), by omega⟩ : Fin 6144)) * Ideal.ofBits .f32 0x3DB504F3#32 := by
  pointwise [rK]

theorem rS_at (b : Fin 4) (h : Fin 8) (t s : Fin 4096) : rS Z G (ix4 b h t s)
    = (∑ d : Fin 128, rQ Z (ix4 b h t d) * rK Z (ix4 b h s d)) * Ideal.exp (rD G (ix4 b h t s) - rM G (ix3 b h t)) := by
  pointwise [rS]

theorem rH_at (b : Fin 4) (h : Fin 8) (t : Fin 4096) (e : Fin 256) : rH Z G (ix4 b h t e)
    = Ideal.div (∑ s : Fin 4096, rS Z G (ix4 b h t s) * Z (ix2 (⟨b * 4096 + s, by omega⟩ : Fin 16384) (⟨2048 + (h * 256 + e), by omega⟩ : Fin 6144)))
      (max (FloatOps.absf (F := Ideal) (φ := .f32) (∑ s : Fin 4096, rS Z G (ix4 b h t s))) (Ideal.exp (-rM G (ix3 b h t)))) := by
  pointwise [rH]

theorem rY_at (r : Fin 16384) (x : Fin 2048) : rY Z G g (ix2 r x)
    = Ideal.div 1 (1 + Ideal.exp (-Z (ix2 r (⟨4096 + x, by omega⟩ : Fin 6144))))
      * (rH Z G (ix4 (⟨r.val / 4096, by omega⟩ : Fin 4) (⟨x.val / 256, by omega⟩ : Fin 8) (⟨r.val % 4096, by omega⟩ : Fin 4096) (⟨x.val % 256, by omega⟩ : Fin 256))
        * Ideal.rsqrt (Ideal.div (∑ y : Fin 256,
            rH Z G (ix4 (⟨r.val / 4096, by omega⟩ : Fin 4) (⟨x.val / 256, by omega⟩ : Fin 8) (⟨r.val % 4096, by omega⟩ : Fin 4096) y)
            * rH Z G (ix4 (⟨r.val / 4096, by omega⟩ : Fin 4) (⟨x.val / 256, by omega⟩ : Fin 8) (⟨r.val % 4096, by omega⟩ : Fin 4096) y))
          (Ideal.ofBits .f32 0x43800000#32) + Ideal.ofBits .f32 0x358637BD#32) * g (ix1 x)) := by
  pointwise [rY]

end Cert.ReferenceIdeal.MLstm

end
-- ==== Proof.MLstmReference.lean ====
/-
  The mLSTM reference over the real numbers: every stage of its composed term in closed form, from finite arguments.
-/
module

public import proofs.«01_k».proof.Proof.MLstmSeq
public import proofs.«01_k».proof.Proof.MLstmStages
public import Idealize.ShloMosaic.Lib.Pointwise
@[expose] public section
set_option maxRecDepth 16384
noncomputable section
namespace Cert.ReferenceIdeal.MLstm
open Cert.ReferenceIdeal Cert.ReferenceIdeal.Gen Cert.MLstm Idealize.ShloMosaic Idealize.ShloMosaic.TcCoe Idealize.SL.Sem Finset

/-! ## The running sum of the forget gates -/

theorem foldl_add {n : ℕ} (g : Fin n → EReal) : (List.finRange n).foldl (fun r x => r + g x) 0 = ∑ x, g x := by
  have key : ∀ (l : List (Fin n)) (a : EReal), l.foldl (fun r x => r + g x) a = a + (l.map g).sum := by
    intro l
    induction l with
    | nil => intro a; simp
    | cons x l ih => intro a; rw [List.foldl_cons, ih, List.map_cons, List.sum_cons, add_assoc]
  rw [key, zero_add, Fin.sum_univ_def]

/-- The window of one position: the whole of the last axis. -/
abbrev window : Shape := ⟨3, ![1, 1, 4096]⟩

theorem window_numel : window.numel = 4096 := by simp [Shape.numel, Fin.prod_univ_succ]

theorem window_coord (n : Fin window.numel) : window.rowMajor.symm n = ix3 0 0 (n.cast window_numel) :=
  (window.rowMajor.symm_apply_eq).2 (Fin.ext (by
    rw [Shape.rowMajor_val_three]
    show n.val = (0 * 1 + 0) * 4096 + n.val
    omega))

/-- The running sum's window, ending at position `t`. -/
theorem sum_window (f : ℕ → ℝ) (t : ℕ) (ht : t < 4096) :
    ∑ n : Fin 4096, (if 4095 ≤ t + n.val then ((f (t + n.val - 4095) : ℝ) : EReal) else 0) = ((cum f (t + 1) : ℝ) : EReal) := by
  rw [Fin.sum_univ_eq_sum_range (fun n => if 4095 ≤ t + n then ((f (t + n - 4095) : ℝ) : EReal) else 0) 4096,
    show 4096 = (4095 - t) + (t + 1) by omega, sum_range_add, sum_eq_zero (fun x hx => if_neg (by rw [mem_range] at hx; omega)), zero_add]
  unfold cum
  rw [coe_sum]
  refine sum_congr rfl fun x hx => ?_
  rw [mem_range] at hx
  rw [if_pos (by omega), show t + (4095 - t + x) - 4095 = x by omega]

theorem cumsum_at (X : FVec Ideal S4x8x4096 .f32) (b : Fin 4) (h : Fin 8) (f : ℕ → ℝ) (hX : ∀ s : Fin 4096, X (ix3 b h s) = ((f s : ℝ) : EReal))
    (t : Fin 4096) : Host.reduceWindowAdd ![1, 1, 4096] ![1, 1, 1] ![0, 0, 4095] ![0, 0, 0] X (broadcastInDim S_ ![] bcast_S_S_ (constant S_ .f32 0x00000000#32))
      reduceWindows_S4x8x4096_S4x8x4096_w1s1p0_0_w1s1p0_0_w4096s1p4095_0 h_S_ (ix3 b h t) = ((cum f (t + 1) : ℝ) : EReal) := by
  have hv : broadcastInDim S_ ![] bcast_S_S_ (constant S_ FTy.f32 0x00000000#32 : FVec Ideal S_ .f32) (Shape.Idx.first h_S_) = (0 : EReal) := by
    show Ideal.ofBits .f32 0x00000000#32 = 0
    simp
  unfold Host.reduceWindowAdd
  simp only [Ideal.hostReduceWindowAdd_def]
  unfold Ideal.hostReduceWindowAdd Host.reduceWindow
  dsimp only
  rw [hv]
  refine (foldl_add _).trans ?_
  rw [← sum_window f t t.isLt]
  refine Fintype.sum_equiv (finCongr window_numel) _ _ fun n => ?_
  have hn : n.val < 4096 := lt_of_lt_of_eq n.isLt window_numel
  have c0 : (window.rowMajor.symm n 0).val = 0 := by rw [window_coord]; rfl
  have c1 : (window.rowMajor.symm n 1).val = 0 := by rw [window_coord]; rfl
  have c2 : (window.rowMajor.symm n 2).val = n.val := by rw [window_coord]; rfl
  show _ = if 4095 ≤ t.val + n.val then ((f (t.val + n.val - 4095) : ℝ) : EReal) else 0
  split
  · next hin =>
    have h2 := hin 2
    change 4095 ≤ t.val * 1 + (window.rowMajor.symm n 2).val ∧ t.val * 1 + (window.rowMajor.symm n 2).val - 4095 < 4096 at h2
    rw [c2] at h2
    rw [if_pos (by omega)]
    refine (congrArg X (funext fun a => Fin.ext ?_)).trans (hX ⟨t.val + n.val - 4095, by omega⟩)
    match a with
    | ⟨0, _⟩ =>
      show b.val * 1 + (window.rowMajor.symm n 0).val - 0 = b.val
      rw [c0]; omega
    | ⟨1, _⟩ =>
      show h.val * 1 + (window.rowMajor.symm n 1).val - 0 = h.val
      rw [c1]; omega
    | ⟨2, _⟩ =>
      show t.val * 1 + (window.rowMajor.symm n 2).val - 4095 = t.val + n.val - 4095
      rw [c2]; omega
  · next hin =>
    rw [if_neg fun hle => hin fun a => by
      match a with
      | ⟨0, _⟩ =>
        show 0 ≤ b.val * 1 + (window.rowMajor.symm n 0).val ∧ b.val * 1 + (window.rowMajor.symm n 0).val - 0 < 4
        rw [c0]; omega
      | ⟨1, _⟩ =>
        show 0 ≤ h.val * 1 + (window.rowMajor.symm n 1).val ∧ h.val * 1 + (window.rowMajor.symm n 1).val - 0 < 8
        rw [c1]; omega
      | ⟨2, _⟩ =>
        show 4095 ≤ t.val * 1 + (window.rowMajor.symm n 2).val ∧ t.val * 1 + (window.rowMajor.symm n 2).val - 4095 < 4096
        rw [c2]; omega]

/-! ## The stages over the sequences of one head -/

theorem select_mask {α : Type} {x y : ℕ} (hx : x < 4096) (hy : y < 4096) (a b : α) :
    Scalar.select (Scalar.select (IntOp.cmpi CmpIPredicate.sge (IntOp.addi (BitVec.ofNat 32 x) 0#32) (BitVec.ofNat 32 y)) (1#1) (0#1)) a b
      = if y ≤ x then a else b := by
  have e : IntOp.cmpi CmpIPredicate.sge (IntOp.addi (BitVec.ofNat 32 x) 0#32) (BitVec.ofNat 32 y) = IntOp.cmpi .sle (BitVec.ofNat 32 y) (BitVec.ofNat 32 x) := by
    show IntOp.cmpi CmpIPredicate.sge (BitVec.ofNat 32 x + 0#32) (BitVec.ofNat 32 y) = _
    rw [BitVec.add_zero]
    rfl
  rw [e, select_sle (by omega) (by omega)]
  by_cases h : y ≤ x <;> simp [h, Scalar.select]

variable (Z : FVec Ideal S16384x6144 .bf16) (G : FVec Ideal S16384x16 .f32) (g : FVec Ideal S2048 .f32)

/-- The arguments as matrices. -/
abbrev matZ : Fin 16384 → Fin 6144 → EReal := fun r x => Z (ix2 r x)
abbrev matG : Fin 16384 → Fin 16 → EReal := fun r x => G (ix2 r x)

variable (hZ : ∀ r x, x.val < 4096 → matZ Z r x = ((matZ Z r x).toReal : EReal)) (hG : ∀ r x, matG G r x = ((matG G r x).toReal : EReal))
  (b : Fin 4) (h : Fin 8)

theorem row_eq (s : Fin 4096) : rowAt b s = ⟨b * 4096 + s, by omega⟩ := rowAt_eq b s _ (by dsimp only; omega)

include hG

theorem rF_eq (s : Fin 4096) : rF G (ix3 b h s) = ((seqF (matG G) b h s : ℝ) : EReal) := by
  rw [rF_at, seqF, row_eq, ← hG]
  simp only [matG, Nat.add_comm]

theorem rI_eq (s : Fin 4096) : rI G (ix3 b h s) = ((seqI (matG G) b h s : ℝ) : EReal) := by
  rw [rI_at, seqI, row_eq, ← hG]

theorem rB_eq (t : Fin 4096) : rB G (ix3 b h t) = ((cum (seqF (matG G) b h) (t + 1) : ℝ) : EReal) := by
  unfold rB
  exact cumsum_at (rF G) b h _ (rF_eq G hG b h) t

theorem rD_eq (t s : Fin 4096) : rD G (ix4 b h t s) = if (s : ℕ) < t + 1 then
    ((cum (seqF (matG G) b h) (0 + (t + 1)) - cum (seqF (matG G) b h) (0 + s + 1) + seqI (matG G) b h (0 + s) : ℝ) : EReal) else ⊥ := by
  rw [rD_at, rB_eq G hG, rB_eq G hG, rI_eq G hG, ofBits_neg_inf, select_mask (by omega) (by omega)]
  by_cases hs : (s : ℕ) ≤ t
  · rw [if_pos hs, if_pos (by omega), ← EReal.coe_sub, ← EReal.coe_add, Nat.zero_add, Nat.zero_add]
  · rw [if_neg hs, if_neg (by omega)]

theorem rM_eq (t : Fin 4096) : rM G (ix3 b h t) = ((stab (seqF (matG G) b h) (seqI (matG G) b h) (t + 1) : ℝ) : EReal) := by
  rw [rM_at, ofBits_neg_inf]
  refine (max_fold (seqF (matG G) b h) (seqI (matG G) b h) (P := 0) (N := 4096) (n := t + 1) (by omega) _ _ ?_ (rD_eq G hG b h t)).trans ?_
  · rw [rB_eq G hG, cum_zero, Nat.zero_add]
    congr 1
    show cum _ _ = cum _ _ - 0 + 0
    ring
  · rw [Nat.zero_add]

include hZ

theorem rQ_eq (s : Fin 4096) (d : Fin 128) : rQ Z (ix4 b h s d) = ((seqQ (matZ Z) b h s d : ℝ) : EReal) := by
  rw [rQ_at, seqQ, row_eq, ← hZ _ _ (by dsimp only; omega)]
  simp only [matZ, Nat.mul_comm]

theorem rK_eq (s : Fin 4096) (d : Fin 128) : rK Z (ix4 b h s d) = ((seqK (matZ Z) b h s d * keyScale : ℝ) : EReal) := by
  rw [rK_at, seqK, row_eq, EReal.coe_mul, ← hZ _ _ (by dsimp only; omega), ofBits_keyScale]
  simp only [matZ, Nat.mul_comm, Nat.add_assoc]

/-- The weight of position `s` in the output at `t`. -/
theorem rS_eq (t s : Fin 4096) : rS Z G (ix4 b h t s) = if (s : ℕ) < t + 1 then
    ((Real.exp (cum (seqF (matG G) b h) (t + 1) - cum (seqF (matG G) b h) (s + 1) + seqI (matG G) b h s - stab (seqF (matG G) b h) (seqI (matG G) b h) (t + 1))
      * (keyScale * ∑ d, seqQ (matZ Z) b h t d * seqK (matZ Z) b h s d) : ℝ) : EReal) else 0 := by
  have hd : ∑ d : Fin 128, rQ Z (ix4 b h t d) * rK Z (ix4 b h s d) = ((keyScale * ∑ d, seqQ (matZ Z) b h t d * seqK (matZ Z) b h s d : ℝ) : EReal) := by
    rw [mul_sum, coe_sum]
    refine sum_congr rfl fun d _ => ?_
    rw [rQ_eq Z G hZ hG, rK_eq Z G hZ hG, ← EReal.coe_mul]
    congr 1
    ring
  rw [rS_at, hd, rD_eq G hG, rM_eq G hG]
  by_cases hs : (s : ℕ) < t + 1
  · rw [if_pos hs, if_pos hs, ← EReal.coe_sub, exp_coe, ← EReal.coe_mul, Nat.zero_add, Nat.zero_add, mul_comm]
  · rw [if_neg hs, if_neg hs, EReal.bot_sub, exp_bot, mul_zero]

theorem rV_eq (s : Fin 4096) (e : Fin 256) :
    Z (ix2 (⟨b * 4096 + s, by omega⟩ : Fin 16384) (⟨2048 + (h * 256 + e), by omega⟩ : Fin 6144)) = ((seqV (matZ Z) b h s e : ℝ) : EReal) := by
  rw [seqV, row_eq, ← hZ _ _ (by dsimp only; omega)]
  simp only [matZ, Nat.mul_comm, Nat.add_assoc]

theorem rH_eq (t : Fin 4096) (e : Fin 256) : rH Z G (ix4 b h t e) = headOut (matZ Z) (matG G) b h t e := by
  rw [rH_at]
  refine (quot_coe (n := acc (seqF (matG G) b h) (seqI (matG G) b h) (fun s => (keyScale * ∑ d, seqQ (matZ Z) b h t d * seqK (matZ Z) b h s d) * seqV (matZ Z) b h s e) (t + 1))
    (d := acc (seqF (matG G) b h) (seqI (matG G) b h) (fun s => keyScale * ∑ d, seqQ (matZ Z) b h t d * seqK (matZ Z) b h s d) (t + 1)) ?_ ?_ (rM_eq G hG b h t)).trans ?_
  · unfold acc
    rw [← sum_mask (show (t : ℕ) + 1 ≤ 4096 by omega), coe_sum]
    refine sum_congr rfl fun s _ => ?_
    rw [rS_eq Z G hZ hG, rV_eq Z G hZ hG]
    by_cases hs : (s : ℕ) < t + 1
    · rw [if_pos hs, if_pos hs, ← EReal.coe_mul, mul_assoc]
    · rw [if_neg hs, if_neg hs, zero_mul, EReal.coe_zero]
  · unfold acc
    rw [← sum_mask (show (t : ℕ) + 1 ≤ 4096 by omega), coe_sum]
    refine sum_congr rfl fun s _ => ?_
    rw [rS_eq Z G hZ hG]
    by_cases hs : (s : ℕ) < t + 1
    · rw [if_pos hs, if_pos hs]
    · rw [if_neg hs, if_neg hs, EReal.coe_zero]
  · rfl

theorem rY_eq (r : Fin 16384) (x : Fin 2048) : rY Z G g (ix2 r x)
    = result (matZ Z) (matG G) (fun x => g (ix1 x)) ⟨r.val / 4096, by omega⟩ ⟨x.val / 256, by omega⟩ (r.val % 4096) ⟨x.val % 256, by omega⟩ := by
  rw [rY_at]
  have hH : ∀ e : Fin 256, rH Z G (ix4 (⟨r.val / 4096, by omega⟩ : Fin 4) (⟨x.val / 256, by omega⟩ : Fin 8) (⟨r.val % 4096, by omega⟩ : Fin 4096) e)
      = headOut (matZ Z) (matG G) ⟨r.val / 4096, by omega⟩ ⟨x.val / 256, by omega⟩ (r.val % 4096) e := fun e => rH_eq Z G hZ hG _ _ _ e
  have hr : rowAt ⟨r.val / 4096, by omega⟩ (r.val % 4096) = r := rowAt_eq _ _ _ (by dsimp only; omega)
  simp only [hH]
  unfold result gated
  rw [hr]
  have h1 : (⟨256 * (x.val / 256) + x.val % 256, by omega⟩ : Fin 2048) = x := Fin.ext (by dsimp only; omega)
  have h2 : (⟨4096 + 256 * (x.val / 256) + x.val % 256, by omega⟩ : Fin 6144) = ⟨4096 + x, by omega⟩ := Fin.ext (by dsimp only; omega)
  dsimp only
  rw [h1, h2]

end Cert.ReferenceIdeal.MLstm
end
-- ==== Proof.MLstmClaim.lean ====
/-
  The mLSTM mixer's kernel and its reference end with the same array.
-/
module

public import proofs.«01_k».proof.Proof.MLstmPre
public import proofs.«01_k».proof.Proof.MLstmReference
public import proofs.«01_k».proof.Proof.Gen.KernelIdeal.Value
public import proofs.«01_k».proof.Proof.Gen.ReferenceIdeal.Run
public import Idealize.ShloMosaic.Lib.Claim

@[expose] public section

set_option maxRecDepth 16384

noncomputable section

namespace Cert.Proof

open Idealize.ShloMosaic Idealize.ShloMosaic.TcCoe Idealize.SL.Sem

attribute [local instance] Cert.KernelIdeal.Gen.facts Cert.ReferenceIdeal.Gen.facts Cert.Pre_pre_mlstm.Gen.facts

/-- The kernel's final array, all blocks of all sequences, is the reference's. -/
theorem mlstm_algebraic : Cert.algebraic_KernelIdeal_ReferenceIdeal_pre_pre_mlstm := by
  pair_intro
  · run_from Cert.KernelIdeal.Value.run_blocks m g
  · run_from Cert.ReferenceIdeal.Value.run m' g'
    have H := Cert.KernelIdeal.MLstm.finite_of_pre m hpre c
    obtain ⟨h0, h1, -, h3⟩ := hagree c
    rw [Cert.ReferenceIdeal.MLstm.stages, h0, h1, h3, Cert.KernelIdeal.MLstm.final H]
    funext y
    idx_vars y
    exact Cert.ReferenceIdeal.MLstm.rY_eq _ _ _ (fun r x hx => H.z r x hx) (fun r x => H.g r x) _ _

/-- The reference leaves its arguments as they were; it has no semaphore. -/
theorem mlstm_reference_frame : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run m g)

end Cert.Proof

end
-- ==== Proof.InProjection.lean ====
/-
  The input projection of the mLSTM mixer: a row block is normalised once, kept, and multiplied by every column block.
-/
module

public import proofs.«01_k».proof.Defs
public import proofs.«01_k».proof.Proof.Gen.InProjIdeal.Value
public import proofs.«01_k».proof.Proof.Gen.InProjRefIdeal.Run
public import Idealize.ShloMosaic.Lib.Pipeline.ValueKit
public import Idealize.ShloMosaic.Lib.Claim

@[expose] public section

set_option maxRecDepth 16384

noncomputable section

namespace Cert.InProjIdeal.In

open Cert.InProjIdeal Cert.InProjIdeal.Gen Idealize.ShloMosaic Idealize.ShloMosaic.TcCoe Idealize.SL.Sem

theorem idx : ∀ t : Fin cfg0.N, win0_0.index t = ![t.val / 12, 0] ∧ win0_1.index t = ![0, 0]
    ∧ win0_2.index t = ![0, t.val % 12] ∧ win0_3.index t = ![t.val / 12, t.val % 12] :=
  (by decide +kernel : ∀ t : Fin grid0.N, _)

/-- The reference's term over the three arguments. -/
abbrev whole (X : FVec Ideal S16384x2048 .f32) (N : FVec Ideal S2048 .f32) (W : FVec Ideal S2048x6160 .f32) : FVec Ideal S16384x6144 .bf16 :=
  truncf .bf16 (Host.dotGeneral Cert.InProjRefIdeal.dot_S16384x2048_S2048x6144_S16384x6144_1_0_0_1_n_n none (mulf (mulf X (broadcastInDim Cert.InProjRefIdeal.S16384x2048 ![0, 1] Cert.InProjRefIdeal.Gen.bcast_S16384x1_S16384x2048_0_1 (Host.rsqrt (addf (Host.divf (broadcastInDim Cert.InProjRefIdeal.S16384x1 ![0] Cert.InProjRefIdeal.Gen.bcast_S16384_S16384x1_0 (Host.reduceAdd (mulf X X) (constant Cert.InProjRefIdeal.S_ .f32 0x00000000#32) Cert.InProjRefIdeal.Gen.reducesTo_S16384x2048_S16384_d1 Cert.InProjRefIdeal.Gen.h_S_)) (broadcastInDim Cert.InProjRefIdeal.S16384x1 ![] Cert.InProjRefIdeal.Gen.bcast_S_S16384x1 (constant Cert.InProjRefIdeal.S_ .f32 0x45000000#32))) (broadcastInDim Cert.InProjRefIdeal.S16384x1 ![] Cert.InProjRefIdeal.Gen.bcast_S_S16384x1 (constant Cert.InProjRefIdeal.S_ .f32 0x358637BD#32)))))) (broadcastInDim Cert.InProjRefIdeal.S16384x2048 ![0, 1] Cert.InProjRefIdeal.Gen.bcast_S1x2048_S16384x2048_0_1 (broadcastInDim Cert.InProjRefIdeal.S1x2048 ![1] Cert.InProjRefIdeal.Gen.bcast_S2048_S1x2048_1 N))) (extractStridedSlice Cert.InProjRefIdeal.S2048x6144 ![0, 0] W Cert.InProjRefIdeal.Gen.slices_S2048x6160_S2048x6144_0_0)) Cert.InProjRefIdeal.Gen.bitsLt_bf16_f32

variable (m : (ℓ : Loc nD τ sig) → Buf (Elt Ideal) ℓ) (c : Dev nD)

/-- Points of one row block read the same rows. -/
theorem rows_eq (t s : Fin cfg0.N) (h : t.val / 12 = s.val / 12) : iblk m c 0 t = iblk m c 0 s := by
  funext y
  blk_ext [iblk, V, idx t, idx s]

theorem weight_eq (t s : Fin cfg0.N) : iblk m c 1 t = iblk m c 1 s := by
  funext y
  blk_ext [iblk, V, idx t, idx s]

/-- After every point the kept block is the normalised block of the point's rows. -/
theorem kept (n : ℕ) (hn : n < cfg0.N) : (outsAt0 m c n hn).2 = k0_pay1 (iblk m c 0 ⟨n, hn⟩) (iblk m c 1 ⟨n, hn⟩) := by
  induction n with
  | zero =>
    rw [outsAt0_A m c ⟨0, hn⟩ (Nat.zero_mod _)]; dsimp only; frame_out
  | succ n ih =>
    by_cases h0 : (n + 1) % 12 = 0
    · rw [outsAt0_A m c ⟨n + 1, hn⟩ h0]; dsimp only; frame_out
    · rw [outsAt0_B m c ⟨n + 1, hn⟩ h0]; dsimp only [sout0_B_0]
      refine (ih (Nat.lt_of_succ_lt hn)).trans ?_
      rw [rows_eq m c ⟨n, Nat.lt_of_succ_lt hn⟩ ⟨n + 1, hn⟩ (by show n / 12 = (n + 1) / 12; omega),
        weight_eq m c ⟨n, Nat.lt_of_succ_lt hn⟩ ⟨n + 1, hn⟩]

/-- What every point leaves in its output block. -/
theorem out (t : Fin cfg0.N) : (outsAt0 m c t.val t.isLt).1 = k0_pay2 (k0_pay1 (iblk m c 0 t) (iblk m c 1 t)) (iblk m c 2 t) := by
  by_cases h0 : t.val % 12 = 0
  · rw [outsAt0_A m c t h0]; dsimp only; frame_out
  · rw [outsAt0_B m c t h0]; dsimp only; frame_out
    rw [kept]
    have h1 : t.val ≠ 0 := fun h => h0 (by rw [h])
    rw [rows_eq m c ⟨t.val - 1, _⟩ t (by show (t.val - 1) / 12 = t.val / 12; omega), weight_eq m c ⟨t.val - 1, _⟩ t]
    exact congrArg (fun x => k0_pay2 (F := Ideal) x (iblk m c 2 t)) (Memref.IsWhole.read_unread (Val := Elt Ideal) _ _)

/-- … which is the whole product's entry there. -/
theorem point (t : Fin cfg0.N) (y) : k0_pay2 (k0_pay1 (iblk m c 0 t) (iblk m c 1 t)) (iblk m c 2 t) y
    = whole (m ((c : Thread nD τ).loc main_arg0)) (m ((c : Thread nD τ).loc main_arg1)) (m ((c : Thread nD τ).loc main_arg2)) (((cfg0.win 3).blk t).view.emb y) := by
  pointwise [k0_pay1, k0_pay2, whole]
  blk_point [iblk, V, idx t]

/-- The blocks make the whole array. -/
theorem final : (dats m 0 c).arrAt 3 cfg0.N
    = whole (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, out]
  exact point m c t y

end Cert.InProjIdeal.In

namespace Cert.Proof

open Idealize.ShloMosaic Idealize.ShloMosaic.TcCoe Idealize.SL.Sem

attribute [local instance] Cert.InProjIdeal.Gen.facts Cert.InProjRefIdeal.Gen.facts

/-- Kernel and reference of the input projection end with the same array. -/
theorem in_algebraic : Cert.algebraic_InProjIdeal_InProjRefIdeal := by
  pair_intro
  · run_from Cert.InProjIdeal.Value.run_blocks m g
  · run_from Cert.InProjRefIdeal.Value.run m' g'
    exact (Cert.InProjIdeal.In.final m c).symm

/-- The reference leaves its arguments as they were; it has no semaphore. -/
theorem in_reference_frame : Cert.quiescent_InProjRefIdeal := fun m g _ =>
  (θ_run Cert.InProjRefIdeal.defs _ _).mono
    (fun r h => ⟨fun c => (h c).2, sem_eq_zero_of_no_sems (by decide) r.2⟩) (Cert.InProjRefIdeal.Value.run m g)

end Cert.Proof

end
-- ==== Proof.GluUnit.lean ====
/-
  The gated linear unit of the S5 mixer: a row block is normalised, joined with the scan's output and passed through the
  tanh form of GELU once, kept, and multiplied by the value columns and the gate columns of every column block.
-/
module

public import proofs.«01_k».proof.Defs
public import proofs.«01_k».proof.Proof.Gen.GluIdeal.Value
public import proofs.«01_k».proof.Proof.Gen.GluRefIdeal.Run
public import Idealize.ShloMosaic.Lib.Pipeline.ValueKit
public import Idealize.ShloMosaic.Lib.Claim

@[expose] public section

set_option maxRecDepth 16384

noncomputable section

namespace Cert.GluIdeal.Glu

open Cert.GluIdeal Cert.GluIdeal.Gen Idealize.ShloMosaic Idealize.ShloMosaic.TcCoe Idealize.SL.Sem

theorem idx : ∀ t : Fin cfg0.N, win0_0.index t = ![t.val / 4, 0] ∧ win0_1.index t = ![t.val / 4, 0]
    ∧ win0_2.index t = ![0, 0] ∧ win0_3.index t = ![0, 0] ∧ win0_4.index t = ![0, t.val % 4] ∧ win0_5.index t = ![0, t.val % 4 + 4]
    ∧ win0_6.index t = ![t.val / 4, t.val % 4] ∧ win0_7.index t = ![t.val / 4, t.val % 4] :=
  (by decide +kernel : ∀ t : Fin grid0.N, _)

/-- The normalised rows with the skip weight, added to the scan's output. -/
def joined (X : FVec Ideal S16384x2048 .f32) (Y : FVec Ideal S16384x2048 .bf16) (N D : FVec Ideal S2048 .f32) : FVec Ideal S16384x2048 .f32 :=
  addf (extf .f32 Y Cert.GluRefIdeal.Gen.bitsLt_bf16_f32) (mulf (broadcastInDim Cert.GluRefIdeal.S16384x2048 ![0, 1] Cert.GluRefIdeal.Gen.bcast_S1x2048_S16384x2048_0_1 (broadcastInDim Cert.GluRefIdeal.S1x2048 ![1] Cert.GluRefIdeal.Gen.bcast_S2048_S1x2048_1 D)) (mulf (mulf X (broadcastInDim Cert.GluRefIdeal.S16384x2048 ![0, 1] Cert.GluRefIdeal.Gen.bcast_S16384x1_S16384x2048_0_1 (Host.rsqrt (addf (Host.divf (broadcastInDim Cert.GluRefIdeal.S16384x1 ![0] Cert.GluRefIdeal.Gen.bcast_S16384_S16384x1_0 (Host.reduceAdd (mulf X X) (constant Cert.GluRefIdeal.S_ .f32 0x00000000#32) Cert.GluRefIdeal.Gen.reducesTo_S16384x2048_S16384_d1 Cert.GluRefIdeal.Gen.h_S_)) (broadcastInDim Cert.GluRefIdeal.S16384x1 ![] Cert.GluRefIdeal.Gen.bcast_S_S16384x1 (constant Cert.GluRefIdeal.S_ .f32 0x45000000#32))) (broadcastInDim Cert.GluRefIdeal.S16384x1 ![] Cert.GluRefIdeal.Gen.bcast_S_S16384x1 (constant Cert.GluRefIdeal.S_ .f32 0x358637BD#32)))))) (broadcastInDim Cert.GluRefIdeal.S16384x2048 ![0, 1] Cert.GluRefIdeal.Gen.bcast_S1x2048_S16384x2048_0_1 (broadcastInDim Cert.GluRefIdeal.S1x2048 ![1] Cert.GluRefIdeal.Gen.bcast_S2048_S1x2048_1 N))))

/-- GELU in its tanh form. -/
def gelu (U : FVec Ideal S16384x2048 .f32) : FVec Ideal S16384x2048 .f32 :=
  mulf U (mulf (broadcastInDim Cert.GluRefIdeal.S16384x2048 ![] Cert.GluRefIdeal.Gen.bcast_S_S16384x2048 (constant Cert.GluRefIdeal.S_ .f32 0x3F000000#32)) (addf (broadcastInDim Cert.GluRefIdeal.S16384x2048 ![] Cert.GluRefIdeal.Gen.bcast_S_S16384x2048 (constant Cert.GluRefIdeal.S_ .f32 0x3F800000#32)) (Host.tanh (mulf (broadcastInDim Cert.GluRefIdeal.S16384x2048 ![] Cert.GluRefIdeal.Gen.bcast_S_S16384x2048 (constant Cert.GluRefIdeal.S_ .f32 0x3F4C422A#32)) (addf U (mulf (broadcastInDim Cert.GluRefIdeal.S16384x2048 ![] Cert.GluRefIdeal.Gen.bcast_S_S16384x2048 (constant Cert.GluRefIdeal.S_ .f32 0x3D372713#32)) (mulf (mulf U U) U)))))))

/-- Values times the logistic function of the gates, added to the residual. -/
def unit (X H : FVec Ideal S16384x2048 .f32) (W : FVec Ideal S2048x4096 .f32) : FVec Ideal S16384x2048 .f32 :=
  addf X (mulf (extractStridedSlice Cert.GluRefIdeal.S16384x2048 ![0, 0] (Host.dotGeneral Cert.GluRefIdeal.dot_S16384x2048_S2048x4096_S16384x4096_1_0_0_1_n_n none H W) Cert.GluRefIdeal.Gen.slices_S16384x4096_S16384x2048_0_0) (Host.divf (broadcastInDim Cert.GluRefIdeal.S16384x2048 ![] Cert.GluRefIdeal.Gen.bcast_S_S16384x2048 (constant Cert.GluRefIdeal.S_ .f32 0x3F800000#32)) (addf (broadcastInDim Cert.GluRefIdeal.S16384x2048 ![] Cert.GluRefIdeal.Gen.bcast_S_S16384x2048 (constant Cert.GluRefIdeal.S_ .f32 0x3F800000#32)) (Host.exp (Host.negf (extractStridedSlice Cert.GluRefIdeal.S16384x2048 ![0, 2048] (Host.dotGeneral Cert.GluRefIdeal.dot_S16384x2048_S2048x4096_S16384x4096_1_0_0_1_n_n none H W) Cert.GluRefIdeal.Gen.slices_S16384x4096_S16384x2048_0_2048))))))

/-- The reference's term in these three stages. -/
theorem stages (m : (ℓ : Loc Cert.GluRefIdeal.nD Cert.GluRefIdeal.τ Cert.GluRefIdeal.sig) → Buf (Elt Ideal) ℓ) (c : Dev Cert.GluRefIdeal.nD) :
    Cert.GluRefIdeal.Value.res_main_v41 m c
      = unit (m ((c : Thread Cert.GluRefIdeal.nD Cert.GluRefIdeal.τ).loc Cert.GluRefIdeal.main_arg0))
        (gelu (joined (m ((c : Thread Cert.GluRefIdeal.nD Cert.GluRefIdeal.τ).loc Cert.GluRefIdeal.main_arg0)) (m ((c : Thread Cert.GluRefIdeal.nD Cert.GluRefIdeal.τ).loc Cert.GluRefIdeal.main_arg1)) (m ((c : Thread Cert.GluRefIdeal.nD Cert.GluRefIdeal.τ).loc Cert.GluRefIdeal.main_arg2)) (m ((c : Thread Cert.GluRefIdeal.nD Cert.GluRefIdeal.τ).loc Cert.GluRefIdeal.main_arg3))))
        (m ((c : Thread Cert.GluRefIdeal.nD Cert.GluRefIdeal.τ).loc Cert.GluRefIdeal.main_arg4)) := by
  unfold Cert.GluRefIdeal.Value.res_main_v41 unit gelu joined
  rfl

variable (m : (ℓ : Loc nD τ sig) → Buf (Elt Ideal) ℓ) (c : Dev nD)

/-- Points of one row block read the same rows; the two weight rows are the same at every point. -/
theorem rows_eq (t s : Fin cfg0.N) (h : t.val / 4 = s.val / 4) : iblk m c 0 t = iblk m c 0 s := by
  funext y
  blk_ext [iblk, V, idx t, idx s]

theorem scan_eq (t s : Fin cfg0.N) (h : t.val / 4 = s.val / 4) : iblk m c 1 t = iblk m c 1 s := by
  funext y
  blk_ext [iblk, V, idx t, idx s]

theorem weight_eq (t s : Fin cfg0.N) : iblk m c 2 t = iblk m c 2 s := by
  funext y
  blk_ext [iblk, V, idx t, idx s]

theorem skip_eq (t s : Fin cfg0.N) : iblk m c 3 t = iblk m c 3 s := by
  funext y
  blk_ext [iblk, V, idx t, idx s]

/-- The activated block of a point's rows. -/
abbrev hid (t : Fin cfg0.N) : FVec Ideal S512x2048 .bf16 := k0_pay1 (iblk m c 0 t) (iblk m c 2 t) (iblk m c 1 t) (iblk m c 3 t)

theorem hid_eq (t s : Fin cfg0.N) (h : t.val / 4 = s.val / 4) : hid m c t = hid m c s := by
  unfold hid
  rw [rows_eq m c t s h, scan_eq m c t s h, weight_eq m c t s, skip_eq m c t s]

/-- After every point the kept block is the activated block of the point's rows. -/
theorem kept (n : ℕ) (hn : n < cfg0.N) : (outsAt0 m c n hn).2 = hid m c ⟨n, hn⟩ := by
  induction n with
  | zero =>
    rw [outsAt0_A m c ⟨0, hn⟩ (Nat.zero_mod _)]; dsimp only; frame_out
  | succ n ih =>
    by_cases h0 : (n + 1) % 4 = 0
    · rw [outsAt0_A m c ⟨n + 1, hn⟩ h0]; dsimp only; frame_out
    · rw [outsAt0_B m c ⟨n + 1, hn⟩ h0]; dsimp only [sout0_B_0]
      exact (ih (Nat.lt_of_succ_lt hn)).trans (hid_eq m c _ _ (by show n / 4 = (n + 1) / 4; omega))

/-- What every point leaves in its output block. -/
theorem out (t : Fin cfg0.N) : (outsAt0 m c t.val t.isLt).1 = k0_pay2 (hid m c t) (iblk m c 4 t) (iblk m c 5 t) (iblk m c 6 t) := by
  by_cases h0 : t.val % 4 = 0
  · rw [outsAt0_A m c t h0]; dsimp only; frame_out
  · rw [outsAt0_B m c t h0]; dsimp only; frame_out
    rw [kept]
    have h1 : t.val ≠ 0 := fun h => h0 (by rw [h])
    rw [hid_eq m c ⟨t.val - 1, _⟩ t (by show (t.val - 1) / 4 = t.val / 4; omega)]
    exact congrArg (fun x => k0_pay2 (F := Ideal) x (iblk m c 4 t) (iblk m c 5 t) (iblk m c 6 t)) (Memref.IsWhole.read_unread (Val := Elt Ideal) _ _)

/-- The activated block is the block of the reference's activations. -/
theorem hid_at (t : Fin cfg0.N) (y) (r : Fin 16384) (h : r.val = t.val / 4 * 512 + (y 0).val) (x : Fin 2048) (hx : x.val = (y 1).val) : hid m c t y
    = gelu (joined (m ((c : Thread nD τ).loc main_arg0)) (m ((c : Thread nD τ).loc main_arg1)) (m ((c : Thread nD τ).loc main_arg2)) (m ((c : Thread nD τ).loc main_arg3))) (ix2 r x) := by
  unfold hid
  idx_vars y
  pointwise [k0_pay1, gelu, joined]
  refine ((mul_assoc _ _ _).trans (mul_left_comm _ _ _)).trans ?_
  blk_point [iblk, V, idx t]

/-- What a point stores is the whole unit's entry there. -/
theorem point (t : Fin cfg0.N) (y) : k0_pay2 (hid m c t) (iblk m c 4 t) (iblk m c 5 t) (iblk m c 6 t) y
    = unit (m ((c : Thread nD τ).loc main_arg0)) (gelu (joined (m ((c : Thread nD τ).loc main_arg0)) (m ((c : Thread nD τ).loc main_arg1)) (m ((c : Thread nD τ).loc main_arg2)) (m ((c : Thread nD τ).loc main_arg3)))) (m ((c : Thread nD τ).loc main_arg4)) (((cfg0.win 7).blk t).view.emb y) := by
  have hid_row (k : Fin 2048) := hid_at m c t (ix2 (y 0) k) (((cfg0.win 7).blk t).view.emb y 0) (by blk_simp [idx t]) k rfl
  revert hid_row
  generalize hh : hid m c t = Hb
  generalize hg : gelu (joined (m ((c : Thread nD τ).loc main_arg0)) (m ((c : Thread nD τ).loc main_arg1)) (m ((c : Thread nD τ).loc main_arg2)) (m ((c : Thread nD τ).loc main_arg3))) = Hw
  intro hid_row
  pointwise [k0_pay2, unit]
  blk_point [iblk, V, idx t]
  · exact hid_row _
  · refine congrArg Ideal.exp ((zero_sub _).trans (congrArg Neg.neg ?_))
    blk_point [iblk, V, idx t]
    exact hid_row _

/-- The blocks make the whole array. -/
theorem final : (dats m 0 c).arrAt 7 cfg0.N
    = unit (m ((c : Thread nD τ).loc main_arg0)) (gelu (joined (m ((c : Thread nD τ).loc main_arg0)) (m ((c : Thread nD τ).loc main_arg1)) (m ((c : Thread nD τ).loc main_arg2)) (m ((c : Thread nD τ).loc main_arg3)))) (m ((c : Thread nD τ).loc main_arg4)) := by
  refine (dats m 0 c).arrAt_eq_of_covers 7 _ (by decide +kernel) fun t _ y => ?_
  blk_simp
  rw [after0_7, out]
  exact point m c t y

end Cert.GluIdeal.Glu

namespace Cert.Proof

open Idealize.ShloMosaic Idealize.ShloMosaic.TcCoe Idealize.SL.Sem

attribute [local instance] Cert.GluIdeal.Gen.facts Cert.GluRefIdeal.Gen.facts

/-- Kernel and reference of the gated linear unit end with the same array. -/
theorem glu_algebraic : Cert.algebraic_GluIdeal_GluRefIdeal := by
  pair_intro
  · run_from Cert.GluIdeal.Value.run_blocks m g
  · run_from Cert.GluRefIdeal.Value.run m' g'
    obtain ⟨h0, h1, h2, h3, h4⟩ := hagree c
    rw [Cert.GluIdeal.Glu.stages, h0, h1, h2, h3, h4]
    exact (Cert.GluIdeal.Glu.final m c).symm

/-- The reference leaves its arguments as they were; it has no semaphore. -/
theorem glu_reference_frame : Cert.quiescent_GluRefIdeal := fun m g _ =>
  (θ_run Cert.GluRefIdeal.defs _ _).mono
    (fun r h => ⟨fun c => (h c).2, sem_eq_zero_of_no_sems (by decide) r.2⟩) (Cert.GluRefIdeal.Value.run m g)

end Cert.Proof

end
-- ==== Proof.OutProjection.lean ====
/-
  The output projection: every block of the kernel is the block of `x + a · w`.
-/
module

public import proofs.«01_k».proof.Defs
public import proofs.«01_k».proof.Proof.Gen.OutProjIdeal.Value
public import proofs.«01_k».proof.Proof.Gen.OutProjRefIdeal.Run
public import Idealize.ShloMosaic.Lib.Pipeline.ValueKit
public import Idealize.ShloMosaic.Lib.Claim

@[expose] public section

set_option maxRecDepth 16384

noncomputable section

namespace Cert.OutProjIdeal.Out

open Cert.OutProjIdeal Cert.OutProjIdeal.Gen Idealize.ShloMosaic Idealize.ShloMosaic.TcCoe Idealize.SL.Sem

theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

/-- The reference's term over the three arguments. -/
abbrev whole (A : FVec Ideal S16384x2048 .bf16) (W : FVec Ideal S2048x2048 .f32) (X : FVec Ideal S16384x2048 .f32) : FVec Ideal S16384x2048 .f32 :=
  addf X (Host.dotGeneral Cert.OutProjRefIdeal.dot_S16384x2048_S2048x2048_S16384x2048_1_0_0_1_n_n none (extf .f32 A Cert.OutProjRefIdeal.Gen.bitsLt_bf16_f32) W)

variable (m : (ℓ : Loc nD τ sig) → Buf (Elt Ideal) ℓ) (c : Dev nD)

/-- What a grid point stores at a place of its block is the whole product's entry there. -/
theorem point (t : Fin cfg0.N) (y) : k0_pay1 (iblk m c 2 t) (iblk m c 0 t) (iblk m c 1 t) y
    = whole (m ((c : Thread nD τ).loc main_arg0)) (m ((c : Thread nD τ).loc main_arg1)) (m ((c : Thread nD τ).loc main_arg2)) (((cfg0.win 3).blk t).view.emb y) := by
  pointwise [k0_pay1, whole]
  blk_point [iblk, V, idx t]

/-- The blocks make the whole array. -/
theorem final : (dats m 0 c).arrAt 3 cfg0.N
    = whole (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.OutProjIdeal.Out

namespace Cert.Proof

open Idealize.ShloMosaic Idealize.ShloMosaic.TcCoe Idealize.SL.Sem

attribute [local instance] Cert.OutProjIdeal.Gen.facts Cert.OutProjRefIdeal.Gen.facts

/-- Kernel and reference of the output projection end with the same array. -/
theorem out_algebraic : Cert.algebraic_OutProjIdeal_OutProjRefIdeal := by
  pair_intro
  · run_from Cert.OutProjIdeal.Value.run_blocks m g
  · run_from Cert.OutProjRefIdeal.Value.run m' g'
    exact (Cert.OutProjIdeal.Out.final m c).symm

/-- The reference leaves its arguments as they were; it has no semaphore. -/
theorem out_reference_frame : Cert.quiescent_OutProjRefIdeal := fun m g _ =>
  (θ_run Cert.OutProjRefIdeal.defs _ _).mono
    (fun r h => ⟨fun c => (h c).2, sem_eq_zero_of_no_sems (by decide) r.2⟩) (Cert.OutProjRefIdeal.Value.run m g)

end Cert.Proof

end
-- ==== Proof.ExpertsTables.lean ====
/-
  What the precondition says of the experts' table, and the tables a memory holds as the pipeline's.
-/
module

public import proofs.«01_k».proof.Proof.ExpertsFrame
public import proofs.«01_k».proof.Proof.Gen.Pre_pre_moe

@[expose] public section

set_option maxRecDepth 16384
set_option Elab.async false

noncomputable section

namespace Cert.Experts.Body

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- A word that is at least 0 and below 64 as a signed number is below 64 as a natural one. -/
theorem word_range (w : BitVec 32) (h0 : IntOp.cmpi .sge w 0#32 = 1#1) (h1 : IntOp.cmpi .slt w 64#32 = 1#1) : w.toNat < 64 := by
  rw [WordCmp.cmpi_sge_eq] at h0
  rw [WordCmp.cmpi_slt_eq] at h1
  have a0 : (0#32 : BitVec 32).toInt ≤ w.toInt := by
    by_contra no; rw [decide_eq_false no] at h0; exact absurd h0 (by decide)
  have a1 : w.toInt < (64#32 : BitVec 32).toInt := by
    by_contra no; rw [decide_eq_false no] at h1; exact absurd h1 (by decide)
  have e0 : (0#32 : BitVec 32).toInt = 0 := by decide
  have e1 : (64#32 : BitVec 32).toInt = 64 := by decide
  rw [e0] at a0; rw [e1] at a1
  have := w.isLt
  rw [BitVec.toInt_eq_toNat_cond] at a0 a1
  split at a0 <;> split at a1 <;> omega

/-- The tables a memory holds. -/
def tablesOf (m : (ℓ : Loc nD τ sig) → Buf (Elt Bits) ℓ) : pre0.Contents (Elt Bits) :=
  fun j => m (((0 : Dev nD) : Thread nD τ).loc (pre0.ref j))

/-- Under the precondition every block's expert is in range. -/
theorem range_of_pre (m : (ℓ : Loc nD τ sig) → Buf (Elt Bits) ℓ) (hp : @Cert.Pre_Experts Cert.Pre_pre_moe.Gen.facts m) (i : grid0.Coords) :
    expertOf (tablesOf m) i < 64 := by
  have h0 := congrFun (hp 0).1 (cell (i 0).val (coord_lt i))
  have h1 := congrFun (hp 0).2 (cell (i 0).val (coord_lt i))
  exact word_range _ h0 h1

/-- The tables a memory holds, as tables the pipeline runs at. -/
def admOf (m : (ℓ : Loc nD τ sig) → Buf (Elt Bits) ℓ) (hp : @Cert.Pre_Experts Cert.Pre_pre_moe.Gen.facts m) : (pcfg0 (F := Bits)).Adm :=
  ⟨tablesOf m, ok_of_range _ (range_of_pre m hp)⟩

theorem tables_hold (m : (ℓ : Loc nD τ sig) → Buf (Elt Bits) ℓ) (hp : @Cert.Pre_Experts Cert.Pre_pre_moe.Gen.facts m) (c : Dev nD) (j : Fin 2) :
    m ((c : Thread nD τ).loc (pre0.ref j)) = (admOf m hp).1 j := by
  obtain rfl : c = 0 := Subsingleton.elim (α := Fin 1) _ _
  rfl

end Cert.Experts.Body

end
-- ==== Proof.ExpertsIdealRun.lean ====
/-
  (For the program read over the extended reals; the same text as for the program itself.)
  The experts' kernel body, run once for each way through it.

  A grid point serves one block of 128 token rows.  It first asks whether the block's expert differs from the block
  before (then it casts the expert's two weight matrices into its scratch buffers), then whether the block is in use
  (then it gathers, multiplies, gates, multiplies again and stores; otherwise it stores zeros).  Each run states what
  the four buffers it writes hold at the end; the contents are found by the run itself.
-/
module

public import proofs.«01_k».proof.Defs
public import proofs.«01_k».proof.Proof.Gen.ExpertsIdeal
public import proofs.«01_k».proof.Proof.Gen.ExpertsIdeal.Launch
public import proofs.«01_k».proof.Proof.Gen.ExpertsIdeal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.ExpertsIdeal.Body

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources a run of this program owns. -/
abbrev World (F : FTy → Type) [FloatOps F] := MT nD τ sig Unit (Elt F) ℕ (UR sig nD τ) ℕ

/-- The table of the blocks' experts, as the body is handed it. -/
abbrev tabE : Memref sig .tc .smem S320 .i32 := Memref.whole main_arg0
/-- The number of blocks in use, as the body is handed it. -/
abbrev tabN : Memref sig .tc .smem S1 .i32 := Memref.whole main_arg1
/-- The gathered token rows. -/
abbrev scrX : Memref sig .tc .vmem S128x2048 .bf16 := Memref.whole cc0_scratch0
/-- The first weight matrix, cast. -/
abbrev scrG : Memref sig .tc .vmem S2048x1536 .bf16 := Memref.whole cc0_scratch1
/-- The second weight matrix, cast. -/
abbrev scrD : Memref sig .tc .vmem S768x2048 .bf16 := Memref.whole cc0_scratch2

/-- The word the body branches on first: the block is the first one, or its expert is not the one before. -/
abbrev loadWord (i : grid0.Coords) (T0 : S320.Idx → Elt F .i32) : BitVec 1 :=
  Scalar.cmpi .ne (Scalar.extui (Scalar.ori (Scalar.cmpi .eq (BitVec.ofNat 32 (i 0).val) 0#32)
    (Scalar.cmpi .ne
      (View.readAt (Elt F) tabE.view (Rect.unit (s := S320) (k0_off1 i) S1.size (k0_off1_inb i)).toLoadRect T0
        (Shape.Idx.first (numel1_S1.symm ▸ Nat.one_pos)))
      (View.readAt (Elt F) tabE.view (Rect.unit (s := S320) (k0_off2 i) S1.size (k0_off2_inb i)).toLoadRect T0
        (Shape.Idx.first (numel1_S1.symm ▸ Nat.one_pos)))))) 0#32

/-- The number of blocks in use, as the body reads it. -/
abbrev usedWord (T1 : S1.Idx → Elt F .i32) : BitVec 32 :=
  View.readAt (Elt F) tabN.view (Rect.unit (s := S1) ![0] S1.size inb_S1_S1_0).toLoadRect T1
    (Shape.Idx.first (numel1_S1.symm ▸ Nat.one_pos))

set_option backward.proofsInPublic true in
set_option maxHeartbeats 8000000 in
/-- The same expert as before, and the block is not in use: zeros are stored. -/
noncomputable def runSkipIdle (c : Dev nD) (i : grid0.Coords) (arg3 : Memref sig .tc .vmem S2048x128 .f32) (harg3 : arg3.IsWhole)
    (arg4 : Memref sig .tc .vmem S1x1x2048x1536 .f32) (harg4 : arg4.IsWhole) (arg5 : Memref sig .tc .vmem S1x1x768x2048 .f32) (harg5 : arg5.IsWhole)
    (arg6 : Memref sig .tc .vmem S2048x128 .f32) (harg6 : arg6.IsWhole) (T0 : S320.Idx → Elt F .i32) (T1 : S1.Idx → Elt F .i32)
    (x0 : S2048x128.Idx → Elt F .f32) (x1 : S1x1x2048x1536.Idx → Elt F .f32) (x2 : S1x1x768x2048.Idx → Elt F .f32)
    (xa0 : Buf (Elt F) ((c : Thread nD τ).loc cc0_scratch0)) (xa1 : Buf (Elt F) ((c : Thread nD τ).loc cc0_scratch1)) (xa2 : Buf (Elt F) ((c : Thread nD τ).loc cc0_scratch2))
    (hc0 : ¬ loadWord i T0 = 1#1) (k0_h2 : ¬ k0_cond2 i (usedWord T1) = 1#1) (k0_h3 : k0_cond3 i (usedWord T1) = 1#1) :
    Σ' (out0 : List (View.Piece (Elt F) S2048x128 .f32)) (out1 : Buf (Elt F) ((c : Thread nD τ).loc cc0_scratch0)) (out2 : Buf (Elt F) ((c : Thread nD τ).loc cc0_scratch1)), { out3 : Buf (Elt F) ((c : Thread nD τ).loc cc0_scratch2) //
      ∀ (K : PUnit → sProp (World F)),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tabE.view.loc (c : Thread nD τ) ↦{fullShare.right} T0)
          ∗ (tabN.view.loc (c : Thread nD τ) ↦{fullShare.right} T1)
          ∗ (∃ d, owns (c : Thread nD τ) arg6 fullShare d)
          ∗ (scrX.view.loc (c : Thread nD τ) ↦{fullShare} xa0)
          ∗ (scrG.view.loc (c : Thread nD τ) ↦{fullShare} xa1)
          ∗ (scrD.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (tabE.view.loc (c : Thread nD τ) ↦{fullShare.right} T0)
              ∗ (tabN.view.loc (c : Thread nD τ) ↦{fullShare.right} T1)
              ∗ (∃ f, arg6.view.loc (c : Thread nD τ) ↦[arg6.view.set]{fullShare} arg6.view.writes (Elt F) f out0)
              ∗ (scrX.view.loc (c : Thread nD τ) ↦{fullShare} out1)
              ∗ (scrG.view.loc (c : Thread nD τ) ↦{fullShare} out2)
              ∗ (scrD.view.loc (c : Thread nD τ) ↦{fullShare} out3)) -∗ K ⟨⟩))
          ⊢ wp frame (wpE (defs₀ (F := F)) Variants.none c none) Set.univ (cc0_moe_experts i tabE (Memref.isWhole_whole _) tabN (Memref.isWhole_whole _) arg3 harg3 arg4 harg4 arg5 harg5 arg6 harg6 scrX (Memref.isWhole_whole _) scrG (Memref.isWhole_whole _) scrD (Memref.isWhole_whole _)) K } :=
  ⟨_, _, _, _, fun K => by
    unfold owns
    rw [cc0_moe_experts_eq_skeleton]; unfold cc0_moe_experts_skel
    iintro ⟨H0, H1, H2, HT0, HT1, ⟨%d3, %f3, -, HO3⟩, HS0, HS1, HS2, Hk⟩
    have hS0 : scrX.IsWhole := Memref.isWhole_whole _
    have hS1 : scrG.IsWhole := Memref.isWhole_whole _
    have hS2 : scrD.IsWhole := Memref.isWhole_whole _
    have hT0 : tabE.IsWhole := Memref.isWhole_whole _
    have hT1 : tabN.IsWhole := Memref.isWhole_whole _
    sl_exec! (disch := first | (guard_target = ¬(Scalar.cmpi = _); exact hc0) | (guard_target = ¬(k0_cond2 _ _ = _); exact k0_h2) | (guard_target = k0_cond3 _ _ = _; exact k0_h3))
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    isplitl [HS1]; · iexact HS1
    iexact HS2⟩

set_option backward.proofsInPublic true in
set_option maxHeartbeats 8000000 in
/-- Another expert, and the block is not in use: the weights are cast and zeros are stored. -/
noncomputable def runLoadIdle (c : Dev nD) (i : grid0.Coords) (arg3 : Memref sig .tc .vmem S2048x128 .f32) (harg3 : arg3.IsWhole)
    (arg4 : Memref sig .tc .vmem S1x1x2048x1536 .f32) (harg4 : arg4.IsWhole) (arg5 : Memref sig .tc .vmem S1x1x768x2048 .f32) (harg5 : arg5.IsWhole)
    (arg6 : Memref sig .tc .vmem S2048x128 .f32) (harg6 : arg6.IsWhole) (T0 : S320.Idx → Elt F .i32) (T1 : S1.Idx → Elt F .i32)
    (x0 : S2048x128.Idx → Elt F .f32) (x1 : S1x1x2048x1536.Idx → Elt F .f32) (x2 : S1x1x768x2048.Idx → Elt F .f32)
    (xa0 : Buf (Elt F) ((c : Thread nD τ).loc cc0_scratch0)) (xa1 : Buf (Elt F) ((c : Thread nD τ).loc cc0_scratch1)) (xa2 : Buf (Elt F) ((c : Thread nD τ).loc cc0_scratch2))
    (hc0 : loadWord i T0 = 1#1) (k0_h2 : ¬ k0_cond2 i (usedWord T1) = 1#1) (k0_h3 : k0_cond3 i (usedWord T1) = 1#1) :
    Σ' (out0 : List (View.Piece (Elt F) S2048x128 .f32)) (out1 : Buf (Elt F) ((c : Thread nD τ).loc cc0_scratch0)) (out2 : Buf (Elt F) ((c : Thread nD τ).loc cc0_scratch1)), { out3 : Buf (Elt F) ((c : Thread nD τ).loc cc0_scratch2) //
      ∀ (K : PUnit → sProp (World F)),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tabE.view.loc (c : Thread nD τ) ↦{fullShare.right} T0)
          ∗ (tabN.view.loc (c : Thread nD τ) ↦{fullShare.right} T1)
          ∗ (∃ d, owns (c : Thread nD τ) arg6 fullShare d)
          ∗ (scrX.view.loc (c : Thread nD τ) ↦{fullShare} xa0)
          ∗ (scrG.view.loc (c : Thread nD τ) ↦{fullShare} xa1)
          ∗ (scrD.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (tabE.view.loc (c : Thread nD τ) ↦{fullShare.right} T0)
              ∗ (tabN.view.loc (c : Thread nD τ) ↦{fullShare.right} T1)
              ∗ (∃ f, arg6.view.loc (c : Thread nD τ) ↦[arg6.view.set]{fullShare} arg6.view.writes (Elt F) f out0)
              ∗ (scrX.view.loc (c : Thread nD τ) ↦{fullShare} out1)
              ∗ (scrG.view.loc (c : Thread nD τ) ↦{fullShare} out2)
              ∗ (scrD.view.loc (c : Thread nD τ) ↦{fullShare} out3)) -∗ K ⟨⟩))
          ⊢ wp frame (wpE (defs₀ (F := F)) Variants.none c none) Set.univ (cc0_moe_experts i tabE (Memref.isWhole_whole _) tabN (Memref.isWhole_whole _) arg3 harg3 arg4 harg4 arg5 harg5 arg6 harg6 scrX (Memref.isWhole_whole _) scrG (Memref.isWhole_whole _) scrD (Memref.isWhole_whole _)) K } :=
  ⟨_, _, _, _, fun K => by
    unfold owns
    rw [cc0_moe_experts_eq_skeleton]; unfold cc0_moe_experts_skel
    iintro ⟨H0, H1, H2, HT0, HT1, ⟨%d3, %f3, -, HO3⟩, HS0, HS1, HS2, Hk⟩
    have hS0 : scrX.IsWhole := Memref.isWhole_whole _
    have hS1 : scrG.IsWhole := Memref.isWhole_whole _
    have hS2 : scrD.IsWhole := Memref.isWhole_whole _
    have hT0 : tabE.IsWhole := Memref.isWhole_whole _
    have hT1 : tabN.IsWhole := Memref.isWhole_whole _
    sl_exec! (disch := first | (guard_target = Scalar.cmpi = _; exact hc0) | (guard_target = ¬(k0_cond2 _ _ = _); exact k0_h2) | (guard_target = k0_cond3 _ _ = _; exact k0_h3))
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    isplitl [HS1]; · iexact HS1
    iexact HS2⟩

set_option backward.proofsInPublic true in
set_option maxHeartbeats 8000000 in
/-- The same expert as before, and the block is in use. -/
noncomputable def runSkipUsed (c : Dev nD) (i : grid0.Coords) (arg3 : Memref sig .tc .vmem S2048x128 .f32) (harg3 : arg3.IsWhole)
    (arg4 : Memref sig .tc .vmem S1x1x2048x1536 .f32) (harg4 : arg4.IsWhole) (arg5 : Memref sig .tc .vmem S1x1x768x2048 .f32) (harg5 : arg5.IsWhole)
    (arg6 : Memref sig .tc .vmem S2048x128 .f32) (harg6 : arg6.IsWhole) (T0 : S320.Idx → Elt F .i32) (T1 : S1.Idx → Elt F .i32)
    (x0 : S2048x128.Idx → Elt F .f32) (x1 : S1x1x2048x1536.Idx → Elt F .f32) (x2 : S1x1x768x2048.Idx → Elt F .f32)
    (xa0 : Buf (Elt F) ((c : Thread nD τ).loc cc0_scratch0)) (xa1 : Buf (Elt F) ((c : Thread nD τ).loc cc0_scratch1)) (xa2 : Buf (Elt F) ((c : Thread nD τ).loc cc0_scratch2))
    (hc0 : ¬ loadWord i T0 = 1#1) (k0_h2 : k0_cond2 i (usedWord T1) = 1#1) (k0_h3 : ¬ k0_cond3 i (usedWord T1) = 1#1) :
    Σ' (out0 : List (View.Piece (Elt F) S2048x128 .f32)) (out1 : Buf (Elt F) ((c : Thread nD τ).loc cc0_scratch0)) (out2 : Buf (Elt F) ((c : Thread nD τ).loc cc0_scratch1)), { out3 : Buf (Elt F) ((c : Thread nD τ).loc cc0_scratch2) //
      ∀ (K : PUnit → sProp (World F)),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tabE.view.loc (c : Thread nD τ) ↦{fullShare.right} T0)
          ∗ (tabN.view.loc (c : Thread nD τ) ↦{fullShare.right} T1)
          ∗ (∃ d, owns (c : Thread nD τ) arg6 fullShare d)
          ∗ (scrX.view.loc (c : Thread nD τ) ↦{fullShare} xa0)
          ∗ (scrG.view.loc (c : Thread nD τ) ↦{fullShare} xa1)
          ∗ (scrD.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (tabE.view.loc (c : Thread nD τ) ↦{fullShare.right} T0)
              ∗ (tabN.view.loc (c : Thread nD τ) ↦{fullShare.right} T1)
              ∗ (∃ f, arg6.view.loc (c : Thread nD τ) ↦[arg6.view.set]{fullShare} arg6.view.writes (Elt F) f out0)
              ∗ (scrX.view.loc (c : Thread nD τ) ↦{fullShare} out1)
              ∗ (scrG.view.loc (c : Thread nD τ) ↦{fullShare} out2)
              ∗ (scrD.view.loc (c : Thread nD τ) ↦{fullShare} out3)) -∗ K ⟨⟩))
          ⊢ wp frame (wpE (defs₀ (F := F)) Variants.none c none) Set.univ (cc0_moe_experts i tabE (Memref.isWhole_whole _) tabN (Memref.isWhole_whole _) arg3 harg3 arg4 harg4 arg5 harg5 arg6 harg6 scrX (Memref.isWhole_whole _) scrG (Memref.isWhole_whole _) scrD (Memref.isWhole_whole _)) K } :=
  ⟨_, _, _, _, fun K => by
    unfold owns
    rw [cc0_moe_experts_eq_skeleton]; unfold cc0_moe_experts_skel
    iintro ⟨H0, H1, H2, HT0, HT1, ⟨%d3, %f3, -, HO3⟩, HS0, HS1, HS2, Hk⟩
    have hS0 : scrX.IsWhole := Memref.isWhole_whole _
    have hS1 : scrG.IsWhole := Memref.isWhole_whole _
    have hS2 : scrD.IsWhole := Memref.isWhole_whole _
    have hT0 : tabE.IsWhole := Memref.isWhole_whole _
    have hT1 : tabN.IsWhole := Memref.isWhole_whole _
    sl_exec! (disch := first | (guard_target = ¬(Scalar.cmpi = _); exact hc0) | (guard_target = k0_cond2 _ _ = _; exact k0_h2) | (guard_target = ¬(k0_cond3 _ _ = _); exact k0_h3))
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    isplitl [HS1]; · iexact HS1
    iexact HS2⟩

set_option backward.proofsInPublic true in
set_option maxHeartbeats 8000000 in
/-- Another expert, and the block is in use. -/
noncomputable def runLoadUsed (c : Dev nD) (i : grid0.Coords) (arg3 : Memref sig .tc .vmem S2048x128 .f32) (harg3 : arg3.IsWhole)
    (arg4 : Memref sig .tc .vmem S1x1x2048x1536 .f32) (harg4 : arg4.IsWhole) (arg5 : Memref sig .tc .vmem S1x1x768x2048 .f32) (harg5 : arg5.IsWhole)
    (arg6 : Memref sig .tc .vmem S2048x128 .f32) (harg6 : arg6.IsWhole) (T0 : S320.Idx → Elt F .i32) (T1 : S1.Idx → Elt F .i32)
    (x0 : S2048x128.Idx → Elt F .f32) (x1 : S1x1x2048x1536.Idx → Elt F .f32) (x2 : S1x1x768x2048.Idx → Elt F .f32)
    (xa0 : Buf (Elt F) ((c : Thread nD τ).loc cc0_scratch0)) (xa1 : Buf (Elt F) ((c : Thread nD τ).loc cc0_scratch1)) (xa2 : Buf (Elt F) ((c : Thread nD τ).loc cc0_scratch2))
    (hc0 : loadWord i T0 = 1#1) (k0_h2 : k0_cond2 i (usedWord T1) = 1#1) (k0_h3 : ¬ k0_cond3 i (usedWord T1) = 1#1) :
    Σ' (out0 : List (View.Piece (Elt F) S2048x128 .f32)) (out1 : Buf (Elt F) ((c : Thread nD τ).loc cc0_scratch0)) (out2 : Buf (Elt F) ((c : Thread nD τ).loc cc0_scratch1)), { out3 : Buf (Elt F) ((c : Thread nD τ).loc cc0_scratch2) //
      ∀ (K : PUnit → sProp (World F)),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (tabE.view.loc (c : Thread nD τ) ↦{fullShare.right} T0)
          ∗ (tabN.view.loc (c : Thread nD τ) ↦{fullShare.right} T1)
          ∗ (∃ d, owns (c : Thread nD τ) arg6 fullShare d)
          ∗ (scrX.view.loc (c : Thread nD τ) ↦{fullShare} xa0)
          ∗ (scrG.view.loc (c : Thread nD τ) ↦{fullShare} xa1)
          ∗ (scrD.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (tabE.view.loc (c : Thread nD τ) ↦{fullShare.right} T0)
              ∗ (tabN.view.loc (c : Thread nD τ) ↦{fullShare.right} T1)
              ∗ (∃ f, arg6.view.loc (c : Thread nD τ) ↦[arg6.view.set]{fullShare} arg6.view.writes (Elt F) f out0)
              ∗ (scrX.view.loc (c : Thread nD τ) ↦{fullShare} out1)
              ∗ (scrG.view.loc (c : Thread nD τ) ↦{fullShare} out2)
              ∗ (scrD.view.loc (c : Thread nD τ) ↦{fullShare} out3)) -∗ K ⟨⟩))
          ⊢ wp frame (wpE (defs₀ (F := F)) Variants.none c none) Set.univ (cc0_moe_experts i tabE (Memref.isWhole_whole _) tabN (Memref.isWhole_whole _) arg3 harg3 arg4 harg4 arg5 harg5 arg6 harg6 scrX (Memref.isWhole_whole _) scrG (Memref.isWhole_whole _) scrD (Memref.isWhole_whole _)) K } :=
  ⟨_, _, _, _, fun K => by
    unfold owns
    rw [cc0_moe_experts_eq_skeleton]; unfold cc0_moe_experts_skel
    iintro ⟨H0, H1, H2, HT0, HT1, ⟨%d3, %f3, -, HO3⟩, HS0, HS1, HS2, Hk⟩
    have hS0 : scrX.IsWhole := Memref.isWhole_whole _
    have hS1 : scrG.IsWhole := Memref.isWhole_whole _
    have hS2 : scrD.IsWhole := Memref.isWhole_whole _
    have hT0 : tabE.IsWhole := Memref.isWhole_whole _
    have hT1 : tabN.IsWhole := Memref.isWhole_whole _
    sl_exec! (disch := first | (guard_target = Scalar.cmpi = _; exact hc0) | (guard_target = k0_cond2 _ _ = _; exact k0_h2) | (guard_target = ¬(k0_cond3 _ _ = _); exact k0_h3))
    sl_step
    iapply Hk
    isplitl [H0]; · iexact H0
    isplitl [H1]; · iexact H1
    isplitl [H2]; · iexact H2
    isplitl [HT0]; · iexact HT0
    isplitl [HT1]; · iexact HT1
    isplitl [HO3]; · iexists _; iexact HO3
    isplitl [HS0]; · iexact HS0
    isplitl [HS1]; · iexact HS1
    iexact HS2⟩

end Cert.ExpertsIdeal.Body

end
-- ==== Proof.ExpertsIdealBlock.lean ====
/-
  (For the program read over the extended reals; the same text as for the program itself.)
  What one grid point of the experts' kernel leaves in its buffers, in closed form.

  The 128 token rows of a block arrive as 2048 rows of 128 lanes: row `16 m + s` holds the lanes `128 s .. 128 s + 127` of
  token `m`.  The body gathers them into a 128 by 2048 buffer, and lays its 128 by 2048 product out in the same way.
-/
module

public import proofs.«01_k».proof.Proof.ExpertsIdealRun
public import Idealize.ShloMosaic.Lib.Pipeline.ValueKit
public import Idealize.ShloMosaic.Lib.Pipeline.ReadBack
public import Idealize.ShloMosaic.Lib.VecWindow

@[expose] public section

set_option maxRecDepth 16384
set_option Elab.async false

noncomputable section

namespace Cert.ExpertsIdeal.Body

open Cert.ExpertsIdeal Cert.ExpertsIdeal.Gen
open Idealize.ShloMosaic
open Idealize.ShloMosaic.TcCoe Idealize.ShloMosaic.Tactic
open Idealize.SL.Sem

variable {F : FTy → Type} [FloatOps F]

/-- Lane `j 1` of token `j 0`, where the block of row pieces holds it. -/
def laneOf (j : S128x2048.Idx) : S2048x128.Idx :=
  ix2 ⟨16 * (j 0).val + (j 1).val / 128, by
      have h0 : (j 0).val < 128 := (j 0).isLt
      have h1 : (j 1).val < 2048 := (j 1).isLt
      omega⟩
    ⟨(j 1).val % 128, Nat.mod_lt _ (by decide)⟩

/-- Where the token rows hold an element of the block of row pieces. -/
def tokenOf (j : S2048x128.Idx) : S128x2048.Idx :=
  ix2 ⟨(j 0).val / 16, by
      have h0 : (j 0).val < 2048 := (j 0).isLt
      omega⟩
    ⟨(j 0).val % 16 * 128 + (j 1).val, by
      have h1 : (j 1).val < 128 := (j 1).isLt
      omega⟩

/-- The token rows of a block, cast. -/
def gathered (x0 : S2048x128.Idx → Elt F .f32) : FVec F S128x2048 .bf16 :=
  truncf .bf16 (fun j => x0 (laneOf j) : FVec F S128x2048 .f32) bitsLt_bf16_f32

/-- The expert's answer for the gathered token rows. -/
def answer (X : FVec F S128x2048 .bf16) (G : FVec F S2048x1536 .bf16) (D : FVec F S768x2048 .bf16) : FVec F S128x2048 .f32 :=
  k0_pay27 (k0_pay25 X G) (k0_pay26 X G) D

/-- The answer laid out as row pieces. -/
def spread (Y : FVec F S128x2048 .f32) : S2048x128.Idx → Elt F .f32 := fun j => Y (tokenOf j)

/-- A strided store takes the rows of one residue. -/
theorem mem_strided {s : ℕ} (hs : s < 16) (inb : _) (pos : _) (y : S2048x128.Idx) :
    y ∈ (⟨(⟨![s, 0], S128x128.size, ![16, 1], inb⟩ : LoadRect S2048x128), pos⟩ : Rect S2048x128).set ↔ (y 0).val % 16 = s := by
  rw [LoadRect.mem_set]
  have h0 : (y 0).val < 2048 := (y 0).isLt
  have h1 : (y 1).val < 128 := (y 1).isLt
  constructor
  · intro h
    obtain ⟨j, hj, e⟩ := h 0
    have e' : (y 0).val = s + 16 * j := e
    omega
  · intro h a
    match a with
    | ⟨0, _⟩ => exact ⟨(y 0).val / 16, show _ < 128 by omega, show (y 0).val = s + 16 * _ by omega⟩
    | ⟨1, _⟩ => exact ⟨(y 1).val, h1, show (y 1).val = 0 + 1 * _ by omega⟩

/-- A column slice of the answer is the row pieces of one residue. -/
theorem slice_piece {s o : ℕ} (hs : s < 16) (ho : o = s * 128) (Y : FVec F S128x2048 .f32) (h : _) (inb : _) (pos : _)
    (z : S128x128.Idx) :
    extractStridedSlice S128x128 ![0, o] Y h z
      = spread Y ((⟨(⟨![s, 0], S128x128.size, ![16, 1], inb⟩ : LoadRect S2048x128), pos⟩ : Rect S2048x128).emb z) := by
  subst ho
  have h0 : (z 0).val < 128 := (z 0).isLt
  have h1 : (z 1).val < 128 := (z 1).isLt
  refine congrArg Y (funext fun a => Fin.ext ?_)
  match a with
  | ⟨0, _⟩ => exact show 0 + (z 0).val = (s + 16 * (z 0).val) / 16 by omega
  | ⟨1, _⟩ => exact show s * 128 + (z 1).val = (s + 16 * (z 0).val) % 16 * 128 + (0 + 1 * (z 1).val) by omega

/-- A strided load of the row pieces of one residue, cast, is a column block of the gathered rows. -/
theorem gather_piece {s o : ℕ} (hs : s < 16) (ho : o = s * 128) (v : View sig .tc .vmem S2048x128 .f32)
    (x0 : S2048x128.Idx → Elt F .f32) (inb : _) (inb' : _) (h : _) (z : S128x128.Idx) :
    shapeCast S128x128 (truncf .bf16 (View.readAt (Elt F) v
        ({ off := ![s, 0], size := S128x128.size, stride := ![16, 1], inb := inb } : LoadRect S2048x128) (v.rep x0) : FVec F S128x128 .f32)
        bitsLt_bf16_f32) h z
      = gathered x0 ((Rect.unit (s := S128x2048) ![0, o] S128x128.size inb').emb z) := by
  subst ho
  have h0 : (z 0).val < 128 := (z 0).isLt
  have h1 : (z 1).val < 128 := (z 1).isLt
  rw [shapeCast_self, View.readAt_rep]
  show FloatOps.truncf .bf16 _ _ = FloatOps.truncf .bf16 _ _
  refine congrArg _ (congrArg x0 (funext fun a => Fin.ext ?_))
  match a with
  | ⟨0, _⟩ => exact show s + 16 * (z 0).val = 16 * (0 + 1 * (z 0).val) + (s * 128 + 1 * (z 1).val) / 128 by omega
  | ⟨1, _⟩ => exact show 0 + 1 * (z 1).val = (s * 128 + 1 * (z 1).val) % 128 by omega

/-- The gathered rows read back from the buffer they were stored in, piece by piece. -/
theorem gathered_ofSkip (arg3 : Memref sig .tc .vmem S2048x128 .f32) (x0 : S2048x128.Idx → Elt F .f32) :
    runSkipUsed.sl.v99 arg3 x0 = gathered x0 := by
  unfold runSkipUsed.sl.v99
  have hc : ∀ y, ∃ p ∈ runSkipUsed.sl.HS0_16 arg3 x0, y ∈ p.1.set :=
    View.cover_of_tiledL _ S128x128.size (by sl_kernel_rfl)
  have hp : View.PiecesOf (gathered x0) (runSkipUsed.sl.HS0_16 arg3 x0) :=
    ⟨gather_piece (s := 15) (by decide) (show 1920 = 15 * 128 from rfl) arg3.view x0 inb_S2048x128_S128x128_15_0_s_16_1 inb_S128x2048_S128x128_0_1920 shapeCasts_S128x128_S128x128,
     gather_piece (s := 14) (by decide) (show 1792 = 14 * 128 from rfl) arg3.view x0 inb_S2048x128_S128x128_14_0_s_16_1 inb_S128x2048_S128x128_0_1792 shapeCasts_S128x128_S128x128,
     gather_piece (s := 13) (by decide) (show 1664 = 13 * 128 from rfl) arg3.view x0 inb_S2048x128_S128x128_13_0_s_16_1 inb_S128x2048_S128x128_0_1664 shapeCasts_S128x128_S128x128,
     gather_piece (s := 12) (by decide) (show 1536 = 12 * 128 from rfl) arg3.view x0 inb_S2048x128_S128x128_12_0_s_16_1 inb_S128x2048_S128x128_0_1536 shapeCasts_S128x128_S128x128,
     gather_piece (s := 11) (by decide) (show 1408 = 11 * 128 from rfl) arg3.view x0 inb_S2048x128_S128x128_11_0_s_16_1 inb_S128x2048_S128x128_0_1408 shapeCasts_S128x128_S128x128,
     gather_piece (s := 10) (by decide) (show 1280 = 10 * 128 from rfl) arg3.view x0 inb_S2048x128_S128x128_10_0_s_16_1 inb_S128x2048_S128x128_0_1280 shapeCasts_S128x128_S128x128,
     gather_piece (s := 9) (by decide) (show 1152 = 9 * 128 from rfl) arg3.view x0 inb_S2048x128_S128x128_9_0_s_16_1 inb_S128x2048_S128x128_0_1152 shapeCasts_S128x128_S128x128,
     gather_piece (s := 8) (by decide) (show 1024 = 8 * 128 from rfl) arg3.view x0 inb_S2048x128_S128x128_8_0_s_16_1 inb_S128x2048_S128x128_0_1024 shapeCasts_S128x128_S128x128,
     gather_piece (s := 7) (by decide) (show 896 = 7 * 128 from rfl) arg3.view x0 inb_S2048x128_S128x128_7_0_s_16_1 inb_S128x2048_S128x128_0_896 shapeCasts_S128x128_S128x128,
     gather_piece (s := 6) (by decide) (show 768 = 6 * 128 from rfl) arg3.view x0 inb_S2048x128_S128x128_6_0_s_16_1 inb_S128x2048_S128x128_0_768 shapeCasts_S128x128_S128x128,
     gather_piece (s := 5) (by decide) (show 640 = 5 * 128 from rfl) arg3.view x0 inb_S2048x128_S128x128_5_0_s_16_1 inb_S128x2048_S128x128_0_640 shapeCasts_S128x128_S128x128,
     gather_piece (s := 4) (by decide) (show 512 = 4 * 128 from rfl) arg3.view x0 inb_S2048x128_S128x128_4_0_s_16_1 inb_S128x2048_S128x128_0_512 shapeCasts_S128x128_S128x128,
     gather_piece (s := 3) (by decide) (show 384 = 3 * 128 from rfl) arg3.view x0 inb_S2048x128_S128x128_3_0_s_16_1 inb_S128x2048_S128x128_0_384 shapeCasts_S128x128_S128x128,
     gather_piece (s := 2) (by decide) (show 256 = 2 * 128 from rfl) arg3.view x0 inb_S2048x128_S128x128_2_0_s_16_1 inb_S128x2048_S128x128_0_256 shapeCasts_S128x128_S128x128,
     gather_piece (s := 1) (by decide) (show 128 = 1 * 128 from rfl) arg3.view x0 inb_S2048x128_S128x128_1_0_s_16_1 inb_S128x2048_S128x128_0_128 shapeCasts_S128x128_S128x128,
     gather_piece (s := 0) (by decide) (show 0 = 0 * 128 from rfl) arg3.view x0 inb_S2048x128_S128x128_0_0_s_16_1 inb_S128x2048_S128x128_0_0 shapeCasts_S128x128_S128x128, trivial⟩
  rw [View.readCov_eq_canon_ld _ _ _ hc]
  have e : View.canon (runSkipUsed.sl.HS0_16 arg3 x0) = gathered x0 := funext fun y => View.canon_apply_of_pieces (gathered x0) _ hp.mem _ (hc _)
  rw [e]
  exact View.ld_unit_lit (Val := Elt F) (S := S128x2048) (e := .bf16) inb_S128x2048_S128x2048_0_0 (gathered x0) (by decide)

/-- The gathered rows read back from the buffer they were stored in, piece by piece. -/
theorem gathered_ofLoad (arg3 : Memref sig .tc .vmem S2048x128 .f32) (x0 : S2048x128.Idx → Elt F .f32) :
    runLoadUsed.sl.v99 arg3 x0 = gathered x0 := by
  unfold runLoadUsed.sl.v99
  have hc : ∀ y, ∃ p ∈ runLoadUsed.sl.HS0_16 arg3 x0, y ∈ p.1.set :=
    View.cover_of_tiledL _ S128x128.size (by sl_kernel_rfl)
  have hp : View.PiecesOf (gathered x0) (runLoadUsed.sl.HS0_16 arg3 x0) :=
    ⟨gather_piece (s := 15) (by decide) (show 1920 = 15 * 128 from rfl) arg3.view x0 inb_S2048x128_S128x128_15_0_s_16_1 inb_S128x2048_S128x128_0_1920 shapeCasts_S128x128_S128x128,
     gather_piece (s := 14) (by decide) (show 1792 = 14 * 128 from rfl) arg3.view x0 inb_S2048x128_S128x128_14_0_s_16_1 inb_S128x2048_S128x128_0_1792 shapeCasts_S128x128_S128x128,
     gather_piece (s := 13) (by decide) (show 1664 = 13 * 128 from rfl) arg3.view x0 inb_S2048x128_S128x128_13_0_s_16_1 inb_S128x2048_S128x128_0_1664 shapeCasts_S128x128_S128x128,
     gather_piece (s := 12) (by decide) (show 1536 = 12 * 128 from rfl) arg3.view x0 inb_S2048x128_S128x128_12_0_s_16_1 inb_S128x2048_S128x128_0_1536 shapeCasts_S128x128_S128x128,
     gather_piece (s := 11) (by decide) (show 1408 = 11 * 128 from rfl) arg3.view x0 inb_S2048x128_S128x128_11_0_s_16_1 inb_S128x2048_S128x128_0_1408 shapeCasts_S128x128_S128x128,
     gather_piece (s := 10) (by decide) (show 1280 = 10 * 128 from rfl) arg3.view x0 inb_S2048x128_S128x128_10_0_s_16_1 inb_S128x2048_S128x128_0_1280 shapeCasts_S128x128_S128x128,
     gather_piece (s := 9) (by decide) (show 1152 = 9 * 128 from rfl) arg3.view x0 inb_S2048x128_S128x128_9_0_s_16_1 inb_S128x2048_S128x128_0_1152 shapeCasts_S128x128_S128x128,
     gather_piece (s := 8) (by decide) (show 1024 = 8 * 128 from rfl) arg3.view x0 inb_S2048x128_S128x128_8_0_s_16_1 inb_S128x2048_S128x128_0_1024 shapeCasts_S128x128_S128x128,
     gather_piece (s := 7) (by decide) (show 896 = 7 * 128 from rfl) arg3.view x0 inb_S2048x128_S128x128_7_0_s_16_1 inb_S128x2048_S128x128_0_896 shapeCasts_S128x128_S128x128,
     gather_piece (s := 6) (by decide) (show 768 = 6 * 128 from rfl) arg3.view x0 inb_S2048x128_S128x128_6_0_s_16_1 inb_S128x2048_S128x128_0_768 shapeCasts_S128x128_S128x128,
     gather_piece (s := 5) (by decide) (show 640 = 5 * 128 from rfl) arg3.view x0 inb_S2048x128_S128x128_5_0_s_16_1 inb_S128x2048_S128x128_0_640 shapeCasts_S128x128_S128x128,
     gather_piece (s := 4) (by decide) (show 512 = 4 * 128 from rfl) arg3.view x0 inb_S2048x128_S128x128_4_0_s_16_1 inb_S128x2048_S128x128_0_512 shapeCasts_S128x128_S128x128,
     gather_piece (s := 3) (by decide) (show 384 = 3 * 128 from rfl) arg3.view x0 inb_S2048x128_S128x128_3_0_s_16_1 inb_S128x2048_S128x128_0_384 shapeCasts_S128x128_S128x128,
     gather_piece (s := 2) (by decide) (show 256 = 2 * 128 from rfl) arg3.view x0 inb_S2048x128_S128x128_2_0_s_16_1 inb_S128x2048_S128x128_0_256 shapeCasts_S128x128_S128x128,
     gather_piece (s := 1) (by decide) (show 128 = 1 * 128 from rfl) arg3.view x0 inb_S2048x128_S128x128_1_0_s_16_1 inb_S128x2048_S128x128_0_128 shapeCasts_S128x128_S128x128,
     gather_piece (s := 0) (by decide) (show 0 = 0 * 128 from rfl) arg3.view x0 inb_S2048x128_S128x128_0_0_s_16_1 inb_S128x2048_S128x128_0_0 shapeCasts_S128x128_S128x128, trivial⟩
  rw [View.readCov_eq_canon_ld _ _ _ hc]
  have e : View.canon (runLoadUsed.sl.HS0_16 arg3 x0) = gathered x0 := funext fun y => View.canon_apply_of_pieces (gathered x0) _ hp.mem _ (hc _)
  rw [e]
  exact View.ld_unit_lit (Val := Elt F) (S := S128x2048) (e := .bf16) inb_S128x2048_S128x2048_0_0 (gathered x0) (by decide)

/-- The first weight matrix as a reload leaves it. -/
theorem weightsG_read (v : View sig .tc .vmem S1x1x2048x1536 .f32) (x1 : S1x1x2048x1536.Idx → Elt F .f32) (inb : _) :
    View.readAt (Elt F) v (Rect.unit (s := S1x1x2048x1536) ![0, 0, 0, 0] S1x1x2048x1536.size inb).toLoadRect (v.rep x1) = x1 :=
  View.readAt_rep_full v x1 inb

/-- The second weight matrix as a reload leaves it. -/
theorem weightsD_read (v : View sig .tc .vmem S1x1x768x2048 .f32) (x2 : S1x1x768x2048.Idx → Elt F .f32) (inb : _) :
    View.readAt (Elt F) v (Rect.unit (s := S1x1x768x2048) ![0, 0, 0, 0] S1x1x768x2048.size inb).toLoadRect (v.rep x2) = x2 :=
  View.readAt_rep_full v x2 inb

/-- The sixteen stores of the answer, last first. -/
def answerPieces (X : FVec F S128x2048 .bf16) (G : FVec F S2048x1536 .bf16) (D : FVec F S768x2048 .bf16) :
    List (View.Piece (Elt F) S2048x128 .f32) :=
  [⟨⟨(⟨![15, 0], S128x128.size, ![16, 1], inb_S2048x128_S128x128_15_0_s_16_1⟩ : LoadRect S2048x128), spos_16_1⟩, k0_pay7 (answer X G D)⟩,
   ⟨⟨(⟨![14, 0], S128x128.size, ![16, 1], inb_S2048x128_S128x128_14_0_s_16_1⟩ : LoadRect S2048x128), spos_16_1⟩, k0_pay6 (answer X G D)⟩,
   ⟨⟨(⟨![13, 0], S128x128.size, ![16, 1], inb_S2048x128_S128x128_13_0_s_16_1⟩ : LoadRect S2048x128), spos_16_1⟩, k0_pay5 (answer X G D)⟩,
   ⟨⟨(⟨![12, 0], S128x128.size, ![16, 1], inb_S2048x128_S128x128_12_0_s_16_1⟩ : LoadRect S2048x128), spos_16_1⟩, k0_pay4 (answer X G D)⟩,
   ⟨⟨(⟨![11, 0], S128x128.size, ![16, 1], inb_S2048x128_S128x128_11_0_s_16_1⟩ : LoadRect S2048x128), spos_16_1⟩, k0_pay3 (answer X G D)⟩,
   ⟨⟨(⟨![10, 0], S128x128.size, ![16, 1], inb_S2048x128_S128x128_10_0_s_16_1⟩ : LoadRect S2048x128), spos_16_1⟩, k0_pay38 (k0_pay25 X G) (k0_pay26 X G) D⟩,
   ⟨⟨(⟨![9, 0], S128x128.size, ![16, 1], inb_S2048x128_S128x128_9_0_s_16_1⟩ : LoadRect S2048x128), spos_16_1⟩, k0_pay37 (k0_pay25 X G) (k0_pay26 X G) D⟩,
   ⟨⟨(⟨![8, 0], S128x128.size, ![16, 1], inb_S2048x128_S128x128_8_0_s_16_1⟩ : LoadRect S2048x128), spos_16_1⟩, k0_pay36 (k0_pay25 X G) (k0_pay26 X G) D⟩,
   ⟨⟨(⟨![7, 0], S128x128.size, ![16, 1], inb_S2048x128_S128x128_7_0_s_16_1⟩ : LoadRect S2048x128), spos_16_1⟩, k0_pay35 (k0_pay25 X G) (k0_pay26 X G) D⟩,
   ⟨⟨(⟨![6, 0], S128x128.size, ![16, 1], inb_S2048x128_S128x128_6_0_s_16_1⟩ : LoadRect S2048x128), spos_16_1⟩, k0_pay34 (k0_pay25 X G) (k0_pay26 X G) D⟩,
   ⟨⟨(⟨![5, 0], S128x128.size, ![16, 1], inb_S2048x128_S128x128_5_0_s_16_1⟩ : LoadRect S2048x128), spos_16_1⟩, k0_pay33 (k0_pay25 X G) (k0_pay26 X G) D⟩,
   ⟨⟨(⟨![4, 0], S128x128.size, ![16, 1], inb_S2048x128_S128x128_4_0_s_16_1⟩ : LoadRect S2048x128), spos_16_1⟩, k0_pay32 (k0_pay25 X G) (k0_pay26 X G) D⟩,
   ⟨⟨(⟨![3, 0], S128x128.size, ![16, 1], inb_S2048x128_S128x128_3_0_s_16_1⟩ : LoadRect S2048x128), spos_16_1⟩, k0_pay31 (k0_pay25 X G) (k0_pay26 X G) D⟩,
   ⟨⟨(⟨![2, 0], S128x128.size, ![16, 1], inb_S2048x128_S128x128_2_0_s_16_1⟩ : LoadRect S2048x128), spos_16_1⟩, k0_pay30 (k0_pay25 X G) (k0_pay26 X G) D⟩,
   ⟨⟨(⟨![1, 0], S128x128.size, ![16, 1], inb_S2048x128_S128x128_1_0_s_16_1⟩ : LoadRect S2048x128), spos_16_1⟩, k0_pay29 (k0_pay25 X G) (k0_pay26 X G) D⟩,
   ⟨⟨(⟨![0, 0], S128x128.size, ![16, 1], inb_S2048x128_S128x128_0_0_s_16_1⟩ : LoadRect S2048x128), spos_16_1⟩, k0_pay28 (k0_pay25 X G) (k0_pay26 X G) D⟩]

/-- They cover the block. -/
theorem answer_cover (X : FVec F S128x2048 .bf16) (G : FVec F S2048x1536 .bf16) (D : FVec F S768x2048 .bf16) (y : S2048x128.Idx) :
    ∃ p ∈ answerPieces X G D, y ∈ p.1.set := by
  unfold answerPieces
  have hy : (y 0).val % 16 < 16 := Nat.mod_lt _ (by decide)
  generalize hk : (y 0).val % 16 = k at hy
  interval_cases k
  · exact ⟨_, .tail _ (.tail _ (.tail _ (.tail _ (.tail _ (.tail _ (.tail _ (.tail _ (.tail _ (.tail _ (.tail _ (.tail _ (.tail _ (.tail _ (.tail _ (.head _))))))))))))))), (mem_strided (by decide) _ _ y).mpr hk⟩
  · exact ⟨_, .tail _ (.tail _ (.tail _ (.tail _ (.tail _ (.tail _ (.tail _ (.tail _ (.tail _ (.tail _ (.tail _ (.tail _ (.tail _ (.tail _ (.head _)))))))))))))), (mem_strided (by decide) _ _ y).mpr hk⟩
  · exact ⟨_, .tail _ (.tail _ (.tail _ (.tail _ (.tail _ (.tail _ (.tail _ (.tail _ (.tail _ (.tail _ (.tail _ (.tail _ (.tail _ (.head _))))))))))))), (mem_strided (by decide) _ _ y).mpr hk⟩
  · exact ⟨_, .tail _ (.tail _ (.tail _ (.tail _ (.tail _ (.tail _ (.tail _ (.tail _ (.tail _ (.tail _ (.tail _ (.tail _ (.head _)))))))))))), (mem_strided (by decide) _ _ y).mpr hk⟩
  · exact ⟨_, .tail _ (.tail _ (.tail _ (.tail _ (.tail _ (.tail _ (.tail _ (.tail _ (.tail _ (.tail _ (.tail _ (.head _))))))))))), (mem_strided (by decide) _ _ y).mpr hk⟩
  · exact ⟨_, .tail _ (.tail _ (.tail _ (.tail _ (.tail _ (.tail _ (.tail _ (.tail _ (.tail _ (.tail _ (.head _)))))))))), (mem_strided (by decide) _ _ y).mpr hk⟩
  · exact ⟨_, .tail _ (.tail _ (.tail _ (.tail _ (.tail _ (.tail _ (.tail _ (.tail _ (.tail _ (.head _))))))))), (mem_strided (by decide) _ _ y).mpr hk⟩
  · exact ⟨_, .tail _ (.tail _ (.tail _ (.tail _ (.tail _ (.tail _ (.tail _ (.tail _ (.head _)))))))), (mem_strided (by decide) _ _ y).mpr hk⟩
  · exact ⟨_, .tail _ (.tail _ (.tail _ (.tail _ (.tail _ (.tail _ (.tail _ (.head _))))))), (mem_strided (by decide) _ _ y).mpr hk⟩
  · exact ⟨_, .tail _ (.tail _ (.tail _ (.tail _ (.tail _ (.tail _ (.head _)))))), (mem_strided (by decide) _ _ y).mpr hk⟩
  · exact ⟨_, .tail _ (.tail _ (.tail _ (.tail _ (.tail _ (.head _))))), (mem_strided (by decide) _ _ y).mpr hk⟩
  · exact ⟨_, .tail _ (.tail _ (.tail _ (.tail _ (.head _)))), (mem_strided (by decide) _ _ y).mpr hk⟩
  · exact ⟨_, .tail _ (.tail _ (.tail _ (.head _))), (mem_strided (by decide) _ _ y).mpr hk⟩
  · exact ⟨_, .tail _ (.tail _ (.head _)), (mem_strided (by decide) _ _ y).mpr hk⟩
  · exact ⟨_, .tail _ (.head _), (mem_strided (by decide) _ _ y).mpr hk⟩
  · exact ⟨_, .head _, (mem_strided (by decide) _ _ y).mpr hk⟩

/-- And each is its part of the answer. -/
theorem answer_pieces (X : FVec F S128x2048 .bf16) (G : FVec F S2048x1536 .bf16) (D : FVec F S768x2048 .bf16) :
    View.PiecesOf (spread (answer X G D)) (answerPieces X G D) :=
  ⟨slice_piece (s := 15) (by decide) (show 1920 = 15 * 128 from rfl) (answer X G D) slices_S128x2048_o0_1920_S128x128 inb_S2048x128_S128x128_15_0_s_16_1 spos_16_1,
     slice_piece (s := 14) (by decide) (show 1792 = 14 * 128 from rfl) (answer X G D) slices_S128x2048_o0_1792_S128x128 inb_S2048x128_S128x128_14_0_s_16_1 spos_16_1,
     slice_piece (s := 13) (by decide) (show 1664 = 13 * 128 from rfl) (answer X G D) slices_S128x2048_o0_1664_S128x128 inb_S2048x128_S128x128_13_0_s_16_1 spos_16_1,
     slice_piece (s := 12) (by decide) (show 1536 = 12 * 128 from rfl) (answer X G D) slices_S128x2048_o0_1536_S128x128 inb_S2048x128_S128x128_12_0_s_16_1 spos_16_1,
     slice_piece (s := 11) (by decide) (show 1408 = 11 * 128 from rfl) (answer X G D) slices_S128x2048_o0_1408_S128x128 inb_S2048x128_S128x128_11_0_s_16_1 spos_16_1,
     slice_piece (s := 10) (by decide) (show 1280 = 10 * 128 from rfl) (answer X G D) slices_S128x2048_o0_1280_S128x128 inb_S2048x128_S128x128_10_0_s_16_1 spos_16_1,
     slice_piece (s := 9) (by decide) (show 1152 = 9 * 128 from rfl) (answer X G D) slices_S128x2048_o0_1152_S128x128 inb_S2048x128_S128x128_9_0_s_16_1 spos_16_1,
     slice_piece (s := 8) (by decide) (show 1024 = 8 * 128 from rfl) (answer X G D) slices_S128x2048_o0_1024_S128x128 inb_S2048x128_S128x128_8_0_s_16_1 spos_16_1,
     slice_piece (s := 7) (by decide) (show 896 = 7 * 128 from rfl) (answer X G D) slices_S128x2048_o0_896_S128x128 inb_S2048x128_S128x128_7_0_s_16_1 spos_16_1,
     slice_piece (s := 6) (by decide) (show 768 = 6 * 128 from rfl) (answer X G D) slices_S128x2048_o0_768_S128x128 inb_S2048x128_S128x128_6_0_s_16_1 spos_16_1,
     slice_piece (s := 5) (by decide) (show 640 = 5 * 128 from rfl) (answer X G D) slices_S128x2048_o0_640_S128x128 inb_S2048x128_S128x128_5_0_s_16_1 spos_16_1,
     slice_piece (s := 4) (by decide) (show 512 = 4 * 128 from rfl) (answer X G D) slices_S128x2048_o0_512_S128x128 inb_S2048x128_S128x128_4_0_s_16_1 spos_16_1,
     slice_piece (s := 3) (by decide) (show 384 = 3 * 128 from rfl) (answer X G D) slices_S128x2048_o0_384_S128x128 inb_S2048x128_S128x128_3_0_s_16_1 spos_16_1,
     slice_piece (s := 2) (by decide) (show 256 = 2 * 128 from rfl) (answer X G D) slices_S128x2048_o0_256_S128x128 inb_S2048x128_S128x128_2_0_s_16_1 spos_16_1,
     slice_piece (s := 1) (by decide) (show 128 = 1 * 128 from rfl) (answer X G D) slices_S128x2048_o0_128_S128x128 inb_S2048x128_S128x128_1_0_s_16_1 spos_16_1,
     slice_piece (s := 0) (by decide) (show 0 = 0 * 128 from rfl) (answer X G D) slices_S128x2048_o0_0_S128x128 inb_S2048x128_S128x128_0_0_s_16_1 spos_16_1, trivial⟩

/-- So together they leave the answer, spread over the row pieces. -/
theorem answer_canon (X : FVec F S128x2048 .bf16) (G : FVec F S2048x1536 .bf16) (D : FVec F S768x2048 .bf16) :
    View.canon (answerPieces X G D) = spread (answer X G D) :=
  funext fun y => View.canon_apply_of_pieces _ _ (answer_pieces X G D).mem y (answer_cover X G D y)

section Runs

variable (c : Dev nD) (i : grid0.Coords) (arg3 : Memref sig .tc .vmem S2048x128 .f32) (harg3 : arg3.IsWhole)
    (arg4 : Memref sig .tc .vmem S1x1x2048x1536 .f32) (harg4 : arg4.IsWhole) (arg5 : Memref sig .tc .vmem S1x1x768x2048 .f32) (harg5 : arg5.IsWhole)
    (arg6 : Memref sig .tc .vmem S2048x128 .f32) (harg6 : arg6.IsWhole) (T0 : S320.Idx → Elt F .i32) (T1 : S1.Idx → Elt F .i32)
    (x0 : S2048x128.Idx → Elt F .f32) (x1 : S1x1x2048x1536.Idx → Elt F .f32) (x2 : S1x1x768x2048.Idx → Elt F .f32)
    (xa0 : Buf (Elt F) ((c : Thread nD τ).loc cc0_scratch0)) (xa1 : Buf (Elt F) ((c : Thread nD τ).loc cc0_scratch1)) (xa2 : Buf (Elt F) ((c : Thread nD τ).loc cc0_scratch2))

theorem skipUsed_pieces (hc0 h2 h3) :
    (runSkipUsed c i arg3 harg3 arg4 harg4 arg5 harg5 arg6 harg6 T0 T1 x0 x1 x2 xa0 xa1 xa2 hc0 h2 h3).1
      = answerPieces (gathered x0) (scrG.view.read (Elt F) xa1) (scrD.view.read (Elt F) xa2) := by
  have e : (runSkipUsed c i arg3 harg3 arg4 harg4 arg5 harg5 arg6 harg6 T0 T1 x0 x1 x2 xa0 xa1 xa2 hc0 h2 h3).1
      = answerPieces (runSkipUsed.sl.v99 arg3 x0)
        (View.readAt (Elt F) scrG.view (Rect.unit ![0, 0] S2048x1536.size inb_S2048x1536_S2048x1536_0_0).toLoadRect xa1)
        (View.readAt (Elt F) scrD.view (Rect.unit ![0, 0] S768x2048.size inb_S768x2048_S768x2048_0_0).toLoadRect xa2) := rfl
  rw [e, gathered_ofSkip]
  exact congr (congrArg _ (View.readAt_full scrG.view xa1 _)) (View.readAt_full scrD.view xa2 _)

theorem loadUsed_pieces (hc0 h2 h3) :
    (runLoadUsed c i arg3 harg3 arg4 harg4 arg5 harg5 arg6 harg6 T0 T1 x0 x1 x2 xa0 xa1 xa2 hc0 h2 h3).1
      = answerPieces (gathered x0) (k0_pay1 x1) (k0_pay2 x2) := by
  have e : (runLoadUsed c i arg3 harg3 arg4 harg4 arg5 harg5 arg6 harg6 T0 T1 x0 x1 x2 xa0 xa1 xa2 hc0 h2 h3).1
      = answerPieces (runLoadUsed.sl.v99 arg3 x0) (runLoadUsed.sl.v100 arg4 x1) (runLoadUsed.sl.v114 arg5 x2) := rfl
  have eG : runLoadUsed.sl.v100 arg4 x1 = k0_pay1 x1 :=
    (View.readCov_full (Val := Elt F) scrG.view _ inb_S2048x1536_S2048x1536_0_0 _ []).trans (congrArg k0_pay1 (weightsG_read arg4.view x1 _))
  have eD : runLoadUsed.sl.v114 arg5 x2 = k0_pay2 x2 :=
    (View.readCov_full (Val := Elt F) scrD.view _ inb_S768x2048_S768x2048_0_0 _ []).trans (congrArg k0_pay2 (weightsD_read arg5.view x2 _))
  rw [e, gathered_ofLoad, eG, eD]

theorem loadUsed_weightsG (hc0 h2 h3) :
    scrG.view.read (Elt F) (runLoadUsed c i arg3 harg3 arg4 harg4 arg5 harg5 arg6 harg6 T0 T1 x0 x1 x2 xa0 xa1 xa2 hc0 h2 h3).2.2.1
      = k0_pay1 x1 := by
  have e' : runLoadUsed.sl.HS1_1 arg4 x1 = [⟨Rect.unit (s := S2048x1536) ![0, 0] S2048x1536.size inb_S2048x1536_S2048x1536_0_0,
          k0_pay1 (View.readAt (Elt F) arg4.view
            (Rect.unit (s := S1x1x2048x1536) ![0, 0, 0, 0] S1x1x2048x1536.size inb_S1x1x2048x1536_S1x1x2048x1536_0_0_0_0).toLoadRect (arg4.view.rep x1))⟩] := rfl
  have e : (runLoadUsed c i arg3 harg3 arg4 harg4 arg5 harg5 arg6 harg6 T0 T1 x0 x1 x2 xa0 xa1 xa2 hc0 h2 h3).2.2.1
      = scrG.view.writes (Elt F) scrG.view.junk (runLoadUsed.sl.HS1_1 arg4 x1) := by unfold runLoadUsed; with_reducible rfl
  rw [e, e', View.read_writes_full, weightsG_read]

theorem loadUsed_weightsD (hc0 h2 h3) :
    scrD.view.read (Elt F) (runLoadUsed c i arg3 harg3 arg4 harg4 arg5 harg5 arg6 harg6 T0 T1 x0 x1 x2 xa0 xa1 xa2 hc0 h2 h3).2.2.2.1
      = k0_pay2 x2 := by
  have e' : runLoadUsed.sl.HS2_1 arg5 x2 = [⟨Rect.unit (s := S768x2048) ![0, 0] S768x2048.size inb_S768x2048_S768x2048_0_0,
          k0_pay2 (View.readAt (Elt F) arg5.view
            (Rect.unit (s := S1x1x768x2048) ![0, 0, 0, 0] S1x1x768x2048.size inb_S1x1x768x2048_S1x1x768x2048_0_0_0_0).toLoadRect (arg5.view.rep x2))⟩] := rfl
  have e : (runLoadUsed c i arg3 harg3 arg4 harg4 arg5 harg5 arg6 harg6 T0 T1 x0 x1 x2 xa0 xa1 xa2 hc0 h2 h3).2.2.2.1
      = scrD.view.writes (Elt F) scrD.view.junk (runLoadUsed.sl.HS2_1 arg5 x2) := by unfold runLoadUsed; with_reducible rfl
  rw [e, e', View.read_writes_full, weightsD_read]

theorem loadIdle_weightsG (hc0 h2 h3) :
    scrG.view.read (Elt F) (runLoadIdle c i arg3 harg3 arg4 harg4 arg5 harg5 arg6 harg6 T0 T1 x0 x1 x2 xa0 xa1 xa2 hc0 h2 h3).2.2.1
      = k0_pay1 x1 := by
  have e' : runLoadIdle.sl.HS1_1 arg4 x1 = [⟨Rect.unit (s := S2048x1536) ![0, 0] S2048x1536.size inb_S2048x1536_S2048x1536_0_0,
          k0_pay1 (View.readAt (Elt F) arg4.view
            (Rect.unit (s := S1x1x2048x1536) ![0, 0, 0, 0] S1x1x2048x1536.size inb_S1x1x2048x1536_S1x1x2048x1536_0_0_0_0).toLoadRect (arg4.view.rep x1))⟩] := rfl
  have e : (runLoadIdle c i arg3 harg3 arg4 harg4 arg5 harg5 arg6 harg6 T0 T1 x0 x1 x2 xa0 xa1 xa2 hc0 h2 h3).2.2.1
      = scrG.view.writes (Elt F) scrG.view.junk (runLoadIdle.sl.HS1_1 arg4 x1) := by unfold runLoadIdle; with_reducible rfl
  rw [e, e', View.read_writes_full, weightsG_read]

theorem loadIdle_weightsD (hc0 h2 h3) :
    scrD.view.read (Elt F) (runLoadIdle c i arg3 harg3 arg4 harg4 arg5 harg5 arg6 harg6 T0 T1 x0 x1 x2 xa0 xa1 xa2 hc0 h2 h3).2.2.2.1
      = k0_pay2 x2 := by
  have e' : runLoadIdle.sl.HS2_1 arg5 x2 = [⟨Rect.unit (s := S768x2048) ![0, 0] S768x2048.size inb_S768x2048_S768x2048_0_0,
          k0_pay2 (View.readAt (Elt F) arg5.view
            (Rect.unit (s := S1x1x768x2048) ![0, 0, 0, 0] S1x1x768x2048.size inb_S1x1x768x2048_S1x1x768x2048_0_0_0_0).toLoadRect (arg5.view.rep x2))⟩] := rfl
  have e : (runLoadIdle c i arg3 harg3 arg4 harg4 arg5 harg5 arg6 harg6 T0 T1 x0 x1 x2 xa0 xa1 xa2 hc0 h2 h3).2.2.2.1
      = scrD.view.writes (Elt F) scrD.view.junk (runLoadIdle.sl.HS2_1 arg5 x2) := by unfold runLoadIdle; with_reducible rfl
  rw [e, e', View.read_writes_full, weightsD_read]

theorem loadIdle_pieces (hc0 h2 h3) (f : arg6.view.ty.Contents (Elt F)) :
    arg6.view.read (Elt F) (arg6.view.writes (Elt F) f
      (runLoadIdle c i arg3 harg3 arg4 harg4 arg5 harg5 arg6 harg6 T0 T1 x0 x1 x2 xa0 xa1 xa2 hc0 h2 h3).1) = k0_pay8 (F := F) := by
  have e : (runLoadIdle c i arg3 harg3 arg4 harg4 arg5 harg5 arg6 harg6 T0 T1 x0 x1 x2 xa0 xa1 xa2 hc0 h2 h3).1
      = [⟨Rect.unit (s := S2048x128) ![0, 0] S2048x128.size inb_S2048x128_S2048x128_0_0, k0_pay8 (F := F)⟩] := rfl
  rw [e]
  exact View.read_writes_full arg6.view f inb_S2048x128_S2048x128_0_0 (k0_pay8 (F := F)) []

theorem skipIdle_pieces (hc0 h2 h3) (f : arg6.view.ty.Contents (Elt F)) :
    arg6.view.read (Elt F) (arg6.view.writes (Elt F) f
      (runSkipIdle c i arg3 harg3 arg4 harg4 arg5 harg5 arg6 harg6 T0 T1 x0 x1 x2 xa0 xa1 xa2 hc0 h2 h3).1) = k0_pay8 (F := F) := by
  have e : (runSkipIdle c i arg3 harg3 arg4 harg4 arg5 harg5 arg6 harg6 T0 T1 x0 x1 x2 xa0 xa1 xa2 hc0 h2 h3).1
      = [⟨Rect.unit (s := S2048x128) ![0, 0] S2048x128.size inb_S2048x128_S2048x128_0_0, k0_pay8 (F := F)⟩] := rfl
  rw [e]
  exact View.read_writes_full arg6.view f inb_S2048x128_S2048x128_0_0 (k0_pay8 (F := F)) []

theorem skipUsed_stored (hc0 h2 h3) (f : arg6.view.ty.Contents (Elt F)) :
    arg6.view.read (Elt F) (arg6.view.writes (Elt F) f
      (runSkipUsed c i arg3 harg3 arg4 harg4 arg5 harg5 arg6 harg6 T0 T1 x0 x1 x2 xa0 xa1 xa2 hc0 h2 h3).1)
      = spread (answer (gathered x0) (scrG.view.read (Elt F) xa1) (scrD.view.read (Elt F) xa2)) := by
  rw [skipUsed_pieces, View.read_writes_eq_canon _ _ _ (answer_cover _ _ _), answer_canon]

theorem loadUsed_stored (hc0 h2 h3) (f : arg6.view.ty.Contents (Elt F)) :
    arg6.view.read (Elt F) (arg6.view.writes (Elt F) f
      (runLoadUsed c i arg3 harg3 arg4 harg4 arg5 harg5 arg6 harg6 T0 T1 x0 x1 x2 xa0 xa1 xa2 hc0 h2 h3).1)
      = spread (answer (gathered x0) (k0_pay1 x1) (k0_pay2 x2)) := by
  rw [loadUsed_pieces, View.read_writes_eq_canon _ _ _ (answer_cover _ _ _), answer_canon]

end Runs

end Cert.ExpertsIdeal.Body

end
-- ==== Proof.ExpertsIdealPoint.lean ====
/-
  (For the program read over the extended reals; the same text as for the program itself.)
  One grid point of the experts' kernel, its four ways joined: whatever the branches, the output buffer ends at the
  block's answer (or at zeros), and the weight buffers at the reloaded weights (or as they were).
-/
module

public import proofs.«01_k».proof.Proof.ExpertsIdealBlock

@[expose] public section

set_option maxRecDepth 16384
set_option Elab.async false

noncomputable section

namespace Cert.ExpertsIdeal.Body

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The first weight matrix after the point. -/
def nextG (i : grid0.Coords) (T0 : S320.Idx → Elt F .i32) (x1 : S1x1x2048x1536.Idx → Elt F .f32) (G : FVec F S2048x1536 .bf16) :
    FVec F S2048x1536 .bf16 :=
  if loadWord i T0 = 1#1 then k0_pay1 x1 else G

/-- The second weight matrix after the point. -/
def nextD (i : grid0.Coords) (T0 : S320.Idx → Elt F .i32) (x2 : S1x1x768x2048.Idx → Elt F .f32) (D : FVec F S768x2048 .bf16) :
    FVec F S768x2048 .bf16 :=
  if loadWord i T0 = 1#1 then k0_pay2 x2 else D

/-- The output block after the point. -/
def stored (i : grid0.Coords) (T1 : S1.Idx → Elt F .i32) (x0 : S2048x128.Idx → Elt F .f32)
    (G : FVec F S2048x1536 .bf16) (D : FVec F S768x2048 .bf16) : S2048x128.Idx → Elt F .f32 :=
  if k0_cond2 i (usedWord T1) = 1#1 then spread (answer (gathered x0) G D) else k0_pay8 (F := F)

set_option maxHeartbeats 4000000 in
/-- One point: from the blocks, the tables and any contents of the buffers, the body ends with the output block stored and the
    weight buffers as `nextG` and `nextD` say. -/
theorem point_spec (c : Dev nD) (i : grid0.Coords) (arg3 : Memref sig .tc .vmem S2048x128 .f32) (harg3 : arg3.IsWhole)
    (arg4 : Memref sig .tc .vmem S1x1x2048x1536 .f32) (harg4 : arg4.IsWhole) (arg5 : Memref sig .tc .vmem S1x1x768x2048 .f32) (harg5 : arg5.IsWhole)
    (arg6 : Memref sig .tc .vmem S2048x128 .f32) (harg6 : arg6.IsWhole) (T0 : S320.Idx → Elt F .i32) (T1 : S1.Idx → Elt F .i32)
    (x0 : S2048x128.Idx → Elt F .f32) (x1 : S1x1x2048x1536.Idx → Elt F .f32) (x2 : S1x1x768x2048.Idx → Elt F .f32)
    (xa0 : Buf (Elt F) ((c : Thread nD τ).loc cc0_scratch0)) (xa1 : Buf (Elt F) ((c : Thread nD τ).loc cc0_scratch1)) (xa2 : Buf (Elt F) ((c : Thread nD τ).loc cc0_scratch2))
    (hx : k0_cond3 i (usedWord T1) = 1#1 ↔ ¬ k0_cond2 i (usedWord T1) = 1#1) (K : PUnit → sProp (World F)) :
    iprop(owns (c : Thread nD τ) arg3 fullShare x0
      ∗ owns (c : Thread nD τ) arg4 fullShare x1
      ∗ owns (c : Thread nD τ) arg5 fullShare x2
      ∗ (tabE.view.loc (c : Thread nD τ) ↦{fullShare.right} T0)
      ∗ (tabN.view.loc (c : Thread nD τ) ↦{fullShare.right} T1)
      ∗ (∃ d, owns (c : Thread nD τ) arg6 fullShare d)
      ∗ (scrX.view.loc (c : Thread nD τ) ↦{fullShare} xa0)
      ∗ (scrG.view.loc (c : Thread nD τ) ↦{fullShare} xa1)
      ∗ (scrD.view.loc (c : Thread nD τ) ↦{fullShare} xa2)
      ∗ (iprop(owns (c : Thread nD τ) arg3 fullShare x0
          ∗ owns (c : Thread nD τ) arg4 fullShare x1
          ∗ owns (c : Thread nD τ) arg5 fullShare x2
          ∗ (tabE.view.loc (c : Thread nD τ) ↦{fullShare.right} T0)
          ∗ (tabN.view.loc (c : Thread nD τ) ↦{fullShare.right} T1)
          ∗ owns (c : Thread nD τ) arg6 fullShare (stored i T1 x0 (nextG i T0 x1 (scrG.view.read (Elt F) xa1)) (nextD i T0 x2 (scrD.view.read (Elt F) xa2)))
          ∗ (∃ a, scrX.view.loc (c : Thread nD τ) ↦{fullShare} a)
          ∗ (∃ a, ⌜scrG.view.read (Elt F) a = nextG i T0 x1 (scrG.view.read (Elt F) xa1)⌝ ∗ (scrG.view.loc (c : Thread nD τ) ↦{fullShare} a))
          ∗ (∃ a, ⌜scrD.view.read (Elt F) a = nextD i T0 x2 (scrD.view.read (Elt F) xa2)⌝ ∗ (scrD.view.loc (c : Thread nD τ) ↦{fullShare} a))) -∗ K ⟨⟩))
      ⊢ wp frame (wpE (defs₀ (F := F)) Variants.none c none) Set.univ (cc0_moe_experts i tabE (Memref.isWhole_whole _) tabN (Memref.isWhole_whole _) arg3 harg3 arg4 harg4 arg5 harg5 arg6 harg6 scrX (Memref.isWhole_whole _) scrG (Memref.isWhole_whole _) scrD (Memref.isWhole_whole _)) K := by
  by_cases h2 : k0_cond2 i (usedWord T1) = 1#1
  · have h3 : ¬ k0_cond3 i (usedWord T1) = 1#1 := fun h => hx.mp h h2
    by_cases hc0 : loadWord i T0 = 1#1
    · iintro ⟨H0, H1, H2, HT0, HT1, HO, HS0, HS1, HS2, Hk⟩
      iapply ((runLoadUsed c i arg3 harg3 arg4 harg4 arg5 harg5 arg6 harg6 T0 T1 x0 x1 x2 xa0 xa1 xa2 hc0 h2 h3).2.2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [HO]; · iexact HO
      isplitl [HS0]; · iexact HS0
      isplitl [HS1]; · iexact HS1
      isplitl [HS2]; · iexact HS2
      iintro ⟨H0, H1, H2, HT0, HT1, ⟨%e3, H3⟩, HS0, HS1, HS2⟩
      iapply Hk
      isplitl [H0]; · iapply owns_of_rep; iexact H0
      isplitl [H1]; · iapply owns_of_rep; iexact H1
      isplitl [H2]; · iapply owns_of_rep; iexact H2
      isplitl [HT0]; · iexact HT0
      isplitl [HT1]; · iexact HT1
      isplitl [H3]
      · unfold owns; iexists _; isplitr; swap
        · iexact H3
        · ipureintro
          rw [stored, if_pos h2, nextG, if_pos hc0, nextD, if_pos hc0]
          exact loadUsed_stored c i arg3 harg3 arg4 harg4 arg5 harg5 arg6 harg6 T0 T1 x0 x1 x2 xa0 xa1 xa2 hc0 h2 h3 e3
      isplitl [HS0]; · iexists _; iexact HS0
      isplitl [HS1]
      · iexists _; isplitr; swap
        · iexact HS1
        · ipureintro
          rw [nextG, if_pos hc0]
          exact loadUsed_weightsG c i arg3 harg3 arg4 harg4 arg5 harg5 arg6 harg6 T0 T1 x0 x1 x2 xa0 xa1 xa2 hc0 h2 h3
      iexists _; isplitr; swap
      · iexact HS2
      · ipureintro
        rw [nextD, if_pos hc0]
        exact loadUsed_weightsD c i arg3 harg3 arg4 harg4 arg5 harg5 arg6 harg6 T0 T1 x0 x1 x2 xa0 xa1 xa2 hc0 h2 h3
    · iintro ⟨H0, H1, H2, HT0, HT1, HO, HS0, HS1, HS2, Hk⟩
      iapply ((runSkipUsed c i arg3 harg3 arg4 harg4 arg5 harg5 arg6 harg6 T0 T1 x0 x1 x2 xa0 xa1 xa2 hc0 h2 h3).2.2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [HO]; · iexact HO
      isplitl [HS0]; · iexact HS0
      isplitl [HS1]; · iexact HS1
      isplitl [HS2]; · iexact HS2
      iintro ⟨H0, H1, H2, HT0, HT1, ⟨%e3, H3⟩, HS0, HS1, HS2⟩
      iapply Hk
      isplitl [H0]; · iapply owns_of_rep; iexact H0
      isplitl [H1]; · iapply owns_of_rep; iexact H1
      isplitl [H2]; · iapply owns_of_rep; iexact H2
      isplitl [HT0]; · iexact HT0
      isplitl [HT1]; · iexact HT1
      isplitl [H3]
      · unfold owns; iexists _; isplitr; swap
        · iexact H3
        · ipureintro
          rw [stored, if_pos h2, nextG, if_neg hc0, nextD, if_neg hc0]
          exact skipUsed_stored c i arg3 harg3 arg4 harg4 arg5 harg5 arg6 harg6 T0 T1 x0 x1 x2 xa0 xa1 xa2 hc0 h2 h3 e3
      isplitl [HS0]; · iexists _; iexact HS0
      isplitl [HS1]
      · iexists _; isplitr; swap
        · iexact HS1
        · ipureintro
          rw [nextG, if_neg hc0]; rfl
      iexists _; isplitr; swap
      · iexact HS2
      · ipureintro
        rw [nextD, if_neg hc0]; rfl
  · have h3 : k0_cond3 i (usedWord T1) = 1#1 := hx.mpr h2
    by_cases hc0 : loadWord i T0 = 1#1
    · iintro ⟨H0, H1, H2, HT0, HT1, HO, HS0, HS1, HS2, Hk⟩
      iapply ((runLoadIdle c i arg3 harg3 arg4 harg4 arg5 harg5 arg6 harg6 T0 T1 x0 x1 x2 xa0 xa1 xa2 hc0 h2 h3).2.2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [HO]; · iexact HO
      isplitl [HS0]; · iexact HS0
      isplitl [HS1]; · iexact HS1
      isplitl [HS2]; · iexact HS2
      iintro ⟨H0, H1, H2, HT0, HT1, ⟨%e3, H3⟩, HS0, HS1, HS2⟩
      iapply Hk
      isplitl [H0]; · iapply owns_of_rep; iexact H0
      isplitl [H1]; · iapply owns_of_rep; iexact H1
      isplitl [H2]; · iapply owns_of_rep; iexact H2
      isplitl [HT0]; · iexact HT0
      isplitl [HT1]; · iexact HT1
      isplitl [H3]
      · unfold owns; iexists _; isplitr; swap
        · iexact H3
        · ipureintro
          rw [stored, if_neg h2]
          exact loadIdle_pieces c i arg3 harg3 arg4 harg4 arg5 harg5 arg6 harg6 T0 T1 x0 x1 x2 xa0 xa1 xa2 hc0 h2 h3 e3
      isplitl [HS0]; · iexists _; iexact HS0
      isplitl [HS1]
      · iexists _; isplitr; swap
        · iexact HS1
        · ipureintro
          rw [nextG, if_pos hc0]
          exact loadIdle_weightsG c i arg3 harg3 arg4 harg4 arg5 harg5 arg6 harg6 T0 T1 x0 x1 x2 xa0 xa1 xa2 hc0 h2 h3
      iexists _; isplitr; swap
      · iexact HS2
      · ipureintro
        rw [nextD, if_pos hc0]
        exact loadIdle_weightsD c i arg3 harg3 arg4 harg4 arg5 harg5 arg6 harg6 T0 T1 x0 x1 x2 xa0 xa1 xa2 hc0 h2 h3
    · iintro ⟨H0, H1, H2, HT0, HT1, HO, HS0, HS1, HS2, Hk⟩
      iapply ((runSkipIdle c i arg3 harg3 arg4 harg4 arg5 harg5 arg6 harg6 T0 T1 x0 x1 x2 xa0 xa1 xa2 hc0 h2 h3).2.2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [HO]; · iexact HO
      isplitl [HS0]; · iexact HS0
      isplitl [HS1]; · iexact HS1
      isplitl [HS2]; · iexact HS2
      iintro ⟨H0, H1, H2, HT0, HT1, ⟨%e3, H3⟩, HS0, HS1, HS2⟩
      iapply Hk
      isplitl [H0]; · iapply owns_of_rep; iexact H0
      isplitl [H1]; · iapply owns_of_rep; iexact H1
      isplitl [H2]; · iapply owns_of_rep; iexact H2
      isplitl [HT0]; · iexact HT0
      isplitl [HT1]; · iexact HT1
      isplitl [H3]
      · unfold owns; iexists _; isplitr; swap
        · iexact H3
        · ipureintro
          rw [stored, if_neg h2]
          exact skipIdle_pieces c i arg3 harg3 arg4 harg4 arg5 harg5 arg6 harg6 T0 T1 x0 x1 x2 xa0 xa1 xa2 hc0 h2 h3 e3
      isplitl [HS0]; · iexists _; iexact HS0
      isplitl [HS1]
      · iexists _; isplitr; swap
        · iexact HS1
        · ipureintro
          rw [nextG, if_neg hc0]; rfl
      iexists _; isplitr; swap
      · iexact HS2
      · ipureintro
        rw [nextD, if_neg hc0]; rfl

end Cert.ExpertsIdeal.Body

end
-- ==== Proof.ExpertsIdealSchedule.lean ====
/-
  (For the program read over the extended reals; the same text as for the program itself.)
  What the experts' kernel decides from its two tables: when a block is in use, and when its weights must be fetched
  again.  If they are not fetched again, the block's expert is the one of the block before.
-/
module

public import proofs.«01_k».proof.Proof.ExpertsIdealPoint
public import Idealize.ShloMosaic.Lib.WordCmp

@[expose] public section

set_option maxRecDepth 16384
set_option Elab.async false

noncomputable section

namespace Cert.ExpertsIdeal.Body

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A block is skipped exactly when it is not in use. -/
theorem skipped_iff (i : grid0.Coords) (n : BitVec 32) : k0_cond3 i n = 1#1 ↔ ¬ k0_cond2 i n = 1#1 := by
  have key : ∀ p : Bool, (Scalar.cmpi .ne (Scalar.extui (BitVec.ofBool (!p)) : BitVec 32) 0#32 = 1#1)
      ↔ ¬ (Scalar.cmpi .ne (Scalar.extui (BitVec.ofBool p) : BitVec 32) 0#32 = 1#1) := by decide
  have h := key (decide ((BitVec.ofNat 32 (i 0).val).toInt < n.toInt))
  have e : (!decide ((BitVec.ofNat 32 (i 0).val).toInt < n.toInt)) = decide (n.toInt ≤ (BitVec.ofNat 32 (i 0).val).toInt) := by
    rw [← decide_not]; exact decide_eq_decide.mpr not_lt
  rw [e] at h
  exact h

/-- The cell of the experts' table that a block reads. -/
def cell (n : ℕ) (h : n < 320) : S320.Idx := ix1 ⟨n, h⟩

theorem coord_lt (i : grid0.Coords) : (i 0).val < 320 := (i 0).isLt

/-- The offset of the word a block reads. -/
theorem off1_val (i : grid0.Coords) : k0_off1 i 0 = (i 0).val := by
  have h := coord_lt i
  show (BitVec.ofNat 32 (i 0).val).toNat = _
  rw [BitVec.toNat_ofNat]; omega

/-- The offset of the word before. -/
theorem off2_val (i : grid0.Coords) : k0_off2 i 0 = (i 0).val - 1 := by
  have h := coord_lt i
  have all : ∀ n : Fin 320, (Scalar.indexCast (Scalar.maxsi (Scalar.subi (BitVec.ofNat 32 n.val) 1#32) 0#32)).toNat = n.val - 1 := by decide
  exact all ⟨(i 0).val, h⟩

theorem read1 (i : grid0.Coords) (T0 : S320.Idx → Elt F .i32) :
    View.readAt (Elt F) tabE.view (Rect.unit (s := S320) (k0_off1 i) S1.size (k0_off1_inb i)).toLoadRect T0
      (Shape.Idx.first (numel1_S1.symm ▸ Nat.one_pos)) = T0 (cell (i 0).val (coord_lt i)) := by
  show T0 _ = T0 _
  refine congrArg T0 (funext fun a => Fin.ext ?_)
  obtain rfl : a = (0 : Fin 1) := Subsingleton.elim (α := Fin 1) _ _
  show k0_off1 i 0 + 1 * 0 = (i 0).val
  rw [off1_val]; omega

theorem read2 (i : grid0.Coords) (T0 : S320.Idx → Elt F .i32) :
    View.readAt (Elt F) tabE.view (Rect.unit (s := S320) (k0_off2 i) S1.size (k0_off2_inb i)).toLoadRect T0
      (Shape.Idx.first (numel1_S1.symm ▸ Nat.one_pos)) = T0 (cell ((i 0).val - 1) (by have := coord_lt i; omega)) := by
  show T0 _ = T0 _
  refine congrArg T0 (funext fun a => Fin.ext ?_)
  obtain rfl : a = (0 : Fin 1) := Subsingleton.elim (α := Fin 1) _ _
  show k0_off2 i 0 + 1 * 0 = (i 0).val - 1
  rw [off2_val]; omega

/-- Weights are kept only by a block that is not the first and has the expert of the block before. -/
theorem kept (i : grid0.Coords) (T0 : S320.Idx → Elt F .i32) (h : ¬ loadWord i T0 = 1#1) :
    (i 0).val ≠ 0 ∧ T0 (cell (i 0).val (coord_lt i)) = T0 (cell ((i 0).val - 1) (by have := coord_lt i; omega)) := by
  have key : ∀ A B : BitVec 1, ¬ (Scalar.cmpi .ne (Scalar.extui (Scalar.ori A B) : BitVec 32) 0#32 = 1#1) → A ≠ 1#1 ∧ B ≠ 1#1 := by decide
  obtain ⟨hA, hB⟩ := key _ _ h
  rw [read1, read2] at hB
  constructor
  · intro h0
    rw [h0] at hA
    exact hA (by decide)
  · by_contra hne
    refine hB ?_
    show IntOp.cmpi .ne _ _ = _
    rw [WordCmp.cmpi_ne_eq, decide_eq_true hne]; rfl

end Cert.ExpertsIdeal.Body

end
-- ==== Proof.ExpertsIdealLaunch.lean ====
/-
  (For the program read over the extended reals; the same text as for the program itself.)
  The experts' kernel run over its whole grid, at any tables that name experts in range.

  Between two blocks the two weight buffers hold the cast weights of the expert of the block before.  Either the next
  block fetches its own, or its expert is the same one; so at every block the buffers hold that block's expert's
  weights, and the output block is the expert's answer on the block's rows (zeros for a block not in use).
-/
module

public import proofs.«01_k».proof.Proof.ExpertsIdealSchedule
public import Idealize.ShloMosaic.Lib.Pipeline.Quiescent
public import Idealize.ShloMosaic.Lib.Claim

@[expose] public section

set_option maxRecDepth 16384
set_option Elab.async false

noncomputable section

namespace Cert.ExpertsIdeal.Body

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (a : (pcfg0 (F := F)).Adm) (m : (ℓ : Loc nD τ sig) → Buf (Elt F) ℓ) (ρ : Dev nD → PrngReg)

/-- The pipeline at the tables' contents. -/
abbrev cfgA : Cfg sig Λ₀ := cfg0 (F := F) a
abbrev pcs : Fin 1 → Cfg sig Λ₀ := Pipeline.pin (pcfgs (F := F)) fun _ => a
abbrev EP : Emb (UR sig nD τ) (World F) := emb₁

/-- The table of experts, and the number of blocks in use. -/
abbrev tabsE : S320.Idx → Elt F .i32 := a.1 0
abbrev tabsN : S1.Idx → Elt F .i32 := a.1 1

/-- A point's coordinates. -/
abbrev crd (t : Fin (cfgA a).N) : (cfgA a).grid.Coords := (cfgA a).grid.coords t

abbrev ms0 (t : Fin (cfgA a).N) : Memref sig .tc .vmem S2048x128 .f32 := spec0_0.stage ((cfgA a).slots t (0 : Fin 4))
abbrev hs0 (t : Fin (cfgA a).N) : (ms0 a t).IsWhole := hstage0_0 (((cfgA a).slots t (0 : Fin 4)).cast nbuf0_0)
abbrev ms1 (t : Fin (cfgA a).N) : Memref sig .tc .vmem S1x1x2048x1536 .f32 := spec0_1.stage ((cfgA a).slots t (1 : Fin 4))
abbrev hs1 (t : Fin (cfgA a).N) : (ms1 a t).IsWhole := hstage0_1 (((cfgA a).slots t (1 : Fin 4)).cast nbuf0_1)
abbrev ms2 (t : Fin (cfgA a).N) : Memref sig .tc .vmem S1x1x768x2048 .f32 := spec0_2.stage ((cfgA a).slots t (2 : Fin 4))
abbrev hs2 (t : Fin (cfgA a).N) : (ms2 a t).IsWhole := hstage0_2 (((cfgA a).slots t (2 : Fin 4)).cast nbuf0_2)
abbrev ms3 (t : Fin (cfgA a).N) : Memref sig .tc .vmem S2048x128 .f32 := spec0_3.stage ((cfgA a).slots t (3 : Fin 4))
abbrev hs3 (t : Fin (cfgA a).N) : (ms3 a t).IsWhole := hstage0_3 (((cfgA a).slots t (3 : Fin 4)).cast nbuf0_3)

/-- A window's block at a point, read off its array. -/
def iblk (c : Dev nD) (w : Fin (cfgA a).W) (t : Fin (cfgA a).N) : (((cfgA a).win w).xblock (crd a t)).Idx → Elt F ((cfgA a).win w).elt :=
  (((cfgA a).win w).blk t).view.read (Elt F) ((s₀ m ρ).mem (((cfgA a).win w).arr.view.loc (c : Thread nD τ)))

/-! ## The blocks read off the arrays -/

theorem point_lt (t : Fin (cfgA a).N) : t.val < 320 := lt_of_lt_of_eq t.isLt N_0

/-- The one coordinate of a point is its number. -/
theorem crd_val (t : Fin (cfgA a).N) : (crd a t 0).val = t.val := by
  have h := point_lt a t
  show t.val / 1 % 320 = t.val
  omega

/-- The expert of a block, as the index maps read it. -/
def expertOf (pf : pre0.Contents (Elt F)) (i : grid0.Coords) : ℕ := BitVec.toNat ((pf 0 : S320.Idx → Elt F .i32) (cell (i 0).val (coord_lt i)))

theorem transform1 (pf : pre0.Contents (Elt F)) (i : grid0.Coords) : cc0_transform_1 k0_off1_inb numel1_S1 pf i = ![0, expertOf pf i, 0, 0] := by
  have e : (pf.at 0 (Rect.unit (s := S320) (k0_off1 i) S1.size (k0_off1_inb i)) numel1_S1 : BitVec 32) = (pf 0 : S320.Idx → Elt F .i32) (cell (i 0).val (coord_lt i)) := read1 i (pf 0)
  unfold expertOf
  rw [← e]
  rfl

theorem transform2 (pf : pre0.Contents (Elt F)) (i : grid0.Coords) : cc0_transform_2 k0_off1_inb numel1_S1 pf i = ![0, expertOf pf i, 0, 0] := by
  have e : (pf.at 0 (Rect.unit (s := S320) (k0_off1 i) S1.size (k0_off1_inb i)) numel1_S1 : BitVec 32) = (pf 0 : S320.Idx → Elt F .i32) (cell (i 0).val (coord_lt i)) := read1 i (pf 0)
  unfold expertOf
  rw [← e]
  rfl

/-- Tables that name experts in range are ones the pipeline can run at. -/
theorem ok_of_range (pf : pre0.Contents (Elt F)) (h : ∀ i : grid0.Coords, expertOf pf i < 64) : ok0 pf := by
  refine ⟨fun i => ⟨?_, .inl rfl⟩, fun i => ⟨?_, .inl rfl⟩⟩
  · intro x
    have hi := h i
    rw [transform1]
    fin_cases x
    · show (0 + 1) * 1 ≤ 2; omega
    · show (expertOf pf i + 1) * 1 ≤ 64; omega
    · show (0 + 1) * 2048 ≤ 2048; omega
    · show (0 + 1) * 1536 ≤ 1536; omega
  · intro x
    have hi := h i
    rw [transform2]
    fin_cases x
    · show (0 + 1) * 1 ≤ 2; omega
    · show (expertOf pf i + 1) * 1 ≤ 64; omega
    · show (0 + 1) * 768 ≤ 768; omega
    · show (0 + 1) * 2048 ≤ 2048; omega

/-- The tables name experts in range. -/
theorem expertOf_lt (i : grid0.Coords) : expertOf a.1 i < 64 := by
  obtain ⟨h, -⟩ := a.2.1 i
  have h1 := h 1
  rw [transform1] at h1
  have h2 : (expertOf a.1 i + 1) * 1 ≤ 64 := h1
  omega

/-- An expert's first weight matrix as a block. -/
def rowsG (A : S2x64x2048x1536.Idx → Elt F .f32) (e : Fin 64) : S1x1x2048x1536.Idx → Elt F .f32 := fun j => A (ix4 0 e (j 2) (j 3))
/-- An expert's second weight matrix as a block. -/
def rowsD (A : S2x64x768x2048.Idx → Elt F .f32) (e : Fin 64) : S1x1x768x2048.Idx → Elt F .f32 := fun j => A (ix4 0 e (j 2) (j 3))
/-- A block of the token rows. -/
def rowsX (A : S655360x128.Idx → Elt F .f32) (b : Fin 320) : S2048x128.Idx → Elt F .f32 :=
  fun j => A (ix2 ⟨b.val * 2048 + (j 0).val, by have h : (j 0).val < 2048 := (j 0).isLt; omega⟩ (j 1))

abbrev memX (c : Dev nD) : S655360x128.Idx → Elt F .f32 := m ((c : Thread nD τ).loc main_arg2)
abbrev memG (c : Dev nD) : S2x64x2048x1536.Idx → Elt F .f32 := m ((c : Thread nD τ).loc main_arg3)
abbrev memD (c : Dev nD) : S2x64x768x2048.Idx → Elt F .f32 := m ((c : Thread nD τ).loc main_arg4)

theorem iblk0_eq (c : Dev nD) (t : Fin (cfgA a).N) : (iblk a m ρ c (0 : Fin 4) t : S2048x128.Idx → Elt F .f32) = rowsX (memX m c) ⟨t.val, point_lt a t⟩ := by
  funext j
  show memX m c _ = memX m c _
  refine congrArg (memX m c) (funext fun k => Fin.ext ?_)
  have h := crd_val a t
  have h' := point_lt a t
  fin_cases k
  · show (BitVec.ofNat 32 (crd a t 0).val).toNat * 2048 + 1 * (j 0).val = t.val * 2048 + (j 0).val
    rw [BitVec.toNat_ofNat, h]; omega
  · show 0 * 128 + 1 * (j 1).val = (j 1).val
    omega

theorem iblk1_eq (c : Dev nD) (t : Fin (cfgA a).N) :
    (iblk a m ρ c (1 : Fin 4) t : S1x1x2048x1536.Idx → Elt F .f32) = rowsG (memG m c) ⟨expertOf a.1 (crd a t), expertOf_lt a _⟩ := by
  funext j
  show memG m c _ = memG m c _
  refine congrArg (memG m c) (funext fun k => Fin.ext ?_)
  have h := transform1 a.1 (crd a t)
  have h0 : (j 0).val < 1 := (j 0).isLt
  have h1 : (j 1).val < 1 := (j 1).isLt
  fin_cases k
  · show cc0_transform_1 k0_off1_inb numel1_S1 a.1 (crd a t) 0 * 1 + 1 * (j 0).val = 0
    rw [h]; show 0 * 1 + 1 * (j 0).val = 0; omega
  · show cc0_transform_1 k0_off1_inb numel1_S1 a.1 (crd a t) 1 * 1 + 1 * (j 1).val = expertOf a.1 (crd a t)
    rw [h]; show expertOf a.1 (crd a t) * 1 + 1 * (j 1).val = expertOf a.1 (crd a t); omega
  · show cc0_transform_1 k0_off1_inb numel1_S1 a.1 (crd a t) 2 * 2048 + 1 * (j 2).val = (j 2).val
    rw [h]; show 0 * 2048 + 1 * (j 2).val = (j 2).val; omega
  · show cc0_transform_1 k0_off1_inb numel1_S1 a.1 (crd a t) 3 * 1536 + 1 * (j 3).val = (j 3).val
    rw [h]; show 0 * 1536 + 1 * (j 3).val = (j 3).val; omega

theorem iblk2_eq (c : Dev nD) (t : Fin (cfgA a).N) :
    (iblk a m ρ c (2 : Fin 4) t : S1x1x768x2048.Idx → Elt F .f32) = rowsD (memD m c) ⟨expertOf a.1 (crd a t), expertOf_lt a _⟩ := by
  funext j
  show memD m c _ = memD m c _
  refine congrArg (memD m c) (funext fun k => Fin.ext ?_)
  have h := transform2 a.1 (crd a t)
  have h0 : (j 0).val < 1 := (j 0).isLt
  have h1 : (j 1).val < 1 := (j 1).isLt
  fin_cases k
  · show cc0_transform_2 k0_off1_inb numel1_S1 a.1 (crd a t) 0 * 1 + 1 * (j 0).val = 0
    rw [h]; show 0 * 1 + 1 * (j 0).val = 0; omega
  · show cc0_transform_2 k0_off1_inb numel1_S1 a.1 (crd a t) 1 * 1 + 1 * (j 1).val = expertOf a.1 (crd a t)
    rw [h]; show expertOf a.1 (crd a t) * 1 + 1 * (j 1).val = expertOf a.1 (crd a t); omega
  · show cc0_transform_2 k0_off1_inb numel1_S1 a.1 (crd a t) 2 * 768 + 1 * (j 2).val = (j 2).val
    rw [h]; show 0 * 768 + 1 * (j 2).val = (j 2).val; omega
  · show cc0_transform_2 k0_off1_inb numel1_S1 a.1 (crd a t) 3 * 2048 + 1 * (j 3).val = (j 3).val
    rw [h]; show 0 * 2048 + 1 * (j 3).val = (j 3).val; omega

/-! ## What the weight buffers hold -/

/-- The expert of a block, by the block's number. -/
def expertAt (n : ℕ) (h : n < 320) : Fin 64 :=
  ⟨BitVec.toNat (tabsE a (cell n h)), by
    have e := expertOf_lt a (fun x => ⟨n, by fin_cases x; exact h⟩)
    exact e⟩

/-- A block's first weight matrix, cast. -/
def heldG (c : Dev nD) (n : ℕ) (h : n < 320) : FVec F S2048x1536 .bf16 := k0_pay1 (rowsG (memG m c) (expertAt a n h))
/-- A block's second weight matrix, cast. -/
def heldD (c : Dev nD) (n : ℕ) (h : n < 320) : FVec F S768x2048 .bf16 := k0_pay2 (rowsD (memD m c) (expertAt a n h))

theorem cell_congr {n n' : ℕ} (e : n = n') (h : n < 320) (h' : n' < 320) : cell n h = cell n' h' := by subst e; rfl

theorem expertAt_eq (t : Fin (cfgA a).N) : (⟨expertOf a.1 (crd a t), expertOf_lt a _⟩ : Fin 64) = expertAt a t.val (point_lt a t) := by
  refine Fin.ext ?_
  show BitVec.toNat (tabsE a (cell (crd a t 0).val (coord_lt _))) = BitVec.toNat (tabsE a (cell t.val (point_lt a t)))
  rw [cell_congr (crd_val a t) (coord_lt _) (point_lt a t)]

/-- A block that keeps its weights has the expert of the block before. -/
theorem expertAt_kept (t : Fin (cfgA a).N) (h : ¬ loadWord (crd a t) (tabsE a) = 1#1) :
    t.val ≠ 0 ∧ expertAt a t.val (point_lt a t) = expertAt a (t.val - 1) (by have := point_lt a t; omega) := by
  obtain ⟨h0, h1⟩ := kept (crd a t) (tabsE a) h
  have e := crd_val a t
  have hp := point_lt a t
  constructor
  · rw [← e]; exact h0
  · refine Fin.ext ?_
    show BitVec.toNat (tabsE a (cell t.val _)) = BitVec.toNat (tabsE a (cell (t.val - 1) _))
    rw [cell_congr e (coord_lt _) hp, cell_congr (congrArg (· - 1) e) _ (by omega)] at h1
    rw [h1]

theorem nextG_held (c : Dev nD) (t : Fin (cfgA a).N) (G : FVec F S2048x1536 .bf16)
    (hG : ∀ h : t.val ≠ 0, G = heldG a m c (t.val - 1) (by have := point_lt a t; omega)) :
    nextG (crd a t) (tabsE a) (iblk a m ρ c (1 : Fin 4) t) G = heldG a m c t.val (point_lt a t) := by
  unfold nextG
  by_cases h : loadWord (crd a t) (tabsE a) = 1#1
  · rw [if_pos h]
    exact congrArg k0_pay1 ((iblk1_eq a m ρ c t).trans (congrArg (rowsG (memG m c)) (expertAt_eq a t)))
  · rw [if_neg h]
    obtain ⟨h0, h1⟩ := expertAt_kept a t h
    rw [hG h0]
    exact congrArg (fun e => k0_pay1 (rowsG (memG m c) e)) h1.symm

theorem nextD_held (c : Dev nD) (t : Fin (cfgA a).N) (D : FVec F S768x2048 .bf16)
    (hD : ∀ h : t.val ≠ 0, D = heldD a m c (t.val - 1) (by have := point_lt a t; omega)) :
    nextD (crd a t) (tabsE a) (iblk a m ρ c (2 : Fin 4) t) D = heldD a m c t.val (point_lt a t) := by
  unfold nextD
  by_cases h : loadWord (crd a t) (tabsE a) = 1#1
  · rw [if_pos h]
    exact congrArg k0_pay2 ((iblk2_eq a m ρ c t).trans (congrArg (rowsD (memD m c)) (expertAt_eq a t)))
  · rw [if_neg h]
    obtain ⟨h0, h1⟩ := expertAt_kept a t h
    rw [hD h0]
    exact congrArg (fun e => k0_pay2 (rowsD (memD m c) e)) h1.symm

end Cert.ExpertsIdeal.Body

end
-- ==== Proof.ExpertsIdealFrame.lean ====
/-
  (For the program read over the extended reals; the same text as for the program itself.)
  The run of the experts' kernel from launch to end: it terminates without a fault, leaves its arguments as they were,
  and its result array holds every block's answer.
-/
module

public import proofs.«01_k».proof.Proof.ExpertsIdealLaunch

@[expose] public section

set_option maxRecDepth 16384
set_option Elab.async false

noncomputable section

namespace Cert.ExpertsIdeal.Body

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (a : (pcfg0 (F := F)).Adm) (m : (ℓ : Loc nD τ sig) → Buf (Elt F) ℓ) (ρ : Dev nD → PrngReg)

/-- What the buffers hold between points. -/
def Phi (c : Dev nD) (t : Fin ((cfgA a).N + 1)) : sProp (World F) :=
  iprop((∃ x, scrX.view.loc (c : Thread nD τ) ↦{fullShare} x)
    ∗ (∃ x, ⌜∀ (n : ℕ) (h : n < 320), t.val = n + 1 → scrG.view.read (Elt F) x = heldG a m c n h⌝ ∗ (scrG.view.loc (c : Thread nD τ) ↦{fullShare} x))
    ∗ (∃ x, ⌜∀ (n : ℕ) (h : n < 320), t.val = n + 1 → scrD.view.read (Elt F) x = heldD a m c n h⌝ ∗ (scrD.view.loc (c : Thread nD τ) ↦{fullShare} x))
    ∗ (tabE.view.loc (c : Thread nD τ) ↦{fullShare.right} tabsE a)
    ∗ (tabN.view.loc (c : Thread nD τ) ↦{fullShare.right} tabsN a))

/-- The proof data of the pipeline on a device. -/
def dats (_ : Fin 1) (c : Dev nD) : Dat τ (Elt F) Unit ℕ (UR sig nD τ) ℕ (cfgA a) c where
  A w := (s₀ m ρ).mem (((cfgA a).win w).arr.view.loc (c : Thread nD τ))
  after w t := match w with
    | ⟨0, _⟩ => iblk a m ρ c (0 : Fin 4) t
    | ⟨1, _⟩ => iblk a m ρ c (1 : Fin 4) t
    | ⟨2, _⟩ => iblk a m ρ c (2 : Fin 4) t
    | ⟨3, _⟩ => stored (crd a t) (tabsN a) (iblk a m ρ c (0 : Fin 4) t) (heldG a m c t.val (point_lt a t)) (heldD a m c t.val (point_lt a t))
  Φ t := Phi a m c t
  q _ := fullShare
  owed _ := 0

theorem after0 (c : Dev nD) (t : Fin (cfgA a).N) : (dats a m ρ 0 c).after (0 : Fin 4) t = iblk a m ρ c (0 : Fin 4) t := rfl
theorem after1 (c : Dev nD) (t : Fin (cfgA a).N) : (dats a m ρ 0 c).after (1 : Fin 4) t = iblk a m ρ c (1 : Fin 4) t := rfl
theorem after2 (c : Dev nD) (t : Fin (cfgA a).N) : (dats a m ρ 0 c).after (2 : Fin 4) t = iblk a m ρ c (2 : Fin 4) t := rfl
theorem after3 (c : Dev nD) (t : Fin (cfgA a).N) : (dats a m ρ 0 c).after (3 : Fin 4) t
    = stored (crd a t) (tabsN a) (iblk a m ρ c (0 : Fin 4) t) (heldG a m c t.val (point_lt a t)) (heldD a m c t.val (point_lt a t)) := rfl

/-- The token rows' buffer holds its block when the body runs; -/
theorem before0 (c : Dev nD) (t : Fin (cfgA a).N) (d) : (dats a m ρ 0 c).before (0 : Fin 4) t d = iblk a m ρ c (0 : Fin 4) t :=
  ((dats a m ρ 0 c).before_in_eq_fetched (0 : Fin 4) rfl (fun _ => rfl) (fun _ _ _ => rfl) (fun t => by rw [after0]; unfold Dat.blockOf iblk; rfl) t d).trans
    (by unfold Dat.fetched Dat.blockOf iblk; rfl)
/-- so does the first weight matrix's; -/
theorem before1 (c : Dev nD) (t : Fin (cfgA a).N) (d) : (dats a m ρ 0 c).before (1 : Fin 4) t d = iblk a m ρ c (1 : Fin 4) t :=
  ((dats a m ρ 0 c).before_in_eq_fetched (1 : Fin 4) rfl (fun _ => rfl) (fun _ _ _ => rfl) (fun t => by rw [after1]; unfold Dat.blockOf iblk; rfl) t d).trans
    (by unfold Dat.fetched Dat.blockOf iblk; rfl)
/-- and the second's. -/
theorem before2 (c : Dev nD) (t : Fin (cfgA a).N) (d) : (dats a m ρ 0 c).before (2 : Fin 4) t d = iblk a m ρ c (2 : Fin 4) t :=
  ((dats a m ρ 0 c).before_in_eq_fetched (2 : Fin 4) rfl (fun _ => rfl) (fun _ _ _ => rfl) (fun t => by rw [after2]; unfold Dat.blockOf iblk; rfl) t d).trans
    (by unfold Dat.fetched Dat.blockOf iblk; rfl)

/-- Every point stores its output block, one way or the other. -/
theorem never_idle (t : Fin (cfgA a).N) : (cfgA a).idle (3 : Fin 4) ((cfgA a).grid.coords t) = false := by
  have h := skipped_iff (crd a t) (a.1.atD 1 ![0])
  show (!(k0_cond2 (crd a t) (a.1.atD 1 ![0]) == 1#1) && !(k0_cond3 (crd a t) (a.1.atD 1 ![0]) == 1#1)) = false
  by_cases h2 : k0_cond2 (crd a t) (a.1.atD 1 ![0]) = 1#1
  · rw [h2]; rfl
  · rw [h.mpr h2]; exact Bool.and_false _

/-- The body at a point on its staging buffers. -/
abbrev bodyAt (t : Fin (cfgA a).N) : Prog (TpuEff nD τ sig (Elt F) Λ₀ .tc) PUnit :=
  cc0_moe_experts (crd a t) (Memref.whole main_arg0) (Memref.isWhole_whole _) (Memref.whole main_arg1) (Memref.isWhole_whole _) (ms0 a t) (hs0 a t) (ms1 a t) (hs1 a t) (ms2 a t) (hs2 a t) (ms3 a t) (hs3 a t) (Memref.whole cc0_scratch0) (Memref.isWhole_whole _) (Memref.whole cc0_scratch1) (Memref.isWhole_whole _) (Memref.whole cc0_scratch2) (Memref.isWhole_whole _)

set_option maxHeartbeats 4000000 in
/-- The body at a point: from what the buffers hold before it to what they hold after it. -/
theorem sound_body (c : Dev nD) (t : Fin (cfgA a).N) :
    iprop((dats a m ρ 0 c).Φ t.castSucc ∗ (dats a m ρ 0 c).owesAt () t.castSucc
        ∗ (∃ d, owns (c : Thread nD τ) (ms0 a t) fullShare ((dats a m ρ 0 c).before (0 : Fin 4) t d))
        ∗ (∃ d, owns (c : Thread nD τ) (ms1 a t) fullShare ((dats a m ρ 0 c).before (1 : Fin 4) t d))
        ∗ (∃ d, owns (c : Thread nD τ) (ms2 a t) fullShare ((dats a m ρ 0 c).before (2 : Fin 4) t d))
        ∗ (∃ d, owns (c : Thread nD τ) (ms3 a t) fullShare ((dats a m ρ 0 c).before (3 : Fin 4) t d)))
      ⊢ wp frame (wpE (defs₀ (F := F)) Variants.none c none) Set.univ (bodyAt a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  rewrite [never_idle a t]
  simp only [before0, before1, before2, after0, after1, after2, after3]
  rewrite [show (dats a m ρ 0 c).Φ t.succ = Phi a m c t.succ from rfl, show (dats a m ρ 0 c).Φ t.castSucc = Phi a m c t.castSucc from rfl,
    show (dats a m ρ 0 c).owesAt () t.succ = (dats a m ρ 0 c).owesAt () t.castSucc from rfl]
  unfold Phi
  iintro ⟨⟨⟨%a0, HS0⟩, ⟨%a1, %ha1, HS1⟩, ⟨%a2, %ha2, HS2⟩, HT0, HT1⟩, Ho, ⟨%d0, H0⟩, ⟨%d1, H1⟩, ⟨%d2, H2⟩, ⟨%d3, H3⟩⟩
  have hG := nextG_held a m ρ c t (scrG.view.read (Elt F) a1) (fun h => ha1 (t.val - 1) (by have := point_lt a t; omega) (by rw [Fin.val_castSucc]; omega))
  have hD := nextD_held a m ρ c t (scrD.view.read (Elt F) a2) (fun h => ha2 (t.val - 1) (by have := point_lt a t; omega) (by rw [Fin.val_castSucc]; omega))
  iapply (point_spec c (crd a t) (ms0 a t) (hs0 a t) (ms1 a t) (hs1 a t) (ms2 a t) (hs2 a t) (ms3 a t) (hs3 a t) (tabsE a) (tabsN a)
    (iblk a m ρ c (0 : Fin 4) t) (iblk a m ρ c (1 : Fin 4) t) (iblk a m ρ c (2 : Fin 4) t) a0 a1 a2 (skipped_iff _ _) _)
  rewrite [hG, hD]
  isplitl [H0]; · iexact H0
  isplitl [H1]; · iexact H1
  isplitl [H2]; · iexact H2
  isplitl [HT0]; · iexact HT0
  isplitl [HT1]; · iexact HT1
  isplitl [H3]; · iexists _; iexact H3
  isplitl [HS0]; · iexact HS0
  isplitl [HS1]; · iexact HS1
  isplitl [HS2]; · iexact HS2
  iintro ⟨H0, H1, H2, HT0, HT1, H3, ⟨%b0, HS0⟩, ⟨%b1, %hb1, HS1⟩, ⟨%b2, %hb2, HS2⟩⟩
  isplitl [HS0 HS1 HS2 HT0 HT1]
  · isplitl [HS0]
    · iexists _; iexact HS0
    isplitl [HS1]
    · iexists _; isplitr; swap
      · iexact HS1
      · ipureintro
        intro n h e
        rw [Fin.val_succ] at e
        obtain rfl : t.val = n := by omega
        exact hb1
    isplitl [HS2]
    · iexists _; isplitr; swap
      · iexact HS2
      · ipureintro
        intro n h e
        rw [Fin.val_succ] at e
        obtain rfl : t.val = n := by omega
        exact hb2
    isplitl [HT0]
    · iexact HT0
    iexact HT1
  isplitl [Ho]; · iexact Ho
  isplitl [H0]; · iexact H0
  isplitl [H1]; · iexact H1
  isplitl [H2]; · iexact H2
  iexact H3

theorem body_obligation (c : Dev nD) : BodyObligation (dats a m ρ 0 c) (defs₀ (F := F)) Variants.none () Set.univ := fun t => by
  rw [bigSep_W0]
  exact sound_body a m ρ c t

/-! ## The launch -/

def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfgA a).W) : (dats a m ρ 0 c).share w = fullShare := by unfold Dat.share; split <;> rfl

/-- The two tables as the launch hands them over, one by one. -/
theorem tables_eq (c : Dev nD) (q : Fin 2 → PosShare TreeShare) (v : pre0.Contents (Elt F)) :
    (Pipeline.prefHeld (Ix := Unit) (Name := ℕ) (U := UR sig nD τ) (Lvl := ℕ) pre0 c q v : sProp (World F))
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem start (c : Dev nD) :
    iprop(BI.emp ∗ Pipeline.prefHeld pre0 c (fun _ => fullShare.right) a.1 ∗ Pipeline.scopedRest spec0 c) ⊢ (dats a m ρ 0 c).Φ 0 := by
  rw [tables_eq, scopedRest0_eq, show (dats a m ρ 0 c).Φ 0 = Phi a m c 0 from rfl]
  unfold Phi
  iintro ⟨-, ⟨HT0, HT1⟩, ⟨%a0, HS0⟩, ⟨%a1, HS1⟩, ⟨%a2, HS2⟩⟩
  isplitl [HS0]
  · iexists a0; iexact HS0
  isplitl [HS1]
  · iexists a1; isplitr; swap
    · iexact HS1
    · ipureintro; intro n h e; exact absurd (show 0 = n + 1 from e) (by omega)
  isplitl [HS2]
  · iexists a2; isplitr; swap
    · iexact HS2
    · ipureintro; intro n h e; exact absurd (show 0 = n + 1 from e) (by omega)
  isplitl [HT0]
  · iexact HT0
  iexact HT1

theorem finish (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m c (Fin.last _) from rfl]
  unfold Phi
  iintro ⟨⟨%a0, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- Every array at its computed contents, both tables as they were. -/
def Ends : PUnit × MemSt nD τ sig (Elt F) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

set_option backward.isDefEq.respectTransparency.types false in
set_option maxHeartbeats 4000000 in
/-- From any memory whose tables are `a`, the program terminates with every array at its computed contents and every
    counter at zero. -/
theorem run_ends (hp : ∀ (c : Dev nD) (j : Fin 2), m ((c : Thread nD τ).loc (pre0.ref j)) = a.1 j) :
    θ_run (defs (F := F)) (onTc (τ := τ) (main (F := F))) (s₀ m ρ) (fun r => Ends a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre EP defs₀ Variants.none m ρ main
    (hbody := fun c => (body_obligation a m ρ c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := F)).win.arr_inj c (launch0 (F := F)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := start a m ρ)
    (hout := finish a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- Nothing but the result changes. -/
theorem frame (hp : ∀ (c : Dev nD) (j : Fin 2), m ((c : Thread nD τ).loc (pre0.ref j)) = a.1 j) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 0).trans (hp c 0).symm, ((h.1 c).2 1).trans (hp c 1).symm,
    ((h.1 c).1 (0 : Fin 4)).trans ((dats a m ρ 0 c).arrAt_in (0 : Fin 4) rfl _),
    ((h.1 c).1 (1 : Fin 4)).trans ((dats a m ρ 0 c).arrAt_in (1 : Fin 4) rfl _),
    ((h.1 c).1 (2 : Fin 4)).trans ((dats a m ρ 0 c).arrAt_in (2 : Fin 4) rfl _)⟩, h.2⟩) (run_ends a m ρ hp)

end Cert.ExpertsIdeal.Body

end
-- ==== Proof.ExpertsIdealTables.lean ====
/-
  (For the program read over the extended reals; the same text as for the program itself.)
  What the precondition says of the experts' table, and the tables a memory holds as the pipeline's.
-/
module

public import proofs.«01_k».proof.Proof.ExpertsIdealFrame
public import proofs.«01_k».proof.Proof.Gen.Pre_pre_moe

@[expose] public section

set_option maxRecDepth 16384
set_option Elab.async false

noncomputable section

namespace Cert.ExpertsIdeal.Body

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- A word that is at least 0 and below 64 as a signed number is below 64 as a natural one. -/
theorem word_range (w : BitVec 32) (h0 : IntOp.cmpi .sge w 0#32 = 1#1) (h1 : IntOp.cmpi .slt w 64#32 = 1#1) : w.toNat < 64 := by
  rw [WordCmp.cmpi_sge_eq] at h0
  rw [WordCmp.cmpi_slt_eq] at h1
  have a0 : (0#32 : BitVec 32).toInt ≤ w.toInt := by
    by_contra no; rw [decide_eq_false no] at h0; exact absurd h0 (by decide)
  have a1 : w.toInt < (64#32 : BitVec 32).toInt := by
    by_contra no; rw [decide_eq_false no] at h1; exact absurd h1 (by decide)
  have e0 : (0#32 : BitVec 32).toInt = 0 := by decide
  have e1 : (64#32 : BitVec 32).toInt = 64 := by decide
  rw [e0] at a0; rw [e1] at a1
  have := w.isLt
  rw [BitVec.toInt_eq_toNat_cond] at a0 a1
  split at a0 <;> split at a1 <;> omega

/-- The tables a memory holds. -/
def tablesOf (m : (ℓ : Loc nD τ sig) → Buf (Elt Ideal) ℓ) : pre0.Contents (Elt Ideal) :=
  fun j => m (((0 : Dev nD) : Thread nD τ).loc (pre0.ref j))

/-- Under the precondition every block's expert is in range. -/
theorem range_of_pre (m : (ℓ : Loc nD τ sig) → Buf (Elt Ideal) ℓ) (hp : @Cert.Pre_ExpertsIdeal Cert.Pre_pre_moe.Gen.facts m) (i : grid0.Coords) :
    expertOf (tablesOf m) i < 64 := by
  have h0 := congrFun (hp 0).1 (cell (i 0).val (coord_lt i))
  have h1 := congrFun (hp 0).2 (cell (i 0).val (coord_lt i))
  exact word_range _ h0 h1

/-- The tables a memory holds, as tables the pipeline runs at. -/
def admOf (m : (ℓ : Loc nD τ sig) → Buf (Elt Ideal) ℓ) (hp : @Cert.Pre_ExpertsIdeal Cert.Pre_pre_moe.Gen.facts m) : (pcfg0 (F := Ideal)).Adm :=
  ⟨tablesOf m, ok_of_range _ (range_of_pre m hp)⟩

theorem tables_hold (m : (ℓ : Loc nD τ sig) → Buf (Elt Ideal) ℓ) (hp : @Cert.Pre_ExpertsIdeal Cert.Pre_pre_moe.Gen.facts m) (c : Dev nD) (j : Fin 2) :
    m ((c : Thread nD τ).loc (pre0.ref j)) = (admOf m hp).1 j := by
  obtain rfl : c = 0 := Subsingleton.elim (α := Fin 1) _ _
  rfl

end Cert.ExpertsIdeal.Body

end
-- ==== Proof.ExpertsReference.lean ====
/-
  The experts' products: the reference's arrays at coordinates. The reference takes each block's expert out of the weights
  (a gather along the experts), multiplies the block's tokens by the first matrix, gates the two halves against each other,
  multiplies by the second matrix, and writes zero over the blocks that are not in use.
-/
module

public import proofs.«01_k».proof.Proof.ExpertsIdealTables
public import proofs.«01_k».proof.Proof.Gen.ExpertsRefIdeal.Run
public import Idealize.ShloMosaic.Lib.Pipeline.ValueKit

@[expose] public section

set_option maxRecDepth 16384

noncomputable section

namespace Cert.ExpertsRefIdeal.Body

open Cert.ExpertsRefIdeal Cert.ExpertsRefIdeal.Gen Idealize.ShloMosaic Idealize.ShloMosaic.TcCoe Idealize.SL.Sem

/-! ## The gathers -/

/-- The gather of the first matrices. -/
abbrev upTakeDims := gather_S64x2048x1536_S320x1_S320x2048x1536_12_0_n_n_0_1_120481536

/-- Where the indices name an expert, the gather takes that expert's matrix. -/
theorem upTake_at {α : Type} (x : S64x2048x1536.Idx → α) (idx : IVec S320x1 32) (b : Fin 320) (k : Fin 2048) (f : Fin 1536) (e : Fin 64)
    (he : (idx (ix2 b 0)).toInt.toNat = e.val) : Host.gather upTakeDims x idx (ix3 b k f) = x (ix3 e k f) := by
  unfold Host.gather
  refine congrArg x (funext fun a => Fin.ext ?_)
  show upTakeDims.start (ix3 b k f) idx a + upTakeDims.batchCoord (ix3 b k f) a + upTakeDims.offCoord (ix3 b k f) a = _
  rw [GatherDims.batchCoord_eq_zero _ _ _ List.not_mem_nil]
  match a with
  | ⟨0, h⟩ =>
    change upTakeDims.start (ix3 b k f) idx (0 : Fin 3) + 0 + upTakeDims.offCoord (ix3 b k f) (0 : Fin 3) = e.val
    rw [GatherDims.offCoord_eq_zero _ _ _ (fun h => ((GatherDims.mem_sKept _ _).mp h).1 (List.mem_singleton.mpr rfl))]
    unfold GatherDims.start
    rw [dif_pos (show (0 : Fin 3) ∈ upTakeDims.startIndexMap from List.mem_singleton.mpr rfl)]
    have hs : upTakeDims.siIdx (ix3 b k f) ⟨List.idxOf (0 : Fin 3) upTakeDims.startIndexMap, by decide⟩ = ix2 b (0 : Fin 1) := by
      funext c
      match c with
      | ⟨0, _⟩ => rfl
      | ⟨1, _⟩ => rfl
    rw [hs, he]
    have := e.isLt
    show min e.val 63 + 0 + 0 = e.val
    omega
  | ⟨1, h⟩ =>
    change upTakeDims.start (ix3 b k f) idx (1 : Fin 3) + 0 + upTakeDims.offCoord (ix3 b k f) (1 : Fin 3) = k.val
    unfold GatherDims.start
    rw [dif_neg (show (1 : Fin 3) ∉ upTakeDims.startIndexMap by decide)]
    unfold GatherDims.offCoord
    rw [dif_pos (show (1 : Fin 3) ∈ upTakeDims.sKept by decide)]
    show 0 + 0 + k.val = k.val
    omega
  | ⟨2, h⟩ =>
    change upTakeDims.start (ix3 b k f) idx (2 : Fin 3) + 0 + upTakeDims.offCoord (ix3 b k f) (2 : Fin 3) = f.val
    unfold GatherDims.start
    rw [dif_neg (show (2 : Fin 3) ∉ upTakeDims.startIndexMap by decide)]
    unfold GatherDims.offCoord
    rw [dif_pos (show (2 : Fin 3) ∈ upTakeDims.sKept by decide)]
    show 0 + 0 + f.val = f.val
    omega

/-- The gather of the second matrices. -/
abbrev downTakeDims := gather_S64x768x2048_S320x1_S320x768x2048_12_0_n_n_0_1_17682048

/-- Where the indices name an expert, the gather takes that expert's matrix. -/
theorem downTake_at {α : Type} (x : S64x768x2048.Idx → α) (idx : IVec S320x1 32) (b : Fin 320) (k : Fin 768) (f : Fin 2048) (e : Fin 64)
    (he : (idx (ix2 b 0)).toInt.toNat = e.val) : Host.gather downTakeDims x idx (ix3 b k f) = x (ix3 e k f) := by
  unfold Host.gather
  refine congrArg x (funext fun a => Fin.ext ?_)
  show downTakeDims.start (ix3 b k f) idx a + downTakeDims.batchCoord (ix3 b k f) a + downTakeDims.offCoord (ix3 b k f) a = _
  rw [GatherDims.batchCoord_eq_zero _ _ _ List.not_mem_nil]
  match a with
  | ⟨0, h⟩ =>
    change downTakeDims.start (ix3 b k f) idx (0 : Fin 3) + 0 + downTakeDims.offCoord (ix3 b k f) (0 : Fin 3) = e.val
    rw [GatherDims.offCoord_eq_zero _ _ _ (fun h => ((GatherDims.mem_sKept _ _).mp h).1 (List.mem_singleton.mpr rfl))]
    unfold GatherDims.start
    rw [dif_pos (show (0 : Fin 3) ∈ downTakeDims.startIndexMap from List.mem_singleton.mpr rfl)]
    have hs : downTakeDims.siIdx (ix3 b k f) ⟨List.idxOf (0 : Fin 3) downTakeDims.startIndexMap, by decide⟩ = ix2 b (0 : Fin 1) := by
      funext c
      match c with
      | ⟨0, _⟩ => rfl
      | ⟨1, _⟩ => rfl
    rw [hs, he]
    have := e.isLt
    show min e.val 63 + 0 + 0 = e.val
    omega
  | ⟨1, h⟩ =>
    change downTakeDims.start (ix3 b k f) idx (1 : Fin 3) + 0 + downTakeDims.offCoord (ix3 b k f) (1 : Fin 3) = k.val
    unfold GatherDims.start
    rw [dif_neg (show (1 : Fin 3) ∉ downTakeDims.startIndexMap by decide)]
    unfold GatherDims.offCoord
    rw [dif_pos (show (1 : Fin 3) ∈ downTakeDims.sKept by decide)]
    show 0 + 0 + k.val = k.val
    omega
  | ⟨2, h⟩ =>
    change downTakeDims.start (ix3 b k f) idx (2 : Fin 3) + 0 + downTakeDims.offCoord (ix3 b k f) (2 : Fin 3) = f.val
    unfold GatherDims.start
    rw [dif_neg (show (2 : Fin 3) ∉ downTakeDims.startIndexMap by decide)]
    unfold GatherDims.offCoord
    rw [dif_pos (show (2 : Fin 3) ∈ downTakeDims.sKept by decide)]
    show 0 + 0 + f.val = f.val
    omega

/-! ## The reference's stages -/

/-- The experts' numbers as the gathers read them: a negative one counts from the end. -/
abbrev index (E : IVec S320 32) : IVec S320x1 32 :=
  broadcastInDim S320x1 ![0] bcast_S320_S320x1_0 (select (cmpi .slt E (broadcastInDim S320 ![] bcast_S_S320 (constantI S_ 32 0#32))) (addi E (broadcastInDim S320 ![] bcast_S_S320 (constantI S_ 32 64#32))) E)

/-- Each block's first matrix. -/
abbrev up (E : IVec S320 32) (G : FVec Ideal S2x64x2048x1536 .f32) : FVec Ideal S320x2048x1536 .f32 :=
  Host.gather upTakeDims (shapeCast _ (extractStridedSlice S1x64x2048x1536 ![0, 0, 0, 0] G slices_S2x64x2048x1536_S1x64x2048x1536_0_0_0_0) shapeCasts_S1x64x2048x1536_S64x2048x1536) (index E)

/-- Each block's second matrix. -/
abbrev down (E : IVec S320 32) (D : FVec Ideal S2x64x768x2048 .f32) : FVec Ideal S320x768x2048 .f32 :=
  Host.gather downTakeDims (shapeCast _ (extractStridedSlice S1x64x768x2048 ![0, 0, 0, 0] D slices_S2x64x768x2048_S1x64x768x2048_0_0_0_0) shapeCasts_S1x64x768x2048_S64x768x2048) (index E)

/-- The first product of every block. -/
def hidden (X : FVec Ideal S655360x128 .f32) (W : FVec Ideal S320x2048x1536 .f32) : FVec Ideal S320x128x1536 .f32 :=
  Host.dotGeneral dot_S320x128x2048_S320x2048x1536_S320x128x1536_2_1_1_2_0_0 none (shapeCast _ X shapeCasts_S655360x128_S320x128x2048) W

/-- The gated halves. -/
def gated (H : FVec Ideal S320x128x1536 .f32) : FVec Ideal S320x128x768 .f32 :=
  mulf (mulf (extractStridedSlice S320x128x768 ![0, 0, 0] H slices_S320x128x1536_S320x128x768_0_0_0) (Host.divf (broadcastInDim S320x128x768 ![] bcast_S_S320x128x768 (constant S_ .f32 0x3F800000#32)) (addf (broadcastInDim S320x128x768 ![] bcast_S_S320x128x768 (constant S_ .f32 0x3F800000#32)) (Host.exp (Host.negf (extractStridedSlice S320x128x768 ![0, 0, 0] H slices_S320x128x1536_S320x128x768_0_0_0)))))) (extractStridedSlice S320x128x768 ![0, 0, 768] H slices_S320x128x1536_S320x128x768_0_0_768)

/-- The second product of every block. -/
def answers (A : FVec Ideal S320x128x768 .f32) (V : FVec Ideal S320x768x2048 .f32) : FVec Ideal S320x128x2048 .f32 :=
  Host.dotGeneral dot_S320x128x768_S320x768x2048_S320x128x2048_2_1_1_2_0_0 none A V

/-- Which entries belong to a block in use. -/
def used (N : IVec S1 32) : IVec S320x128x2048 1 :=
  broadcastInDim S320x128x2048 ![0, 1, 2] bcast_S320x1x1_S320x128x2048_0_1_2 (cmpi .slt (broadcastInDim S320x1x1 ![0] bcast_S320_S320x1x1_0 (iotaInDim S320 32 0)) (broadcastInDim S320x1x1 ![] bcast_S_S320x1x1 (shapeCast _ N shapeCasts_S1_S_)))

/-- The reference's result. -/
def whole (E : IVec S320 32) (N : IVec S1 32) (X : FVec Ideal S655360x128 .f32) (G : FVec Ideal S2x64x2048x1536 .f32)
    (D : FVec Ideal S2x64x768x2048 .f32) : FVec Ideal S655360x128 .f32 :=
  shapeCast _ (select (used N) (answers (gated (hidden X (up E G))) (down E D)) (broadcastInDim S320x128x2048 ![] bcast_S_S320x128x2048 (id (constant S_ .f32 0x00000000#32)))) shapeCasts_S320x128x2048_S655360x128

/-! ## The stages at coordinates -/

/-- An expert number that is not negative is taken as it is. -/
theorem index_at (E : IVec S320 32) (b : Fin 320) (h : (E (ix1 b)).toNat < 64) : (index E (ix2 b 0)).toInt.toNat = (E (ix1 b)).toNat := by
  have e : (E (ix1 b)).toInt = (E (ix1 b)).toNat := by rw [BitVec.toInt_eq_toNat_cond]; split <;> omega
  have hz : IntOp.cmpi .slt (E (ix1 b)) 0#32 = 0#1 := by
    rw [WordCmp.cmpi_slt_eq, e, decide_eq_false (by
      show ¬ ((E (ix1 b)).toNat : ℤ) < (0#32 : BitVec 32).toInt
      have : (0#32 : BitVec 32).toInt = 0 := by decide
      rw [this]; omega)]
    rfl
  have hi : index E (ix2 b 0) = E (ix1 b) := by
    pointwise []
    rw [hz]; rfl
  rw [hi, e]; rfl

/-- One entry of the first product: a token's row times a column of the block's matrix. -/
def mid (X : FVec Ideal S655360x128 .f32) (G : FVec Ideal S2x64x2048x1536 .f32) (e : Fin 64) (b : Fin 320) (r : Fin 128) (f : Fin 1536) : EReal :=
  ∑ k : Fin 2048, X (ix2 ⟨b.val * 2048 + r.val * 16 + k.val / 128, by omega⟩ ⟨k.val % 128, by omega⟩) * G (ix4 0 e k f)

/-- One entry of the answer: the gated row times a column of the second matrix. -/
def entry (X : FVec Ideal S655360x128 .f32) (G : FVec Ideal S2x64x2048x1536 .f32) (D : FVec Ideal S2x64x768x2048 .f32) (e : Fin 64) (b : Fin 320)
    (r : Fin 128) (x : Fin 2048) : EReal :=
  ∑ f : Fin 768, mid X G e b r ⟨f.val, by omega⟩ * Ideal.div 1 (1 + Ideal.exp (-mid X G e b r ⟨f.val, by omega⟩))
    * mid X G e b r ⟨768 + f.val, by omega⟩ * D (ix4 0 e f x)

theorem up_at (E : IVec S320 32) (G : FVec Ideal S2x64x2048x1536 .f32) (b : Fin 320) (h : (E (ix1 b)).toNat < 64) (k : Fin 2048) (f : Fin 1536) :
    up E G (ix3 b k f) = G (ix4 0 ⟨(E (ix1 b)).toNat, h⟩ k f) := by
  unfold up
  rw [upTake_at _ _ b k f ⟨(E (ix1 b)).toNat, h⟩ (index_at E b h)]
  pointwise []

theorem down_at (E : IVec S320 32) (D : FVec Ideal S2x64x768x2048 .f32) (b : Fin 320) (h : (E (ix1 b)).toNat < 64) (k : Fin 768) (f : Fin 2048) :
    down E D (ix3 b k f) = D (ix4 0 ⟨(E (ix1 b)).toNat, h⟩ k f) := by
  unfold down
  rw [downTake_at _ _ b k f ⟨(E (ix1 b)).toNat, h⟩ (index_at E b h)]
  pointwise []

theorem hidden_at (E : IVec S320 32) (X : FVec Ideal S655360x128 .f32) (G : FVec Ideal S2x64x2048x1536 .f32) (b : Fin 320) (h : (E (ix1 b)).toNat < 64)
    (r : Fin 128) (f : Fin 1536) : hidden X (up E G) (ix3 b r f) = mid X G ⟨(E (ix1 b)).toNat, h⟩ b r f := by
  have e : hidden X (up E G) (ix3 b r f) = ∑ k : Fin 2048, X (ix2 ⟨b.val * 2048 + r.val * 16 + k.val / 128, by omega⟩ ⟨k.val % 128, by omega⟩) * up E G (ix3 b k f) := by
    generalize up E G = W
    pointwise [hidden]
  rw [e]
  unfold mid
  exact Finset.sum_congr rfl fun k _ => by rw [up_at E G b h k f]

theorem answers_at (E : IVec S320 32) (X : FVec Ideal S655360x128 .f32) (G : FVec Ideal S2x64x2048x1536 .f32) (D : FVec Ideal S2x64x768x2048 .f32)
    (b : Fin 320) (h : (E (ix1 b)).toNat < 64) (r : Fin 128) (x : Fin 2048) :
    answers (gated (hidden X (up E G))) (down E D) (ix3 b r x) = entry X G D ⟨(E (ix1 b)).toNat, h⟩ b r x := by
  have e : answers (gated (hidden X (up E G))) (down E D) (ix3 b r x)
      = ∑ f : Fin 768, hidden X (up E G) (ix3 b r ⟨f.val, by omega⟩) * Ideal.div 1 (1 + Ideal.exp (-hidden X (up E G) (ix3 b r ⟨f.val, by omega⟩)))
        * hidden X (up E G) (ix3 b r ⟨768 + f.val, by omega⟩) * down E D (ix3 b f x) := by
    generalize down E D = V
    generalize hidden X (up E G) = H
    pointwise [answers, gated]
  rw [e]
  unfold entry
  exact Finset.sum_congr rfl fun f _ => by rw [hidden_at E X G b h, hidden_at E X G b h, down_at E D b h]

/-- The reference's result at a row and a column of the array of tokens. -/
theorem whole_at (E : IVec S320 32) (N : IVec S1 32) (X : FVec Ideal S655360x128 .f32) (G : FVec Ideal S2x64x2048x1536 .f32)
    (D : FVec Ideal S2x64x768x2048 .f32) (b : Fin 320) (h : (E (ix1 b)).toNat < 64) (q : Fin 2048) (y : Fin 128) :
    whole E N X G D (ix2 ⟨b.val * 2048 + q.val, by omega⟩ y)
      = if IntOp.cmpi .slt (BitVec.ofNat 32 b.val) (N (ix1 0)) = 1#1 then
          entry X G D ⟨(E (ix1 b)).toNat, h⟩ b ⟨q.val / 16, by omega⟩ ⟨q.val % 16 * 128 + y.val, by omega⟩
        else 0 := by
  have e : whole E N X G D (ix2 ⟨b.val * 2048 + q.val, by omega⟩ y)
      = select (used N) (answers (gated (hidden X (up E G))) (down E D)) (broadcastInDim S320x128x2048 ![] bcast_S_S320x128x2048 (id (constant S_ .f32 0x00000000#32)))
          (ix3 b ⟨q.val / 16, by omega⟩ ⟨q.val % 16 * 128 + y.val, by omega⟩) := by
    unfold whole
    generalize select (used N) (answers (gated (hidden X (up E G))) (down E D)) (broadcastInDim S320x128x2048 ![] bcast_S_S320x128x2048 (id (constant S_ .f32 0x00000000#32))) = Z
    pointwise []
    refine congrArg Z ?_
    congr 1 <;> refine Fin.ext ?_ <;> dsimp only <;> omega
  rw [e]
  show (if used N _ = 1#1 then answers (gated (hidden X (up E G))) (down E D) _ else _) = _
  rw [answers_at E X G D b h]
  have hu : used N (ix3 b ⟨q.val / 16, by omega⟩ ⟨q.val % 16 * 128 + y.val, by omega⟩) = IntOp.cmpi .slt (BitVec.ofNat 32 b.val) (N (ix1 0)) := by
    pointwise [used]
  rw [hu]
  have hz : broadcastInDim S320x128x2048 ![] bcast_S_S320x128x2048 (id (constant (F := Ideal) S_ .f32 0x00000000#32)) (ix3 b ⟨q.val / 16, by omega⟩ ⟨q.val % 16 * 128 + y.val, by omega⟩) = 0 := by
    unfold id
    pointwise []
  rw [hz]

end Cert.ExpertsRefIdeal.Body

end
-- ==== Proof.ExpertsValue.lean ====
/-
  The experts' products: kernel and reference end with the same array. What a point stores is the reference's block,
  and the blocks make the array.
-/
module

public import proofs.«01_k».proof.Proof.ExpertsReference
public import Idealize.ShloMosaic.Lib.Claim
public import Idealize.ShloMosaic.Lib.Pipeline.Covers

@[expose] public section

set_option maxRecDepth 16384

noncomputable section

namespace Cert.ExpertsIdeal.Body

open Cert.ExpertsIdeal Cert.ExpertsIdeal.Gen
open Idealize.ShloMosaic Idealize.ShloMosaic.TcCoe Idealize.ShloMosaic.Tactic Idealize.SL.Sem
open Cert.ExpertsRefIdeal.Body (mid entry whole whole_at)

/-! ## A block's answer -/

/-- The kernel's first product, entry by entry. -/
theorem product_at (X : S655360x128.Idx → Elt Ideal .f32) (G : S2x64x2048x1536.Idx → Elt Ideal .f32) (b : Fin 320) (e : Fin 64) (r : Fin 128) (f : Fin 1536) :
    k0_pay25 (gathered (rowsX X b)) (k0_pay1 (rowsG G e)) (ix2 r f) = mid X G e b r f := by
  have h : k0_pay25 (gathered (rowsX X b)) (k0_pay1 (rowsG G e)) (ix2 r f)
      = ∑ k : Fin 2048, rowsX X b (laneOf (ix2 r k)) * rowsG G e (ix4 0 0 k f) := by
    generalize rowsX X b = Y
    generalize rowsG G e = W
    pointwise [k0_pay25, k0_pay1, gathered]
  rw [h]
  unfold mid
  refine Finset.sum_congr rfl fun k _ => ?_
  refine congrArg (· * G (ix4 0 e k f)) ?_
  refine congrArg X (funext fun a => Fin.ext ?_)
  match a with
  | ⟨0, _⟩ =>
    show b.val * 2048 + (16 * r.val + k.val / 128) = b.val * 2048 + r.val * 16 + k.val / 128
    omega
  | ⟨1, _⟩ => rfl

/-- The kernel's answer for a block, entry by entry. -/
theorem answer_at (X : S655360x128.Idx → Elt Ideal .f32) (G : S2x64x2048x1536.Idx → Elt Ideal .f32) (D : S2x64x768x2048.Idx → Elt Ideal .f32)
    (b : Fin 320) (e : Fin 64) (r : Fin 128) (x : Fin 2048) :
    answer (gathered (rowsX X b)) (k0_pay1 (rowsG G e)) (k0_pay2 (rowsD D e)) (ix2 r x) = entry X G D e b r x := by
  have h : ∀ (Y : FVec Ideal S128x2048 .bf16) (W : FVec Ideal S2048x1536 .bf16) (V : S1x1x768x2048.Idx → Elt Ideal .f32),
      answer Y W (k0_pay2 V) (ix2 r x)
      = ∑ f : Fin 768, k0_pay25 (F := Ideal) Y W (ix2 r ⟨f.val, by omega⟩) * Ideal.div 1 (1 + Ideal.exp (0 - k0_pay25 (F := Ideal) Y W (ix2 r ⟨f.val, by omega⟩)))
          * k0_pay25 (F := Ideal) Y W (ix2 r ⟨768 + f.val, by omega⟩) * V (ix4 0 0 f x) := fun Y W V => by
    unfold answer
    pointwise [k0_pay27, k0_pay26, k0_pay2]
  rw [h]
  unfold entry
  refine Finset.sum_congr rfl fun f _ => ?_
  rw [product_at, product_at, zero_sub]
  rfl

/-- A block is in use when its number is below the number of blocks in use. -/
theorem used_iff (i : grid0.Coords) (n : BitVec 32) : k0_cond2 i n = 1#1 ↔ IntOp.cmpi .slt (BitVec.ofNat 32 (i 0).val) n = 1#1 := by
  have key : ∀ v : BitVec 1, (Scalar.cmpi .ne (Scalar.extui v : BitVec 32) 0#32 = 1#1) ↔ v = 1#1 := by decide
  exact key _

/-- The number of blocks in use, as the kernel reads it. -/
theorem usedWord_eq (N : S1.Idx → Elt Ideal .i32) : usedWord N = N (ix1 0) := by
  show N _ = N _
  refine congrArg N (funext fun a => Fin.ext ?_)
  obtain rfl : a = (0 : Fin 1) := Subsingleton.elim (α := Fin 1) _ _
  rfl

variable (a : (pcfg0 (F := Ideal)).Adm) (m : (ℓ : Loc nD τ sig) → Buf (Elt Ideal) ℓ) (ρ : Dev nD → PrngReg)

/-- What a point stores is the reference's block. -/
theorem point (c : Dev nD) (t : Fin (cfgA a).N) (q : Fin 2048) (y : Fin 128) :
    stored (crd a t) (tabsN a) (iblk a m ρ c (0 : Fin 4) t) (heldG a m c t.val (point_lt a t)) (heldD a m c t.val (point_lt a t)) (ix2 q y)
      = whole (tabsE a) (tabsN a) (memX m c) (memG m c) (memD m c) (ix2 ⟨t.val * 2048 + q.val, by have := point_lt a t; omega⟩ y) := by
  rw [whole_at (tabsE a) (tabsN a) (memX m c) (memG m c) (memD m c) ⟨t.val, point_lt a t⟩ (expertAt a t.val (point_lt a t)).isLt q y]
  unfold stored
  have hu : k0_cond2 (crd a t) (usedWord (tabsN a)) = 1#1 ↔ IntOp.cmpi .slt (BitVec.ofNat 32 t.val) (tabsN a (ix1 0)) = 1#1 := by
    rw [used_iff, usedWord_eq, crd_val]
  by_cases h : k0_cond2 (crd a t) (usedWord (tabsN a)) = 1#1
  · rw [if_pos h, if_pos (hu.mp h), iblk0_eq]
    exact answer_at (memX m c) (memG m c) (memD m c) ⟨t.val, point_lt a t⟩ (expertAt a t.val (point_lt a t)) _ _
  · rw [if_neg h, if_neg (fun h' => h (hu.mpr h'))]
    pointwise [k0_pay8]

/-- The output's blocks cover its array. -/
theorem covers : ((cfgA a).win (3 : Fin 4)).Covers := by
  refine Pipeline.Window.covers_of_indexMap_surj _ rfl (fun x => ?_) fun β => ?_
  · fin_cases x
    · show 0 < 2048; omega
    · show 0 < 128; omega
  · have h0 : (β (0 : Fin 2)).val < 320 := lt_of_lt_of_eq (β (0 : Fin 2)).isLt (show (655360 + 2048 - 1) / 2048 = 320 by norm_num)
    have h1 : (β (1 : Fin 2)).val < 1 := lt_of_lt_of_eq (β (1 : Fin 2)).isLt (show (128 + 128 - 1) / 128 = 1 by norm_num)
    refine ⟨fun x => ⟨(β (0 : Fin 2)).val, by fin_cases x; exact h0⟩, fun x => ?_⟩
    fin_cases x
    · show (BitVec.ofNat 32 (β (0 : Fin 2)).val).toNat = (β (0 : Fin 2)).val
      rw [BitVec.toNat_ofNat]; omega
    · show 0 = (β (1 : Fin 2)).val
      omega

/-- A point's block of the output, as rows of the array. -/
theorem emb_eq (t : Fin (cfgA a).N) (y : S2048x128.Idx) :
    ((((cfgA a).win (3 : Fin 4)).blk t).view.emb y : S655360x128.Idx)
      = ix2 ⟨t.val * 2048 + (y 0).val, by have := point_lt a t; have h : (y 0).val < 2048 := (y 0).isLt; omega⟩ (y 1) := by
  refine funext fun k => Fin.ext ?_
  have h := crd_val a t
  have h' := point_lt a t
  fin_cases k
  · show (BitVec.ofNat 32 (crd a t 0).val).toNat * 2048 + 1 * (y 0).val = t.val * 2048 + (y 0).val
    rw [BitVec.toNat_ofNat, h]; omega
  · show 0 * 128 + 1 * (y 1).val = (y 1).val
    omega

/-- The blocks make the whole array. -/
theorem final (c : Dev nD) : (dats a m ρ 0 c).arrAt (3 : Fin 4) (cfgA a).N
    = whole (tabsE a) (tabsN a) (memX m c) (memG m c) (memD m c) := by
  refine (dats a m ρ 0 c).arrAt_eq_of_covers (3 : Fin 4) _ (covers a) fun t _ y => ?_
  blk_simp
  rw [after3]
  have h := point a m ρ c t (y 0) (y 1)
  refine Eq.trans ?_ (h.trans ?_)
  · exact congrArg _ (ix2_eta y).symm
  · exact congrArg _ (emb_eq a t y).symm

/-- The run, with its result: the reference's function of the arguments. -/
theorem run_whole (hp : ∀ (c : Dev nD) (j : Fin 2), m ((c : Thread nD τ).loc (pre0.ref j)) = a.1 j) :
    θ_run (defs (F := Ideal)) (onTc (τ := τ) (main (F := Ideal))) ⟨m, fun _ => 0, ρ⟩ (fun r => ∀ c : Dev nD,
      r.2.mem ((c.tc : Thread nD τ).loc main_v0)
        = whole (m ((c.tc : Thread nD τ).loc main_arg0)) (m ((c.tc : Thread nD τ).loc main_arg1)) (memX m c) (memG m c) (memD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun _ h c => ⟨?_, ((h.1 c).2 0).trans (hp c 0).symm, ((h.1 c).2 1).trans (hp c 1).symm,
    ((h.1 c).1 (0 : Fin 4)).trans ((dats a m ρ 0 c).arrAt_in (0 : Fin 4) rfl _),
    ((h.1 c).1 (1 : Fin 4)).trans ((dats a m ρ 0 c).arrAt_in (1 : Fin 4) rfl _),
    ((h.1 c).1 (2 : Fin 4)).trans ((dats a m ρ 0 c).arrAt_in (2 : Fin 4) rfl _)⟩) (run_ends a m ρ hp)
  have e0 : m ((c.tc : Thread nD τ).loc main_arg0) = tabsE a := hp c 0
  have e1 : m ((c.tc : Thread nD τ).loc main_arg1) = tabsN a := hp c 1
  rw [e0, e1]
  exact ((h.1 c).1 (3 : Fin 4)).trans (final a m ρ c)

end Cert.ExpertsIdeal.Body

namespace Cert.Proof

open Idealize.ShloMosaic Idealize.ShloMosaic.TcCoe Idealize.SL.Sem

attribute [local instance] Cert.ExpertsIdeal.Gen.facts Cert.ExpertsRefIdeal.Gen.facts Cert.Pre_pre_moe.Gen.facts

/-- Kernel and reference of the experts end with the same array. -/
theorem experts_algebraic : Cert.algebraic_ExpertsIdeal_ExpertsRefIdeal := by
  pair_intro
  · run_from Cert.ExpertsIdeal.Body.run_whole (Cert.ExpertsIdeal.Body.admOf m hpre) m g (Cert.ExpertsIdeal.Body.tables_hold m hpre)
  · run_from Cert.ExpertsRefIdeal.Value.run m' g'
    rfl

/-- The reference leaves its arguments as they were; it has no semaphore. -/
theorem experts_reference_frame : Cert.quiescent_ExpertsRefIdeal := fun m g _ =>
  (θ_run Cert.ExpertsRefIdeal.defs _ _).mono
    (fun r h => ⟨fun c => (h c).2, sem_eq_zero_of_no_sems (by decide) r.2⟩) (Cert.ExpertsRefIdeal.Value.run m g)

end Cert.Proof

end
-- ==== Proof.CombineIdealRows.lean ====
/-
  The rows that the combining kernel fetches.

  A grid point serves 256 tokens.  Each token has two expert rows, each row being 16 lines of 128 numbers.  The kernel
  starts 512 transfers on one counter, transfer `2 r + p` fetching the 16 lines of row `W p r` into lines
  `16 r … 16 r + 15` of plane `p` of its scratch buffer.  This module names the lines a transfer reads and writes, what
  the scratch buffer holds when all have arrived, and proves the one step that starts a transfer.
-/
module

public import proofs.«01_k».proof.Defs
public import proofs.«01_k».proof.Proof.Gen.CombineIdeal
public import proofs.«01_k».proof.Proof.Gen.CombineIdeal.Launch
public import proofs.«01_k».proof.Proof.Gen.CombineIdeal.Skeleton
public import Idealize.ShloMosaic.Lib.Pipeline.Kit
public import Idealize.ShloMosaic.Lib.Pipeline.Frame
public import Idealize.ShloMosaic.Lib.Pipeline.FrameBody
public import Idealize.ShloMosaic.Lib.Transfers
public import Idealize.ShloMosaic.Lib.Batch
public import Idealize.ShloMosaic.Lib.Ring
public import Idealize.ShloMosaic.Lib.ValueLayout
public import Idealize.ShloMosaic.Lib.Exec
public import Idealize.ShloMosaic.Lib.Affine
public import Idealize.ShloMosaic.Lib.Tactic

@[expose] public section

set_option maxRecDepth 16384
set_option Elab.async false

noncomputable section

namespace Cert.CombineIdeal.Body

open Cert.CombineIdeal Cert.CombineIdeal.Gen
open Idealize.ShloMosaic Idealize.ShloMosaic.ValueIdx
open Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F]

/-- The resources a run of this program owns. -/
abbrev World (F : FTy → Type) [FloatOps F] := MT nD τ sig Unit (Elt F) ℕ (Pipeline.UD sig nD τ) ℕ

/-- The experts' rows, 16 lines each. -/
abbrev ysM : Memref sig .tc .hbm S655360x128 .f32 := Memref.whole main_arg4
/-- The two planes of fetched lines. -/
abbrev scrM : Memref sig .tc .vmem S2x4096x128 .f32 := Memref.whole cc0_scratch0

/-- The counter of all the transfers. -/
abbrev sem0 : DmaSem sig := cc0_scratch1.sem

/-- An index of the scratch buffer. -/
def at3 (p r x : ℕ) (hp : p < 2) (hr : r < 4096) (hx : x < 128) : S2x4096x128.Idx :=
  fun a => match a with
    | ⟨0, _⟩ => ⟨p, hp⟩
    | ⟨1, _⟩ => ⟨r, hr⟩
    | ⟨2, _⟩ => ⟨x, hx⟩
    | ⟨_ + 3, h⟩ => absurd h (Nat.not_lt.2 (Nat.le_add_left _ _))

/-- An index of the experts' lines. -/
def at2 (r x : ℕ) (hr : r < 655360) (hx : x < 128) : S655360x128.Idx :=
  fun a => match a with
    | ⟨0, _⟩ => ⟨r, hr⟩
    | ⟨1, _⟩ => ⟨x, hx⟩
    | ⟨_ + 2, h⟩ => absurd h (Nat.not_lt.2 (Nat.le_add_left _ _))

/-- The lines of plane `p` that belong to token `r` of the block. -/
def dstSet (p r : ℕ) : Finset S2x4096x128.Idx :=
  Finset.univ.filter fun y => (y 0).val = p ∧ 16 * r ≤ (y 1).val ∧ (y 1).val < 16 * r + 16

/-- The lines of the experts' row `w`. -/
def srcSet (w : ℕ) : Finset S655360x128.Idx :=
  Finset.univ.filter fun y => 16 * w ≤ (y 0).val ∧ (y 0).val < 16 * w + 16

/-- What the scratch buffer holds when the row `W p r` has arrived for every `p` and `r`. -/
def fetched (W : ℕ → ℕ → ℕ) (Y : S655360x128.Idx → Elt F .f32) : S2x4096x128.Idx → Elt F .f32 :=
  fun y => Y (at2 ((16 * W (y 0).val ((y 1).val / 16) + (y 1).val % 16) % 655360) (y 2).val (Nat.mod_lt _ (by decide)) (y 2).isLt)

/-- Plane `p` of the scratch buffer, as the kernel cuts it out. -/
abbrev plane (o : Fin 3 → ℕ) (ho : ∀ a, o a + S1x4096x128.size a ≤ S2x4096x128.size a) : Memref sig .tc .vmem S4096x128 .f32 :=
  (scrM.slice (Rect.unit (s := S2x4096x128) o S1x4096x128.size ho) (fun _ => rfl)).squeeze S4096x128 squeezes_S1x4096x128_S4096x128

/-- Sixteen lines of a plane. -/
abbrev dstM (o : Fin 3 → ℕ) (ho : ∀ a, o a + S1x4096x128.size a ≤ S2x4096x128.size a)
    (o2 : Fin 2 → ℕ) (ho2 : ∀ a, o2 a + S16x128.size a ≤ S4096x128.size a) : Memref sig .tc .vmem S16x128 .f32 :=
  (plane o ho).slice (Rect.unit (s := S4096x128) o2 S16x128.size ho2) (fun _ => rfl)

/-- Sixteen lines of the experts' rows. -/
abbrev srcM (o3 : Fin 2 → ℕ) (ho3 : ∀ a, o3 a + S16x128.size a ≤ S655360x128.size a) : Memref sig .tc .hbm S16x128 .f32 :=
  ysM.slice (Rect.unit (s := S655360x128) o3 S16x128.size ho3) (fun _ => rfl)

theorem src_emb (w : ℕ) (ho3 : ∀ a, (![16 * w, 0] : Fin 2 → ℕ) a + S16x128.size a ≤ S655360x128.size a) (x : S16x128.Idx) :
    ((srcM ![16 * w, 0] ho3).view.emb x 0).val = 16 * w + (x 0).val ∧ ((srcM ![16 * w, 0] ho3).view.emb x 1).val = (x 1).val := by
  constructor
  · show 16 * w + 1 * (x 0).val = _; omega
  · show 0 + 1 * (x 1).val = _; omega

theorem dst_emb (p r : ℕ) (ho : ∀ a, (![p, 0, 0] : Fin 3 → ℕ) a + S1x4096x128.size a ≤ S2x4096x128.size a)
    (ho2 : ∀ a, (![16 * r, 0] : Fin 2 → ℕ) a + S16x128.size a ≤ S4096x128.size a) (x : S16x128.Idx) :
    ((dstM ![p, 0, 0] ho ![16 * r, 0] ho2).view.emb x 0).val = p
      ∧ ((dstM ![p, 0, 0] ho ![16 * r, 0] ho2).view.emb x 1).val = 16 * r + (x 0).val
      ∧ ((dstM ![p, 0, 0] ho ![16 * r, 0] ho2).view.emb x 2).val = (x 1).val := by
  have hx0 : (x 0).val < 16 := (x 0).isLt
  have hx1 : (x 1).val < 128 := (x 1).isLt
  have hr : 16 * r + 16 ≤ 4096 := ho2 0
  have key : Shape.reshapeEquiv (s := S1x4096x128) (s' := S4096x128) squeezes_S1x4096x128_S4096x128.numel_eq
      ((Rect.unit (s := S4096x128) ![16 * r, 0] S16x128.size ho2).emb x)
        = ix3 (0 : Fin 1) (⟨16 * r + (x 0).val, by omega⟩ : Fin 4096) (⟨(x 1).val, hx1⟩ : Fin 128) := by
    refine Eq.trans (congrArg _ ?_) (reshapeEquiv_ix2_1ab (a := 4096) (b := 128) squeezes_S1x4096x128_S4096x128.numel_eq ⟨16 * r + (x 0).val, by omega⟩ ⟨(x 1).val, hx1⟩)
    funext a; fin_cases a
    · apply Fin.ext; show 16 * r + 1 * (x 0).val = _; simp [ix2]
    · apply Fin.ext; show 0 + 1 * (x 1).val = _; simp [ix2]
  have e : (dstM ![p, 0, 0] ho ![16 * r, 0] ho2).view.emb x
      = (Rect.unit (s := S2x4096x128) ![p, 0, 0] S1x4096x128.size ho).emb
        (Shape.reshapeEquiv (s := S1x4096x128) (s' := S4096x128) squeezes_S1x4096x128_S4096x128.numel_eq
          ((Rect.unit (s := S4096x128) ![16 * r, 0] S16x128.size ho2).emb x)) := rfl
  rw [e, key]
  refine ⟨?_, ?_, ?_⟩
  · show p + 1 * 0 = p; omega
  · show 0 + 1 * (16 * r + (x 0).val) = _; omega
  · show 0 + 1 * (x 1).val = _; omega

theorem dst_set (p r : ℕ) (ho : ∀ a, (![p, 0, 0] : Fin 3 → ℕ) a + S1x4096x128.size a ≤ S2x4096x128.size a)
    (ho2 : ∀ a, (![16 * r, 0] : Fin 2 → ℕ) a + S16x128.size a ≤ S4096x128.size a) :
    (dstM ![p, 0, 0] ho ![16 * r, 0] ho2).view.set = dstSet p r := by
  ext y
  have hy2 : (y 2).val < 128 := (y 2).isLt
  simp only [dstSet, Finset.mem_filter, Finset.mem_univ, true_and, View.set, Finset.mem_map]
  constructor
  · rintro ⟨x, rfl⟩
    obtain ⟨h0, h1, h2⟩ := dst_emb p r ho ho2 x
    have hx0 : (x 0).val < 16 := (x 0).isLt
    exact ⟨h0, by rw [h1]; omega, by rw [h1]; omega⟩
  · rintro ⟨h0, h1, h2⟩
    refine ⟨(ix2 (⟨(y 1).val - 16 * r, by omega⟩ : Fin 16) (⟨(y 2).val, hy2⟩ : Fin 128) : S16x128.Idx), ?_⟩
    obtain ⟨g0, g1, g2⟩ := dst_emb p r ho ho2 (ix2 (⟨(y 1).val - 16 * r, by omega⟩ : Fin 16) (⟨(y 2).val, hy2⟩ : Fin 128) : S16x128.Idx)
    funext a; fin_cases a
    · exact Fin.ext (g0.trans h0.symm)
    · exact Fin.ext (g1.trans (show 16 * r + ((y 1).val - 16 * r) = (y 1).val by omega))
    · exact Fin.ext g2

theorem src_set (w : ℕ) (ho3 : ∀ a, (![16 * w, 0] : Fin 2 → ℕ) a + S16x128.size a ≤ S655360x128.size a) :
    (srcM ![16 * w, 0] ho3).view.set = srcSet w := by
  ext y
  have hy1 : (y 1).val < 128 := (y 1).isLt
  simp only [srcSet, Finset.mem_filter, Finset.mem_univ, true_and, View.set, Finset.mem_map]
  constructor
  · rintro ⟨x, rfl⟩
    obtain ⟨h0, h1⟩ := src_emb w ho3 x
    have hx0 : (x 0).val < 16 := (x 0).isLt
    exact ⟨by rw [h0]; omega, by rw [h0]; omega⟩
  · rintro ⟨h1, h2⟩
    refine ⟨(ix2 (⟨(y 0).val - 16 * w, by omega⟩ : Fin 16) (⟨(y 1).val, hy1⟩ : Fin 128) : S16x128.Idx), ?_⟩
    obtain ⟨g0, g1⟩ := src_emb w ho3 (ix2 (⟨(y 0).val - 16 * w, by omega⟩ : Fin 16) (⟨(y 1).val, hy1⟩ : Fin 128) : S16x128.Idx)
    funext a; fin_cases a
    · exact Fin.ext (g0.trans (show 16 * w + ((y 0).val - 16 * w) = (y 0).val by omega))
    · exact Fin.ext g1

/-- What a transfer leaves in the lines it writes. -/
theorem landed (W : ℕ → ℕ → ℕ) (Y : S655360x128.Idx → Elt F .f32) (f : S2x4096x128.Idx → Elt F .f32) (p r : ℕ)
    (hW : W p r < 40960)
    (ho : ∀ a, (![p, 0, 0] : Fin 3 → ℕ) a + S1x4096x128.size a ≤ S2x4096x128.size a)
    (ho2 : ∀ a, (![16 * r, 0] : Fin 2 → ℕ) a + S16x128.size a ≤ S4096x128.size a)
    (ho3 : ∀ a, (![16 * W p r, 0] : Fin 2 → ℕ) a + S16x128.size a ≤ S655360x128.size a) :
    ∀ y ∈ dstSet p r,
      (dstM ![p, 0, 0] ho ![16 * r, 0] ho2).view.write (Elt F) f ((srcM ![16 * W p r, 0] ho3).view.read (Elt F) Y) Finset.univ y
        = fetched W Y y := by
  intro y hy
  rw [← dst_set p r ho ho2, View.set, Finset.mem_map] at hy
  obtain ⟨x, -, rfl⟩ := hy
  obtain ⟨h0, h1, h2⟩ := dst_emb p r ho ho2 x
  obtain ⟨g0, g1⟩ := src_emb (W p r) ho3 x
  have hx0 : (x 0).val < 16 := (x 0).isLt
  rw [View.write_emb_of_mem (h := Finset.mem_univ x)]
  show Y ((srcM ![16 * W p r, 0] ho3).view.emb x) = _
  unfold fetched
  refine congrArg Y (funext fun a => ?_)
  fin_cases a
  · refine Fin.ext (g0.trans ?_)
    show _ = (16 * W _ (_ / 16) + _ % 16) % 655360
    rw [h0, h1, show (16 * r + (x 0).val) / 16 = r by omega, show (16 * r + (x 0).val) % 16 = (x 0).val by omega]
    omega
  · exact Fin.ext (g1.trans h2.symm)

end Cert.CombineIdeal.Body

end
-- ==== Proof.CombineIdealMoves.lean ====
/-
  The two loops of the combining kernel: the one that starts the transfers, and the one that waits for them.
-/
module

public import proofs.«01_k».proof.Defs
public import proofs.«01_k».proof.Proof.CombineIdealRows
public import proofs.«01_k».proof.Proof.Gen.CombineIdeal
public import proofs.«01_k».proof.Proof.Gen.CombineIdeal.Launch
public import proofs.«01_k».proof.Proof.Gen.CombineIdeal.Skeleton
public import Idealize.ShloMosaic.Lib.Pipeline.Kit
public import Idealize.ShloMosaic.Lib.Pipeline.Frame
public import Idealize.ShloMosaic.Lib.Pipeline.FrameBody
public import Idealize.ShloMosaic.Lib.Transfers
public import Idealize.ShloMosaic.Lib.Batch
public import Idealize.ShloMosaic.Lib.Ring
public import Idealize.ShloMosaic.Lib.ValueLayout
public import Idealize.ShloMosaic.Lib.Exec
public import Idealize.ShloMosaic.Lib.Affine
public import Idealize.ShloMosaic.Lib.Tactic

@[expose] public section

set_option maxRecDepth 16384
set_option Elab.async false

noncomputable section

namespace Cert.CombineIdeal.Body

open Cert.CombineIdeal Cert.CombineIdeal.Gen
open Idealize.ShloMosaic Idealize.ShloMosaic.ValueIdx
open Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F]

/-- The first table: the rows of the tokens' first experts. -/
abbrev tabA : Memref sig .tc .smem S16384 .i32 := Memref.whole main_v2
/-- The second table: the rows of the tokens' second experts. -/
abbrev tabB : Memref sig .tc .smem S16384 .i32 := Memref.whole main_v4

/-- Entry `n` of a table. -/
def cell (n : ℕ) : S16384.Idx :=
  fun a => match a with
    | ⟨0, _⟩ => ⟨n % 16384, Nat.mod_lt _ (by decide)⟩
    | ⟨_ + 1, h⟩ => absurd h (Nat.not_lt.2 (Nat.le_add_left _ _))

/-- The row that token `r` of the block takes from its expert number `p`. -/
def rowAt (i : grid0.Coords) (T₁ T₂ : S16384.Idx → Elt F .i32) (p r : ℕ) : ℕ :=
  if p = 0 then (T₁ (cell (256 * (i 0).val + r)) : BitVec 32).toNat else (T₂ (cell (256 * (i 0).val + r)) : BitVec 32).toNat

/-- The rows are rows of the experts' output. -/
def InRange (i : grid0.Coords) (T₁ T₂ : S16384.Idx → Elt F .i32) : Prop :=
  ∀ p r : ℕ, r < 256 → rowAt i T₁ T₂ p r < 40960

theorem trips1 : k0_t1_loop.trips = 256 := by decide
theorem trips2 : k0_t2_loop.trips = 256 := by decide

theorem coord_lt (i : grid0.Coords) : (i 0).val < 64 := (i 0).isLt

/-- A word below 40960 times sixteen. -/
theorem times16 (v : BitVec 32) (h : v.toNat < 40960) : (Scalar.muli v 16#32).toNat = 16 * v.toNat := by
  show (v * 16#32).toNat = _
  rw [BitVec.toNat_mul]
  have : (16#32 : BitVec 32).toNat = 16 := by decide
  rw [this]; omega

theorem off3_eq (v : BitVec 32) (h : v.toNat < 40960) : k0_off3 v = ![16 * v.toNat, 0] := by
  unfold k0_off3; rw [← times16 v h]
theorem off6_eq (v : BitVec 32) (h : v.toNat < 40960) : k0_off6 v = ![16 * v.toNat, 0] := by
  unfold k0_off6; rw [← times16 v h]

theorem inb16 (w : ℕ) (h : w < 40960) : ∀ a, (![16 * w, 0] : Fin 2 → ℕ) a + S16x128.size a ≤ S655360x128.size a := by
  intro a; fin_cases a
  · show 16 * w + 16 ≤ 655360; omega
  · show 0 + 128 ≤ 128; omega

theorem chk1_of (v : BitVec 32) (h : v.toNat < 40960) : k0_chk1 v := by
  refine ⟨?_, ?_⟩
  · unfold k0_mult1; rw [times16 v h]; exact ⟨_, rfl⟩
  · rw [off3_eq v h]; exact inb16 _ h
theorem chk2_of (v : BitVec 32) (h : v.toNat < 40960) : k0_chk2 v := by
  refine ⟨?_, ?_⟩
  · unfold k0_mult3; rw [times16 v h]; exact ⟨_, rfl⟩
  · rw [off6_eq v h]; exact inb16 _ h
theorem chk3_of (v : BitVec 32) (h : v.toNat < 40960) : k0_chk3 v := chk1_of v h
theorem chk4_of (v : BitVec 32) (h : v.toNat < 40960) : k0_chk4 v := chk2_of v h

theorem off2_eq (k : Fin k0_t1_loop.trips) : k0_off2 k = ![16 * k.val, 0] := by
  have hk := lt_of_lt_of_eq k.isLt trips1
  unfold k0_off2
  have : (Scalar.muli (Scf.iv 0#32 1#32 k) 16#32).toNat = 16 * k.val := by
    show ((0#32 + BitVec.ofNat 32 k.val * 1#32) * 16#32).toNat = _
    simp only [BitVec.toNat_mul, BitVec.toNat_add, BitVec.toNat_ofNat]
    omega
  exact congrArg (fun w : ℕ => (![w, 0] : Fin 2 → ℕ)) this
theorem off5_eq (k : Fin k0_t1_loop.trips) : k0_off5 k = ![16 * k.val, 0] := off2_eq k

theorem off1_eq (i : grid0.Coords) (k : Fin k0_t1_loop.trips) : k0_off1 i k = ![256 * (i 0).val + k.val] := by
  have hk := lt_of_lt_of_eq k.isLt trips1
  have hi := coord_lt i
  unfold k0_off1
  have : (Scalar.indexCast (Scalar.addi (Scalar.muli (BitVec.ofNat 32 (i 0).val) 256#32) (Scf.iv 0#32 1#32 k))).toNat = 256 * (i 0).val + k.val := by
    show (BitVec.ofNat 32 (i 0).val * 256#32 + (0#32 + BitVec.ofNat 32 k.val * 1#32)).toNat = _
    simp only [BitVec.toNat_mul, BitVec.toNat_add, BitVec.toNat_ofNat]
    omega
  exact congrArg (fun w : ℕ => (![w] : Fin 1 → ℕ)) this

/-- The word that trip `k` reads of the first table. -/
abbrev wordA (i : grid0.Coords) (k : Fin k0_t1_loop.trips) (T₁ : S16384.Idx → Elt F .i32) : BitVec 32 :=
  View.readAt (Elt F) tabA.view (Rect.unit (s := S16384) (k0_off1 i k) S1.size (k0_off1_inb i k)).toLoadRect T₁
    (Shape.Idx.first (numel1_S1.symm ▸ Nat.one_pos))
/-- The word that trip `k` reads of the second table. -/
abbrev wordB (i : grid0.Coords) (k : Fin k0_t1_loop.trips) (T₂ : S16384.Idx → Elt F .i32) : BitVec 32 :=
  View.readAt (Elt F) tabB.view (Rect.unit (s := S16384) (k0_off4 i k) S1.size (k0_off4_inb i k)).toLoadRect T₂
    (Shape.Idx.first (numel1_S1.symm ▸ Nat.one_pos))

theorem at_off (T : S16384.Idx → Elt F .i32) (o : Fin 1 → ℕ) (n : ℕ) (hn : n < 16384) (ho : o = ![n]) (x : S16384.Idx)
    (hx : (x 0).val = o 0) : T x = T (cell n) := by
  refine congrArg T (funext fun a => ?_)
  match a with
  | ⟨0, _⟩ =>
    apply Fin.ext
    show (x 0).val = n % 16384
    rw [hx, ho, Nat.mod_eq_of_lt hn]; rfl

theorem wordA_eq (i : grid0.Coords) (k : Fin k0_t1_loop.trips) (T₁ : S16384.Idx → Elt F .i32) :
    wordA i k T₁ = T₁ (cell (256 * (i 0).val + k.val)) := by
  have hk := lt_of_lt_of_eq k.isLt trips1
  have hi := coord_lt i
  exact at_off T₁ (k0_off1 i k) _ (by omega) (off1_eq i k) _ (by show k0_off1 i k 0 + 1 * 0 = _; omega)

theorem wordB_eq (i : grid0.Coords) (k : Fin k0_t1_loop.trips) (T₂ : S16384.Idx → Elt F .i32) :
    wordB i k T₂ = T₂ (cell (256 * (i 0).val + k.val)) := by
  have hk := lt_of_lt_of_eq k.isLt trips1
  have hi := coord_lt i
  exact at_off T₂ (k0_off4 i k) _ (by omega) (off1_eq i k) _ (by show k0_off4 i k 0 + 1 * 0 = _; omega)

/-- The elements of a buffer outside a set. -/
def outside {ℓ : Loc nD τ sig} (S : Finset (Idx ℓ)) (q : PosShare TreeShare) (f : Buf (Elt F) ℓ) : sProp (World F) :=
  ℓ ↦[Finset.univ \ S]{q} f

/-- A buffer held whole is the elements of a set of its own and the others, -/
theorem split_set {ℓ : Loc nD τ sig} (S : Finset (Idx ℓ)) {q : PosShare TreeShare} {f : Buf (Elt F) ℓ} :
    (ℓ ↦{q} f : sProp (World F)) ⊢ iprop((ℓ ↦[S]{q} f) ∗ outside S q f) := by
  have e : S ∪ (Finset.univ \ S) = Finset.univ := Finset.union_sdiff_of_subset (Finset.subset_univ _)
  refine Entails.trans (Entails.of_eq ?_) (pointsTo_union (Finset.disjoint_sdiff (s := S) (t := Finset.univ))).1
  rw [e]

/-- and back. -/
theorem join_set {ℓ : Loc nD τ sig} (S : Finset (Idx ℓ)) {q : PosShare TreeShare} {f : Buf (Elt F) ℓ} :
    iprop((ℓ ↦[S]{q} f) ∗ outside S q f) ⊢ (ℓ ↦{q} f : sProp (World F)) := by
  have e : S ∪ (Finset.univ \ S) = Finset.univ := Finset.union_sdiff_of_subset (Finset.subset_univ _)
  refine Entails.trans (pointsTo_union (Finset.disjoint_sdiff (s := S) (t := Finset.univ))).2 (Entails.of_eq ?_)
  rw [e]

variable (c : Dev nD)

/-- The lines a transfer writes, at given contents. -/
abbrev lines (f : S2x4096x128.Idx → Elt F .f32) (t : Fin 512) : sProp (World F) :=
  scrM.view.loc (c : Thread nD τ) ↦[dstSet (t.val % 2) (t.val / 2)]{fullShare} f
/-- The experts' rows under transfer `t`'s part of the right to read, whole; -/
abbrev wholeTok (Y : S655360x128.Idx → Elt F .f32) (t : Fin 512) : sProp (World F) :=
  ysM.view.loc (c : Thread nD τ) ↦{Transfers.shareTokN fullShare t.val} Y
/-- the row it reads; -/
abbrev rowTok (W : ℕ → ℕ → ℕ) (Y : S655360x128.Idx → Elt F .f32) (t : Fin 512) : sProp (World F) :=
  ysM.view.loc (c : Thread nD τ) ↦[srcSet (W (t.val % 2) (t.val / 2))]{Transfers.shareTokN fullShare t.val} Y
/-- and the others. -/
abbrev restTok (W : ℕ → ℕ → ℕ) (Y : S655360x128.Idx → Elt F .f32) (t : Fin 512) : sProp (World F) :=
  outside (ℓ := ysM.view.loc (c : Thread nD τ)) (srcSet (W (t.val % 2) (t.val / 2))) (Transfers.shareTokN fullShare t.val) Y

/-- What transfer `t` delivers: the lines it has written, and the row it has read. -/
def deliv (W : ℕ → ℕ → ℕ) (Y : S655360x128.Idx → Elt F .f32) (t : Fin 512) : sProp (World F) :=
  iprop(lines c (fetched W Y) t ∗ rowTok c W Y t)

instance deliv_storable (W : ℕ → ℕ → ℕ) (Y : S655360x128.Idx → Elt F .f32) (t : Fin 512) :
    BI.Storable (upEmb : UEmb _ (World F)) (deliv c W Y t) := by
  unfold deliv; infer_instance

/-- One transfer counts this many units. -/
abbrev unitsOf : ℕ := (dstM (![0, 0, 0]) (by decide) (![0, 0]) (by decide)).view.amount (.dma sem0)

theorem units_eq (o : Fin 3 → ℕ) (ho : ∀ a, o a + S1x4096x128.size a ≤ S2x4096x128.size a)
    (o2 : Fin 2 → ℕ) (ho2 : ∀ a, o2 a + S16x128.size a ≤ S4096x128.size a) :
    (dstM o ho o2 ho2).view.amount (.dma sem0) = unitsOf := rfl

/-- `j` transfers started, `u` units waited for. -/
abbrev batch (W : ℕ → ℕ → ℕ) (Y : S655360x128.Idx → Elt F .f32) (j u : ℕ) : sProp (World F) :=
  Transfers.Batch (countersEmb (U := Pipeline.UD sig nD τ)) (c : Thread nD τ) (.dma sem0) () unitsOf (deliv c W Y) j u

/-- Transfer `j` started: it takes its lines and its row, and leaves the other rows of its part of the right to read. -/
theorem start [∀ e, Nonempty (Elt F e)] {α : Type} (W : ℕ → ℕ → ℕ) (Y : S655360x128.Idx → Elt F .f32) (f : S2x4096x128.Idx → Elt F .f32)
    (j : ℕ) (hj : j < 512) (hW : W (j % 2) (j / 2) < 40960)
    (o : Fin 3 → ℕ) (ho : ∀ a, o a + S1x4096x128.size a ≤ S2x4096x128.size a) (eo : o = ![j % 2, 0, 0])
    (o2 : Fin 2 → ℕ) (ho2 : ∀ a, o2 a + S16x128.size a ≤ S4096x128.size a) (eo2 : o2 = ![16 * (j / 2), 0])
    (o3 : Fin 2 → ℕ) (ho3 : ∀ a, o3 a + S16x128.size a ≤ S655360x128.size a) (eo3 : o3 = ![16 * W (j % 2) (j / 2), 0])
    {hsrc : (srcM o3 ho3).view.WordExact} {hdst : (dstM o ho o2 ho2).view.WordExact}
    {hsem : DmaTarget.Typed (nD := nD) (τ := τ) (p := .tc) .hbm (.dma sem0) (.here (dstM o ho o2 ho2))}
    {k : PUnit → Prog (TpuEff nD τ sig (Elt F) Λ₀ .tc) α} {Q : α → sProp (World F)} :
    iprop(lines c f ⟨j, hj⟩ ∗ wholeTok c Y ⟨j, hj⟩ ∗ batch c W Y j 0)
      ⊢ iprop((restTok c W Y ⟨j, hj⟩ -∗ batch c W Y (j + 1) 0 -∗ wp frame (wpE (defs₀ (F := F)) Variants.none (c : Thread nD τ) none) Set.univ (k ⟨⟩) Q)
          -∗ wp frame (wpE (defs₀ (F := F)) Variants.none (c : Thread nD τ) none) Set.univ
              (.op (.enqueueDma (srcM o3 ho3) (.here (dstM o ho o2 ho2)) (.dma sem0) hsrc hdst hsem) k) Q) := by
  subst eo eo2 eo3
  iintro ⟨HL, HT, HB⟩ Hk
  ihave HT' := (show wholeTok c Y ⟨j, hj⟩ ⊢ iprop(rowTok c W Y ⟨j, hj⟩ ∗ restTok c W Y ⟨j, hj⟩) from split_set _) $$ HT
  icases HT' with ⟨HR, HS⟩
  iapply (Transfers.wp_dmaBatch (countersEmb (U := Pipeline.UD sig nD τ)) Variants.none (c : Thread nD τ) none (D := deliv c W Y) (j := j) (u := 0)
    (q := Transfers.shareTokN fullShare j) (fs := Y) (fd := f) (Sd := dstSet (j % 2) (j / 2)) (α := α)
    () unitsOf (units_eq _ _ _ _) (dst_set _ _ ho ho2).subset hj (Nat.zero_le _) ?_) $$ [HR HL HB]
  · rw [src_set]
    unfold deliv
    rw [pointsTo_congr (landed W Y f _ _ hW ho ho2 ho3)]
  · isplitl [HR]
    · rw [src_set]; iexact HR
    isplitl [HL]; · iexact HL
    iexact HB
  iintro HB
  iapply Hk $$ HS HB

end Cert.CombineIdeal.Body

end
-- ==== Proof.CombineIdealLoops.lean ====
/-
  One trip of each of the combining kernel's two loops.
-/
module

public import proofs.«01_k».proof.Defs
public import proofs.«01_k».proof.Proof.CombineIdealMoves
public import proofs.«01_k».proof.Proof.Gen.CombineIdeal
public import proofs.«01_k».proof.Proof.Gen.CombineIdeal.Launch
public import proofs.«01_k».proof.Proof.Gen.CombineIdeal.Skeleton
public import Idealize.ShloMosaic.Lib.Pipeline.Kit
public import Idealize.ShloMosaic.Lib.Pipeline.Frame
public import Idealize.ShloMosaic.Lib.Pipeline.FrameBody
public import Idealize.ShloMosaic.Lib.Transfers
public import Idealize.ShloMosaic.Lib.Batch
public import Idealize.ShloMosaic.Lib.Ring
public import Idealize.ShloMosaic.Lib.ValueLayout
public import Idealize.ShloMosaic.Lib.Exec
public import Idealize.ShloMosaic.Lib.Affine
public import Idealize.ShloMosaic.Lib.Tactic

@[expose] public section

set_option maxRecDepth 16384
set_option Elab.async false

noncomputable section

namespace Cert.CombineIdeal.Body

open Cert.CombineIdeal Cert.CombineIdeal.Gen
open Idealize.ShloMosaic Idealize.ShloMosaic.ValueIdx
open Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F]

variable (c : Dev nD) (i : grid0.Coords)

/-- What is held before trip `k` of the loop that starts the transfers. -/
def issueAt (qa qb : PosShare TreeShare) (T₁ T₂ : S16384.Idx → Elt F .i32) (Y : S655360x128.Idx → Elt F .f32) (f : S2x4096x128.Idx → Elt F .f32) (k : ℕ) (_ : Unit) :
    sProp (World F) :=
  iprop(batch c (rowAt i T₁ T₂) Y (2 * k) 0
    ∗ (tabA.view.loc (c : Thread nD τ) ↦{qa} T₁) ∗ (tabB.view.loc (c : Thread nD τ) ↦{qb} T₂)
    ∗ bigSep (Transfers.pending (2 * k)) (lines c f)
    ∗ bigSep (Transfers.pending (2 * k)) (wholeTok c Y)
    ∗ bigSep (Transfers.issued (2 * k)) (restTok c (rowAt i T₁ T₂) Y))

theorem pendingTwo (Φ : Fin 512 → sProp (World F)) (k : ℕ) (hk : k < 256) :
    bigSep (Transfers.pending (2 * k)) Φ
      = iprop(Φ ⟨2 * k, by omega⟩ ∗ Φ ⟨2 * k + 1, by omega⟩ ∗ bigSep (Transfers.pending (2 * (k + 1))) Φ) := by
  rw [show 2 * (k + 1) = 2 * k + 1 + 1 by omega, Transfers.bigSep_pending_step Φ (2 * k) (by omega), Transfers.bigSep_pending_step Φ (2 * k + 1) (by omega)]

theorem issuedTwo (Φ : Fin 512 → sProp (World F)) (k : ℕ) (hk : k < 256) :
    bigSep (Transfers.issued (2 * (k + 1))) Φ
      = iprop(Φ ⟨2 * k + 1, by omega⟩ ∗ Φ ⟨2 * k, by omega⟩ ∗ bigSep (Transfers.issued (2 * k)) Φ) := by
  rw [show 2 * (k + 1) = 2 * k + 1 + 1 by omega, Transfers.issued_succ (by omega : 2 * k + 1 < 512),
    bigSep_insert (Transfers.not_mem_issued _), Transfers.issued_succ (by omega : 2 * k < 512),
    bigSep_insert (Transfers.not_mem_issued _)]
  rfl

set_option maxHeartbeats 4000000 in
/-- A trip of the first loop starts two transfers. -/
theorem issue_step [∀ e, Nonempty (Elt F e)]
    (arg3 : Memref sig .tc .vmem S256x2048 .f32) (harg3 : arg3.IsWhole) (arg4 : Memref sig .tc .vmem S256x2 .f32) (harg4 : arg4.IsWhole)
    (arg5 : Memref sig .tc .vmem S1x2048 .f32) (harg5 : arg5.IsWhole) (arg7 : Memref sig .tc .vmem S256x2048 .f32) (harg7 : arg7.IsWhole)
    (qa qb : PosShare TreeShare) (T₁ T₂ : S16384.Idx → Elt F .i32) (hR : InRange i T₁ T₂) (Y : S655360x128.Idx → Elt F .f32) (f : S2x4096x128.Idx → Elt F .f32)
    (k : Fin k0_t1_loop.trips) (acc : Unit) :
    issueAt c i qa qb T₁ T₂ Y f k acc
      ⊢ wp frame (wpE (defs₀ (F := F)) Variants.none (c : Thread nD τ) none) Set.univ
          (k0_t1_body (F := F) i tabA (Memref.isWhole_whole _) tabB (Memref.isWhole_whole _) arg3 harg3 arg4 harg4 arg5 harg5
            ysM (Memref.isWhole_whole _) arg7 harg7 scrM (Memref.isWhole_whole _) cc0_scratch1 k acc)
          (issueAt c i qa qb T₁ T₂ Y f (k.val + 1)) := by
  have hk := lt_of_lt_of_eq k.isLt trips1
  have rA : rowAt i T₁ T₂ 0 k.val < 40960 := hR 0 _ hk
  have rB : rowAt i T₁ T₂ 1 k.val < 40960 := hR 1 _ hk
  have eA : (wordA i k T₁).toNat = rowAt i T₁ T₂ 0 k.val := by rw [wordA_eq]; rfl
  have eB : (wordB i k T₂).toNat = rowAt i T₁ T₂ 1 k.val := by rw [wordB_eq]; rfl
  have hc1 : k0_chk1 (wordA i k T₁) := chk1_of _ (eA ▸ rA)
  have hc2 : k0_chk2 (wordB i k T₂) := chk2_of _ (eB ▸ rB)
  have m0 : 2 * k.val % 2 = 0 := by omega
  have d0 : 2 * k.val / 2 = k.val := by omega
  have m1 : (2 * k.val + 1) % 2 = 1 := by omega
  have d1 : (2 * k.val + 1) / 2 = k.val := by omega
  unfold issueAt
  rw [pendingTwo (lines c f) k.val hk, pendingTwo (wholeTok c Y) k.val hk, issuedTwo (restTok c (rowAt i T₁ T₂) Y) k.val hk]
  iintro ⟨HB, HA, HC, ⟨HL0, HL1, HL⟩, ⟨HT0, HT1, HT⟩, HR⟩
  sl_unfold [k0_t1_body]
  sl_exec
  iapply (start c (rowAt i T₁ T₂) Y f (2 * k.val) (by omega) (by rw [m0, d0]; exact rA) _ _ (by rw [m0]) _ _ (by rw [d0]; exact off2_eq k)
    _ _ (by rw [m0, d0, ← eA]; exact off3_eq _ (eA ▸ rA))) $$ [HL0 HT0 HB]
  · isplitl [HL0]; · iexact HL0
    isplitl [HT0] <;> iassumption
  iintro HR0 HB
  sl_exec
  iapply (start c (rowAt i T₁ T₂) Y f (2 * k.val + 1) (by omega) (by rw [m1, d1]; exact rB) _ _ (by rw [m1]) _ _ (by rw [d1]; exact off5_eq k)
    _ _ (by rw [m1, d1, ← eB]; exact off6_eq _ (eB ▸ rB))) $$ [HL1 HT1 HB]
  · isplitl [HL1]; · iexact HL1
    isplitl [HT1] <;> iassumption
  iintro HR1 HB
  sl_step
  isplitl [HB]; · iexact HB
  isplitl [HA]; · iexact HA
  isplitl [HC]; · iexact HC
  isplitl [HL]; · iexact HL
  isplitl [HT]; · iexact HT
  isplitl [HR1]; · iexact HR1
  isplitl [HR0] <;> iassumption

/-- What is held before trip `k` of the loop that waits: the transfers, of which `2 k` are waited for; after the last
    trip the counter at zero and all that the transfers deliver. -/
def drainAt (qa qb : PosShare TreeShare) (T₁ T₂ : S16384.Idx → Elt F .i32) (Y : S655360x128.Idx → Elt F .f32) (k : ℕ) (_ : Unit) : sProp (World F) :=
  iprop(⌜k ≤ 256⌝ ∗ (∃ W, owes (c : Thread nD τ) 0 W)
    ∗ (tabA.view.loc (c : Thread nD τ) ↦{qa} T₁) ∗ (tabB.view.loc (c : Thread nD τ) ↦{qb} T₂)
    ∗ (if k < 256 then batch c (rowAt i T₁ T₂) Y 512 (2 * k * unitsOf)
       else iprop(semVal ((c : Thread nD τ), SemLoc.dma sem0) 0 ∗ bigSep Finset.univ (deliv c (rowAt i T₁ T₂) Y))))

theorem chkA (k : Fin k0_t2_loop.trips) (T₁ T₂ : S16384.Idx → Elt F .i32) (hR : InRange i T₁ T₂) :
    k0_chk3 (View.readAt (Elt F) tabA.view (Rect.unit (s := S16384) (k0_off7 i k) S1.size (k0_off7_inb i k)).toLoadRect T₁
      (Shape.Idx.first (numel1_S1.symm ▸ Nat.one_pos)) : BitVec 32) := by
  have hk := lt_of_lt_of_eq k.isLt trips2
  refine chk3_of _ ?_
  exact (congrArg BitVec.toNat (wordA_eq i (k.cast rfl) T₁)).trans_lt (hR 0 _ hk)

theorem chkB (k : Fin k0_t2_loop.trips) (T₁ T₂ : S16384.Idx → Elt F .i32) (hR : InRange i T₁ T₂) :
    k0_chk4 (View.readAt (Elt F) tabB.view (Rect.unit (s := S16384) (k0_off10 i k) S1.size (k0_off10_inb i k)).toLoadRect T₂
      (Shape.Idx.first (numel1_S1.symm ▸ Nat.one_pos)) : BitVec 32) := by
  have hk := lt_of_lt_of_eq k.isLt trips2
  refine chk4_of _ ?_
  exact (congrArg BitVec.toNat (wordB_eq i (k.cast rfl) T₂)).trans_lt (hR 1 _ hk)

theorem units_pos : 0 < unitsOf := by decide

set_option maxHeartbeats 4000000 in
/-- A trip of the second loop waits for two transfers. -/
theorem drain_step [∀ e, Nonempty (Elt F e)]
    (arg3 : Memref sig .tc .vmem S256x2048 .f32) (harg3 : arg3.IsWhole) (arg4 : Memref sig .tc .vmem S256x2 .f32) (harg4 : arg4.IsWhole)
    (arg5 : Memref sig .tc .vmem S1x2048 .f32) (harg5 : arg5.IsWhole) (arg7 : Memref sig .tc .vmem S256x2048 .f32) (harg7 : arg7.IsWhole)
    (qa qb : PosShare TreeShare) (T₁ T₂ : S16384.Idx → Elt F .i32) (hR : InRange i T₁ T₂) (Y : S655360x128.Idx → Elt F .f32)
    (k : Fin k0_t2_loop.trips) (acc : Unit) :
    drainAt c i qa qb T₁ T₂ Y k acc
      ⊢ wp frame (wpE (defs₀ (F := F)) Variants.none (c : Thread nD τ) none) Set.univ
          (k0_t2_body (F := F) i tabA (Memref.isWhole_whole _) tabB (Memref.isWhole_whole _) arg3 harg3 arg4 harg4 arg5 harg5
            ysM (Memref.isWhole_whole _) arg7 harg7 scrM (Memref.isWhole_whole _) cc0_scratch1 k acc)
          (drainAt c i qa qb T₁ T₂ Y (k.val + 1)) := by
  have hk := lt_of_lt_of_eq k.isLt trips2
  have hc3 := chkA i k T₁ T₂ hR
  have hc4 := chkB i k T₁ T₂ hR
  have hp := units_pos
  unfold drainAt
  rw [if_pos hk]
  rcases Nat.lt_or_ge (k.val + 1) 256 with h1 | h1
  · rw [if_pos h1]
    iintro ⟨-, ⟨%V0, HO⟩, HA, HC, HB⟩
    sl_unfold [k0_t2_body]
    sl_exec
    sl_step
    isplitr; · ipureintro; omega
    isplitl [HO]; · iexists _; iexact HO
    isplitl [HA]; · iexact HA
    isplitl [HC]; · iexact HC
    rw [show 2 * (k.val + 1) * unitsOf = 2 * k.val * unitsOf + unitsOf + unitsOf by ring]
    iexact HB
  · rw [if_neg (Nat.not_lt.mpr h1)]
    iintro ⟨-, ⟨%V0, HO⟩, HA, HC, HB⟩
    sl_unfold [k0_t2_body]
    sl_exec
    sl_step
    isplitr; · ipureintro; omega
    isplitl [HO]; · iexists _; iexact HO
    isplitl [HA]; · iexact HA
    isplitl [HC]; · iexact HC
    isplitl [HB]; · iexact HB
    iexact HB_all

end Cert.CombineIdeal.Body

end
-- ==== Proof.CombineIdealBlock.lean ====
/-
  The block of combined rows that the combining kernel stores, in closed form.
-/
module

public import proofs.«01_k».proof.Defs
public import proofs.«01_k».proof.Proof.CombineIdealRows
public import proofs.«01_k».proof.Proof.Gen.CombineIdeal
public import proofs.«01_k».proof.Proof.Gen.CombineIdeal.Launch
public import proofs.«01_k».proof.Proof.Gen.CombineIdeal.Skeleton
public import Idealize.ShloMosaic.Lib.Pipeline.Kit
public import Idealize.ShloMosaic.Lib.Pipeline.Frame
public import Idealize.ShloMosaic.Lib.Pipeline.FrameBody
public import Idealize.ShloMosaic.Lib.Transfers
public import Idealize.ShloMosaic.Lib.Batch
public import Idealize.ShloMosaic.Lib.Ring
public import Idealize.ShloMosaic.Lib.ValueLayout
public import Idealize.ShloMosaic.Lib.Exec
public import Idealize.ShloMosaic.Lib.Affine
public import Idealize.ShloMosaic.Lib.Tactic
public import Idealize.ShloMosaic.Lib.WholeRead
public import Idealize.ShloMosaic.Lib.VecWindow
public import Idealize.ShloMosaic.Lib.Pointwise
public import Idealize.ShloMosaic.Lib.Pipeline.ValueKit
public import Idealize.ShloMosaic.Lib.Pipeline.ReadBack

@[expose] public section

set_option maxRecDepth 16384
set_option Elab.async false

noncomputable section

namespace Cert.CombineIdeal.Body

open Cert.CombineIdeal Cert.CombineIdeal.Gen
open Idealize.ShloMosaic
open Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F]

/-- The line of the scratch buffer that holds a piece of the row fetched for a token. -/
def lineOf (p : ℕ) (hp : p < 2) (j : S256x2048.Idx) : S2x4096x128.Idx :=
  at3 p (16 * (j 0).val + (j 1).val / 128) ((j 1).val % 128) hp
    (by
      have h0 : (j 0).val < 256 := (j 0).isLt
      have h1 : (j 1).val < 2048 := (j 1).isLt
      omega)
    (Nat.mod_lt _ (by decide))

/-- The token of a block that an element belongs to. -/
def tokOf (j : S256x2048.Idx) : Fin 256 := ⟨(j 0).val, (j 0).isLt⟩

/-- A block of tokens with the two fetched rows of each added, weighted by its two gates. -/
def mixAt (x0 : S256x2048.Idx → Elt F .f32) (g : S256x2.Idx → Elt F .f32) (S : S2x4096x128.Idx → Elt F .f32) : S256x2048.Idx → Elt F .f32 :=
  fun j => FloatOps.addf (x0 j)
    (FloatOps.addf (FloatOps.addf (Scalar.ofBits .f32 0x00000000#32 : F .f32)
        (FloatOps.mulf (g (ix2 (tokOf j) (0 : Fin 2))) (S (lineOf 0 (by decide) j))))
      (FloatOps.mulf (g (ix2 (tokOf j) (1 : Fin 2))) (S (lineOf 1 (by decide) j))))

/-- The stored block: the combined rows, normalised. -/
def stored (x0 : S256x2048.Idx → Elt F .f32) (g : S256x2.Idx → Elt F .f32) (x2 : S1x2048.Idx → Elt F .f32) (S : S2x4096x128.Idx → Elt F .f32) :
    S256x2048.Idx → Elt F .f32 :=
  k0_pay1 (k0_pay29 (mixAt x0 g S)) (k0_pay30 x2) (k0_pay31 (mixAt x0 g S)) k0_pay32

/-- A strided load of one residue of a plane, read at an index. -/
theorem plane_read {p s : ℕ} (hp : p < 2) (hs : s < 16) (S : S2x4096x128.Idx → Elt F .f32) (inb : _) (a : Fin 256) (b : Fin 128) :
    View.readAt (Elt F) scrM.view (⟨![p, s, 0], S1x256x128.size, ![1, 16, 1], inb⟩ : LoadRect S2x4096x128) S (ix3 (0 : Fin 1) a b)
      = S (at3 p (s + 16 * a.val) b.val hp (by have := a.isLt; omega) b.isLt) := by
  show S _ = _
  refine congrArg S (funext fun k => Fin.ext ?_)
  match k with
  | ⟨0, _⟩ => exact show p + 1 * 0 = p by omega
  | ⟨1, _⟩ => exact show s + 16 * a.val = s + 16 * a.val from rfl
  | ⟨2, _⟩ => exact show 0 + 1 * b.val = b.val by omega

/-- One column of pieces is a part of the combined block. -/
theorem column_piece {s o : ℕ} (hs : s < 16) (ho : o = s * 128) (arg3 : Memref sig .tc .vmem S256x2048 .f32) (harg3 : arg3.IsWhole)
    (g : S256x2.Idx → Elt F .f32) (S : S2x4096x128.Idx → Elt F .f32) (x0 : S256x2048.Idx → Elt F .f32)
    (inb0 : _) (inb1 : _) (inb : _) (z : S256x128.Idx) :
    k0_pay2 g (View.readAt (Elt F) scrM.view (⟨![0, s, 0], S1x256x128.size, ![1, 16, 1], inb0⟩ : LoadRect S2x4096x128) S)
        (View.readAt (Elt F) scrM.view (⟨![1, s, 0], S1x256x128.size, ![1, 16, 1], inb1⟩ : LoadRect S2x4096x128) S)
        (View.readAt (Elt F) arg3.view (Rect.unit (s := S256x2048) ![0, o] S256x128.size inb).toLoadRect (harg3.unread x0)) z
      = mixAt x0 g S ((Rect.unit (s := S256x2048) ![0, o] S256x128.size inb).emb z) := by
  subst ho
  have e0 := plane_read (F := F) (p := 0) (by decide) hs S inb0
  have e1 := plane_read (F := F) (p := 1) (by decide) hs S inb1
  have e2 : View.readAt (Elt F) arg3.view (Rect.unit (s := S256x2048) ![0, s * 128] S256x128.size inb).toLoadRect (harg3.unread x0) z
      = x0 ((Rect.unit (s := S256x2048) ![0, s * 128] S256x128.size inb).emb z) := by
    rw [View.readAt_eq_ld, Memref.IsWhole.read_unread]; rfl
  generalize View.readAt (Elt F) scrM.view (⟨![0, s, 0], S1x256x128.size, ![1, 16, 1], inb0⟩ : LoadRect S2x4096x128) S = A at e0 ⊢
  generalize View.readAt (Elt F) scrM.view (⟨![1, s, 0], S1x256x128.size, ![1, 16, 1], inb1⟩ : LoadRect S2x4096x128) S = B at e1 ⊢
  generalize View.readAt (Elt F) arg3.view (Rect.unit (s := S256x2048) ![0, s * 128] S256x128.size inb).toLoadRect (harg3.unread x0) = C at e2 ⊢
  obtain ⟨a, b, rfl⟩ : ∃ (a : Fin 256) (b : Fin 128), z = ix2 a b := ⟨z 0, z 1, eq_ix2 z⟩
  have ha := a.isLt
  have hb := b.isLt
  pointwise [k0_pay2]
  rw [e0, e1, e2]
  unfold mixAt
  have i0 : (((Rect.unit (s := S256x2048) ![0, s * 128] S256x128.size inb).emb (ix2 a b)) 0).val = a.val := show 0 + 1 * a.val = _ by omega
  have i1 : (((Rect.unit (s := S256x2048) ![0, s * 128] S256x128.size inb).emb (ix2 a b)) 1).val = s * 128 + b.val := show s * 128 + 1 * b.val = _ by omega
  have l : ∀ (p : ℕ) (hp : p < 2) (h : _), lineOf p hp ((Rect.unit (s := S256x2048) ![0, s * 128] S256x128.size inb).emb (ix2 a b))
      = at3 p (s + 16 * a.val) b.val hp h hb := fun p hp h => by
    refine funext fun k => Fin.ext ?_
    match k with
    | ⟨0, _⟩ => rfl
    | ⟨1, _⟩ => exact show 16 * _ + _ / 128 = s + 16 * a.val by rw [i0, i1]; omega
    | ⟨2, _⟩ => exact show _ % 128 = b.val by rw [i1]; omega
  rw [l 0 _ (by omega), l 1 _ (by omega)]
  have ga : tokOf ((Rect.unit (s := S256x2048) ![0, s * 128] S256x128.size inb).emb (ix2 a b)) = a := Fin.ext i0
  rw [ga]

/-- The sixteen stores of the combined rows, last first. -/
def mixPieces (arg3 : Memref sig .tc .vmem S256x2048 .f32) (harg3 : arg3.IsWhole) (g : S256x2.Idx → Elt F .f32)
    (S : S2x4096x128.Idx → Elt F .f32) (x0 : S256x2048.Idx → Elt F .f32) : List (View.Piece (Elt F) S256x2048 .f32) :=
  [⟨Rect.unit (s := S256x2048) ![0, 1920] S256x128.size inb_S256x2048_S256x128_0_1920,
      k0_pay2 g (View.readAt (Elt F) scrM.view (⟨![0, 15, 0], S1x256x128.size, ![1, 16, 1], inb_S2x4096x128_S1x256x128_0_15_0_s_1_16_1⟩ : LoadRect S2x4096x128) S)
        (View.readAt (Elt F) scrM.view (⟨![1, 15, 0], S1x256x128.size, ![1, 16, 1], inb_S2x4096x128_S1x256x128_1_15_0_s_1_16_1⟩ : LoadRect S2x4096x128) S)
        (View.readAt (Elt F) arg3.view (Rect.unit (s := S256x2048) ![0, 1920] S256x128.size inb_S256x2048_S256x128_0_1920).toLoadRect (harg3.unread x0))⟩,
   ⟨Rect.unit (s := S256x2048) ![0, 1792] S256x128.size inb_S256x2048_S256x128_0_1792,
      k0_pay2 g (View.readAt (Elt F) scrM.view (⟨![0, 14, 0], S1x256x128.size, ![1, 16, 1], inb_S2x4096x128_S1x256x128_0_14_0_s_1_16_1⟩ : LoadRect S2x4096x128) S)
        (View.readAt (Elt F) scrM.view (⟨![1, 14, 0], S1x256x128.size, ![1, 16, 1], inb_S2x4096x128_S1x256x128_1_14_0_s_1_16_1⟩ : LoadRect S2x4096x128) S)
        (View.readAt (Elt F) arg3.view (Rect.unit (s := S256x2048) ![0, 1792] S256x128.size inb_S256x2048_S256x128_0_1792).toLoadRect (harg3.unread x0))⟩,
   ⟨Rect.unit (s := S256x2048) ![0, 1664] S256x128.size inb_S256x2048_S256x128_0_1664,
      k0_pay2 g (View.readAt (Elt F) scrM.view (⟨![0, 13, 0], S1x256x128.size, ![1, 16, 1], inb_S2x4096x128_S1x256x128_0_13_0_s_1_16_1⟩ : LoadRect S2x4096x128) S)
        (View.readAt (Elt F) scrM.view (⟨![1, 13, 0], S1x256x128.size, ![1, 16, 1], inb_S2x4096x128_S1x256x128_1_13_0_s_1_16_1⟩ : LoadRect S2x4096x128) S)
        (View.readAt (Elt F) arg3.view (Rect.unit (s := S256x2048) ![0, 1664] S256x128.size inb_S256x2048_S256x128_0_1664).toLoadRect (harg3.unread x0))⟩,
   ⟨Rect.unit (s := S256x2048) ![0, 1536] S256x128.size inb_S256x2048_S256x128_0_1536,
      k0_pay2 g (View.readAt (Elt F) scrM.view (⟨![0, 12, 0], S1x256x128.size, ![1, 16, 1], inb_S2x4096x128_S1x256x128_0_12_0_s_1_16_1⟩ : LoadRect S2x4096x128) S)
        (View.readAt (Elt F) scrM.view (⟨![1, 12, 0], S1x256x128.size, ![1, 16, 1], inb_S2x4096x128_S1x256x128_1_12_0_s_1_16_1⟩ : LoadRect S2x4096x128) S)
        (View.readAt (Elt F) arg3.view (Rect.unit (s := S256x2048) ![0, 1536] S256x128.size inb_S256x2048_S256x128_0_1536).toLoadRect (harg3.unread x0))⟩,
   ⟨Rect.unit (s := S256x2048) ![0, 1408] S256x128.size inb_S256x2048_S256x128_0_1408,
      k0_pay2 g (View.readAt (Elt F) scrM.view (⟨![0, 11, 0], S1x256x128.size, ![1, 16, 1], inb_S2x4096x128_S1x256x128_0_11_0_s_1_16_1⟩ : LoadRect S2x4096x128) S)
        (View.readAt (Elt F) scrM.view (⟨![1, 11, 0], S1x256x128.size, ![1, 16, 1], inb_S2x4096x128_S1x256x128_1_11_0_s_1_16_1⟩ : LoadRect S2x4096x128) S)
        (View.readAt (Elt F) arg3.view (Rect.unit (s := S256x2048) ![0, 1408] S256x128.size inb_S256x2048_S256x128_0_1408).toLoadRect (harg3.unread x0))⟩,
   ⟨Rect.unit (s := S256x2048) ![0, 1280] S256x128.size inb_S256x2048_S256x128_0_1280,
      k0_pay2 g (View.readAt (Elt F) scrM.view (⟨![0, 10, 0], S1x256x128.size, ![1, 16, 1], inb_S2x4096x128_S1x256x128_0_10_0_s_1_16_1⟩ : LoadRect S2x4096x128) S)
        (View.readAt (Elt F) scrM.view (⟨![1, 10, 0], S1x256x128.size, ![1, 16, 1], inb_S2x4096x128_S1x256x128_1_10_0_s_1_16_1⟩ : LoadRect S2x4096x128) S)
        (View.readAt (Elt F) arg3.view (Rect.unit (s := S256x2048) ![0, 1280] S256x128.size inb_S256x2048_S256x128_0_1280).toLoadRect (harg3.unread x0))⟩,
   ⟨Rect.unit (s := S256x2048) ![0, 1152] S256x128.size inb_S256x2048_S256x128_0_1152,
      k0_pay2 g (View.readAt (Elt F) scrM.view (⟨![0, 9, 0], S1x256x128.size, ![1, 16, 1], inb_S2x4096x128_S1x256x128_0_9_0_s_1_16_1⟩ : LoadRect S2x4096x128) S)
        (View.readAt (Elt F) scrM.view (⟨![1, 9, 0], S1x256x128.size, ![1, 16, 1], inb_S2x4096x128_S1x256x128_1_9_0_s_1_16_1⟩ : LoadRect S2x4096x128) S)
        (View.readAt (Elt F) arg3.view (Rect.unit (s := S256x2048) ![0, 1152] S256x128.size inb_S256x2048_S256x128_0_1152).toLoadRect (harg3.unread x0))⟩,
   ⟨Rect.unit (s := S256x2048) ![0, 1024] S256x128.size inb_S256x2048_S256x128_0_1024,
      k0_pay2 g (View.readAt (Elt F) scrM.view (⟨![0, 8, 0], S1x256x128.size, ![1, 16, 1], inb_S2x4096x128_S1x256x128_0_8_0_s_1_16_1⟩ : LoadRect S2x4096x128) S)
        (View.readAt (Elt F) scrM.view (⟨![1, 8, 0], S1x256x128.size, ![1, 16, 1], inb_S2x4096x128_S1x256x128_1_8_0_s_1_16_1⟩ : LoadRect S2x4096x128) S)
        (View.readAt (Elt F) arg3.view (Rect.unit (s := S256x2048) ![0, 1024] S256x128.size inb_S256x2048_S256x128_0_1024).toLoadRect (harg3.unread x0))⟩,
   ⟨Rect.unit (s := S256x2048) ![0, 896] S256x128.size inb_S256x2048_S256x128_0_896,
      k0_pay2 g (View.readAt (Elt F) scrM.view (⟨![0, 7, 0], S1x256x128.size, ![1, 16, 1], inb_S2x4096x128_S1x256x128_0_7_0_s_1_16_1⟩ : LoadRect S2x4096x128) S)
        (View.readAt (Elt F) scrM.view (⟨![1, 7, 0], S1x256x128.size, ![1, 16, 1], inb_S2x4096x128_S1x256x128_1_7_0_s_1_16_1⟩ : LoadRect S2x4096x128) S)
        (View.readAt (Elt F) arg3.view (Rect.unit (s := S256x2048) ![0, 896] S256x128.size inb_S256x2048_S256x128_0_896).toLoadRect (harg3.unread x0))⟩,
   ⟨Rect.unit (s := S256x2048) ![0, 768] S256x128.size inb_S256x2048_S256x128_0_768,
      k0_pay2 g (View.readAt (Elt F) scrM.view (⟨![0, 6, 0], S1x256x128.size, ![1, 16, 1], inb_S2x4096x128_S1x256x128_0_6_0_s_1_16_1⟩ : LoadRect S2x4096x128) S)
        (View.readAt (Elt F) scrM.view (⟨![1, 6, 0], S1x256x128.size, ![1, 16, 1], inb_S2x4096x128_S1x256x128_1_6_0_s_1_16_1⟩ : LoadRect S2x4096x128) S)
        (View.readAt (Elt F) arg3.view (Rect.unit (s := S256x2048) ![0, 768] S256x128.size inb_S256x2048_S256x128_0_768).toLoadRect (harg3.unread x0))⟩,
   ⟨Rect.unit (s := S256x2048) ![0, 640] S256x128.size inb_S256x2048_S256x128_0_640,
      k0_pay2 g (View.readAt (Elt F) scrM.view (⟨![0, 5, 0], S1x256x128.size, ![1, 16, 1], inb_S2x4096x128_S1x256x128_0_5_0_s_1_16_1⟩ : LoadRect S2x4096x128) S)
        (View.readAt (Elt F) scrM.view (⟨![1, 5, 0], S1x256x128.size, ![1, 16, 1], inb_S2x4096x128_S1x256x128_1_5_0_s_1_16_1⟩ : LoadRect S2x4096x128) S)
        (View.readAt (Elt F) arg3.view (Rect.unit (s := S256x2048) ![0, 640] S256x128.size inb_S256x2048_S256x128_0_640).toLoadRect (harg3.unread x0))⟩,
   ⟨Rect.unit (s := S256x2048) ![0, 512] S256x128.size inb_S256x2048_S256x128_0_512,
      k0_pay2 g (View.readAt (Elt F) scrM.view (⟨![0, 4, 0], S1x256x128.size, ![1, 16, 1], inb_S2x4096x128_S1x256x128_0_4_0_s_1_16_1⟩ : LoadRect S2x4096x128) S)
        (View.readAt (Elt F) scrM.view (⟨![1, 4, 0], S1x256x128.size, ![1, 16, 1], inb_S2x4096x128_S1x256x128_1_4_0_s_1_16_1⟩ : LoadRect S2x4096x128) S)
        (View.readAt (Elt F) arg3.view (Rect.unit (s := S256x2048) ![0, 512] S256x128.size inb_S256x2048_S256x128_0_512).toLoadRect (harg3.unread x0))⟩,
   ⟨Rect.unit (s := S256x2048) ![0, 384] S256x128.size inb_S256x2048_S256x128_0_384,
      k0_pay2 g (View.readAt (Elt F) scrM.view (⟨![0, 3, 0], S1x256x128.size, ![1, 16, 1], inb_S2x4096x128_S1x256x128_0_3_0_s_1_16_1⟩ : LoadRect S2x4096x128) S)
        (View.readAt (Elt F) scrM.view (⟨![1, 3, 0], S1x256x128.size, ![1, 16, 1], inb_S2x4096x128_S1x256x128_1_3_0_s_1_16_1⟩ : LoadRect S2x4096x128) S)
        (View.readAt (Elt F) arg3.view (Rect.unit (s := S256x2048) ![0, 384] S256x128.size inb_S256x2048_S256x128_0_384).toLoadRect (harg3.unread x0))⟩,
   ⟨Rect.unit (s := S256x2048) ![0, 256] S256x128.size inb_S256x2048_S256x128_0_256,
      k0_pay2 g (View.readAt (Elt F) scrM.view (⟨![0, 2, 0], S1x256x128.size, ![1, 16, 1], inb_S2x4096x128_S1x256x128_0_2_0_s_1_16_1⟩ : LoadRect S2x4096x128) S)
        (View.readAt (Elt F) scrM.view (⟨![1, 2, 0], S1x256x128.size, ![1, 16, 1], inb_S2x4096x128_S1x256x128_1_2_0_s_1_16_1⟩ : LoadRect S2x4096x128) S)
        (View.readAt (Elt F) arg3.view (Rect.unit (s := S256x2048) ![0, 256] S256x128.size inb_S256x2048_S256x128_0_256).toLoadRect (harg3.unread x0))⟩,
   ⟨Rect.unit (s := S256x2048) ![0, 128] S256x128.size inb_S256x2048_S256x128_0_128,
      k0_pay2 g (View.readAt (Elt F) scrM.view (⟨![0, 1, 0], S1x256x128.size, ![1, 16, 1], inb_S2x4096x128_S1x256x128_0_1_0_s_1_16_1⟩ : LoadRect S2x4096x128) S)
        (View.readAt (Elt F) scrM.view (⟨![1, 1, 0], S1x256x128.size, ![1, 16, 1], inb_S2x4096x128_S1x256x128_1_1_0_s_1_16_1⟩ : LoadRect S2x4096x128) S)
        (View.readAt (Elt F) arg3.view (Rect.unit (s := S256x2048) ![0, 128] S256x128.size inb_S256x2048_S256x128_0_128).toLoadRect (harg3.unread x0))⟩,
   ⟨Rect.unit (s := S256x2048) ![0, 0] S256x128.size inb_S256x2048_S256x128_0_0,
      k0_pay2 g (View.readAt (Elt F) scrM.view (⟨![0, 0, 0], S1x256x128.size, ![1, 16, 1], inb_S2x4096x128_S1x256x128_0_0_0_s_1_16_1⟩ : LoadRect S2x4096x128) S)
        (View.readAt (Elt F) scrM.view (⟨![1, 0, 0], S1x256x128.size, ![1, 16, 1], inb_S2x4096x128_S1x256x128_1_0_0_s_1_16_1⟩ : LoadRect S2x4096x128) S)
        (View.readAt (Elt F) arg3.view (Rect.unit (s := S256x2048) ![0, 0] S256x128.size inb_S256x2048_S256x128_0_0).toLoadRect (harg3.unread x0))⟩]

/-- Each is its part of the combined block. -/
theorem mix_pieces (arg3 : Memref sig .tc .vmem S256x2048 .f32) (harg3 : arg3.IsWhole) (g : S256x2.Idx → Elt F .f32)
    (S : S2x4096x128.Idx → Elt F .f32) (x0 : S256x2048.Idx → Elt F .f32) : View.PiecesOf (mixAt x0 g S) (mixPieces arg3 harg3 g S x0) :=
  ⟨column_piece (s := 15) (by decide) (show 1920 = 15 * 128 from rfl) arg3 harg3 g S x0 inb_S2x4096x128_S1x256x128_0_15_0_s_1_16_1 inb_S2x4096x128_S1x256x128_1_15_0_s_1_16_1 inb_S256x2048_S256x128_0_1920,
   column_piece (s := 14) (by decide) (show 1792 = 14 * 128 from rfl) arg3 harg3 g S x0 inb_S2x4096x128_S1x256x128_0_14_0_s_1_16_1 inb_S2x4096x128_S1x256x128_1_14_0_s_1_16_1 inb_S256x2048_S256x128_0_1792,
   column_piece (s := 13) (by decide) (show 1664 = 13 * 128 from rfl) arg3 harg3 g S x0 inb_S2x4096x128_S1x256x128_0_13_0_s_1_16_1 inb_S2x4096x128_S1x256x128_1_13_0_s_1_16_1 inb_S256x2048_S256x128_0_1664,
   column_piece (s := 12) (by decide) (show 1536 = 12 * 128 from rfl) arg3 harg3 g S x0 inb_S2x4096x128_S1x256x128_0_12_0_s_1_16_1 inb_S2x4096x128_S1x256x128_1_12_0_s_1_16_1 inb_S256x2048_S256x128_0_1536,
   column_piece (s := 11) (by decide) (show 1408 = 11 * 128 from rfl) arg3 harg3 g S x0 inb_S2x4096x128_S1x256x128_0_11_0_s_1_16_1 inb_S2x4096x128_S1x256x128_1_11_0_s_1_16_1 inb_S256x2048_S256x128_0_1408,
   column_piece (s := 10) (by decide) (show 1280 = 10 * 128 from rfl) arg3 harg3 g S x0 inb_S2x4096x128_S1x256x128_0_10_0_s_1_16_1 inb_S2x4096x128_S1x256x128_1_10_0_s_1_16_1 inb_S256x2048_S256x128_0_1280,
   column_piece (s := 9) (by decide) (show 1152 = 9 * 128 from rfl) arg3 harg3 g S x0 inb_S2x4096x128_S1x256x128_0_9_0_s_1_16_1 inb_S2x4096x128_S1x256x128_1_9_0_s_1_16_1 inb_S256x2048_S256x128_0_1152,
   column_piece (s := 8) (by decide) (show 1024 = 8 * 128 from rfl) arg3 harg3 g S x0 inb_S2x4096x128_S1x256x128_0_8_0_s_1_16_1 inb_S2x4096x128_S1x256x128_1_8_0_s_1_16_1 inb_S256x2048_S256x128_0_1024,
   column_piece (s := 7) (by decide) (show 896 = 7 * 128 from rfl) arg3 harg3 g S x0 inb_S2x4096x128_S1x256x128_0_7_0_s_1_16_1 inb_S2x4096x128_S1x256x128_1_7_0_s_1_16_1 inb_S256x2048_S256x128_0_896,
   column_piece (s := 6) (by decide) (show 768 = 6 * 128 from rfl) arg3 harg3 g S x0 inb_S2x4096x128_S1x256x128_0_6_0_s_1_16_1 inb_S2x4096x128_S1x256x128_1_6_0_s_1_16_1 inb_S256x2048_S256x128_0_768,
   column_piece (s := 5) (by decide) (show 640 = 5 * 128 from rfl) arg3 harg3 g S x0 inb_S2x4096x128_S1x256x128_0_5_0_s_1_16_1 inb_S2x4096x128_S1x256x128_1_5_0_s_1_16_1 inb_S256x2048_S256x128_0_640,
   column_piece (s := 4) (by decide) (show 512 = 4 * 128 from rfl) arg3 harg3 g S x0 inb_S2x4096x128_S1x256x128_0_4_0_s_1_16_1 inb_S2x4096x128_S1x256x128_1_4_0_s_1_16_1 inb_S256x2048_S256x128_0_512,
   column_piece (s := 3) (by decide) (show 384 = 3 * 128 from rfl) arg3 harg3 g S x0 inb_S2x4096x128_S1x256x128_0_3_0_s_1_16_1 inb_S2x4096x128_S1x256x128_1_3_0_s_1_16_1 inb_S256x2048_S256x128_0_384,
   column_piece (s := 2) (by decide) (show 256 = 2 * 128 from rfl) arg3 harg3 g S x0 inb_S2x4096x128_S1x256x128_0_2_0_s_1_16_1 inb_S2x4096x128_S1x256x128_1_2_0_s_1_16_1 inb_S256x2048_S256x128_0_256,
   column_piece (s := 1) (by decide) (show 128 = 1 * 128 from rfl) arg3 harg3 g S x0 inb_S2x4096x128_S1x256x128_0_1_0_s_1_16_1 inb_S2x4096x128_S1x256x128_1_1_0_s_1_16_1 inb_S256x2048_S256x128_0_128,
   column_piece (s := 0) (by decide) (show 0 = 0 * 128 from rfl) arg3 harg3 g S x0 inb_S2x4096x128_S1x256x128_0_0_0_s_1_16_1 inb_S2x4096x128_S1x256x128_1_0_0_s_1_16_1 inb_S256x2048_S256x128_0_0, trivial⟩

/-- They cover the block. -/
theorem mix_cover (arg3 : Memref sig .tc .vmem S256x2048 .f32) (harg3 : arg3.IsWhole) (g : S256x2.Idx → Elt F .f32)
    (S : S2x4096x128.Idx → Elt F .f32) (x0 : S256x2048.Idx → Elt F .f32) : ∀ y, ∃ p ∈ mixPieces arg3 harg3 g S x0, y ∈ p.1.set :=
  View.cover_of_tiledL _ S256x128.size (by sl_kernel_rfl)

/-- Read back whole, they are the combined block. -/
theorem mix_read [∀ e, Nonempty (Elt F e)] (v : View sig .tc .vmem S256x2048 .f32) (arg3 : Memref sig .tc .vmem S256x2048 .f32) (harg3 : arg3.IsWhole) (g : S256x2.Idx → Elt F .f32)
    (S : S2x4096x128.Idx → Elt F .f32) (x0 : S256x2048.Idx → Elt F .f32) (inb : _) :
    View.readCov (Val := Elt F) v (mixPieces arg3 harg3 g S x0) (Rect.unit (s := S256x2048) ![0, 0] S256x2048.size inb).toLoadRect = mixAt x0 g S := by
  rw [View.readCov_eq_canon_ld _ _ _ (mix_cover arg3 harg3 g S x0)]
  have e : View.canon (mixPieces arg3 harg3 g S x0) = mixAt x0 g S :=
    funext fun y => View.canon_apply_of_pieces _ _ (mix_pieces arg3 harg3 g S x0).mem y (mix_cover arg3 harg3 g S x0 y)
  rw [e]
  exact View.ld_unit_lit (Val := Elt F) (S := S256x2048) (e := .f32) inb (mixAt x0 g S) (by decide)

/-- A whole block read back is the block. -/
theorem whole_read {s : Shape} {e : EltTy} (m : Memref sig .tc .vmem s e) (h : m.IsWhole) (x : s.Idx → Elt F e) {off : Fin s.rank → ℕ} (inb : _) :
    View.readAt (Elt F) m.view (Rect.unit (s := s) off s.size inb).toLoadRect (h.unread x) = x := by
  rw [View.readAt_full, Memref.IsWhole.read_unread]

end Cert.CombineIdeal.Body

end
-- ==== Proof.CombineIdealRun.lean ====
/-
  The combining kernel's body at one grid point.
-/
module

public import proofs.«01_k».proof.Defs
public import proofs.«01_k».proof.Proof.CombineIdealLoops
public import proofs.«01_k».proof.Proof.CombineIdealBlock
public import Idealize.ShloMosaic.Lib.Writes
public import proofs.«01_k».proof.Proof.Gen.CombineIdeal
public import proofs.«01_k».proof.Proof.Gen.CombineIdeal.Launch
public import proofs.«01_k».proof.Proof.Gen.CombineIdeal.Skeleton
public import Idealize.ShloMosaic.Lib.Pipeline.Kit
public import Idealize.ShloMosaic.Lib.Pipeline.Frame
public import Idealize.ShloMosaic.Lib.Pipeline.FrameBody
public import Idealize.ShloMosaic.Lib.Transfers
public import Idealize.ShloMosaic.Lib.Batch
public import Idealize.ShloMosaic.Lib.Ring
public import Idealize.ShloMosaic.Lib.ValueLayout
public import Idealize.ShloMosaic.Lib.Exec
public import Idealize.ShloMosaic.Lib.Affine
public import Idealize.ShloMosaic.Lib.Tactic

@[expose] public section

set_option maxRecDepth 16384
set_option Elab.async false

noncomputable section

namespace Cert.CombineIdeal.Body

open Cert.CombineIdeal Cert.CombineIdeal.Gen
open Idealize.ShloMosaic Idealize.ShloMosaic.ValueIdx
open Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F]

/-- The lines that transfer `t` writes. -/
abbrev part (t : Fin 512) : Finset S2x4096x128.Idx := dstSet (t.val % 2) (t.val / 2)

theorem mem_dstSet (p r : ℕ) (y : S2x4096x128.Idx) :
    y ∈ dstSet p r ↔ (y 0).val = p ∧ 16 * r ≤ (y 1).val ∧ (y 1).val < 16 * r + 16 := by
  simp only [dstSet, Finset.mem_filter, Finset.mem_univ, true_and]

theorem part_disjoint : ∀ t t' : Fin 512, t ≠ t' → Disjoint (part t) (part t') := fun t t' hne => by
  rw [Finset.disjoint_left]
  intro y hy hy'
  rw [mem_dstSet] at hy hy'
  exact hne (Fin.ext (by omega))

theorem part_cover : Finset.univ.biUnion part = Finset.univ := by
  ext y
  have h0 : (y 0).val < 2 := (y 0).isLt
  have h1 : (y 1).val < 4096 := (y 1).isLt
  simp only [Finset.mem_biUnion, Finset.mem_univ, true_and, iff_true]
  refine ⟨⟨2 * ((y 1).val / 16) + (y 0).val, by omega⟩, (mem_dstSet _ _ _).mpr ?_⟩
  show (y 0).val = (2 * ((y 1).val / 16) + (y 0).val) % 2 ∧ 16 * ((2 * ((y 1).val / 16) + (y 0).val) / 2) ≤ (y 1).val
    ∧ (y 1).val < 16 * ((2 * ((y 1).val / 16) + (y 0).val) / 2) + 16
  omega

variable (c : Dev nD) (i : grid0.Coords)

/-- The scratch buffer is its 512 parts. -/
theorem scratch_parts (f : S2x4096x128.Idx → Elt F .f32) :
    (scrM.view.loc (c : Thread nD τ) ↦{fullShare} f : sProp (World F)) = bigSep Finset.univ (lines c f) :=
  Ring.pointsTo_blocks (ℓ := scrM.view.loc (c : Thread nD τ)) (q := fullShare) part part_disjoint part_cover f

/-- All that the transfers deliver, with what was kept: the scratch buffer filled, and the experts' rows as they were. -/
theorem collect (W : ℕ → ℕ → ℕ) (Y : S655360x128.Idx → Elt F .f32) :
    iprop(bigSep Finset.univ (deliv c W Y) ∗ bigSep Finset.univ (restTok c W Y)
        ∗ (ysM.view.loc (c : Thread nD τ) ↦{Transfers.shareDrop fullShare 512} Y))
      ⊢ (iprop((scrM.view.loc (c : Thread nD τ) ↦{fullShare} fetched W Y) ∗ (ysM.view.loc (c : Thread nD τ) ↦{fullShare} Y)) : sProp (World F)) := by
  iintro ⟨HD, HR, HK⟩
  ihave HD' := (show bigSep Finset.univ (deliv c W Y) ⊢ iprop(bigSep Finset.univ (lines c (fetched W Y)) ∗ bigSep Finset.univ (rowTok c W Y))
    from Entails.of_eq (BI.bigSep_sep _ _ _)) $$ HD
  icases HD' with ⟨HL, HT⟩
  isplitl [HL]
  · rw [scratch_parts]; iexact HL
  iapply (Transfers.pointsTo_toks_join (S := Finset.univ) (ℓ := ysM.view.loc (c : Thread nD τ)) (f := Y) fullShare 512)
  isplitl [HK]; · iexact HK
  ihave HJ := (show iprop(bigSep Finset.univ (rowTok c W Y) ∗ bigSep Finset.univ (restTok c W Y)) ⊢ bigSep Finset.univ (wholeTok c Y)
    from (Entails.of_eq (BI.bigSep_sep _ _ _).symm).trans (BI.bigSep_mono fun t _ => join_set _)) $$ [HT HR]
  · isplitl [HT] <;> iassumption
  iexact HJ

set_option maxHeartbeats 8000000 in
theorem run [∀ e, Nonempty (Elt F e)]
    (arg3 : Memref sig .tc .vmem S256x2048 .f32) (harg3 : arg3.IsWhole) (arg4 : Memref sig .tc .vmem S256x2 .f32) (harg4 : arg4.IsWhole)
    (arg5 : Memref sig .tc .vmem S1x2048 .f32) (harg5 : arg5.IsWhole) (arg7 : Memref sig .tc .vmem S256x2048 .f32) (harg7 : arg7.IsWhole)
    (qa qb : PosShare TreeShare) (T₁ T₂ : S16384.Idx → Elt F .i32) (hR : InRange i T₁ T₂) (Y : S655360x128.Idx → Elt F .f32)
    (x0 : S256x2048.Idx → Elt F .f32) (x1 : S256x2.Idx → Elt F .f32) (x2 : S1x2048.Idx → Elt F .f32) (V0 : Waits sig Unit) (K : PUnit → sProp (World F)) :
    iprop(owns (c : Thread nD τ) arg3 fullShare x0
      ∗ owns (c : Thread nD τ) arg4 fullShare x1
      ∗ owns (c : Thread nD τ) arg5 fullShare x2
      ∗ (∃ d, owns (c : Thread nD τ) arg7 fullShare d)
      ∗ (tabA.view.loc (c : Thread nD τ) ↦{qa} T₁) ∗ (tabB.view.loc (c : Thread nD τ) ↦{qb} T₂)
      ∗ (ysM.view.loc (c : Thread nD τ) ↦{fullShare} Y)
      ∗ (∃ f, scrM.view.loc (c : Thread nD τ) ↦{fullShare} f)
      ∗ semVal ((c : Thread nD τ), SemLoc.dma sem0) 0
      ∗ owes (c : Thread nD τ) 0 V0
      ∗ (iprop(owns (c : Thread nD τ) arg3 fullShare x0
          ∗ owns (c : Thread nD τ) arg4 fullShare x1
          ∗ owns (c : Thread nD τ) arg5 fullShare x2
          ∗ owns (c : Thread nD τ) arg7 fullShare (stored x0 x1 x2 (fetched (rowAt i T₁ T₂) Y))
          ∗ (tabA.view.loc (c : Thread nD τ) ↦{qa} T₁) ∗ (tabB.view.loc (c : Thread nD τ) ↦{qb} T₂)
          ∗ (ysM.view.loc (c : Thread nD τ) ↦{fullShare} Y)
          ∗ (∃ f, scrM.view.loc (c : Thread nD τ) ↦{fullShare} f)
          ∗ semVal ((c : Thread nD τ), SemLoc.dma sem0) 0
          ∗ (∃ V1, owes (c : Thread nD τ) 0 V1)) -∗ K ⟨⟩))
      ⊢ wp frame (wpE (defs₀ (F := F)) Variants.none (c : Thread nD τ) none) Set.univ
          (cc0_moe_combine (F := F) i tabA (Memref.isWhole_whole _) tabB (Memref.isWhole_whole _) arg3 harg3 arg4 harg4 arg5 harg5
            ysM (Memref.isWhole_whole _) arg7 harg7 scrM (Memref.isWhole_whole _) cc0_scratch1) K := by
  have hS : scrM.IsWhole := Memref.isWhole_whole _
  rw [cc0_moe_combine_eq_skeleton]; unfold cc0_moe_combine_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold owns
  iintro ⟨⟨%f0, %hf0, H0⟩, ⟨%f1, %hf1, H1⟩, ⟨%f2, %hf2, H2⟩, ⟨%d3, %f3, -, H3⟩, HA, HC, HY, ⟨%fs, HS⟩, Hq, HO, Hk⟩
  obtain rfl := harg3.eq_unread hf0; obtain rfl := harg4.eq_unread hf1; obtain rfl := harg5.eq_unread hf2
  ihave HS' := (Entails.of_eq (scratch_parts c fs)) $$ HS
  ihave HY' := (Transfers.pointsTo_toks_split (S := Finset.univ) (ℓ := ysM.view.loc (c : Thread nD τ)) (f := Y) fullShare 512) $$ HY
  icases HY' with ⟨HYr, HYt⟩
  imod (Transfers.batch_alloc' (Lvl := ℕ) (countersEmb (U := Pipeline.UD sig nD τ)) (c : Thread nD τ) () unitsOf (deliv c (rowAt i T₁ T₂) Y)
    (sm := .dma sem0) (E := Set.univ)) $$ Hq with HB
  sl_exec
  sl_for (issueAt c i qa qb T₁ T₂ Y fs) $$ [HB HA HC HS' HYt]
  · intro k acc; exact issue_step c i arg3 harg3 arg4 harg4 arg5 harg5 arg7 harg7 qa qb T₁ T₂ hR Y fs k acc
  · unfold issueAt
    rw [show 2 * 0 = 0 from rfl, Transfers.pending_zero, Transfers.issued_zero, bigSep_empty]
    isplitl [HB]; · iexact HB
    isplitl [HA]; · iexact HA
    isplitl [HC]; · iexact HC
    isplitl [HS']; · iexact HS'
    isplitl [HYt]; · iexact HYt
    iempintro
  iintro %acc HI
  ihave HI' := (show issueAt c i qa qb T₁ T₂ Y fs k0_t1_loop.trips acc ⊢ iprop(batch c (rowAt i T₁ T₂) Y 512 0
      ∗ (tabA.view.loc (c : Thread nD τ) ↦{qa} T₁) ∗ (tabB.view.loc (c : Thread nD τ) ↦{qb} T₂)
      ∗ bigSep Finset.univ (restTok c (rowAt i T₁ T₂) Y)) from by
      unfold issueAt
      rw [trips1, show 2 * 256 = 512 from rfl, Transfers.issued_all rfl]
      iintro ⟨HB, HA, HC, -, -, HR⟩
      isplitl [HB]; · iexact HB
      isplitl [HA]; · iexact HA
      isplitl [HC] <;> iassumption) $$ HI
  icases HI' with ⟨HB, HA, HC, HR⟩
  sl_for (drainAt c i qa qb T₁ T₂ Y) $$ [HB HA HC HO]
  · intro k acc; exact drain_step c i arg3 harg3 arg4 harg4 arg5 harg5 arg7 harg7 qa qb T₁ T₂ hR Y k acc
  · unfold drainAt
    rw [if_pos (by decide), show 2 * 0 * unitsOf = 0 by ring]
    isplitr; · ipureintro; omega
    isplitl [HO]; · iexists _; iexact HO
    isplitl [HA]; · iexact HA
    isplitl [HC] <;> iassumption
  iintro %acc' HI
  ihave HI' := (show drainAt c i qa qb T₁ T₂ Y k0_t2_loop.trips acc' ⊢ iprop((∃ W, owes (c : Thread nD τ) 0 W)
      ∗ (tabA.view.loc (c : Thread nD τ) ↦{qa} T₁) ∗ (tabB.view.loc (c : Thread nD τ) ↦{qb} T₂)
      ∗ semVal ((c : Thread nD τ), SemLoc.dma sem0) 0 ∗ bigSep Finset.univ (deliv c (rowAt i T₁ T₂) Y)) from by
      unfold drainAt
      rw [trips2, if_neg (by decide)]
      iintro ⟨-, HO, HA, HC, Hs, HD⟩
      isplitl [HO]; · iexact HO
      isplitl [HA]; · iexact HA
      isplitl [HC]; · iexact HC
      isplitl [Hs] <;> iassumption) $$ HI
  icases HI' with ⟨⟨%V2, HO⟩, HA, HC, Hq, HD⟩
  ihave HJ := (collect c (rowAt i T₁ T₂) Y) $$ [HD HR HYr]
  · isplitl [HD]; · iexact HD
    isplitl [HR] <;> iassumption
  icases HJ with ⟨HS, HY⟩
  sl_exec
  have eg := whole_read (F := F) arg4 harg4 x1 (off := ![0, 0]) inb_S256x2_S256x2_0_0
  have e5 := whole_read (F := F) arg5 harg5 x2 (off := ![0, 0]) inb_S1x2048_S1x2048_0_0
  have eL : run.sl.H3_16 c i arg3 harg3 arg4 harg4 T₁ T₂ Y x0 x1
      = mixPieces arg3 harg3 (View.readAt (Elt F) arg4.view (Rect.unit (s := S256x2) ![0, 0] S256x2.size inb_S256x2_S256x2_0_0).toLoadRect (harg4.unread x1))
          (fetched (rowAt i T₁ T₂) Y) x0 := rfl
  rw [eg] at eL
  have ev : run.sl.v260 c i arg3 harg3 arg4 harg4 arg7 T₁ T₂ Y x0 x1 = mixAt x0 x1 (fetched (rowAt i T₁ T₂) Y) := by
    unfold run.sl.v260
    rw [eL]
    exact mix_read _ _ _ _ _ _ _
  have e12 : run.sl.r_12 c i arg3 harg3 arg4 harg4 arg7 T₁ T₂ Y x0 x1 = k0_pay29 (mixAt x0 x1 (fetched (rowAt i T₁ T₂) Y)) := by
    unfold run.sl.r_12
    rw [ev]
  have e13 : run.sl.r_13 c arg5 harg5 x2 = k0_pay30 x2 := by
    unfold run.sl.r_13
    rw [e5]
  have e14 : run.sl.r_14 c i arg3 harg3 arg4 harg4 arg7 T₁ T₂ Y x0 x1 = k0_pay31 (mixAt x0 x1 (fetched (rowAt i T₁ T₂) Y)) := by
    unfold run.sl.r_14
    rw [ev]
  sl_step
  iapply Hk
  isplitl [H0]; · iexists _; isplitr; (ipureintro; exact hf0); iexact H0
  isplitl [H1]; · iexists _; isplitr; (ipureintro; exact hf1); iexact H1
  isplitl [H2]; · iexists _; isplitr; (ipureintro; exact hf2); iexact H2
  isplitl [H3]
  · iexists _
    isplitr
    swap
    · iexact H3
    ipureintro
    rw [e12, e13, e14]
    exact View.read_writes_full _ _ _ _ _
  isplitl [HA]; · iexact HA
  isplitl [HC]; · iexact HC
  isplitl [HY]; · iexact HY
  isplitl [HS]; · iexists _; iexact HS
  isplitl [Hq]; · iexact Hq
  iexists _; iexact HO

end Cert.CombineIdeal.Body

end
-- ==== Proof.CombineIdealFrame.lean ====
/-
  The run of the combining kernel from launch to end: it terminates without a fault, leaves its arguments as they were,
  and its result array holds every block's answer.
-/
module

public import proofs.«01_k».proof.Proof.CombineIdealRun
public import Idealize.ShloMosaic.Lib.Claim

@[expose] public section

set_option maxRecDepth 16384
set_option Elab.async false

noncomputable section

namespace Cert.CombineIdeal.Body

open Cert.CombineIdeal Cert.CombineIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F] [∀ e, Nonempty (Elt F e)]

variable (m : (ℓ : Loc nD τ sig) → Buf (Elt F) ℓ) (ρ : Dev nD → PrngReg)

/-! ## What the kernel finds -/

/-- A buffer when the kernel starts: after the host operations before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- A buffer that no host operation writes is as launched. -/
theorem V_of (c : Dev nD) (b : Ref sig .tc) (h0 : b ≠ main_v0) (h1 : b ≠ main_v1) (h2 : b ≠ main_v2) (h3 : b ≠ main_v3) (h4 : b ≠ main_v4) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4⟩))

/-- The tables of rows, as the pipeline's. -/
def adm : (pcfg0 (F := F)).Adm := ⟨fun k => V m 0 (pre0.ref k), trivial⟩

/-- The pipeline at the tables' contents. -/
abbrev cfgA : Cfg sig Λ₀ := cfg0 (F := F) (adm m)

abbrev tabs1 (c : Dev nD) : S16384.Idx → Elt F .i32 := V m c main_v2
abbrev tabs2 (c : Dev nD) : S16384.Idx → Elt F .i32 := V m c main_v4
abbrev linesY (c : Dev nD) : S655360x128.Idx → Elt F .f32 := V m c main_arg4

theorem tables_hold (c : Dev nD) (k : Fin 2) : V m c (pre0.ref k) = (adm m).1 k := by
  obtain rfl : c = 0 := Subsingleton.elim (α := Fin 1) _ _
  rfl

/-- A point's coordinates. -/
abbrev crd (t : Fin (cfgA m).N) : (cfgA m).grid.Coords := (cfgA m).grid.coords t

abbrev ms0 (t : Fin (cfgA m).N) : Memref sig .tc .vmem S256x2048 .f32 := spec0_0.stage ((cfgA m).slots t (0 : Fin 4))
abbrev hs0 (t : Fin (cfgA m).N) : (ms0 m t).IsWhole := hstage0_0 (((cfgA m).slots t (0 : Fin 4)).cast nbuf0_0)
abbrev ms1 (t : Fin (cfgA m).N) : Memref sig .tc .vmem S256x2 .f32 := spec0_1.stage ((cfgA m).slots t (1 : Fin 4))
abbrev hs1 (t : Fin (cfgA m).N) : (ms1 m t).IsWhole := hstage0_1 (((cfgA m).slots t (1 : Fin 4)).cast nbuf0_1)
abbrev ms2 (t : Fin (cfgA m).N) : Memref sig .tc .vmem S1x2048 .f32 := spec0_2.stage ((cfgA m).slots t (2 : Fin 4))
abbrev hs2 (t : Fin (cfgA m).N) : (ms2 m t).IsWhole := hstage0_2 (((cfgA m).slots t (2 : Fin 4)).cast nbuf0_2)
abbrev ms3 (t : Fin (cfgA m).N) : Memref sig .tc .vmem S256x2048 .f32 := spec0_3.stage ((cfgA m).slots t (3 : Fin 4))
abbrev hs3 (t : Fin (cfgA m).N) : (ms3 m t).IsWhole := hstage0_3 (((cfgA m).slots t (3 : Fin 4)).cast nbuf0_3)

/-- A window's block at a point, read off its array. -/
def iblk (c : Dev nD) (w : Fin (cfgA m).W) (t : Fin (cfgA m).N) : (((cfgA m).win w).xblock (crd m t)).Idx → Elt F ((cfgA m).win w).elt :=
  (((cfgA m).win w).blk t).view.read (Elt F) (V m c (Pipeline.arrRef spec0 w))

/-! ## What is the kernel's own: its counter and the rows it fetches from -/

abbrev osem0 : Fin 1 → SemLoc sig := fun j => (![SemLoc.dma sem0] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp (World F))
      = iprop(semVal ((c : Thread nD τ), SemLoc.dma sem0) 0) := by
  rw [Pipeline.ownSems0_eq_of_list c osem0 [0] (by decide) (by decide)]; rfl

def H0 : Finset (Ref sig .tc) := {main_arg4}
theorem H0_sub : H0 ⊆ Pipeline.restRefsP sig pre0 spec0 := by decide
theorem hbmPts0_eq (c : Dev nD) :
    (bigSep H0 (fun b => ((c : Thread nD τ).loc b) ↦{fullShare} V m c b) : sProp (World F))
      = iprop(ysM.view.loc (c : Thread nD τ) ↦{fullShare} linesY m c) := by
  rw [BI.bigSep_eq_bigSepL_of_eq [main_arg4] (by decide) (by decide)]; rfl

/-- What is held between points, the tables apart: the scratch at some contents, the generator register, the counter at
    zero, and the experts' rows. -/
theorem PhiD0_eq (c : Dev nD) :
    (Pipeline.ΦD osem0 spec0 H0 (V m) c : sProp (World F))
      = iprop((∃ f, scrM.view.loc (c : Thread nD τ) ↦{fullShare} f) ∗ (∃ r, prngReg c r)
          ∗ semVal ((c : Thread nD τ), SemLoc.dma sem0) 0
          ∗ (ysM.view.loc (c : Thread nD τ) ↦{fullShare} linesY m c)) := by
  rw [Pipeline.ΦD_eq, scopedRest0_eq, ownSems00_eq, hbmPts0_eq]

/-- The two tables as the launch hands them over, one by one. -/
theorem tables_eq (c : Dev nD) :
    (Pipeline.ΦT pre0 (adm m).1 c : sProp (World F))
      = iprop((tabA.view.loc (c : Thread nD τ) ↦{fullShare.right} tabs1 m c)
          ∗ (tabB.view.loc (c : Thread nD τ) ↦{fullShare.right} tabs2 m c)) := by
  obtain rfl : c = 0 := Subsingleton.elim (α := Fin 1) _ _
  unfold Pipeline.ΦT Pipeline.prefHeld
  rw [show (Finset.univ : Finset (Fin 2)) = insert (0 : Fin 2) {(1 : Fin 2)} from by decide,
    bigSep_insert (by decide), bigSep_singleton]
  rfl

/-! ## The proof data and the body obligation -/

/-- The block that a point stores. -/
def answer (c : Dev nD) (t : Fin (cfgA m).N) : S256x2048.Idx → Elt F .f32 :=
  stored (iblk m c (0 : Fin 4) t) (iblk m c (1 : Fin 4) t) (iblk m c (2 : Fin 4) t)
    (fetched (rowAt (crd m t) (tabs1 m c) (tabs2 m c)) (linesY m c))

/-- The proof data of the pipeline on a device. -/
def dats (_ : Fin 1) (c : Dev nD) : Dat τ (Elt F) Unit ℕ (Pipeline.UD sig nD τ) ℕ (cfgA m) c where
  A w := V m c (Pipeline.arrRef spec0 w)
  after w t := match w with
    | ⟨0, _⟩ => iblk m c (0 : Fin 4) t
    | ⟨1, _⟩ => iblk m c (1 : Fin 4) t
    | ⟨2, _⟩ => iblk m c (2 : Fin 4) t
    | ⟨3, _⟩ => answer m c t
  Φ _ := iprop(Pipeline.ΦD osem0 spec0 H0 (V m) c ∗ Pipeline.ΦT pre0 (adm m).1 c)
  q _ := fullShare
  owed _ := 0

theorem after0 (c : Dev nD) (t : Fin (cfgA m).N) : (dats m 0 c).after (0 : Fin 4) t = iblk m c (0 : Fin 4) t := rfl
theorem after1 (c : Dev nD) (t : Fin (cfgA m).N) : (dats m 0 c).after (1 : Fin 4) t = iblk m c (1 : Fin 4) t := rfl
theorem after2 (c : Dev nD) (t : Fin (cfgA m).N) : (dats m 0 c).after (2 : Fin 4) t = iblk m c (2 : Fin 4) t := rfl
theorem after3 (c : Dev nD) (t : Fin (cfgA m).N) : (dats m 0 c).after (3 : Fin 4) t = answer m c t := rfl

theorem before0 (c : Dev nD) (t : Fin (cfgA m).N) (d) : (dats m 0 c).before (0 : Fin 4) t d = iblk m c (0 : Fin 4) t :=
  ((dats m 0 c).before_in_eq_fetched (0 : Fin 4) rfl (fun _ => rfl) (fun _ _ _ => rfl) (fun t => by rw [after0]; unfold Dat.blockOf iblk; rfl) t d).trans
    (by unfold Dat.fetched Dat.blockOf iblk; rfl)
theorem before1 (c : Dev nD) (t : Fin (cfgA m).N) (d) : (dats m 0 c).before (1 : Fin 4) t d = iblk m c (1 : Fin 4) t :=
  ((dats m 0 c).before_in_eq_fetched (1 : Fin 4) rfl (fun _ => rfl) (fun _ _ _ => rfl) (fun t => by rw [after1]; unfold Dat.blockOf iblk; rfl) t d).trans
    (by unfold Dat.fetched Dat.blockOf iblk; rfl)
theorem before2 (c : Dev nD) (t : Fin (cfgA m).N) (d) : (dats m 0 c).before (2 : Fin 4) t d = iblk m c (2 : Fin 4) t :=
  ((dats m 0 c).before_in_eq_fetched (2 : Fin 4) rfl (fun _ => rfl) (fun _ _ _ => rfl) (fun t => by rw [after2]; unfold Dat.blockOf iblk; rfl) t d).trans
    (by unfold Dat.fetched Dat.blockOf iblk; rfl)

/-- The body at a point on its staging buffers. -/
abbrev bodyAt (t : Fin (cfgA m).N) : Prog (TpuEff nD τ sig (Elt F) Λ₀ .tc) PUnit :=
  cc0_moe_combine (crd m t) tabA (Memref.isWhole_whole _) tabB (Memref.isWhole_whole _) (ms0 m t) (hs0 m t) (ms1 m t) (hs1 m t) (ms2 m t) (hs2 m t) ysM (Memref.isWhole_whole _) (ms3 m t) (hs3 m t) scrM (Memref.isWhole_whole _) cc0_scratch1

set_option maxHeartbeats 4000000 in
/-- The body at a point: from what the buffers hold before it to what they hold after it. -/
theorem sound_body (hR : ∀ (c : Dev nD) (i : grid0.Coords), InRange i (tabs1 m c) (tabs2 m c)) (c : Dev nD) (t : Fin (cfgA m).N) :
    iprop((dats m 0 c).Φ t.castSucc ∗ (dats m 0 c).owesAt () t.castSucc
        ∗ (∃ d, owns (c : Thread nD τ) (ms0 m t) fullShare ((dats m 0 c).before (0 : Fin 4) t d))
        ∗ (∃ d, owns (c : Thread nD τ) (ms1 m t) fullShare ((dats m 0 c).before (1 : Fin 4) t d))
        ∗ (∃ d, owns (c : Thread nD τ) (ms2 m t) fullShare ((dats m 0 c).before (2 : Fin 4) t d))
        ∗ (∃ d, owns (c : Thread nD τ) (ms3 m t) fullShare ((dats m 0 c).before (3 : Fin 4) t d)))
      ⊢ wp frame (wpE (defs₀ (F := F)) Variants.none c none) Set.univ (bodyAt m t) fun _ =>
          iprop((dats m 0 c).Φ t.succ ∗ (dats m 0 c).owesAt () t.succ
            ∗ owns (c : Thread nD τ) (ms0 m t) fullShare ((dats m 0 c).after (0 : Fin 4) t)
            ∗ owns (c : Thread nD τ) (ms1 m t) fullShare ((dats m 0 c).after (1 : Fin 4) t)
            ∗ owns (c : Thread nD τ) (ms2 m t) fullShare ((dats m 0 c).after (2 : Fin 4) t)
            ∗ owns (c : Thread nD τ) (ms3 m t) fullShare ((dats m 0 c).after (3 : Fin 4) t)) := by
  simp only [before0, before1, before2, after0, after1, after2, after3]
  rewrite [show (dats m 0 c).Φ t.succ = (dats m 0 c).Φ t.castSucc from rfl,
    show (dats m 0 c).owesAt () t.succ = (dats m 0 c).owesAt () t.castSucc from rfl,
    show (dats m 0 c).Φ t.castSucc = iprop(Pipeline.ΦD osem0 spec0 H0 (V m) c ∗ Pipeline.ΦT pre0 (adm m).1 c) from rfl,
    PhiD0_eq, tables_eq]
  unfold Dat.owesAt Pipeline.owesWithin
  rewrite [show (dats m 0 c).owed t.castSucc = 0 from rfl]
  iintro ⟨⟨⟨HS, Hg, Hq, Hy⟩, HT1, HT2⟩, ⟨%W, %hW, HO⟩, ⟨%d0, H0⟩, ⟨%d1, H1⟩, ⟨%d2, H2⟩, ⟨%d3, H3⟩⟩
  iapply (run c (crd m t) (ms0 m t) (hs0 m t) (ms1 m t) (hs1 m t) (ms2 m t) (hs2 m t) (ms3 m t) (hs3 m t) fullShare.right fullShare.right
    (tabs1 m c) (tabs2 m c) (hR c (crd m t)) (linesY m c) (iblk m c (0 : Fin 4) t) (iblk m c (1 : Fin 4) t) (iblk m c (2 : Fin 4) t) W _)
  isplitl [H0]; · iexact H0
  isplitl [H1]; · iexact H1
  isplitl [H2]; · iexact H2
  isplitl [H3]; · iexists _; iexact H3
  isplitl [HT1]; · iexact HT1
  isplitl [HT2]; · iexact HT2
  isplitl [Hy]; · iexact Hy
  isplitl [HS]; · iexact HS
  isplitl [Hq]; · iexact Hq
  isplitl [HO]; · iexact HO
  iintro ⟨H0, H1, H2, H3, HT1, HT2, Hy, HS, Hq, ⟨%W', HO⟩⟩
  isplitl [HS Hg Hq Hy HT1 HT2]
  · isplitl [HS Hg Hq Hy]
    · isplitl [HS]; · iexact HS
      isplitl [Hg]; · iexact Hg
      isplitl [Hq]; · iexact Hq
      iexact Hy
    isplitl [HT1]; · iexact HT1
    iexact HT2
  isplitl [HO]
  · iexists W'; isplitr; · ipureintro; exact fun _ _ => Or.inl trivial
    iexact HO
  isplitl [H0]; · iexact H0
  isplitl [H1]; · iexact H1
  isplitl [H2]; · iexact H2
  iexact H3

theorem body_obligation (hR : ∀ (c : Dev nD) (i : grid0.Coords), InRange i (tabs1 m c) (tabs2 m c)) (c : Dev nD) :
    BodyObligation (dats m 0 c) (defs₀ (F := F)) Variants.none () Set.univ := fun t => by
  rw [bigSep_W0, bigSep_W0]
  exact sound_body m hR c t

/-! ## The launch -/

theorem share_eq (c : Dev nD) (w : Fin (cfgA m).W) : (dats m 0 c).share w = fullShare := by unfold Dat.share; split <;> rfl

set_option maxHeartbeats 800000 in
/-- The host operations, then the kernel. -/
theorem hmain : Pipeline.HMainP (Ix := Unit) (Name := ℕ) (U := Pipeline.UD sig nD τ) (Lvl := ℕ) pcfgs 0 defs₀ Variants.none m (main (F := F)) (V m) :=
  Pipeline.hmainP_prefix pcfgs 0 defs₀ Variants.none m main hostOps0 hostOps0_sub hostOps0_fresh main_chain

set_option backward.isDefEq.respectTransparency.types false in
set_option maxHeartbeats 4000000 in
/-- From any memory whose tables name rows in range, the program terminates with every array at its computed contents
    and every counter at zero. -/
theorem run_main (hR : ∀ (c : Dev nD) (i : grid0.Coords), InRange i (tabs1 m c) (tabs2 m c)) :
    θ_run (defs (F := F)) (onTc (τ := τ) (main (F := F))) (s₀ m ρ)
      (fun r => Pipeline.FramePost (Pipeline.pin (pcfgs (F := F)) fun _ => adm m) (dats m) 0 (V m) r ∧ r.2.sem = fun _ => 0) :=
  Pipeline.θ_run_frameP_dma (Q' := _) pcfgs (fun _ => adm m) (dats m) (0 : Fin 1) launch0 osem0 defs₀ Variants.none ownSemFacts0 H0 H0_sub m ρ main
    (hbody := fun c => (body_obligation m hR c).loose) (hshare := share_eq m)
    (howed := fun _ _ => rfl) (V := V m) (hmain := hmain m) (hA := fun _ _ => rfl) (hpf := tables_hold m)
    (hin := fun _ => .rfl)
    (hout := fun c => by
      rw [show (dats m 0 c).Φ (Fin.last (cfgA m).N) = iprop(Pipeline.ΦD osem0 spec0 H0 (V m) c ∗ Pipeline.ΦT pre0 (adm m).1 c) from rfl]
      iintro ⟨H, -⟩; iexact H)

theorem staged_ne0 : ∀ w : Fin 4, (spec0 w).arr.view.ref ≠ main_arg0 := by decide
theorem staged_ne3 : ∀ w : Fin 4, (spec0 w).arr.view.ref ≠ main_arg3 := by decide
theorem staged_ne4 : ∀ w : Fin 4, (spec0 w).arr.view.ref ≠ main_arg4 := by decide

/-- Where a run has ended so, the arguments are as they were. -/
theorem arguments_kept {r : PUnit × MemSt nD τ sig (Elt F)}
    (h : Pipeline.FramePost (Pipeline.pin (pcfgs (F := F)) fun _ => adm m) (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) staged_ne0)).trans (V_of m c main_arg0 (by decide) (by decide) (by decide) (by decide) (by decide)),
    (((h c).1 (0 : Fin 4)).trans ((dats m 0 c).arrAt_in (0 : Fin 4) rfl _)).trans (V_of m c main_arg1 (by decide) (by decide) (by decide) (by decide) (by decide)),
    (((h c).1 (1 : Fin 4)).trans ((dats m 0 c).arrAt_in (1 : Fin 4) rfl _)).trans (V_of m c main_arg2 (by decide) (by decide) (by decide) (by decide) (by decide)),
    ((h c).2 main_arg3 (Pipeline.mem_restRefs_of main_arg3 (by decide) staged_ne3)).trans (V_of m c main_arg3 (by decide) (by decide) (by decide) (by decide) (by decide)),
    ((h c).2 main_arg4 (Pipeline.mem_restRefs_of main_arg4 (by decide) staged_ne4)).trans (V_of m c main_arg4 (by decide) (by decide) (by decide) (by decide) (by decide))⟩

/-- Nothing but the result changes. -/
theorem frame (hR : ∀ (c : Dev nD) (i : grid0.Coords), InRange i (tabs1 m c) (tabs2 m c)) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => arguments_kept m h.1 c, h.2⟩) (run_main m ρ hR)

end Cert.CombineIdeal.Body

end
-- ==== Proof.CombineIdealTables.lean ====
/-
  The tables of rows that the combining kernel reads: the two rows of its first argument. Under the precondition every
  entry is a row of the experts' output.
-/
module

public import proofs.«01_k».proof.Proof.CombineIdealFrame
public import proofs.«01_k».proof.Proof.Gen.Pre_pre_mix
public import Idealize.ShloMosaic.Lib.Pointwise
public import Idealize.ShloMosaic.Lib.WordCmp

@[expose] public section

set_option maxRecDepth 16384
set_option Elab.async false

noncomputable section

namespace Cert.CombineIdeal.Body

open Cert.CombineIdeal Cert.CombineIdeal.Gen
open Idealize.ShloMosaic
open Idealize.ShloMosaic.TcCoe Idealize.ShloMosaic.Tactic
open Idealize.SL.Sem

section General

variable {F : FTy → Type} [FloatOps F] [∀ e, Nonempty (Elt F e)]
variable (m : (ℓ : Loc nD τ sig) → Buf (Elt F) ℓ) (c : Dev nD)

/-- The rows' numbers, as the program is given them. -/
abbrev dest : S2x16384.Idx → Elt F .i32 := m ((c : Thread nD τ).loc main_arg0)

theorem tabs1_eq : tabs1 m c = shapeCast S16384 (extractStridedSlice S1x16384 ![0, 0] (dest m c) slices_S2x16384_S1x16384_0_0) shapeCasts_S1x16384_S16384 := by
  unfold tabs1 V hostOps0
  after_results_simp <;> rfl

theorem tabs2_eq : tabs2 m c = shapeCast S16384 (extractStridedSlice S1x16384 ![1, 0] (dest m c) slices_S2x16384_S1x16384_1_0) shapeCasts_S1x16384_S16384 := by
  unfold tabs2 V hostOps0
  after_results_simp <;> rfl

theorem cell_eq (n : ℕ) (h : n < 16384) : cell n = ix1 (⟨n, h⟩ : Fin 16384) := by
  refine funext fun a => Fin.ext ?_
  match a with
  | ⟨0, _⟩ => exact Nat.mod_eq_of_lt h

theorem tabs1_at (n : ℕ) (h : n < 16384) : tabs1 m c (cell n) = dest m c (ix2 (0 : Fin 2) (⟨n, h⟩ : Fin 16384)) := by
  rw [tabs1_eq, cell_eq n h]
  generalize dest m c = D
  pointwise []

theorem tabs2_at (n : ℕ) (h : n < 16384) : tabs2 m c (cell n) = dest m c (ix2 (1 : Fin 2) (⟨n, h⟩ : Fin 16384)) := by
  rw [tabs2_eq, cell_eq n h]
  generalize dest m c = D
  pointwise []

/-- A word that is at least 0 and below 40960 as a signed number is below 40960 as a natural one. -/
theorem word_range (w : BitVec 32) (h0 : IntOp.cmpi .sge w 0#32 = 1#1) (h1 : IntOp.cmpi .slt w 40960#32 = 1#1) : w.toNat < 40960 := by
  rw [WordCmp.cmpi_sge_eq] at h0
  rw [WordCmp.cmpi_slt_eq] at h1
  have a0 : (0#32 : BitVec 32).toInt ≤ w.toInt := by
    by_contra no; rw [decide_eq_false no] at h0; exact absurd h0 (by decide)
  have a1 : w.toInt < (40960#32 : BitVec 32).toInt := by
    by_contra no; rw [decide_eq_false no] at h1; exact absurd h1 (by decide)
  have e0 : (0#32 : BitVec 32).toInt = 0 := by decide
  have e1 : (40960#32 : BitVec 32).toInt = 40960 := by decide
  rw [e0] at a0; rw [e1] at a1
  have := w.isLt
  rw [BitVec.toInt_eq_toNat_cond] at a0 a1
  split at a0 <;> split at a1 <;> omega

/-- Where the numbers are in range, so are the tables. -/
theorem inRange_of (h : ∀ idx, (dest m c idx : BitVec 32).toNat < 40960) (i : grid0.Coords) : InRange i (tabs1 m c) (tabs2 m c) := by
  intro p r hr
  have hi := coord_lt i
  have hn : 256 * (i 0).val + r < 16384 := by omega
  unfold rowAt
  rw [tabs1_at m c _ hn, tabs2_at m c _ hn]
  split
  · exact h _
  · exact h _

end General

/-- Under the precondition every number names a row of the experts' output. -/
theorem dest_lt (m : (ℓ : Loc nD τ sig) → Buf (Elt Ideal) ℓ) (hp : @Cert.Pre_CombineIdeal Cert.Pre_pre_mix.Gen.facts m) (c : Dev nD) (idx : S2x16384.Idx) :
    (dest m c idx : BitVec 32).toNat < 40960 :=
  word_range _ (congrFun (hp c).1 idx) (congrFun (hp c).2 idx)

theorem ranges (m : (ℓ : Loc nD τ sig) → Buf (Elt Ideal) ℓ) (hp : @Cert.Pre_CombineIdeal Cert.Pre_pre_mix.Gen.facts m) (c : Dev nD) (i : grid0.Coords) :
    InRange i (tabs1 m c) (tabs2 m c) :=
  inRange_of m c (dest_lt m hp c) i

end Cert.CombineIdeal.Body

end
-- ==== Proof.CombineReference.lean ====
/-
  The combination of the experts' rows: the reference's array at coordinates. The reference gathers each token's two
  rows, weights them by its two gates, adds them to the token, and divides by the root of the mean square.
-/
module

public import proofs.«01_k».proof.Proof.CombineIdealTables
public import proofs.«01_k».proof.Proof.Gen.CombineRefIdeal.Run
public import Idealize.ShloMosaic.Lib.Pipeline.ValueKit

@[expose] public section

set_option maxRecDepth 16384

noncomputable section

namespace Cert.CombineRefIdeal.Body

open Cert.CombineRefIdeal Cert.CombineRefIdeal.Gen Idealize.ShloMosaic Idealize.ShloMosaic.TcCoe Idealize.SL.Sem

/-! ## The gather -/

/-- The gather of the rows. -/
abbrev takeDims := gather_S40960x2048_S16384x1_S16384x2048_1_0_n_n_0_1_12048

/-- Where the indices name a row, the gather takes that row. -/
theorem take_at {α : Type} (x : S40960x2048.Idx → α) (idx : IVec S16384x1 32) (t : Fin 16384) (k : Fin 2048) (e : Fin 40960)
    (he : (idx (ix2 t 0)).toInt.toNat = e.val) : Host.gather takeDims x idx (ix2 t k) = x (ix2 e k) := by
  unfold Host.gather
  refine congrArg x (funext fun a => Fin.ext ?_)
  show takeDims.start (ix2 t k) idx a + takeDims.batchCoord (ix2 t k) a + takeDims.offCoord (ix2 t k) a = _
  rw [GatherDims.batchCoord_eq_zero _ _ _ List.not_mem_nil]
  match a with
  | ⟨0, h⟩ =>
    change takeDims.start (ix2 t k) idx (0 : Fin 2) + 0 + takeDims.offCoord (ix2 t k) (0 : Fin 2) = e.val
    rw [GatherDims.offCoord_eq_zero _ _ _ (fun h => ((GatherDims.mem_sKept _ _).mp h).1 (List.mem_singleton.mpr rfl))]
    unfold GatherDims.start
    rw [dif_pos (show (0 : Fin 2) ∈ takeDims.startIndexMap from List.mem_singleton.mpr rfl)]
    have hs : takeDims.siIdx (ix2 t k) ⟨List.idxOf (0 : Fin 2) takeDims.startIndexMap, by decide⟩ = ix2 t (0 : Fin 1) := by
      funext c
      match c with
      | ⟨0, _⟩ => rfl
      | ⟨1, _⟩ => rfl
    rw [hs, he]
    have := e.isLt
    show min e.val 40959 + 0 + 0 = e.val
    omega
  | ⟨1, h⟩ =>
    change takeDims.start (ix2 t k) idx (1 : Fin 2) + 0 + takeDims.offCoord (ix2 t k) (1 : Fin 2) = k.val
    unfold GatherDims.start
    rw [dif_neg (show (1 : Fin 2) ∉ takeDims.startIndexMap by decide)]
    unfold GatherDims.offCoord
    rw [dif_pos (show (1 : Fin 2) ∈ takeDims.sKept by decide)]
    show 0 + 0 + k.val = k.val
    omega

/-! ## The reference's stages -/

/-- The numbers of the first rows, and of the second. -/
abbrev first (D : IVec S2x16384 32) : IVec S16384 32 :=
  shapeCast _ (extractStridedSlice S1x16384 ![0, 0] D slices_S2x16384_S1x16384_0_0) shapeCasts_S1x16384_S16384
abbrev second (D : IVec S2x16384 32) : IVec S16384 32 :=
  shapeCast _ (extractStridedSlice S1x16384 ![1, 0] D slices_S2x16384_S1x16384_1_0) shapeCasts_S1x16384_S16384

/-- The rows' numbers as the gather reads them: a negative one counts from the end. -/
abbrev index (E : IVec S16384 32) : IVec S16384x1 32 :=
  broadcastInDim S16384x1 ![0] bcast_S16384_S16384x1_0 (select (cmpi .slt E (broadcastInDim S16384 ![] bcast_S_S16384 (constantI S_ 32 0#32))) (addi E (broadcastInDim S16384 ![] bcast_S_S16384 (constantI S_ 32 40960#32))) E)

/-- Each token's row. -/
abbrev rows (E : IVec S16384 32) (Y : FVec Ideal S655360x128 .f32) : FVec Ideal S16384x2048 .f32 :=
  Host.gather takeDims (shapeCast _ Y shapeCasts_S655360x128_S40960x2048) (index E)

/-- The tokens with their weighted rows added. -/
def added (X : FVec Ideal S16384x2048 .f32) (G : FVec Ideal S16384x2 .f32) (R₁ R₂ : FVec Ideal S16384x2048 .f32) : FVec Ideal S16384x2048 .f32 :=
  addf X (addf (mulf (broadcastInDim S16384x2048 ![0, 1] bcast_S16384x1_S16384x2048_0_1 (extractStridedSlice S16384x1 ![0, 0] G slices_S16384x2_S16384x1_0_0)) R₁)
    (mulf (broadcastInDim S16384x2048 ![0, 1] bcast_S16384x1_S16384x2048_0_1 (extractStridedSlice S16384x1 ![0, 1] G slices_S16384x2_S16384x1_0_1)) R₂))

/-- The rows, normalised. -/
def normed (Z : FVec Ideal S16384x2048 .f32) (N : FVec Ideal S2048 .f32) : FVec Ideal S16384x2048 .f32 :=
  mulf (mulf Z (broadcastInDim S16384x2048 ![0, 1] bcast_S16384x1_S16384x2048_0_1 (Host.rsqrt (addf (Host.divf (broadcastInDim S16384x1 ![0] bcast_S16384_S16384x1_0 (Host.reduceAdd (mulf Z Z) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 N))

/-- The reference's result. -/
def whole (D : IVec S2x16384 32) (X : FVec Ideal S16384x2048 .f32) (G : FVec Ideal S16384x2 .f32) (N : FVec Ideal S2048 .f32)
    (Y : FVec Ideal S655360x128 .f32) : FVec Ideal S16384x2048 .f32 :=
  normed (added X G (rows (first D) Y) (rows (second D) Y)) N

/-- The program's result is that array. -/
theorem result_eq (m : (ℓ : Loc nD τ sig) → Buf (Elt Ideal) ℓ) (c : Dev nD) :
    Value.res_main_v39 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ## The stages at coordinates -/

/-- A row's number that is in range is taken as it is. -/
theorem index_at (E : IVec S16384 32) (t : Fin 16384) (h : (E (ix1 t)).toNat < 40960) : (index E (ix2 t 0)).toInt.toNat = (E (ix1 t)).toNat := by
  have e : (E (ix1 t)).toInt = (E (ix1 t)).toNat := by rw [BitVec.toInt_eq_toNat_cond]; split <;> omega
  have hz : IntOp.cmpi .slt (E (ix1 t)) 0#32 = 0#1 := by
    rw [WordCmp.cmpi_slt_eq, e, decide_eq_false (by
      show ¬ ((E (ix1 t)).toNat : ℤ) < (0#32 : BitVec 32).toInt
      have : (0#32 : BitVec 32).toInt = 0 := by decide
      rw [this]; omega)]
    rfl
  have hi : index E (ix2 t 0) = E (ix1 t) := by
    pointwise []
    rw [hz]; rfl
  rw [hi, e]; rfl

theorem line_at (Y : FVec Ideal S655360x128 .f32) (n : ℕ) (h : n < 40960) (x : Fin 2048) :
    shapeCast S40960x2048 Y shapeCasts_S655360x128_S40960x2048 (ix2 ⟨n, h⟩ x) = Y (ix2 ⟨16 * n + x.val / 128, by omega⟩ ⟨x.val % 128, by omega⟩) := by
  pointwise []
  refine congrArg Y ?_
  congr 1 <;> refine Fin.ext ?_ <;> dsimp only <;> omega

/-- A row's entry, in the lines of 128 numbers that hold it. -/
theorem rows_at (E : IVec S16384 32) (Y : FVec Ideal S655360x128 .f32) (t : Fin 16384) (h : (E (ix1 t)).toNat < 40960) (x : Fin 2048) :
    rows E Y (ix2 t x) = Y (ix2 ⟨16 * (E (ix1 t)).toNat + x.val / 128, by omega⟩ ⟨x.val % 128, by omega⟩) := by
  unfold rows
  rw [take_at _ _ t x ⟨(E (ix1 t)).toNat, h⟩ (index_at E t h)]
  exact line_at Y _ h x

theorem first_at (D : IVec S2x16384 32) (t : Fin 16384) : first D (ix1 t) = D (ix2 0 t) := by
  pointwise []
theorem second_at (D : IVec S2x16384 32) (t : Fin 16384) : second D (ix1 t) = D (ix2 1 t) := by
  pointwise []

/-- One entry of a row divided by the root of its mean square, and weighted. -/
def normEntry (f : Fin 2048 → EReal) (w : EReal) (x : Fin 2048) : EReal :=
  f x * Ideal.rsqrt (Ideal.div (∑ k : Fin 2048, f k * f k) (Ideal.ofBits .f32 0x45000000#32) + Ideal.ofBits .f32 0x358637BD#32) * w

theorem normed_at (Z : FVec Ideal S16384x2048 .f32) (N : FVec Ideal S2048 .f32) (t : Fin 16384) (x : Fin 2048) :
    normed Z N (ix2 t x) = normEntry (fun k => Z (ix2 t k)) (N (ix1 x)) x := by
  unfold normEntry
  pointwise [normed]

theorem added_at (X : FVec Ideal S16384x2048 .f32) (G : FVec Ideal S16384x2 .f32) (R₁ R₂ : FVec Ideal S16384x2048 .f32) (t : Fin 16384) (x : Fin 2048) :
    added X G R₁ R₂ (ix2 t x) = X (ix2 t x) + (G (ix2 t 0) * R₁ (ix2 t x) + G (ix2 t 1) * R₂ (ix2 t x)) := by
  pointwise [added]

/-- One entry of a token with its weighted rows added: the rows numbered `a` and `b`, read off the lines. -/
def mixEntry (X : FVec Ideal S16384x2048 .f32) (G : FVec Ideal S16384x2 .f32) (Y : FVec Ideal S655360x128 .f32) (a b : ℕ)
    (ha : a < 40960) (hb : b < 40960) (t : Fin 16384) (x : Fin 2048) : EReal :=
  X (ix2 t x) + (G (ix2 t 0) * Y (ix2 ⟨16 * a + x.val / 128, by omega⟩ ⟨x.val % 128, by omega⟩)
    + G (ix2 t 1) * Y (ix2 ⟨16 * b + x.val / 128, by omega⟩ ⟨x.val % 128, by omega⟩))

/-- The reference's result at a token and a column. -/
theorem whole_at (D : IVec S2x16384 32) (X : FVec Ideal S16384x2048 .f32) (G : FVec Ideal S16384x2 .f32) (N : FVec Ideal S2048 .f32)
    (Y : FVec Ideal S655360x128 .f32) (hD : ∀ idx, (D idx).toNat < 40960) (t : Fin 16384) (x : Fin 2048) :
    whole D X G N Y (ix2 t x)
      = normEntry (fun k => mixEntry X G Y (D (ix2 0 t)).toNat (D (ix2 1 t)).toNat (hD _) (hD _) t k) (N (ix1 x)) x := by
  unfold whole
  rw [normed_at]
  refine congrArg (fun f => normEntry f (N (ix1 x)) x) (funext fun k => ?_)
  have h1 : (first D (ix1 t)).toNat < 40960 := by rw [first_at]; exact hD _
  have h2 : (second D (ix1 t)).toNat < 40960 := by rw [second_at]; exact hD _
  rw [added_at, rows_at _ Y t h1, rows_at _ Y t h2]
  unfold mixEntry
  simp only [first_at, second_at]

end Cert.CombineRefIdeal.Body

end
-- ==== Proof.CombineValue.lean ====
/-
  The combination of the experts' rows: kernel and reference end with the same array. What a point stores is the
  reference's block, and the blocks make the array.
-/
module

public import proofs.«01_k».proof.Proof.CombineReference
public import Idealize.ShloMosaic.Lib.Claim
public import Idealize.ShloMosaic.Lib.Pipeline.Covers

@[expose] public section

set_option maxRecDepth 16384

noncomputable section

namespace Cert.CombineIdeal.Body

open Cert.CombineIdeal Cert.CombineIdeal.Gen
open Idealize.ShloMosaic Idealize.ShloMosaic.TcCoe Idealize.ShloMosaic.Tactic Idealize.SL.Sem
open Cert.CombineRefIdeal.Body (normEntry mixEntry whole whole_at)

/-! ## A block's answer -/

/-- The stored block, entry by entry. -/
theorem stored_at (x0 : FVec Ideal S256x2048 .f32) (g : FVec Ideal S256x2 .f32) (x2 : FVec Ideal S1x2048 .f32) (S : FVec Ideal S2x4096x128 .f32)
    (r : Fin 256) (x : Fin 2048) :
    stored (F := Ideal) x0 g x2 S (ix2 r x) = normEntry (fun k => mixAt (F := Ideal) x0 g S (ix2 r k)) (x2 (ix2 0 x)) x := by
  unfold stored normEntry
  generalize mixAt (F := Ideal) x0 g S = M
  pointwise [k0_pay1, k0_pay29, k0_pay30, k0_pay31, k0_pay32]

/-- A combined entry. -/
theorem mixAt_at (x0 : FVec Ideal S256x2048 .f32) (g : FVec Ideal S256x2 .f32) (S : FVec Ideal S2x4096x128 .f32) (r : Fin 256) (k : Fin 2048) :
    mixAt (F := Ideal) x0 g S (ix2 r k) = x0 (ix2 r k) + (g (ix2 r 0) * S (lineOf 0 (by decide) (ix2 r k)) + g (ix2 r 1) * S (lineOf 1 (by decide) (ix2 r k))) := by
  have e : mixAt (F := Ideal) x0 g S (ix2 r k) = x0 (ix2 r k) + ((Ideal.ofBits .f32 0x00000000#32 + g (ix2 r 0) * S (lineOf 0 (by decide) (ix2 r k)))
      + g (ix2 r 1) * S (lineOf 1 (by decide) (ix2 r k))) := rfl
  rw [e]
  pointwise []

/-- A fetched entry is an entry of the row that the table names. -/
theorem fetched_at (W : ℕ → ℕ → ℕ) (Y : FVec Ideal S655360x128 .f32) (p : ℕ) (hp : p < 2) (r : Fin 256) (k : Fin 2048) (a : ℕ)
    (ha : a < 40960) (hW : W p r.val = a) :
    fetched (F := Ideal) W Y (lineOf p hp (ix2 r k)) = Y (ix2 ⟨16 * a + k.val / 128, by omega⟩ ⟨k.val % 128, by omega⟩) := by
  subst hW
  unfold fetched
  refine congrArg Y (funext fun x => Fin.ext ?_)
  have hr := r.isLt
  have hk := k.isLt
  match x with
  | ⟨0, _⟩ =>
    show (16 * W p ((16 * r.val + k.val / 128) / 16) + (16 * r.val + k.val / 128) % 16) % 655360 = 16 * W p r.val + k.val / 128
    rw [show (16 * r.val + k.val / 128) / 16 = r.val by omega, show (16 * r.val + k.val / 128) % 16 = k.val / 128 by omega]
    omega
  | ⟨1, _⟩ => rfl

variable (m : (ℓ : Loc nD τ sig) → Buf (Elt Ideal) ℓ) (ρ : Dev nD → PrngReg)

/-! ## The blocks read off the arrays -/

abbrev memX (c : Dev nD) : S16384x2048.Idx → Elt Ideal .f32 := m ((c : Thread nD τ).loc main_arg1)
abbrev memG (c : Dev nD) : S16384x2.Idx → Elt Ideal .f32 := m ((c : Thread nD τ).loc main_arg2)
abbrev memN (c : Dev nD) : S2048.Idx → Elt Ideal .f32 := m ((c : Thread nD τ).loc main_arg3)
abbrev memY (c : Dev nD) : S655360x128.Idx → Elt Ideal .f32 := m ((c : Thread nD τ).loc main_arg4)

theorem point_lt (t : Fin (cfgA m).N) : t.val < 64 := lt_of_lt_of_eq t.isLt N_0

/-- The one coordinate of a point is its number. -/
theorem crd_val (t : Fin (cfgA m).N) : (crd m t 0).val = t.val := by
  have h := point_lt m t
  show t.val / 1 % 64 = t.val
  omega

/-- A token of a point's block. -/
def token (t : Fin (cfgA m).N) (r : Fin 256) : Fin 16384 := ⟨t.val * 256 + r.val, by have := point_lt m t; omega⟩

theorem iblk0_at (c : Dev nD) (t : Fin (cfgA m).N) (r : Fin 256) (x : Fin 2048) :
    (iblk m c (0 : Fin 4) t : S256x2048.Idx → Elt Ideal .f32) (ix2 r x) = memX m c (ix2 (token m t r) x) := by
  show V m c main_arg1 _ = _
  rw [V_of m c main_arg1 (by decide) (by decide) (by decide) (by decide) (by decide)]
  refine congrArg (memX m c) (funext fun k => Fin.ext ?_)
  have h := crd_val m t
  have h' := point_lt m t
  match k with
  | ⟨0, _⟩ =>
    show (BitVec.ofNat 32 (crd m t 0).val).toNat * 256 + 1 * r.val = t.val * 256 + r.val
    rw [BitVec.toNat_ofNat, h]; omega
  | ⟨1, _⟩ =>
    show 0 * 2048 + 1 * x.val = x.val
    omega

theorem iblk1_at (c : Dev nD) (t : Fin (cfgA m).N) (r : Fin 256) (x : Fin 2) :
    (iblk m c (1 : Fin 4) t : S256x2.Idx → Elt Ideal .f32) (ix2 r x) = memG m c (ix2 (token m t r) x) := by
  show V m c main_arg2 _ = _
  rw [V_of m c main_arg2 (by decide) (by decide) (by decide) (by decide) (by decide)]
  refine congrArg (memG m c) (funext fun k => Fin.ext ?_)
  have h := crd_val m t
  have h' := point_lt m t
  match k with
  | ⟨0, _⟩ =>
    show (BitVec.ofNat 32 (crd m t 0).val).toNat * 256 + 1 * r.val = t.val * 256 + r.val
    rw [BitVec.toNat_ofNat, h]; omega
  | ⟨1, _⟩ =>
    show 0 * 2 + 1 * x.val = x.val
    omega

theorem weights_eq (c : Dev nD) : (V m c main_v0 : S1x2048.Idx → Elt Ideal .f32) = shapeCast S1x2048 (memN m c) shapeCasts_S2048_S1x2048 := by
  unfold V hostOps0
  after_results_simp <;> rfl

theorem iblk2_at (c : Dev nD) (t : Fin (cfgA m).N) (x : Fin 2048) :
    (iblk m c (2 : Fin 4) t : S1x2048.Idx → Elt Ideal .f32) (ix2 0 x) = memN m c (ix1 x) := by
  have e : (iblk m c (2 : Fin 4) t : S1x2048.Idx → Elt Ideal .f32) (ix2 0 x) = (V m c main_v0 : S1x2048.Idx → Elt Ideal .f32) (ix2 0 x) := by
    show V m c main_v0 _ = _
    refine congrArg (V m c main_v0 : S1x2048.Idx → Elt Ideal .f32) (funext fun k => Fin.ext ?_)
    match k with
    | ⟨0, _⟩ => show 0 * 1 + 1 * 0 = 0; rfl
    | ⟨1, _⟩ => show 0 * 2048 + 1 * x.val = x.val; omega
  rw [e, weights_eq]
  generalize memN m c = N
  pointwise []

theorem lines_eq (c : Dev nD) : linesY m c = memY m c := V_of m c main_arg4 (by decide) (by decide) (by decide) (by decide) (by decide)

theorem row0_eq (c : Dev nD) (t : Fin (cfgA m).N) (r : Fin 256) :
    rowAt (crd m t) (tabs1 m c) (tabs2 m c) 0 r.val = (dest m c (ix2 (0 : Fin 2) (token m t r)) : BitVec 32).toNat := by
  have hn : 256 * (crd m t 0).val + r.val < 16384 := by rw [crd_val]; have := point_lt m t; omega
  unfold rowAt
  rw [if_pos rfl, tabs1_at m c _ hn]
  refine congrArg (fun n : Fin 16384 => (dest m c (ix2 (0 : Fin 2) n) : BitVec 32).toNat) (Fin.ext ?_)
  show 256 * (crd m t 0).val + r.val = t.val * 256 + r.val
  rw [crd_val]; omega

theorem row1_eq (c : Dev nD) (t : Fin (cfgA m).N) (r : Fin 256) :
    rowAt (crd m t) (tabs1 m c) (tabs2 m c) 1 r.val = (dest m c (ix2 (1 : Fin 2) (token m t r)) : BitVec 32).toNat := by
  have hn : 256 * (crd m t 0).val + r.val < 16384 := by rw [crd_val]; have := point_lt m t; omega
  unfold rowAt
  rw [if_neg (by decide), tabs2_at m c _ hn]
  refine congrArg (fun n : Fin 16384 => (dest m c (ix2 (1 : Fin 2) n) : BitVec 32).toNat) (Fin.ext ?_)
  show 256 * (crd m t 0).val + r.val = t.val * 256 + r.val
  rw [crd_val]; omega

/-! ## The array -/

/-- The reference's result on the memory's arguments. -/
abbrev result (c : Dev nD) : FVec Ideal S16384x2048 .f32 := whole (dest m c) (memX m c) (memG m c) (memN m c) (memY m c)

/-- What a point stores is the reference's block. -/
theorem point (hD : ∀ (c : Dev nD) (idx : S2x16384.Idx), (dest m c idx : BitVec 32).toNat < 40960) (c : Dev nD) (t : Fin (cfgA m).N) (r : Fin 256) (x : Fin 2048) :
    answer m c t (ix2 r x) = result m c (ix2 (token m t r) x) := by
  unfold result answer
  rw [whole_at _ _ _ _ _ (hD c), stored_at, iblk2_at]
  refine congrArg (fun f => normEntry f (memN m c (ix1 x)) x) (funext fun k => ?_)
  rw [mixAt_at, iblk0_at, iblk1_at, iblk1_at,
    fetched_at _ _ 0 (by decide) r k _ (hD c _) (row0_eq m c t r),
    fetched_at _ _ 1 (by decide) r k _ (hD c _) (row1_eq m c t r), lines_eq]
  rfl

/-- The output's blocks cover its array. -/
theorem covers : ((cfgA m).win (3 : Fin 4)).Covers := by
  refine Pipeline.Window.covers_of_indexMap_surj _ rfl (fun x => ?_) fun β => ?_
  · fin_cases x
    · show 0 < 256; omega
    · show 0 < 2048; omega
  · have h0 : (β (0 : Fin 2)).val < 64 := lt_of_lt_of_eq (β (0 : Fin 2)).isLt (show (16384 + 256 - 1) / 256 = 64 by norm_num)
    have h1 : (β (1 : Fin 2)).val < 1 := lt_of_lt_of_eq (β (1 : Fin 2)).isLt (show (2048 + 2048 - 1) / 2048 = 1 by norm_num)
    refine ⟨fun x => ⟨(β (0 : Fin 2)).val, by fin_cases x; exact h0⟩, fun x => ?_⟩
    fin_cases x
    · show (BitVec.ofNat 32 (β (0 : Fin 2)).val).toNat = (β (0 : Fin 2)).val
      rw [BitVec.toNat_ofNat]; omega
    · show 0 = (β (1 : Fin 2)).val
      omega

/-- A point's block of the output, as rows of the array. -/
theorem emb_eq (t : Fin (cfgA m).N) (y : S256x2048.Idx) :
    ((((cfgA m).win (3 : Fin 4)).blk t).view.emb y : S16384x2048.Idx) = ix2 (token m t (y 0)) (y 1) := by
  refine funext fun k => Fin.ext ?_
  have h := crd_val m t
  have h' := point_lt m t
  fin_cases k
  · show (BitVec.ofNat 32 (crd m t 0).val).toNat * 256 + 1 * (y 0).val = t.val * 256 + (y 0).val
    rw [BitVec.toNat_ofNat, h]; omega
  · show 0 * 2048 + 1 * (y 1).val = (y 1).val
    omega

/-- The blocks make the whole array. -/
theorem final (hD : ∀ (c : Dev nD) (idx : S2x16384.Idx), (dest m c idx : BitVec 32).toNat < 40960) (c : Dev nD) :
    (dats m 0 c).arrAt (3 : Fin 4) (cfgA m).N = result m c := by
  refine (dats m 0 c).arrAt_eq_of_covers (3 : Fin 4) _ (covers m) fun t _ y => ?_
  blk_simp
  rw [after3]
  have h := point m hD c t (y 0) (y 1)
  refine Eq.trans ?_ (h.trans ?_)
  · exact congrArg _ (ix2_eta y).symm
  · exact congrArg _ (emb_eq m t y).symm

/-- The run, with its result: the reference's function of the arguments. -/
theorem run_whole (hD : ∀ (c : Dev nD) (idx : S2x16384.Idx), (dest m c idx : BitVec 32).toNat < 40960) :
    θ_run (defs (F := Ideal)) (onTc (τ := τ) (main (F := Ideal))) ⟨m, fun _ => 0, ρ⟩ (fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 (3 : Fin 4)).trans (final m hD c), arguments_kept m h.1 c⟩)
    (run_main m ρ fun c i => inRange_of m c (hD c) i)

end Cert.CombineIdeal.Body

namespace Cert.Proof

open Idealize.ShloMosaic Idealize.ShloMosaic.TcCoe Idealize.SL.Sem

attribute [local instance] Cert.CombineIdeal.Gen.facts Cert.CombineRefIdeal.Gen.facts Cert.Pre_pre_mix.Gen.facts

/-- Kernel and reference of the combination end with the same array. -/
theorem combine_algebraic : Cert.algebraic_CombineIdeal_CombineRefIdeal := by
  pair_intro
  · run_from Cert.CombineIdeal.Body.run_whole m g (Cert.CombineIdeal.Body.dest_lt m hpre)
  · run_from Cert.CombineRefIdeal.Value.run m' g'
    obtain ⟨h0, h1, h2, h3, h4⟩ := hagree c
    rw [Cert.CombineRefIdeal.Body.result_eq, h0, h1, h2, h3, h4]

/-- The reference leaves its arguments as they were; it has no semaphore. -/
theorem combine_reference_frame : Cert.quiescent_CombineRefIdeal := fun m g _ =>
  (θ_run Cert.CombineRefIdeal.defs _ _).mono
    (fun r h => ⟨fun c => (h c).2, sem_eq_zero_of_no_sems (by decide) r.2⟩) (Cert.CombineRefIdeal.Value.run m g)

end Cert.Proof

end
-- ==== Proof.ScanMath.lean ====
/-
  The mathematics of the S5 scan over chunks: the state that reaches a chunk is the sum of the earlier chunks'
  contributions, each weighted by a power of the state's decay, and a sum over a window of chunks doubles its width by
  one weighted shift.
-/
module

public import Idealize.ShloMosaic.Lib.Pointwise
public import Mathlib.Analysis.SpecialFunctions.Trigonometric.Basic

@[expose] public section

noncomputable section

namespace Cert.Scan

open Finset

variable (v : ℕ → ℂ) (w : ℂ)

/-- The contributions of the `d` chunks before chunk `c` to the state that reaches it. -/
def window (d c : ℕ) : ℂ := ∑ j ∈ range d, if j < c then w ^ j * v (c - 1 - j) else 0

/-- One chunk's worth is the chunk before. -/
theorem window_one (c : ℕ) : window v w 1 c = if 1 ≤ c then v (c - 1) else 0 := by
  simp [window, Nat.succ_le_iff]

/-- THE DOUBLING STEP: twice the width is the window and its weighted shift by the width. -/
theorem window_double (d c : ℕ) : window v w (d + d) c = window v w d c + if d ≤ c then w ^ d * window v w d (c - d) else 0 := by
  unfold window
  rw [sum_range_add]
  congr 1
  by_cases h : d ≤ c
  · rw [if_pos h, mul_sum]
    refine sum_congr rfl fun j _ => ?_
    by_cases hj : d + j < c
    · rw [if_pos hj, if_pos (by omega), pow_add, mul_assoc, show c - 1 - (d + j) = c - d - 1 - j by omega]
    · rw [if_neg hj, if_neg (by omega), mul_zero]
  · rw [if_neg h]
    exact sum_eq_zero fun j _ => if_neg (by omega)

/-- A window as wide as a sequence holds every earlier chunk, weighted by its distance. -/
theorem window_all (c : ℕ) (hc : c < 256) : window v w 256 c = ∑ s : Fin 256, if s.val < c then w ^ (c - 1 - s.val) * v s.val else 0 := by
  have cut (f : ℕ → ℂ) : (∑ j ∈ range 256, if j < c then f j else 0) = ∑ j ∈ range c, f j := by
    rw [← sum_filter]
    congr 1
    ext j
    simp only [mem_filter, mem_range]
    omega
  rw [Fin.sum_univ_eq_sum_range (fun s => if s < c then w ^ (c - 1 - s) * v s else 0) 256, window, cut, cut,
    ← sum_range_reflect (fun j => w ^ (c - 1 - j) * v j)]
  refine sum_congr rfl fun j hj => ?_
  rw [mem_range] at hj
  rw [show c - 1 - (c - 1 - j) = j by omega]

/-- The decay of a state over one chunk of sixteen positions, from the state's rate. -/
def decay (a b : ℝ) : ℂ := Complex.exp (16 * ⟨a, b⟩)

/-- Its powers, by size and angle. -/
theorem decay_pow (a b : ℝ) (n : ℕ) : decay a b ^ n = ⟨Real.exp (a * (16 * n)) * Real.cos (b * (16 * n)), Real.exp (a * (16 * n)) * Real.sin (b * (16 * n))⟩ := by
  unfold decay
  rw [← Complex.exp_nat_mul]
  have e : ((n : ℂ) * (16 * ⟨a, b⟩)) = ⟨a * (16 * n), b * (16 * n)⟩ := by
    apply Complex.ext <;> simp <;> ring
  rw [e]
  apply Complex.ext
  · rw [Complex.exp_re]
  · rw [Complex.exp_im]

end Cert.Scan

end
-- ==== Proof.ScanForm.lean ====
/-
  The S5 scan over the real numbers in closed form: which entries of the activations a chunk holds, the state that the
  whole sequence before a chunk leaves, and the output's entry.
-/
module

public import proofs.«01_k».proof.Proof.ScanMath
public import Idealize.ShloMosaic.Lib.Pointwise

@[expose] public section

noncomputable section

namespace Cert.Scan

open Idealize.ShloMosaic Idealize.ShloMosaic.TcCoe Finset

abbrev SH : Shape := ⟨2, ![16384, 2048]⟩
abbrev SIn : Shape := ⟨3, ![64, 512, 256]⟩
abbrev SToep : Shape := ⟨3, ![64, 512, 512]⟩
abbrev SOut : Shape := ⟨3, ![64, 256, 512]⟩
abbrev SZ : Shape := ⟨2, ![128, 64]⟩

variable (H : FVec Ideal SH .bf16) (Win : FVec Ideal SIn .bf16) (Toep : FVec Ideal SToep .bf16) (Wout : FVec Ideal SOut .bf16)
  (Zr Zi : FVec Ideal SZ .f32)

/-- Entry `k` of chunk `r` for the pair of groups `g`: group, position in the chunk and channel, in this order. -/
def chunkIn (g : Fin 64) (r : Fin 1024) (k : Fin 512) : EReal :=
  H (ix2 (⟨16 * r.val + k.val % 256 / 16, by omega⟩ : Fin 16384) (⟨32 * g.val + 16 * (k.val / 256) + k.val % 16, by omega⟩ : Fin 2048))

/-- What a chunk alone puts into the states: column `p`. -/
def putIn (g : Fin 64) (r : Fin 1024) (p : Fin 256) : EReal := ∑ k : Fin 512, chunkIn H g r k * Win (ix3 g k p)

/-- The same as a complex number, by sequence, state and chunk. -/
def input (g : Fin 64) (b : ℕ) (p : Fin 128) (c : ℕ) : ℂ :=
  ⟨(putIn H Win g (⟨(256 * b + c) % 1024, Nat.mod_lt _ (by norm_num)⟩ : Fin 1024) (⟨p.val, by omega⟩ : Fin 256)).toReal,
   (putIn H Win g (⟨(256 * b + c) % 1024, Nat.mod_lt _ (by norm_num)⟩ : Fin 1024) (⟨128 + p.val, by omega⟩ : Fin 256)).toReal⟩

/-- The entry at a state of a pair of groups. -/
def atState (Z : FVec Ideal SZ .f32) (g : Fin 64) (p : Fin 128) : EReal :=
  Z (ix2 (⟨2 * g.val + p.val / 64, by omega⟩ : Fin 128) (⟨p.val % 64, by omega⟩ : Fin 64))

/-- A state's decay over one chunk; where the rate is minus infinity nothing is left after a chunk. -/
def decayOf (g : Fin 64) (p : Fin 128) : ℂ := if atState Zr g p = ⊥ then 0 else decay (atState Zr g p).toReal (atState Zi g p).toReal

/-- The state before a chunk. -/
def state (g : Fin 64) (r : Fin 1024) (p : Fin 128) : ℂ :=
  window (input H Win g (r.val / 256) p) (decayOf Zr Zi g p) 256 (r.val % 256)

/-- Real parts, then imaginary parts. -/
def halves (g : Fin 64) (r : Fin 1024) (p : Fin 256) : EReal :=
  if h : p.val < 128 then (((state H Win Zr Zi g r (⟨p.val, h⟩ : Fin 128)).re : ℝ) : EReal)
  else (((state H Win Zr Zi g r (⟨p.val - 128, by omega⟩ : Fin 128)).im : ℝ) : EReal)

/-- The output's entry. -/
def entry (g : Fin 64) (r : Fin 1024) (q : Fin 512) : EReal :=
  (∑ k : Fin 512, chunkIn H g r k * Toep (ix3 g k q)) + ∑ p : Fin 256, halves H Win Zr Zi g r p * Wout (ix3 g p q)

variable {H Win Zr Zi}

/-- What a chunk puts in is real when the arrays are. -/
theorem putIn_real (hH : ∀ i, H i = ((H i : EReal).toReal : EReal)) (hW : ∀ i, Win i = ((Win i : EReal).toReal : EReal))
    (g : Fin 64) (r : Fin 1024) (p : Fin 256) : putIn H Win g r p = ((putIn H Win g r p).toReal : EReal) := by
  have e : putIn H Win g r p = ((∑ k : Fin 512, (chunkIn H g r k).toReal * (Win (ix3 g k p) : EReal).toReal : ℝ) : EReal) := by
    unfold putIn
    rw [show ((∑ k : Fin 512, (chunkIn H g r k).toReal * (Win (ix3 g k p) : EReal).toReal : ℝ) : EReal)
      = ∑ k : Fin 512, (((chunkIn H g r k).toReal * (Win (ix3 g k p) : EReal).toReal : ℝ) : EReal) from map_sum (⟨⟨Real.toEReal, EReal.coe_zero⟩, EReal.coe_add⟩ : ℝ →+ EReal) _ _]
    refine sum_congr rfl fun k _ => ?_
    rw [EReal.coe_mul]
    exact congrArg₂ (· * ·) (hH _) (hW _)
  rw [e, EReal.toReal_coe]

/-- The decay over `n` chunks, by size and angle. -/
theorem decay_parts (hr : ∀ i, (Zr i : EReal) ≠ ⊤) (hi : ∀ i, Zi i = ((Zi i : EReal).toReal : EReal)) (g : Fin 64) (p : Fin 128) (n : ℕ) :
    Ideal.exp (atState Zr g p * ((16 * (n : ℝ) : ℝ) : EReal)) * Ideal.cos (atState Zi g p * ((16 * (n : ℝ) : ℝ) : EReal)) = (((decayOf Zr Zi g p ^ n).re : ℝ) : EReal)
    ∧ Ideal.exp (atState Zr g p * ((16 * (n : ℝ) : ℝ) : EReal)) * Ideal.sin (atState Zi g p * ((16 * (n : ℝ) : ℝ) : EReal)) = (((decayOf Zr Zi g p ^ n).im : ℝ) : EReal) := by
  have ei : atState Zi g p = ((atState Zi g p).toReal : EReal) := hi _
  have ni : atState Zr g p ≠ ⊤ := hr _
  unfold decayOf
  by_cases h : atState Zr g p = ⊥
  · rw [if_pos h, h, ei, ← EReal.coe_mul]
    rcases Nat.eq_zero_or_pos n with rfl | hn
    · have z : (⊥ : EReal) * ((16 * ((0 : ℕ) : ℝ) : ℝ) : EReal) = ((0 : ℝ) : EReal) := by simp
      rw [z, Ideal.exp_coe, Ideal.cos_coe, Ideal.sin_coe, ← EReal.coe_mul, ← EReal.coe_mul]
      simp
    · have hp : (0 : ℝ) < 16 * (n : ℝ) := by positivity
      rw [EReal.bot_mul_coe_of_pos hp, show Ideal.exp ⊥ = (0 : EReal) from rfl, zero_mul, zero_mul, zero_pow hn.ne']
      exact ⟨rfl, rfl⟩
  · have er : atState Zr g p = ((atState Zr g p).toReal : EReal) := (EReal.coe_toReal ni h).symm
    rw [if_neg h, decay_pow, er, ei, ← EReal.coe_mul, ← EReal.coe_mul, Ideal.exp_coe, Ideal.cos_coe, Ideal.sin_coe, ← EReal.coe_mul, ← EReal.coe_mul]
    exact ⟨rfl, rfl⟩

/-- So the complex number has the chunk's columns as its parts. -/
theorem input_parts (hH : ∀ i, H i = ((H i : EReal).toReal : EReal)) (hW : ∀ i, Win i = ((Win i : EReal).toReal : EReal))
    (g : Fin 64) (r : Fin 1024) (p : Fin 128) :
    putIn H Win g r (⟨p.val, by omega⟩ : Fin 256) = (((input H Win g (r.val / 256) p (r.val % 256)).re : ℝ) : EReal)
    ∧ putIn H Win g r (⟨128 + p.val, by omega⟩ : Fin 256) = (((input H Win g (r.val / 256) p (r.val % 256)).im : ℝ) : EReal) := by
  have er : (⟨(256 * (r.val / 256) + r.val % 256) % 1024, Nat.mod_lt _ (by norm_num)⟩ : Fin 1024) = r := Fin.ext (by
    show (256 * (r.val / 256) + r.val % 256) % 1024 = r.val
    omega)
  unfold input
  rw [er]
  exact ⟨putIn_real hH hW g r _, putIn_real hH hW g r _⟩

end Cert.Scan

end
-- ==== Proof.ScanSplit.lean ====
/-
  The recurrence over positions, cut into chunks of sixteen: the sum over the positions up to one is what its own chunk
  adds, and the state that the chunks before leave, carried into the chunk.
-/
module

public import proofs.«01_k».proof.Proof.ScanMath

@[expose] public section

noncomputable section

namespace Cert.Scan

open Finset

/-- A sum in blocks. -/
theorem sum_blocks {M : Type} [AddCommMonoid M] (f : ℕ → M) (L n : ℕ) : ∑ s ∈ range (L * n), f s = ∑ c ∈ range n, ∑ i ∈ range L, f (L * c + i) := by
  induction n with
  | zero => simp
  | succ n ih => rw [Nat.mul_succ, sum_range_add, ih, sum_range_succ]

/-- The recurrence's solution up to position `l` of chunk `n`. -/
theorem split (v : ℕ → ℂ) (w : ℂ) (n l : ℕ) : ∑ s ∈ range (16 * n + (l + 1)), w ^ (16 * n + l - s) * v s
    = (∑ i ∈ range (l + 1), w ^ (l - i) * v (16 * n + i))
      + w ^ (l + 1) * ∑ c ∈ range n, (w ^ 16) ^ (n - 1 - c) * ∑ i ∈ range 16, w ^ (15 - i) * v (16 * c + i) := by
  rw [sum_range_add, sum_blocks, add_comm]
  refine congrArg₂ (· + ·) (sum_congr rfl fun i _ => ?_) ?_
  · rw [show 16 * n + l - (16 * n + i) = l - i by omega]
  · rw [mul_sum]
    refine sum_congr rfl fun c hc => ?_
    rw [mul_sum, mul_sum]
    refine sum_congr rfl fun i hi => ?_
    have := mem_range.1 hc
    have := mem_range.1 hi
    rw [← pow_mul, show 16 * n + l - (16 * c + i) = (l + 1) + (16 * (n - 1 - c) + (15 - i)) by omega, pow_add, pow_add]
    ring

/-- A masked sum over a finite type is a sum over a range. -/
theorem sum_masked {M : Type} [AddCommMonoid M] (N m : ℕ) (h : m ≤ N) (f : ℕ → M) : ∑ s : Fin N, (if s.val < m then f s.val else 0) = ∑ s ∈ range m, f s := by
  rw [Fin.sum_univ_eq_sum_range (fun s => if s < m then f s else 0) N, ← sum_filter]
  refine sum_congr ?_ fun _ _ => rfl
  ext s
  simp only [mem_filter, mem_range]
  omega

end Cert.Scan

end
-- ==== Proof.ScanSums.lean ====
/-
  Sums over the columns of a pair of groups, of which only one group's count.
-/
module

public import proofs.«01_k».proof.Proof.ScanSplit

@[expose] public section

namespace Cert.Scan

open Finset

/-- Only one half of 512 columns counts. -/
theorem sum_half (φ : ℕ → ℝ) (h : ℕ) (hh : h < 2) : ∑ k : Fin 512, (if k.val / 256 = h then φ (k.val % 256) else 0) = ∑ j ∈ range 256, φ j := by
  rw [Fin.sum_univ_eq_sum_range (fun k => if k / 256 = h then φ (k % 256) else 0) 512, show (512 : ℕ) = 256 * 2 from rfl, sum_blocks _ 256 2,
    sum_congr rfl (g := fun c => if c = h then ∑ j ∈ range 256, φ j else 0) ?_, sum_ite_eq' (range 2) h, if_pos (mem_range.2 hh)]
  intro c _
  by_cases e : c = h
  · rw [if_pos e]
    refine sum_congr rfl fun i hi => ?_
    have := mem_range.1 hi
    rw [if_pos (by omega), show (256 * c + i) % 256 = i by omega]
  · rw [if_neg e]
    refine sum_eq_zero fun i hi => ?_
    have := mem_range.1 hi
    rw [if_neg (by omega)]

/-- A group's 256 columns are 16 positions of 16 channels. -/
theorem sum_chunk (ψ : ℕ → Fin 16 → ℝ) (h : ℕ) (hh : h < 2) : ∑ k : Fin 512, (if k.val / 256 = h then ψ (k.val % 256 / 16) (⟨k.val % 16, by omega⟩ : Fin 16) else 0)
    = ∑ i ∈ range 16, ∑ c : Fin 16, ψ i c := by
  have e := sum_half (fun j => ψ (j / 16) (⟨j % 16, by omega⟩ : Fin 16)) h hh
  refine Eq.trans (sum_congr rfl fun k _ => ?_) (e.trans ?_)
  · by_cases hk : k.val / 256 = h
    · rw [if_pos hk, if_pos hk]
      exact congrArg (ψ _) (Fin.ext (by dsimp only; omega))
    · rw [if_neg hk, if_neg hk]
  · rw [show (256 : ℕ) = 16 * 16 from rfl, sum_blocks _ 16 16]
    refine sum_congr rfl fun i _ => ?_
    rw [Finset.sum_range]
    refine sum_congr rfl fun c _ => ?_
    have hc := c.isLt
    rw [show (16 * i + c.val) / 16 = i by omega]
    exact congrArg (ψ _) (Fin.ext (by dsimp only; omega))

/-- Of 256 rows, real and imaginary parts of two groups of 64, one group's count. -/
theorem sum_parts (a b : Fin 64 → ℝ) (h : ℕ) (hh : h < 2) :
    ∑ p : Fin 256, (if p.val % 128 / 64 = h then (if p.val < 128 then a (⟨p.val % 64, by omega⟩ : Fin 64) else b (⟨p.val % 64, by omega⟩ : Fin 64)) else 0) = ∑ j : Fin 64, (a j + b j) := by
  have full (f : Fin 64 → ℝ) : ∑ j : Fin 64, f j = ∑ j ∈ range 64, f (⟨j % 64, by omega⟩ : Fin 64) := by
    rw [Finset.sum_range]
    exact sum_congr rfl fun j _ => congrArg f (Fin.ext (Nat.mod_eq_of_lt j.isLt).symm)
  have mods (f : Fin 64 → ℝ) (c i : ℕ) : f (⟨(64 * c + i) % 64, by omega⟩ : Fin 64) = f (⟨i % 64, by omega⟩ : Fin 64) := congrArg f (Fin.ext (by dsimp only; omega))
  rw [Fin.sum_univ_eq_sum_range (fun p => if p % 128 / 64 = h then (if p < 128 then a (⟨p % 64, by omega⟩ : Fin 64) else b (⟨p % 64, by omega⟩ : Fin 64)) else 0) 256,
    show (256 : ℕ) = 64 * 4 from rfl, sum_blocks _ 64 4,
    sum_congr rfl (g := fun c => (if c = h then ∑ j : Fin 64, a j else 0) + (if c = h + 2 then ∑ j : Fin 64, b j else 0)) ?_,
    sum_add_distrib, sum_ite_eq' (range 4) h, if_pos (mem_range.2 (by omega)), sum_ite_eq' (range 4) (h + 2), if_pos (mem_range.2 (by omega)), sum_add_distrib]
  intro c hc
  have hc4 := mem_range.1 hc
  by_cases e : c = h
  · rw [if_pos e, if_neg (by omega), add_zero, full]
    refine sum_congr rfl fun i hi => ?_
    have := mem_range.1 hi
    rw [if_pos (by omega), if_pos (by omega), mods a]
  · by_cases e2 : c = h + 2
    · rw [if_neg e, if_pos e2, zero_add, full]
      refine sum_congr rfl fun i hi => ?_
      have := mem_range.1 hi
      rw [if_pos (by omega), if_neg (by omega), mods b]
    · rw [if_neg e, if_neg e2, add_zero]
      refine sum_eq_zero fun i hi => ?_
      have := mem_range.1 hi
      rw [if_neg (by omega)]

end Cert.Scan
-- ==== Proof.ScanOperators.lean ====
/-
  The S5 scan's chunk operators as the host makes them from the state matrices: the terms, in stages, and that the call's
  inputs hold them.
-/
module

public import proofs.«01_k».proof.Proof.Gen.ScanIdeal.Frame
public import Idealize.ShloMosaic.Lib.StableHlo.RunRead
public import Idealize.ShloMosaic.Lib.Pointwise

@[expose] public section

set_option maxRecDepth 65536

noncomputable section

namespace Cert.ScanIdeal.Scan

open Cert.ScanIdeal Cert.ScanIdeal.Gen Idealize.ShloMosaic Idealize.ShloMosaic.TcCoe Idealize.SL.Sem

/-- A rate times the distances zero to sixteen. -/
def spread (Z : FVec Ideal S128x64 .f32) : FVec Ideal S128x17x64 .f32 :=
  mulf (broadcastInDim S128x17x64 ![0, 1, 2] bcast_S128x1x64_S128x17x64_0_1_2 (broadcastInDim S128x1x64 ![0, 2] bcast_S128x64_S128x1x64_0_2 Z))
    (broadcastInDim S128x17x64 ![0, 1, 2] bcast_S1x17x1_S128x17x64_0_1_2 (broadcastInDim S1x17x1 ![1] bcast_S17_S1x17x1_1 (sitofp .f32 (iotaInDim S17 32 0))))

/-- The powers' real and imaginary parts. -/
def powR (Zr Zi : FVec Ideal S128x64 .f32) : FVec Ideal S128x17x64 .f32 := mulf (Host.exp (spread Zr)) (Host.cos (spread Zi))
def powI (Zr Zi : FVec Ideal S128x64 .f32) : FVec Ideal S128x17x64 .f32 := mulf (Host.exp (spread Zr)) (Host.sin (spread Zi))

/-- The positions counted from the chunk's end. -/
def fromEnd : IVec S16 32 := subi (broadcastInDim S16 ![] bcast_S_S16 (constantI S_ 32 15#32)) (iotaInDim S16 32 0)
def endWords : IVec S16x1 32 :=
  broadcastInDim S16x1 ![0] bcast_S16_S16x1_0 (select (cmpi .slt fromEnd (broadcastInDim S16 ![] bcast_S_S16 (constantI S_ 32 0#32)))
    (addi fromEnd (broadcastInDim S16 ![] bcast_S_S16 (constantI S_ 32 17#32))) fromEnd)

/-- Powers by the position counted from the chunk's end. -/
def ended (P : FVec Ideal S128x17x64 .f32) : FVec Ideal S128x16x64 .f32 :=
  Host.gather gather_S128x17x64_S16x1_S128x16x64_02_1_n_n_1_1_128164 P endWords

def wideP (P : FVec Ideal S128x17x64 .f32) : FVec Ideal S128x16x16x64 .f32 :=
  broadcastInDim S128x16x16x64 ![0, 1, 2, 3] bcast_S128x16x1x64_S128x16x16x64_0_1_2_3 (broadcastInDim S128x16x1x64 ![0, 1, 3] bcast_S128x16x64_S128x16x1x64_0_1_3 (ended P))
def wideB (B : FVec Ideal S128x64x16 .f32) : FVec Ideal S128x16x16x64 .f32 :=
  broadcastInDim S128x16x16x64 ![0, 1, 2, 3] bcast_S128x1x16x64_S128x16x16x64_0_1_2_3 (broadcastInDim S128x1x16x64 ![0, 2, 3] bcast_S128x16x64_S128x1x16x64_0_2_3
    (transpose S128x16x64 [0, 2, 1] B transposes_S128x64x16_S128x16x64_0_2_1))

/-- The operator into the states, by group. -/
def inR (P Q : FVec Ideal S128x17x64 .f32) (B D : FVec Ideal S128x64x16 .f32) : FVec Ideal S128x256x64 .f32 :=
  shapeCast S128x256x64 (subf (mulf (wideP P) (wideB B)) (mulf (wideP Q) (wideB D))) shapeCasts_S128x16x16x64_S128x256x64
def inI (P Q : FVec Ideal S128x17x64 .f32) (B D : FVec Ideal S128x64x16 .f32) : FVec Ideal S128x256x64 .f32 :=
  shapeCast S128x256x64 (addf (mulf (wideP P) (wideB D)) (mulf (wideP Q) (wideB B))) shapeCasts_S128x16x16x64_S128x256x64

def nextP (P : FVec Ideal S128x17x64 .f32) : FVec Ideal S128x64x16x16 .f32 :=
  broadcastInDim S128x64x16x16 ![0, 1, 2, 3] bcast_S128x64x16x1_S128x64x16x16_0_1_2_3 (broadcastInDim S128x64x16x1 ![0, 1, 2] bcast_S128x64x16_S128x64x16x1_0_1_2
    (transpose S128x64x16 [0, 2, 1] (extractStridedSlice S128x16x64 ![0, 1, 0] P slices_S128x17x64_S128x16x64_0_1_0) transposes_S128x16x64_S128x64x16_0_2_1))
def wideC (C : FVec Ideal S128x16x64 .f32) : FVec Ideal S128x64x16x16 .f32 :=
  broadcastInDim S128x64x16x16 ![0, 1, 2, 3] bcast_S128x64x1x16_S128x64x16x16_0_1_2_3 (broadcastInDim S128x64x1x16 ![0, 1, 3] bcast_S128x64x16_S128x64x1x16_0_1_3
    (transpose S128x64x16 [0, 2, 1] C transposes_S128x16x64_S128x64x16_0_2_1))

/-- The operator out of the states, by group. -/
def outR (P Q : FVec Ideal S128x17x64 .f32) (C D : FVec Ideal S128x16x64 .f32) : FVec Ideal S128x64x256 .f32 :=
  shapeCast S128x64x256 (subf (mulf (nextP P) (wideC C)) (mulf (nextP Q) (wideC D))) shapeCasts_S128x64x16x16_S128x64x256
def outI (P Q : FVec Ideal S128x17x64 .f32) (C D : FVec Ideal S128x16x64 .f32) : FVec Ideal S128x64x256 .f32 :=
  shapeCast S128x64x256 (addf (mulf (nextP P) (wideC D)) (mulf (nextP Q) (wideC C))) shapeCasts_S128x64x16x16_S128x64x256

def lagC (C : FVec Ideal S128x16x64 .f32) : FVec Ideal S128x16x16x64 .f32 :=
  broadcastInDim S128x16x16x64 ![0, 1, 2, 3] bcast_S128x1x16x64_S128x16x16x64_0_1_2_3 (broadcastInDim S128x1x16x64 ![0, 2, 3] bcast_S128x16x64_S128x1x16x64_0_2_3 C)
def lagP (P : FVec Ideal S128x17x64 .f32) : FVec Ideal S128x16x16x64 .f32 :=
  broadcastInDim S128x16x16x64 ![0, 1, 2, 3] bcast_S128x16x1x64_S128x16x16x64_0_1_2_3 (broadcastInDim S128x16x1x64 ![0, 1, 3] bcast_S128x16x64_S128x16x1x64_0_1_3
    (extractStridedSlice S128x16x64 ![0, 0, 0] P slices_S128x17x64_S128x16x64_0_0_0))

/-- From input to output inside a chunk, by lag. -/
def byLag (P Q : FVec Ideal S128x17x64 .f32) (B D : FVec Ideal S128x64x16 .f32) (C E : FVec Ideal S128x16x64 .f32) : FVec Ideal S128x16x16x16 .f32 :=
  subf (Host.dotGeneral dot_S128x16x16x64_S128x64x16_S128x16x16x16_3_1_12_2_0_0 (some .fp32) (subf (mulf (lagC C) (lagP P)) (mulf (lagC E) (lagP Q))) B)
    (Host.dotGeneral dot_S128x16x16x64_S128x64x16_S128x16x16x16_3_1_12_2_0_0 (some .fp32) (addf (mulf (lagC C) (lagP Q)) (mulf (lagC E) (lagP P))) D)

def later : IVec S16x16 32 := broadcastInDim S16x16 ![0, 1] bcast_S1x16_S16x16_0_1 (broadcastInDim S1x16 ![1] bcast_S16_S1x16_1 (iotaInDim S16 32 0))
def earlier : IVec S16x16 32 := broadcastInDim S16x16 ![0, 1] bcast_S16x1_S16x16_0_1 (broadcastInDim S16x1 ![0] bcast_S16_S16x1_0 (iotaInDim S16 32 0))
def clipped : IVec S16x16 32 :=
  minsi (broadcastInDim S16x16 ![] bcast_S_S16x16 (constantI S_ 32 15#32)) (maxsi (broadcastInDim S16x16 ![] bcast_S_S16x16 (constantI S_ 32 0#32)) (subi later earlier))
def lagWords : IVec S16x16x1 32 :=
  broadcastInDim S16x16x1 ![0, 1] bcast_S16x16_S16x16x1_0_1 (select (cmpi .slt clipped (broadcastInDim S16x16 ![] bcast_S_S16x16 (constantI S_ 32 0#32)))
    (addi clipped (broadcastInDim S16x16 ![] bcast_S_S16x16 (constantI S_ 32 16#32))) clipped)

/-- From input to output inside a chunk, by group. -/
def inside (K : FVec Ideal S128x16x16x16 .f32) : FVec Ideal S128x256x256 .f32 :=
  shapeCast S128x256x256 (transpose S128x16x16x16x16 [0, 1, 4, 2, 3]
    (select (broadcastInDim S128x16x16x16x16 ![0, 1, 2, 3, 4] bcast_S1x16x16x1x1_S128x16x16x16x16_0_1_2_3_4 (broadcastInDim S1x16x16x1x1 ![1, 2] bcast_S16x16_S1x16x16x1x1_1_2 (cmpi .sge later earlier)))
      (Host.gather gather_S128x16x16x16_S16x16x1_S128x16x16x16x16_034_1_n_n_1_2_12811616 K lagWords)
      (broadcastInDim S128x16x16x16x16 ![] bcast_S_S128x16x16x16x16 (constant S_ .f32 0x00000000#32)))
    transposes_S128x16x16x16x16_S128x16x16x16x16_0_1_4_2_3) shapeCasts_S128x16x16x16x16_S128x256x256

def word3 (a b c : BitVec 32) : IVec S3 32 :=
  concatenate S3 0 [⟨S1, broadcastInDim S1 ![] bcast_S_S1 (constantI S_ 32 a)⟩, ⟨S1, broadcastInDim S1 ![] bcast_S_S1 (constantI S_ 32 b)⟩, ⟨S1, broadcastInDim S1 ![] bcast_S_S1 (constantI S_ 32 c)⟩] concatenates_S1_S1_S1_S3_d0
def word2 (a b : BitVec 32) : IVec S2 32 :=
  concatenate S2 0 [⟨S1, broadcastInDim S1 ![] bcast_S_S1 (constantI S_ 32 a)⟩, ⟨S1, broadcastInDim S1 ![] bcast_S_S1 (constantI S_ 32 b)⟩] concatenates_S1_S1_S2_d0

def in0th (X : FVec Ideal S128x256x64 .f32) : FVec Ideal S64x256x64 .f32 :=
  shapeCast S64x256x64 (extractStridedSlice S64x1x256x64 ![0, 0, 0, 0] (shapeCast S64x2x256x64 X shapeCasts_S128x256x64_S64x2x256x64) slices_S64x2x256x64_S64x1x256x64_0_0_0_0) shapeCasts_S64x1x256x64_S64x256x64
def in1st (X : FVec Ideal S128x256x64 .f32) : FVec Ideal S64x256x64 .f32 :=
  shapeCast S64x256x64 (extractStridedSlice S64x1x256x64 ![0, 1, 0, 0] (shapeCast S64x2x256x64 X shapeCasts_S128x256x64_S64x2x256x64) slices_S64x2x256x64_S64x1x256x64_0_1_0_0) shapeCasts_S64x1x256x64_S64x256x64
def putA (x : FVec Ideal S64x2x256x2x2x64 .f32) (w : IVec S3 32) (u : FVec Ideal S64x256x64 .f32) : FVec Ideal S64x2x256x2x2x64 .f32 :=
  Host.scatter scatter_S64x2x256x2x2x64_S3_S64x256x64_012_134_134_0 (fun _ b => b) x w u

/-- Both groups' operators into the states, side by side. -/
def pairIn (X Y : FVec Ideal S128x256x64 .f32) : FVec Ideal S64x512x256 .bf16 :=
  truncf .bf16 (shapeCast S64x512x256 (putA (putA (putA (putA (broadcastInDim S64x2x256x2x2x64 ![] bcast_S_S64x2x256x2x2x64 (constant S_ .f32 0x00000000#32))
    (word3 0#32 0#32 0#32) (in0th X)) (word3 0#32 1#32 0#32) (in0th Y)) (word3 1#32 0#32 1#32) (in1st X)) (word3 1#32 1#32 1#32) (in1st Y))
    shapeCasts_S64x2x256x2x2x64_S64x512x256) bitsLt_bf16_f32

def out0th (X : FVec Ideal S128x64x256 .f32) : FVec Ideal S64x64x256 .f32 :=
  shapeCast S64x64x256 (extractStridedSlice S64x1x64x256 ![0, 0, 0, 0] (shapeCast S64x2x64x256 X shapeCasts_S128x64x256_S64x2x64x256) slices_S64x2x64x256_S64x1x64x256_0_0_0_0) shapeCasts_S64x1x64x256_S64x64x256
def out1st (X : FVec Ideal S128x64x256 .f32) : FVec Ideal S64x64x256 .f32 :=
  shapeCast S64x64x256 (extractStridedSlice S64x1x64x256 ![0, 1, 0, 0] (shapeCast S64x2x64x256 X shapeCasts_S128x64x256_S64x2x64x256) slices_S64x2x64x256_S64x1x64x256_0_1_0_0) shapeCasts_S64x1x64x256_S64x64x256
def putB (x : FVec Ideal S64x2x2x64x2x256 .f32) (w : IVec S3 32) (u : FVec Ideal S64x64x256 .f32) : FVec Ideal S64x2x2x64x2x256 .f32 :=
  Host.scatter scatter_S64x2x2x64x2x256_S3_S64x64x256_012_124_124_0 (fun _ b => b) x w u

/-- Both groups' operators out of the states, one below the other. -/
def pairOut (X Y : FVec Ideal S128x64x256 .f32) : FVec Ideal S64x256x512 .bf16 :=
  truncf .bf16 (shapeCast S64x256x512 (putB (putB (putB (putB (broadcastInDim S64x2x2x64x2x256 ![] bcast_S_S64x2x2x64x2x256 (constant S_ .f32 0x00000000#32))
    (word3 0#32 0#32 0#32) (out0th X)) (word3 1#32 0#32 0#32) (out0th (Host.negf Y))) (word3 0#32 1#32 1#32) (out1st X)) (word3 1#32 1#32 1#32) (out1st (Host.negf Y)))
    shapeCasts_S64x2x2x64x2x256_S64x256x512) bitsLt_bf16_f32

def toep0th (X : FVec Ideal S128x256x256 .f32) : FVec Ideal S64x256x256 .f32 :=
  shapeCast S64x256x256 (extractStridedSlice S64x1x256x256 ![0, 0, 0, 0] (shapeCast S64x2x256x256 X shapeCasts_S128x256x256_S64x2x256x256) slices_S64x2x256x256_S64x1x256x256_0_0_0_0) shapeCasts_S64x1x256x256_S64x256x256
def toep1st (X : FVec Ideal S128x256x256 .f32) : FVec Ideal S64x256x256 .f32 :=
  shapeCast S64x256x256 (extractStridedSlice S64x1x256x256 ![0, 1, 0, 0] (shapeCast S64x2x256x256 X shapeCasts_S128x256x256_S64x2x256x256) slices_S64x2x256x256_S64x1x256x256_0_1_0_0) shapeCasts_S64x1x256x256_S64x256x256
def putC (x : FVec Ideal S64x2x256x2x256 .f32) (w : IVec S2 32) (u : FVec Ideal S64x256x256 .f32) : FVec Ideal S64x2x256x2x256 .f32 :=
  Host.scatter scatter_S64x2x256x2x256_S2_S64x256x256_012_13_13_0 (fun _ b => b) x w u

/-- Both groups' operators inside a chunk, on the diagonal. -/
def pairInside (X : FVec Ideal S128x256x256 .f32) : FVec Ideal S64x512x512 .bf16 :=
  truncf .bf16 (shapeCast S64x512x512 (putC (putC (broadcastInDim S64x2x256x2x256 ![] bcast_S_S64x2x256x2x256 (constant S_ .f32 0x00000000#32))
    (word2 0#32 0#32) (toep0th X)) (word2 1#32 1#32) (toep1st X)) shapeCasts_S64x2x256x2x256_S64x512x512) bitsLt_bf16_f32

end Cert.ScanIdeal.Scan

end
-- ==== Proof.ScanPairs.lean ====
/-
  The S5 chunk operators of two groups put side by side: the entries of the host's writes into zeros.
-/
module

public import proofs.«01_k».proof.Proof.ScanOperators
public import Idealize.ShloMosaic.Lib.Routing.OpsPair
public import Idealize.ShloMosaic.Lib.Routing.OpsSet

@[expose] public section

set_option maxRecDepth 65536

noncomputable section

namespace Cert.ScanIdeal.Scan

open Cert.ScanIdeal Cert.ScanIdeal.Gen Idealize.ShloMosaic Idealize.ShloMosaic.TcCoe Idealize.SL.Sem Idealize.ShloMosaic.Routing

abbrev dA := scatter_S64x2x256x2x2x64_S3_S64x256x64_012_134_134_0
abbrev dB := scatter_S64x2x2x64x2x256_S3_S64x64x256_012_124_124_0
abbrev dC := scatter_S64x2x256x2x256_S2_S64x256x256_012_13_13_0

/-- Where a write of the first kind lands. -/
theorem landsA (a b c : BitVec 32) (k : S64x256x64.Idx) (ι : S64x2x256x2x2x64.Idx) : dA.resultIdx? k (word3 a b c) = some ι
    ↔ (k 0).val = (ι 0).val ∧ a.toInt = (ι 1).val ∧ (k 1).val = (ι 2).val ∧ b.toInt = (ι 3).val ∧ c.toInt = (ι 4).val ∧ (k 2).val = (ι 5).val := by
  rw [resultIdx?_eq_some]
  have e0 : dA.start k (word3 a b c) 0 + (dA.window k 0 : Int) = 0 + ((k 0).val : Int) := rfl
  have e1 : dA.start k (word3 a b c) 1 + (dA.window k 1 : Int) = a.toInt + ((0 : ℕ) : Int) := rfl
  have e2 : dA.start k (word3 a b c) 2 + (dA.window k 2 : Int) = 0 + ((k 1).val : Int) := rfl
  have e3 : dA.start k (word3 a b c) 3 + (dA.window k 3 : Int) = b.toInt + ((0 : ℕ) : Int) := rfl
  have e4 : dA.start k (word3 a b c) 4 + (dA.window k 4 : Int) = c.toInt + ((0 : ℕ) : Int) := rfl
  have e5 : dA.start k (word3 a b c) 5 + (dA.window k 5 : Int) = 0 + ((k 2).val : Int) := rfl
  constructor
  · intro h
    have h0 := e0.symm.trans (h 0)
    have h1 := e1.symm.trans (h 1)
    have h2 := e2.symm.trans (h 2)
    have h3 := e3.symm.trans (h 3)
    have h4 := e4.symm.trans (h 4)
    have h5 := e5.symm.trans (h 5)
    refine ⟨?_, ?_, ?_, ?_, ?_, ?_⟩ <;> omega
  · rintro ⟨h0, h1, h2, h3, h4, h5⟩ x
    fin_cases x
    · exact e0.trans (show 0 + ((k 0).val : Int) = ((ι 0).val : Int) by omega)
    · exact e1.trans (show a.toInt + ((0 : ℕ) : Int) = ((ι 1).val : Int) by omega)
    · exact e2.trans (show 0 + ((k 1).val : Int) = ((ι 2).val : Int) by omega)
    · exact e3.trans (show b.toInt + ((0 : ℕ) : Int) = ((ι 3).val : Int) by omega)
    · exact e4.trans (show c.toInt + ((0 : ℕ) : Int) = ((ι 4).val : Int) by omega)
    · exact e5.trans (show 0 + ((k 2).val : Int) = ((ι 5).val : Int) by omega)

/-- Where a write of the second kind lands. -/
theorem landsB (a b c : BitVec 32) (k : S64x64x256.Idx) (ι : S64x2x2x64x2x256.Idx) : dB.resultIdx? k (word3 a b c) = some ι
    ↔ (k 0).val = (ι 0).val ∧ a.toInt = (ι 1).val ∧ b.toInt = (ι 2).val ∧ (k 1).val = (ι 3).val ∧ c.toInt = (ι 4).val ∧ (k 2).val = (ι 5).val := by
  rw [resultIdx?_eq_some]
  have e0 : dB.start k (word3 a b c) 0 + (dB.window k 0 : Int) = 0 + ((k 0).val : Int) := rfl
  have e1 : dB.start k (word3 a b c) 1 + (dB.window k 1 : Int) = a.toInt + ((0 : ℕ) : Int) := rfl
  have e2 : dB.start k (word3 a b c) 2 + (dB.window k 2 : Int) = b.toInt + ((0 : ℕ) : Int) := rfl
  have e3 : dB.start k (word3 a b c) 3 + (dB.window k 3 : Int) = 0 + ((k 1).val : Int) := rfl
  have e4 : dB.start k (word3 a b c) 4 + (dB.window k 4 : Int) = c.toInt + ((0 : ℕ) : Int) := rfl
  have e5 : dB.start k (word3 a b c) 5 + (dB.window k 5 : Int) = 0 + ((k 2).val : Int) := rfl
  constructor
  · intro h
    have h0 := e0.symm.trans (h 0)
    have h1 := e1.symm.trans (h 1)
    have h2 := e2.symm.trans (h 2)
    have h3 := e3.symm.trans (h 3)
    have h4 := e4.symm.trans (h 4)
    have h5 := e5.symm.trans (h 5)
    refine ⟨?_, ?_, ?_, ?_, ?_, ?_⟩ <;> omega
  · rintro ⟨h0, h1, h2, h3, h4, h5⟩ x
    fin_cases x
    · exact e0.trans (show 0 + ((k 0).val : Int) = ((ι 0).val : Int) by omega)
    · exact e1.trans (show a.toInt + ((0 : ℕ) : Int) = ((ι 1).val : Int) by omega)
    · exact e2.trans (show b.toInt + ((0 : ℕ) : Int) = ((ι 2).val : Int) by omega)
    · exact e3.trans (show 0 + ((k 1).val : Int) = ((ι 3).val : Int) by omega)
    · exact e4.trans (show c.toInt + ((0 : ℕ) : Int) = ((ι 4).val : Int) by omega)
    · exact e5.trans (show 0 + ((k 2).val : Int) = ((ι 5).val : Int) by omega)

/-- Where a write of the third kind lands. -/
theorem landsC (a b : BitVec 32) (k : S64x256x256.Idx) (ι : S64x2x256x2x256.Idx) : dC.resultIdx? k (word2 a b) = some ι
    ↔ (k 0).val = (ι 0).val ∧ a.toInt = (ι 1).val ∧ (k 1).val = (ι 2).val ∧ b.toInt = (ι 3).val ∧ (k 2).val = (ι 4).val := by
  rw [resultIdx?_eq_some]
  have e0 : dC.start k (word2 a b) 0 + (dC.window k 0 : Int) = 0 + ((k 0).val : Int) := rfl
  have e1 : dC.start k (word2 a b) 1 + (dC.window k 1 : Int) = a.toInt + ((0 : ℕ) : Int) := rfl
  have e2 : dC.start k (word2 a b) 2 + (dC.window k 2 : Int) = 0 + ((k 1).val : Int) := rfl
  have e3 : dC.start k (word2 a b) 3 + (dC.window k 3 : Int) = b.toInt + ((0 : ℕ) : Int) := rfl
  have e4 : dC.start k (word2 a b) 4 + (dC.window k 4 : Int) = 0 + ((k 2).val : Int) := rfl
  constructor
  · intro h
    have h0 := e0.symm.trans (h 0)
    have h1 := e1.symm.trans (h 1)
    have h2 := e2.symm.trans (h 2)
    have h3 := e3.symm.trans (h 3)
    have h4 := e4.symm.trans (h 4)
    refine ⟨?_, ?_, ?_, ?_, ?_⟩ <;> omega
  · rintro ⟨h0, h1, h2, h3, h4⟩ x
    fin_cases x
    · exact e0.trans (show 0 + ((k 0).val : Int) = ((ι 0).val : Int) by omega)
    · exact e1.trans (show a.toInt + ((0 : ℕ) : Int) = ((ι 1).val : Int) by omega)
    · exact e2.trans (show 0 + ((k 1).val : Int) = ((ι 2).val : Int) by omega)
    · exact e3.trans (show b.toInt + ((0 : ℕ) : Int) = ((ι 3).val : Int) by omega)
    · exact e4.trans (show 0 + ((k 2).val : Int) = ((ι 4).val : Int) by omega)

theorem eq_ix3 {A B C : ℕ} (k : (⟨3, ![A, B, C]⟩ : Shape).Idx) (x : Fin A) (y : Fin B) (z : Fin C) (hx : (k 0).val = x.val) (hy : (k 1).val = y.val) (hz : (k 2).val = z.val) :
    k = ix3 x y z := by
  funext a
  fin_cases a
  · exact Fin.ext hx
  · exact Fin.ext hy
  · exact Fin.ext hz

theorem putA_at (x : FVec Ideal S64x2x256x2x2x64 .f32) (a b c : BitVec 32) (u : FVec Ideal S64x256x64 .f32) (g : Fin 64) (h : Fin 2) (k : Fin 256) (s j : Fin 2) (p : Fin 64) :
    putA x (word3 a b c) u (ix6 g h k s j p) = if a.toInt = h.val ∧ b.toInt = s.val ∧ c.toInt = j.val then u (ix3 g k p) else x (ix6 g h k s j p) := by
  by_cases hh : a.toInt = h.val ∧ b.toInt = s.val ∧ c.toInt = j.val
  · rw [if_pos hh]
    refine scatter_set_hit dA x (word3 a b c) u (ix6 g h k s j p) (u (ix3 g k p)) (fun q hq => ?_) (ix3 g k p) ((landsA a b c _ _).2 ⟨rfl, hh.1, rfl, hh.2.1, hh.2.2, rfl⟩)
    have e := (landsA a b c q _).1 hq
    exact congrArg u (eq_ix3 q g k p e.1 e.2.2.1 e.2.2.2.2.2)
  · rw [if_neg hh]
    refine scatter_set_miss dA x (word3 a b c) u (ix6 g h k s j p) (fun q hq => hh ?_)
    have e := (landsA a b c q _).1 hq
    exact ⟨e.2.1, e.2.2.2.1, e.2.2.2.2.1⟩

theorem putB_at (x : FVec Ideal S64x2x2x64x2x256 .f32) (a b c : BitVec 32) (u : FVec Ideal S64x64x256 .f32) (g : Fin 64) (s h : Fin 2) (p : Fin 64) (j : Fin 2) (k : Fin 256) :
    putB x (word3 a b c) u (ix6 g s h p j k) = if a.toInt = s.val ∧ b.toInt = h.val ∧ c.toInt = j.val then u (ix3 g p k) else x (ix6 g s h p j k) := by
  by_cases hh : a.toInt = s.val ∧ b.toInt = h.val ∧ c.toInt = j.val
  · rw [if_pos hh]
    refine scatter_set_hit dB x (word3 a b c) u (ix6 g s h p j k) (u (ix3 g p k)) (fun q hq => ?_) (ix3 g p k) ((landsB a b c _ _).2 ⟨rfl, hh.1, hh.2.1, rfl, hh.2.2, rfl⟩)
    have e := (landsB a b c q _).1 hq
    exact congrArg u (eq_ix3 q g p k e.1 e.2.2.2.1 e.2.2.2.2.2)
  · rw [if_neg hh]
    refine scatter_set_miss dB x (word3 a b c) u (ix6 g s h p j k) (fun q hq => hh ?_)
    have e := (landsB a b c q _).1 hq
    exact ⟨e.2.1, e.2.2.1, e.2.2.2.2.1⟩

theorem putC_at (x : FVec Ideal S64x2x256x2x256 .f32) (a b : BitVec 32) (u : FVec Ideal S64x256x256 .f32) (g : Fin 64) (h : Fin 2) (k : Fin 256) (j : Fin 2) (q : Fin 256) :
    putC x (word2 a b) u (ix5 g h k j q) = if a.toInt = h.val ∧ b.toInt = j.val then u (ix3 g k q) else x (ix5 g h k j q) := by
  by_cases hh : a.toInt = h.val ∧ b.toInt = j.val
  · rw [if_pos hh]
    refine scatter_set_hit dC x (word2 a b) u (ix5 g h k j q) (u (ix3 g k q)) (fun w hq => ?_) (ix3 g k q) ((landsC a b _ _).2 ⟨rfl, hh.1, rfl, hh.2, rfl⟩)
    have e := (landsC a b w _).1 hq
    exact congrArg u (eq_ix3 w g k q e.1 e.2.2.1 e.2.2.2.2)
  · rw [if_neg hh]
    refine scatter_set_miss dC x (word2 a b) u (ix5 g h k j q) (fun w hq => hh ?_)
    have e := (landsC a b w _).1 hq
    exact ⟨e.2.1, e.2.2.2.1⟩

theorem in0th_at (X : FVec Ideal S128x256x64 .f32) (g : Fin 64) (k : Fin 256) (p : Fin 64) : in0th X (ix3 g k p) = X (ix3 (⟨2 * g.val, by omega⟩ : Fin 128) k p) := by
  pointwise [in0th]
  exact congrArg (fun a => X (ix3 a k p)) (Fin.ext (by dsimp only; omega))
theorem in1st_at (X : FVec Ideal S128x256x64 .f32) (g : Fin 64) (k : Fin 256) (p : Fin 64) : in1st X (ix3 g k p) = X (ix3 (⟨2 * g.val + 1, by omega⟩ : Fin 128) k p) := by
  pointwise [in1st]
  exact congrArg (fun a => X (ix3 a k p)) (Fin.ext (by dsimp only; omega))
theorem out0th_at (X : FVec Ideal S128x64x256 .f32) (g : Fin 64) (k : Fin 64) (p : Fin 256) : out0th X (ix3 g k p) = X (ix3 (⟨2 * g.val, by omega⟩ : Fin 128) k p) := by
  pointwise [out0th]
  exact congrArg (fun a => X (ix3 a k p)) (Fin.ext (by dsimp only; omega))
theorem out1st_at (X : FVec Ideal S128x64x256 .f32) (g : Fin 64) (k : Fin 64) (p : Fin 256) : out1st X (ix3 g k p) = X (ix3 (⟨2 * g.val + 1, by omega⟩ : Fin 128) k p) := by
  pointwise [out1st]
  exact congrArg (fun a => X (ix3 a k p)) (Fin.ext (by dsimp only; omega))
theorem toep0th_at (X : FVec Ideal S128x256x256 .f32) (g : Fin 64) (k : Fin 256) (p : Fin 256) : toep0th X (ix3 g k p) = X (ix3 (⟨2 * g.val, by omega⟩ : Fin 128) k p) := by
  pointwise [toep0th]
  exact congrArg (fun a => X (ix3 a k p)) (Fin.ext (by dsimp only; omega))
theorem toep1st_at (X : FVec Ideal S128x256x256 .f32) (g : Fin 64) (k : Fin 256) (p : Fin 256) : toep1st X (ix3 g k p) = X (ix3 (⟨2 * g.val + 1, by omega⟩ : Fin 128) k p) := by
  pointwise [toep1st]
  exact congrArg (fun a => X (ix3 a k p)) (Fin.ext (by dsimp only; omega))

/-- The operators into the states, by entry: each group's rows reach its own states only. -/
theorem pairIn_at (X Y : FVec Ideal S128x256x64 .f32) (g : Fin 64) (k : Fin 512) (q : Fin 256) : pairIn X Y (ix3 g k q)
    = if k.val / 256 = q.val % 128 / 64 then (if q.val < 128 then X else Y) (ix3 (⟨2 * g.val + k.val / 256, by omega⟩ : Fin 128) (⟨k.val % 256, by omega⟩ : Fin 256) (⟨q.val % 64, by omega⟩ : Fin 64)) else (0 : EReal) := by
  have e (A : FVec Ideal S64x2x256x2x2x64 .f32) : truncf .bf16 (shapeCast S64x512x256 A shapeCasts_S64x2x256x2x2x64_S64x512x256) bitsLt_bf16_f32 (ix3 g k q)
      = A (ix6 g (⟨k.val / 256, by omega⟩ : Fin 2) (⟨k.val % 256, by omega⟩ : Fin 256) (⟨q.val / 128, by omega⟩ : Fin 2) (⟨q.val % 128 / 64, by omega⟩ : Fin 2) (⟨q.val % 64, by omega⟩ : Fin 64)) := by
    pointwise
    exact congrArg (fun a => A (ix6 g _ _ _ a _)) (Fin.ext (by dsimp only; omega))
  unfold pairIn
  rw [e, putA_at, putA_at, putA_at, putA_at, in0th_at, in0th_at, in1st_at, in1st_at]
  have z : (broadcastInDim S64x2x256x2x2x64 ![] bcast_S_S64x2x256x2x2x64 (constant (F := Ideal) S_ .f32 0x00000000#32)) (ix6 g (⟨k.val / 256, by omega⟩ : Fin 2) (⟨k.val % 256, by omega⟩ : Fin 256) (⟨q.val / 128, by omega⟩ : Fin 2) (⟨q.val % 128 / 64, by omega⟩ : Fin 2) (⟨q.val % 64, by omega⟩ : Fin 64)) = (0 : EReal) := by
    show Ideal.ofBits .f32 0x00000000#32 = 0
    simp
  rw [z, show (0#32 : BitVec 32).toInt = 0 from rfl, show (1#32 : BitVec 32).toInt = 1 from rfl]
  dsimp only
  have hk : k.val / 256 = 0 ∨ k.val / 256 = 1 := by omega
  have hq : q.val / 128 = 0 ∨ q.val / 128 = 1 := by omega
  have hs : q.val % 128 / 64 = 0 ∨ q.val % 128 / 64 = 1 := by omega
  rcases hq with hq | hq
  · rw [if_pos (show q.val < 128 by omega)]
    rcases hk with hk | hk <;> rcases hs with hs | hs <;> simp [hk, hq, hs]
  · rw [if_neg (show ¬ q.val < 128 by omega)]
    rcases hk with hk | hk <;> rcases hs with hs | hs <;> simp [hk, hq, hs]

/-- The operators out of the states, by entry. -/
theorem pairOut_at (X Y : FVec Ideal S128x64x256 .f32) (g : Fin 64) (q : Fin 256) (k : Fin 512) : pairOut X Y (ix3 g q k)
    = if q.val % 128 / 64 = k.val / 256 then (if q.val < 128 then X else Host.negf Y) (ix3 (⟨2 * g.val + k.val / 256, by omega⟩ : Fin 128) (⟨q.val % 64, by omega⟩ : Fin 64) (⟨k.val % 256, by omega⟩ : Fin 256)) else (0 : EReal) := by
  have e (A : FVec Ideal S64x2x2x64x2x256 .f32) : truncf .bf16 (shapeCast S64x256x512 A shapeCasts_S64x2x2x64x2x256_S64x256x512) bitsLt_bf16_f32 (ix3 g q k)
      = A (ix6 g (⟨q.val / 128, by omega⟩ : Fin 2) (⟨q.val % 128 / 64, by omega⟩ : Fin 2) (⟨q.val % 64, by omega⟩ : Fin 64) (⟨k.val / 256, by omega⟩ : Fin 2) (⟨k.val % 256, by omega⟩ : Fin 256)) := by
    pointwise
    exact congrArg (fun a => A (ix6 g _ a _ _ _)) (Fin.ext (by dsimp only; omega))
  unfold pairOut
  generalize Host.negf Y = Y
  rw [e, putB_at, putB_at, putB_at, putB_at, out0th_at, out0th_at, out1st_at, out1st_at]
  have z : (broadcastInDim S64x2x2x64x2x256 ![] bcast_S_S64x2x2x64x2x256 (constant (F := Ideal) S_ .f32 0x00000000#32)) (ix6 g (⟨q.val / 128, by omega⟩ : Fin 2) (⟨q.val % 128 / 64, by omega⟩ : Fin 2) (⟨q.val % 64, by omega⟩ : Fin 64) (⟨k.val / 256, by omega⟩ : Fin 2) (⟨k.val % 256, by omega⟩ : Fin 256)) = (0 : EReal) := by
    show Ideal.ofBits .f32 0x00000000#32 = 0
    simp
  rw [z, show (0#32 : BitVec 32).toInt = 0 from rfl, show (1#32 : BitVec 32).toInt = 1 from rfl]
  dsimp only
  have hk : k.val / 256 = 0 ∨ k.val / 256 = 1 := by omega
  have hq : q.val / 128 = 0 ∨ q.val / 128 = 1 := by omega
  have hs : q.val % 128 / 64 = 0 ∨ q.val % 128 / 64 = 1 := by omega
  rcases hq with hq | hq
  · rw [if_pos (show q.val < 128 by omega)]
    rcases hk with hk | hk <;> rcases hs with hs | hs <;> simp [hk, hq, hs]
  · rw [if_neg (show ¬ q.val < 128 by omega)]
    rcases hk with hk | hk <;> rcases hs with hs | hs <;> simp [hk, hq, hs]

/-- The operators inside a chunk, by entry. -/
theorem pairInside_at (X : FVec Ideal S128x256x256 .f32) (g : Fin 64) (k : Fin 512) (q : Fin 512) : pairInside X (ix3 g k q)
    = if k.val / 256 = q.val / 256 then X (ix3 (⟨2 * g.val + k.val / 256, by omega⟩ : Fin 128) (⟨k.val % 256, by omega⟩ : Fin 256) (⟨q.val % 256, by omega⟩ : Fin 256)) else (0 : EReal) := by
  have e (A : FVec Ideal S64x2x256x2x256 .f32) : truncf .bf16 (shapeCast S64x512x512 A shapeCasts_S64x2x256x2x256_S64x512x512) bitsLt_bf16_f32 (ix3 g k q)
      = A (ix5 g (⟨k.val / 256, by omega⟩ : Fin 2) (⟨k.val % 256, by omega⟩ : Fin 256) (⟨q.val / 256, by omega⟩ : Fin 2) (⟨q.val % 256, by omega⟩ : Fin 256)) := by
    pointwise
  unfold pairInside
  rw [e, putC_at, putC_at, toep0th_at, toep1st_at]
  have z : (broadcastInDim S64x2x256x2x256 ![] bcast_S_S64x2x256x2x256 (constant (F := Ideal) S_ .f32 0x00000000#32)) (ix5 g (⟨k.val / 256, by omega⟩ : Fin 2) (⟨k.val % 256, by omega⟩ : Fin 256) (⟨q.val / 256, by omega⟩ : Fin 2) (⟨q.val % 256, by omega⟩ : Fin 256)) = (0 : EReal) := by
    show Ideal.ofBits .f32 0x00000000#32 = 0
    simp
  rw [z, show (0#32 : BitVec 32).toInt = 0 from rfl, show (1#32 : BitVec 32).toInt = 1 from rfl]
  dsimp only
  have hk : k.val / 256 = 0 ∨ k.val / 256 = 1 := by omega
  have hs : q.val / 256 = 0 ∨ q.val / 256 = 1 := by omega
  rcases hk with hk | hk <;> rcases hs with hs | hs <;> simp [hk, hs]

end Cert.ScanIdeal.Scan

end
-- ==== Proof.ScanFactor.lean ====
/-
  The S5 recurrence's ingredients as complex numbers, and its whole solution at a position.
-/
module

public import proofs.«01_k».proof.Proof.ScanSplit
public import Idealize.ShloMosaic.Lib.Pointwise

@[expose] public section

noncomputable section

namespace Cert.Scan

open Idealize.ShloMosaic Idealize.ShloMosaic.TcCoe

abbrev SX : Shape := ⟨2, ![16384, 2048]⟩

abbrev SR : Shape := ⟨2, ![128, 64]⟩
abbrev SB : Shape := ⟨3, ![128, 64, 16]⟩
abbrev SC : Shape := ⟨3, ![128, 16, 64]⟩

/-- A state's factor over one position. -/
def factor (Zr Zi : FVec Ideal SR .f32) (G : Fin 128) (p : Fin 64) : ℂ := Complex.exp ⟨(Zr (ix2 G p) : EReal).toReal, (Zi (ix2 G p) : EReal).toReal⟩
/-- The input matrix. -/
def bOf (Br Bi : FVec Ideal SB .f32) (G : Fin 128) (p : Fin 64) (c : Fin 16) : ℂ := ⟨(Br (ix3 G p c) : EReal).toReal, (Bi (ix3 G p c) : EReal).toReal⟩
/-- The output matrix. -/
def cOf (Cr Ci : FVec Ideal SC .f32) (G : Fin 128) (o : Fin 16) (p : Fin 64) : ℂ := ⟨(Cr (ix3 G o p) : EReal).toReal, (Ci (ix3 G o p) : EReal).toReal⟩

/-- All entries are real numbers. -/
abbrev Real' {s : Shape} {t : FTy} (X : FVec Ideal s t) : Prop := ∀ i, X i = ((X i : EReal).toReal : EReal)

theorem factor_pow (Zr Zi : FVec Ideal SR .f32) (G : Fin 128) (p : Fin 64) (n : ℕ) : factor Zr Zi G p ^ n
    = ⟨Real.exp ((Zr (ix2 G p) : EReal).toReal * n) * Real.cos ((Zi (ix2 G p) : EReal).toReal * n), Real.exp ((Zr (ix2 G p) : EReal).toReal * n) * Real.sin ((Zi (ix2 G p) : EReal).toReal * n)⟩ := by
  unfold factor
  rw [← Complex.exp_nat_mul]
  apply Complex.ext
  · rw [Complex.exp_re]
    simp [mul_comm]
  · rw [Complex.exp_im]
    simp [mul_comm]

/-- A rate's powers by size and angle. -/
theorem factor_parts {Zr Zi : FVec Ideal SR .f32} (hr : Real' Zr) (hi : Real' Zi) (G : Fin 128) (p : Fin 64) (n : ℕ) :
    Ideal.exp (Zr (ix2 G p) * (((n : ℕ) : ℝ) : EReal) : EReal) * Ideal.cos (Zi (ix2 G p) * (((n : ℕ) : ℝ) : EReal) : EReal) = (((factor Zr Zi G p ^ n).re : ℝ) : EReal)
    ∧ Ideal.exp (Zr (ix2 G p) * (((n : ℕ) : ℝ) : EReal) : EReal) * Ideal.sin (Zi (ix2 G p) * (((n : ℕ) : ℝ) : EReal) : EReal) = (((factor Zr Zi G p ^ n).im : ℝ) : EReal) := by
  rw [factor_pow, hr, hi, ← EReal.coe_mul, ← EReal.coe_mul, Ideal.exp_coe, Ideal.cos_coe, Ideal.sin_coe, ← EReal.coe_mul, ← EReal.coe_mul]
  exact ⟨rfl, rfl⟩

theorem coe_sum {ι : Type} (s : Finset ι) (f : ι → ℝ) : ((∑ i ∈ s, f i : ℝ) : EReal) = ∑ i ∈ s, ((f i : ℝ) : EReal) :=
  map_sum (⟨⟨Real.toEReal, EReal.coe_zero⟩, EReal.coe_add⟩ : ℝ →+ EReal) _ _

/-- An activation, by sequence, position, group and channel. -/
def act (H : FVec Ideal SX .bf16) (b : Fin 4) (G : Fin 128) (s : ℕ) (c : Fin 16) : ℝ :=
  (H (ix2 (⟨(4096 * b.val + s) % 16384, Nat.mod_lt _ (by norm_num)⟩ : Fin 16384) (⟨16 * G.val + c.val, by omega⟩ : Fin 2048)) : EReal).toReal

/-- What a position puts into a state. -/
def feed (H : FVec Ideal SX .bf16) (Br Bi : FVec Ideal SB .f32) (b : Fin 4) (G : Fin 128) (p : Fin 64) (s : ℕ) : ℂ :=
  ∑ c : Fin 16, bOf Br Bi G p c * ((act H b G s c : ℝ) : ℂ)

/-- A state at a position: the recurrence's solution. -/
def solution (H : FVec Ideal SX .bf16) (Zr Zi : FVec Ideal SR .f32) (Br Bi : FVec Ideal SB .f32) (b : Fin 4) (G : Fin 128) (p : Fin 64) (t : ℕ) : ℂ :=
  ∑ s ∈ Finset.range (t + 1), factor Zr Zi G p ^ (t - s) * feed H Br Bi b G p s

/-- An output at a position. -/
def total (H : FVec Ideal SX .bf16) (Zr Zi : FVec Ideal SR .f32) (Br Bi : FVec Ideal SB .f32) (Cr Ci : FVec Ideal SC .f32) (b : Fin 4) (G : Fin 128) (t : ℕ) (o : Fin 16) : ℝ :=
  ∑ p : Fin 64, (cOf Cr Ci G o p * solution H Zr Zi Br Bi b G p t).re

end Cert.Scan

end
-- ==== Proof.ScanEntries.lean ====
/-
  The S5 chunk operators' entries as complex powers: into the states, inside a chunk and out of the states.
-/
module

public import proofs.«01_k».proof.Proof.ScanOperators
public import proofs.«01_k».proof.Proof.ScanFactor

@[expose] public section

set_option maxRecDepth 65536

noncomputable section

namespace Cert.ScanIdeal.Scan

open Cert.ScanIdeal Cert.ScanIdeal.Gen Cert.Scan Idealize.ShloMosaic Idealize.ShloMosaic.TcCoe Idealize.SL.Sem

theorem spread_at (Z : FVec Ideal S128x64 .f32) (G : Fin 128) (n : Fin 17) (p : Fin 64) : spread Z (ix3 G n p) = (Z (ix2 G p) * ((n.val : ℝ) : EReal) : EReal) := by
  have e : spread Z (ix3 G n p) = (Z (ix2 G p) * (((BitVec.ofNat 32 n.val).toInt : ℝ) : EReal) : EReal) := by
    pointwise [spread]
    rfl
  rw [e, show (BitVec.ofNat 32 n.val).toInt = (n.val : ℤ) by fin_cases n <;> rfl]
  rfl

theorem endWords_at : ∀ i : Fin 16, min (endWords (ix2 i 0)).toInt.toNat 16 = 15 - i.val := by decide +kernel
theorem lagWords_at : ∀ i l : Fin 16, min (lagWords (ix3 i l 0)).toInt.toNat 15 = if i.val ≤ l.val then l.val - i.val else 0 := by decide +kernel
theorem ordered : ∀ i l : Fin 16, cmpi .sge later earlier (ix2 i l) = BitVec.ofBool (decide (i.val ≤ l.val)) := by decide +kernel

/-- The gather that puts the powers in reverse order. -/
abbrev gE := gather_S128x17x64_S16x1_S128x16x64_02_1_n_n_1_1_128164
/-- The gather by lag. -/
abbrev gL := gather_S128x16x16x16_S16x16x1_S128x16x16x16x16_034_1_n_n_1_2_12811616

theorem ended_at (P : FVec Ideal S128x17x64 .f32) (G : Fin 128) (i : Fin 16) (p : Fin 64) : ended P (ix3 G i p) = P (ix3 G (⟨15 - i.val, by omega⟩ : Fin 17) p) := by
  have hs : gE.siIdx (ix3 G i p) ⟨0, by decide⟩ = ix2 i 0 := by
    funext b
    fin_cases b <;> rfl
  have h1 : (gE.operandIdx (ix3 G i p) endWords 1).val = 15 - i.val := by
    show min (endWords (gE.siIdx (ix3 G i p) ⟨0, by decide⟩)).toInt.toNat 16 + 0 + 0 = 15 - i.val
    rw [hs]
    simp only [Nat.add_zero]
    exact endWords_at i
  have h0 : (gE.operandIdx (ix3 G i p) endWords 0).val = G.val := by
    show (0 : ℕ) + 0 + G.val = G.val
    omega
  have h2 : (gE.operandIdx (ix3 G i p) endWords 2).val = p.val := by
    show (0 : ℕ) + 0 + p.val = p.val
    omega
  refine congrArg P (funext fun a => Fin.ext ?_)
  fin_cases a
  · exact h0
  · exact h1
  · exact h2

theorem byLag_gather (K : FVec Ideal S128x16x16x16 .f32) (G : Fin 128) (i l o c : Fin 16) :
    Host.gather gL K lagWords (ix5 G i l o c) = K (ix4 G (⟨if i.val ≤ l.val then l.val - i.val else 0, by split <;> omega⟩ : Fin 16) o c) := by
  have hs : gL.siIdx (ix5 G i l o c) ⟨0, by decide⟩ = ix3 i l 0 := by
    funext b
    fin_cases b <;> rfl
  have h1 : (gL.operandIdx (ix5 G i l o c) lagWords 1).val = if i.val ≤ l.val then l.val - i.val else 0 := by
    show min (lagWords (gL.siIdx (ix5 G i l o c) ⟨0, by decide⟩)).toInt.toNat 15 + 0 + 0 = _
    rw [hs]
    simp only [Nat.add_zero]
    exact lagWords_at i l
  have h0 : (gL.operandIdx (ix5 G i l o c) lagWords 0).val = G.val := by
    show (0 : ℕ) + 0 + G.val = G.val
    omega
  have h2 : (gL.operandIdx (ix5 G i l o c) lagWords 2).val = o.val := by
    show (0 : ℕ) + 0 + o.val = o.val
    omega
  have h3 : (gL.operandIdx (ix5 G i l o c) lagWords 3).val = c.val := by
    show (0 : ℕ) + 0 + c.val = c.val
    omega
  refine congrArg K (funext fun a => Fin.ext ?_)
  fin_cases a
  · exact h0
  · exact h1
  · exact h2
  · exact h3

section
variable {Zr Zi : FVec Ideal S128x64 .f32} {Br Bi : FVec Ideal S128x64x16 .f32} {Cr Ci : FVec Ideal S128x16x64 .f32}
variable (hr : Real' Zr) (hi : Real' Zi) (hbr : Real' Br) (hbi : Real' Bi) (hcr : Real' Cr) (hci : Real' Ci)

include hr hi in
theorem pow_at (G : Fin 128) (n : Fin 17) (p : Fin 64) : powR Zr Zi (ix3 G n p) = (((factor Zr Zi G p ^ n.val).re : ℝ) : EReal)
    ∧ powI Zr Zi (ix3 G n p) = (((factor Zr Zi G p ^ n.val).im : ℝ) : EReal) := by
  constructor
  · show (Ideal.exp (spread Zr _) * Ideal.cos (spread Zi _) : EReal) = _
    rw [spread_at, spread_at]
    exact (factor_parts hr hi G p n.val).1
  · show (Ideal.exp (spread Zr _) * Ideal.sin (spread Zi _) : EReal) = _
    rw [spread_at, spread_at]
    exact (factor_parts hr hi G p n.val).2

theorem wideP_at (P : FVec Ideal S128x17x64 .f32) (G : Fin 128) (i c : Fin 16) (p : Fin 64) : wideP P (ix4 G i c p) = P (ix3 G (⟨15 - i.val, by omega⟩ : Fin 17) p) := by
  rw [← ended_at P G i p]
  unfold wideP
  generalize ended P = E
  pointwise
theorem wideB_at (B : FVec Ideal S128x64x16 .f32) (G : Fin 128) (i c : Fin 16) (p : Fin 64) : wideB B (ix4 G i c p) = B (ix3 G p c) := by
  pointwise [wideB]

include hr hi hbr hbi in
theorem in_at (G : Fin 128) (k : Fin 256) (p : Fin 64) :
    inR (powR Zr Zi) (powI Zr Zi) Br Bi (ix3 G k p) = (((factor Zr Zi G p ^ (15 - k.val / 16) * bOf Br Bi G p (⟨k.val % 16, by omega⟩ : Fin 16)).re : ℝ) : EReal)
    ∧ inI (powR Zr Zi) (powI Zr Zi) Br Bi (ix3 G k p) = (((factor Zr Zi G p ^ (15 - k.val / 16) * bOf Br Bi G p (⟨k.val % 16, by omega⟩ : Fin 16)).im : ℝ) : EReal) := by
  have e (A : FVec Ideal S128x16x16x64 .f32) : shapeCast S128x256x64 A shapeCasts_S128x16x16x64_S128x256x64 (ix3 G k p)
      = A (ix4 G (⟨k.val / 16, by omega⟩ : Fin 16) (⟨k.val % 16, by omega⟩ : Fin 16) p) := by
    pointwise
  unfold inR inI
  rw [e, e]
  constructor
  · show (wideP _ _ * wideB _ _ - wideP _ _ * wideB _ _ : EReal) = _
    rw [wideP_at, wideB_at, wideP_at, wideB_at, (pow_at hr hi _ _ _).1, (pow_at hr hi _ _ _).2, hbr, hbi, ← EReal.coe_mul, ← EReal.coe_mul, ← EReal.coe_sub, Complex.mul_re]
    rfl
  · show (wideP _ _ * wideB _ _ + wideP _ _ * wideB _ _ : EReal) = _
    rw [wideP_at, wideB_at, wideP_at, wideB_at, (pow_at hr hi _ _ _).1, (pow_at hr hi _ _ _).2, hbr, hbi, ← EReal.coe_mul, ← EReal.coe_mul, ← EReal.coe_add, Complex.mul_im]
    rfl

theorem nextP_at (P : FVec Ideal S128x17x64 .f32) (G : Fin 128) (p : Fin 64) (l o : Fin 16) : nextP P (ix4 G p l o) = P (ix3 G (⟨l.val + 1, by omega⟩ : Fin 17) p) := by
  pointwise [nextP]
  exact congrArg (fun a => P (ix3 G a p)) (Fin.ext (by dsimp only; omega))
theorem wideC_at (C : FVec Ideal S128x16x64 .f32) (G : Fin 128) (p : Fin 64) (l o : Fin 16) : wideC C (ix4 G p l o) = C (ix3 G o p) := by
  pointwise [wideC]

include hr hi hcr hci in
theorem out_at (G : Fin 128) (p : Fin 64) (q : Fin 256) :
    outR (powR Zr Zi) (powI Zr Zi) Cr Ci (ix3 G p q) = (((factor Zr Zi G p ^ (q.val / 16 + 1) * cOf Cr Ci G (⟨q.val % 16, by omega⟩ : Fin 16) p).re : ℝ) : EReal)
    ∧ outI (powR Zr Zi) (powI Zr Zi) Cr Ci (ix3 G p q) = (((factor Zr Zi G p ^ (q.val / 16 + 1) * cOf Cr Ci G (⟨q.val % 16, by omega⟩ : Fin 16) p).im : ℝ) : EReal) := by
  have e (A : FVec Ideal S128x64x16x16 .f32) : shapeCast S128x64x256 A shapeCasts_S128x64x16x16_S128x64x256 (ix3 G p q)
      = A (ix4 G p (⟨q.val / 16, by omega⟩ : Fin 16) (⟨q.val % 16, by omega⟩ : Fin 16)) := by
    pointwise
  unfold outR outI
  rw [e, e]
  constructor
  · show (nextP _ _ * wideC _ _ - nextP _ _ * wideC _ _ : EReal) = _
    rw [nextP_at, wideC_at, nextP_at, wideC_at, (pow_at hr hi _ _ _).1, (pow_at hr hi _ _ _).2, hcr, hci, ← EReal.coe_mul, ← EReal.coe_mul, ← EReal.coe_sub, Complex.mul_re]
    rfl
  · show (nextP _ _ * wideC _ _ + nextP _ _ * wideC _ _ : EReal) = _
    rw [nextP_at, wideC_at, nextP_at, wideC_at, (pow_at hr hi _ _ _).1, (pow_at hr hi _ _ _).2, hcr, hci, ← EReal.coe_mul, ← EReal.coe_mul, ← EReal.coe_add, Complex.mul_im]
    rfl

theorem lagC_at (C : FVec Ideal S128x16x64 .f32) (G : Fin 128) (n o : Fin 16) (p : Fin 64) : lagC C (ix4 G n o p) = C (ix3 G o p) := by
  pointwise [lagC]
theorem lagP_at (P : FVec Ideal S128x17x64 .f32) (G : Fin 128) (n o : Fin 16) (p : Fin 64) : lagP P (ix4 G n o p) = P (ix3 G (⟨n.val, by omega⟩ : Fin 17) p) := by
  pointwise [lagP]

include hr hi hbr hbi hcr hci in
theorem byLag_at (G : Fin 128) (n o c : Fin 16) : byLag (powR Zr Zi) (powI Zr Zi) Br Bi Cr Ci (ix4 G n o c)
    = ((∑ p : Fin 64, (cOf Cr Ci G o p * factor Zr Zi G p ^ n.val * bOf Br Bi G p c).re : ℝ) : EReal) := by
  have d (A : FVec Ideal S128x16x16x64 .f32) (B : FVec Ideal S128x64x16 .f32) : Host.dotGeneral dot_S128x16x16x64_S128x64x16_S128x16x16x16_3_1_12_2_0_0 (some .fp32) A B (ix4 G n o c)
      = ∑ p : Fin 64, (A (ix4 G n o p) * B (ix3 G p c) : EReal) := by
    pointwise
  unfold byLag
  refine (congrArg₂ (fun a b : EReal => a - b) (d _ _) (d _ _)).trans ?_
  beta_reduce
  have e1 : ∀ p : Fin 64, ((subf (mulf (lagC Cr) (lagP (powR Zr Zi))) (mulf (lagC Ci) (lagP (powI Zr Zi)))) (ix4 G n o p) * Br (ix3 G p c) : EReal)
      = (((cOf Cr Ci G o p * factor Zr Zi G p ^ n.val).re * (bOf Br Bi G p c).re : ℝ) : EReal) := fun p => by
    show ((lagC _ _ * lagP _ _ - lagC _ _ * lagP _ _) * Br _ : EReal) = _
    rw [lagC_at, lagP_at, lagC_at, lagP_at, (pow_at hr hi _ _ _).1, (pow_at hr hi _ _ _).2, hcr, hci, hbr, ← EReal.coe_mul, ← EReal.coe_mul, ← EReal.coe_sub, ← EReal.coe_mul, Complex.mul_re]
    rfl
  have e2 : ∀ p : Fin 64, ((addf (mulf (lagC Cr) (lagP (powI Zr Zi))) (mulf (lagC Ci) (lagP (powR Zr Zi)))) (ix4 G n o p) * Bi (ix3 G p c) : EReal)
      = (((cOf Cr Ci G o p * factor Zr Zi G p ^ n.val).im * (bOf Br Bi G p c).im : ℝ) : EReal) := fun p => by
    show ((lagC _ _ * lagP _ _ + lagC _ _ * lagP _ _) * Bi _ : EReal) = _
    rw [lagC_at, lagP_at, lagC_at, lagP_at, (pow_at hr hi _ _ _).1, (pow_at hr hi _ _ _).2, hcr, hci, hbi, ← EReal.coe_mul, ← EReal.coe_mul, ← EReal.coe_add, ← EReal.coe_mul, Complex.mul_im]
    rfl
  rw [Finset.sum_congr rfl fun p _ => e1 p, Finset.sum_congr rfl fun p _ => e2 p, ← coe_sum, ← coe_sum, ← EReal.coe_sub, ← Finset.sum_sub_distrib]
  exact congrArg Real.toEReal (Finset.sum_congr rfl fun p _ => (Complex.mul_re _ _).symm)

include hr hi hbr hbi hcr hci in
theorem inside_at (G : Fin 128) (k q : Fin 256) : inside (byLag (powR Zr Zi) (powI Zr Zi) Br Bi Cr Ci) (ix3 G k q)
    = (((if k.val / 16 ≤ q.val / 16 then ∑ p : Fin 64, (cOf Cr Ci G (⟨q.val % 16, by omega⟩ : Fin 16) p * factor Zr Zi G p ^ (q.val / 16 - k.val / 16) * bOf Br Bi G p (⟨k.val % 16, by omega⟩ : Fin 16)).re else 0 : ℝ)) : EReal) := by
  have e (K : FVec Ideal S128x16x16x16 .f32) : inside K (ix3 G k q) = Scalar.select (cmpi .sge later earlier (ix2 (⟨k.val / 16, by omega⟩ : Fin 16) (⟨q.val / 16, by omega⟩ : Fin 16)))
      (Host.gather gather_S128x16x16x16_S16x16x1_S128x16x16x16x16_034_1_n_n_1_2_12811616 K lagWords (ix5 G (⟨k.val / 16, by omega⟩ : Fin 16) (⟨q.val / 16, by omega⟩ : Fin 16) (⟨q.val % 16, by omega⟩ : Fin 16) (⟨k.val % 16, by omega⟩ : Fin 16)))
      (Ideal.ofBits .f32 0x00000000#32) := by
    unfold inside
    generalize cmpi .sge later earlier = M
    generalize Host.gather gather_S128x16x16x16_S16x16x1_S128x16x16x16x16_034_1_n_n_1_2_12811616 K lagWords = A
    pointwise
  rw [e, ordered]
  by_cases h : k.val / 16 ≤ q.val / 16
  · rw [if_pos h, decide_eq_true (show (⟨k.val / 16, by omega⟩ : Fin 16).val ≤ (⟨q.val / 16, by omega⟩ : Fin 16).val from h)]
    rw [show ∀ a b : EReal, Scalar.select (BitVec.ofBool true) a b = a from fun _ _ => rfl]
    refine (byLag_gather _ _ _ _ _ _).trans (Eq.trans ?_ ((byLag_at hr hi hbr hbi hcr hci G (⟨q.val / 16 - k.val / 16, by omega⟩ : Fin 16) _ _)))
    exact congrArg (fun a => byLag _ _ _ _ _ _ (ix4 G a _ _)) (Fin.ext (if_pos h))
  · rw [if_neg h, decide_eq_false (show ¬ (⟨k.val / 16, by omega⟩ : Fin 16).val ≤ (⟨q.val / 16, by omega⟩ : Fin 16).val from h)]
    show Ideal.ofBits .f32 0x00000000#32 = _
    simp

end

end Cert.ScanIdeal.Scan

end
-- ==== Proof.ScanClosed.lean ====
/-
  The S5 kernel's closed form is the recurrence's solution: chunk by chunk, what the chunk puts in, what the chunks
  before left, and what the chunk itself adds.
-/
module

public import proofs.«01_k».proof.Proof.ScanForm
public import proofs.«01_k».proof.Proof.ScanSums
public import proofs.«01_k».proof.Proof.ScanPairs
public import proofs.«01_k».proof.Proof.ScanEntries

@[expose] public section

set_option maxRecDepth 65536

noncomputable section

namespace Cert.ScanIdeal.Scan

open Cert.ScanIdeal Cert.ScanIdeal.Gen Cert.Scan Idealize.ShloMosaic Idealize.ShloMosaic.TcCoe Idealize.SL.Sem Finset

variable (Zr Zi : FVec Ideal S128x64 .f32) (Br Bi : FVec Ideal S128x64x16 .f32) (Cr Ci : FVec Ideal S128x16x64 .f32)

/-- The three operators for pairs of groups. -/
abbrev opIn : FVec Ideal S64x512x256 .bf16 := pairIn (inR (powR Zr Zi) (powI Zr Zi) Br Bi) (inI (powR Zr Zi) (powI Zr Zi) Br Bi)
abbrev opInside : FVec Ideal S64x512x512 .bf16 := pairInside (inside (byLag (powR Zr Zi) (powI Zr Zi) Br Bi Cr Ci))
abbrev opOut : FVec Ideal S64x256x512 .bf16 := pairOut (outR (powR Zr Zi) (powI Zr Zi) Cr Ci) (outI (powR Zr Zi) (powI Zr Zi) Cr Ci)

/-- A pair's group and state. -/
abbrev groupOf (g : Fin 64) (h : ℕ) (hh : h < 2) : Fin 128 := ⟨2 * g.val + h, by omega⟩
abbrev stateOf (p : ℕ) : Fin 64 := ⟨p % 64, by omega⟩

/-- What a chunk puts into a state by its end. -/
def ofChunk (H : FVec Ideal S16384x2048 .bf16) (b : Fin 4) (G : Fin 128) (p : Fin 64) (n : ℕ) : ℂ :=
  ∑ i ∈ range 16, factor Zr Zi G p ^ (15 - i) * feed H Br Bi b G p (16 * n + i)

/-- What the chunks before left of it. -/
def before (H : FVec Ideal S16384x2048 .bf16) (b : Fin 4) (G : Fin 128) (p : Fin 64) (n : ℕ) : ℂ :=
  ∑ c ∈ range n, (factor Zr Zi G p ^ 16) ^ (n - 1 - c) * ofChunk Zr Zi Br Bi H b G p c

section
variable {Zr Zi Br Bi Cr Ci}
variable {H : FVec Ideal S16384x2048 .bf16}
variable (hH : Real' H) (hr : Real' Zr) (hi : Real' Zi) (hbr : Real' Br) (hbi : Real' Bi) (hcr : Real' Cr) (hci : Real' Ci)

include hH in
theorem chunkIn_at (g : Fin 64) (r : Fin 1024) (k : Fin 512) : chunkIn H g r k
    = ((act H (⟨r.val / 256, by omega⟩ : Fin 4) (groupOf g (k.val / 256) (by omega)) (16 * (r.val % 256) + k.val % 256 / 16) (⟨k.val % 16, by omega⟩ : Fin 16) : ℝ) : EReal) := by
  unfold act chunkIn
  rw [← hH]
  exact congrArg H (congrArg₂ ix2 (Fin.ext (by dsimp only; omega)) (Fin.ext (by dsimp only; omega)))

include hr hi hbr hbi in
/-- The input operator is real. -/
theorem opIn_real : Real' (opIn Zr Zi Br Bi) := by
  intro ι
  obtain ⟨g, k, q, rfl⟩ : ∃ (g : Fin 64) (k : Fin 512) (q : Fin 256), ι = ix3 g k q := ⟨ι 0, ι 1, ι 2, eq_ix3 ι _ _ _ rfl rfl rfl⟩
  have e : ∃ x : ℝ, opIn Zr Zi Br Bi (ix3 g k q) = (x : EReal) := by
    unfold opIn
    rw [pairIn_at]
    by_cases h : k.val / 256 = q.val % 128 / 64
    · rw [if_pos h]
      by_cases h2 : q.val < 128
      · rw [if_pos h2]
        exact ⟨_, (in_at hr hi hbr hbi _ _ _).1⟩
      · rw [if_neg h2]
        exact ⟨_, (in_at hr hi hbr hbi _ _ _).2⟩
    · rw [if_neg h]
      exact ⟨0, rfl⟩
  obtain ⟨x, hx⟩ := e
  rw [hx, EReal.toReal_coe]

include hr hi hbr hbi in
theorem opIn_at (g : Fin 64) (k : Fin 512) (P : Fin 128) :
    opIn Zr Zi Br Bi (ix3 g k (⟨P.val, by omega⟩ : Fin 256)) = (((if k.val / 256 = P.val / 64 then (factor Zr Zi (groupOf g (P.val / 64) (by omega)) (stateOf P.val) ^ (15 - k.val % 256 / 16) * bOf Br Bi (groupOf g (P.val / 64) (by omega)) (stateOf P.val) (⟨k.val % 16, by omega⟩ : Fin 16)).re else 0 : ℝ)) : EReal)
    ∧ opIn Zr Zi Br Bi (ix3 g k (⟨128 + P.val, by omega⟩ : Fin 256)) = (((if k.val / 256 = P.val / 64 then (factor Zr Zi (groupOf g (P.val / 64) (by omega)) (stateOf P.val) ^ (15 - k.val % 256 / 16) * bOf Br Bi (groupOf g (P.val / 64) (by omega)) (stateOf P.val) (⟨k.val % 16, by omega⟩ : Fin 16)).im else 0 : ℝ)) : EReal) := by
  show pairIn _ _ _ = _ ∧ pairIn _ _ _ = _
  rw [pairIn_at, pairIn_at]
  dsimp only
  have hP := P.isLt
  by_cases h : k.val / 256 = P.val / 64
  · have eG : (⟨2 * g.val + k.val / 256, by omega⟩ : Fin 128) = groupOf g (P.val / 64) (by omega) := Fin.ext (by dsimp only; omega)
    have eC : (⟨k.val % 256 % 16, by omega⟩ : Fin 16) = (⟨k.val % 16, by omega⟩ : Fin 16) := Fin.ext (by dsimp only; omega)
    have eP : (⟨(128 + P.val) % 64, by omega⟩ : Fin 64) = stateOf P.val := Fin.ext (by dsimp only; omega)
    rw [if_pos (show k.val / 256 = P.val % 128 / 64 by omega), if_pos (show k.val / 256 = (128 + P.val) % 128 / 64 by omega), if_pos h, if_pos h, if_pos hP, if_neg (show ¬ 128 + P.val < 128 by omega),
      show (⟨P.val % 64, by omega⟩ : Fin 64) = stateOf P.val from rfl, eG, eP]
    have i1 := in_at hr hi hbr hbi (groupOf g (P.val / 64) (by omega)) (⟨k.val % 256, by omega⟩ : Fin 256) (stateOf P.val)
    dsimp only at i1
    rw [eC] at i1
    exact i1
  · rw [if_neg (show ¬ k.val / 256 = P.val % 128 / 64 by omega), if_neg (show ¬ k.val / 256 = (128 + P.val) % 128 / 64 by omega), if_neg h, if_neg h]
    exact ⟨rfl, rfl⟩

theorem ofChunk_sum (b : Fin 4) (G : Fin 128) (p : Fin 64) (n : ℕ) : ofChunk Zr Zi Br Bi H b G p n
    = ∑ i ∈ range 16, ∑ c : Fin 16, (factor Zr Zi G p ^ (15 - i) * bOf Br Bi G p c) * ((act H b G (16 * n + i) c : ℝ) : ℂ) := by
  unfold ofChunk feed
  refine sum_congr rfl fun i _ => ?_
  rw [Finset.mul_sum]
  exact sum_congr rfl fun c _ => (mul_assoc _ _ _).symm

include hH hr hi hbr hbi in
/-- What a chunk puts in, column by column. -/
theorem putIn_at (g : Fin 64) (r : Fin 1024) (P : Fin 128) :
    putIn H (opIn Zr Zi Br Bi) g r (⟨P.val, by omega⟩ : Fin 256) = (((ofChunk Zr Zi Br Bi H (⟨r.val / 256, by omega⟩ : Fin 4) (groupOf g (P.val / 64) (by omega)) (stateOf P.val) (r.val % 256)).re : ℝ) : EReal)
    ∧ putIn H (opIn Zr Zi Br Bi) g r (⟨128 + P.val, by omega⟩ : Fin 256) = (((ofChunk Zr Zi Br Bi H (⟨r.val / 256, by omega⟩ : Fin 4) (groupOf g (P.val / 64) (by omega)) (stateOf P.val) (r.val % 256)).im : ℝ) : EReal) := by
  have hP := P.isLt
  rw [ofChunk_sum]
  unfold putIn
  constructor
  · rw [Complex.re_sum, sum_congr rfl (fun i _ => Complex.re_sum _ _),
      ← sum_chunk (fun i c => ((factor Zr Zi (groupOf g (P.val / 64) (by omega)) (stateOf P.val) ^ (15 - i) * bOf Br Bi (groupOf g (P.val / 64) (by omega)) (stateOf P.val) c) * ((act H (⟨r.val / 256, by omega⟩ : Fin 4) (groupOf g (P.val / 64) (by omega)) (16 * (r.val % 256) + i) c : ℝ) : ℂ)).re) (P.val / 64) (by omega), coe_sum]
    refine sum_congr rfl fun k _ => ?_
    rw [chunkIn_at hH, (opIn_at hr hi hbr hbi g k P).1, ← EReal.coe_mul]
    by_cases h : k.val / 256 = P.val / 64
    · have eG : groupOf g (k.val / 256) (by omega) = groupOf g (P.val / 64) (by omega) := Fin.ext (by dsimp only; omega)
      rw [if_pos h, if_pos h, Complex.re_mul_ofReal, eG, mul_comm]
    · rw [if_neg h, if_neg h, mul_zero]
  · rw [Complex.im_sum, sum_congr rfl (fun i _ => Complex.im_sum _ _),
      ← sum_chunk (fun i c => ((factor Zr Zi (groupOf g (P.val / 64) (by omega)) (stateOf P.val) ^ (15 - i) * bOf Br Bi (groupOf g (P.val / 64) (by omega)) (stateOf P.val) c) * ((act H (⟨r.val / 256, by omega⟩ : Fin 4) (groupOf g (P.val / 64) (by omega)) (16 * (r.val % 256) + i) c : ℝ) : ℂ)).im) (P.val / 64) (by omega), coe_sum]
    refine sum_congr rfl fun k _ => ?_
    rw [chunkIn_at hH, (opIn_at hr hi hbr hbi g k P).2, ← EReal.coe_mul]
    by_cases h : k.val / 256 = P.val / 64
    · have eG : groupOf g (k.val / 256) (by omega) = groupOf g (P.val / 64) (by omega) := Fin.ext (by dsimp only; omega)
      rw [if_pos h, if_pos h, Complex.im_mul_ofReal, eG, mul_comm]
    · rw [if_neg h, if_neg h, mul_zero]

include hH hr hi hbr hbi in
theorem input_at (g : Fin 64) (b : Fin 4) (P : Fin 128) (c : ℕ) (hc : c < 256) :
    input H (opIn Zr Zi Br Bi) g b.val P c = ofChunk Zr Zi Br Bi H b (groupOf g (P.val / 64) (by omega)) (stateOf P.val) c := by
  have e := putIn_at hH hr hi hbr hbi g (⟨(256 * b.val + c) % 1024, Nat.mod_lt _ (by norm_num)⟩ : Fin 1024) P
  have hb := b.isLt
  have e1 : (⟨(256 * b.val + c) % 1024 / 256, by omega⟩ : Fin 4) = b := Fin.ext (by dsimp only; omega)
  dsimp only at e
  rw [e1, show (256 * b.val + c) % 1024 % 256 = c by omega] at e
  unfold input
  rw [e.1, e.2, EReal.toReal_coe, EReal.toReal_coe]

include hr in
theorem decayOf_at (g : Fin 64) (P : Fin 128) : decayOf Zr Zi g P = factor Zr Zi (groupOf g (P.val / 64) (by omega)) (stateOf P.val) ^ 16 := by
  unfold decayOf
  have n : atState Zr g P ≠ ⊥ := by
    unfold atState
    rw [hr]
    exact EReal.coe_ne_bot _
  rw [if_neg n]
  unfold decay factor
  rw [← Complex.exp_nat_mul]
  norm_num
  rfl

include hH hr hi hbr hbi in
/-- The state before a chunk. -/
theorem state_at (g : Fin 64) (r : Fin 1024) (P : Fin 128) : state H (opIn Zr Zi Br Bi) Zr Zi g r P
    = before Zr Zi Br Bi H (⟨r.val / 256, by omega⟩ : Fin 4) (groupOf g (P.val / 64) (by omega)) (stateOf P.val) (r.val % 256) := by
  unfold state before
  rw [window_all _ _ _ (by omega), decayOf_at hr, sum_masked 256 (r.val % 256) (by omega) (fun s => (factor Zr Zi (groupOf g (P.val / 64) (by omega)) (stateOf P.val) ^ 16) ^ (r.val % 256 - 1 - s) * input H (opIn Zr Zi Br Bi) g (r.val / 256) P s)]
  refine sum_congr rfl fun s hs => ?_
  have := mem_range.1 hs
  exact congrArg _ (input_at hH hr hi hbr hbi g (⟨r.val / 256, by omega⟩ : Fin 4) P s (by omega))

include hH hr hi hbr hbi hcr hci in
/-- What the chunks before give to an output. -/
theorem readOut_at (g : Fin 64) (r : Fin 1024) (q : Fin 512) :
    ∑ p : Fin 256, (halves H (opIn Zr Zi Br Bi) Zr Zi g r p * opOut Zr Zi Cr Ci (ix3 g p q) : EReal)
      = ((∑ p : Fin 64, (factor Zr Zi (groupOf g (q.val / 256) (by omega)) p ^ (q.val % 256 / 16 + 1) * cOf Cr Ci (groupOf g (q.val / 256) (by omega)) (⟨q.val % 16, by omega⟩ : Fin 16) p
          * before Zr Zi Br Bi H (⟨r.val / 256, by omega⟩ : Fin 4) (groupOf g (q.val / 256) (by omega)) p (r.val % 256)).re : ℝ) : EReal) := by
  generalize hG : groupOf g (q.val / 256) (by omega) = G
  have t := sum_parts
    (fun p => (before Zr Zi Br Bi H (⟨r.val / 256, by omega⟩ : Fin 4) G p (r.val % 256)).re * (factor Zr Zi G p ^ (q.val % 256 / 16 + 1) * cOf Cr Ci G (⟨q.val % 16, by omega⟩ : Fin 16) p).re)
    (fun p => (before Zr Zi Br Bi H (⟨r.val / 256, by omega⟩ : Fin 4) G p (r.val % 256)).im * -(factor Zr Zi G p ^ (q.val % 256 / 16 + 1) * cOf Cr Ci G (⟨q.val % 16, by omega⟩ : Fin 16) p).im)
    (q.val / 256) (by omega)
  have u : ∀ p : Fin 64, (factor Zr Zi G p ^ (q.val % 256 / 16 + 1) * cOf Cr Ci G (⟨q.val % 16, by omega⟩ : Fin 16) p * before Zr Zi Br Bi H (⟨r.val / 256, by omega⟩ : Fin 4) G p (r.val % 256)).re
      = (before Zr Zi Br Bi H (⟨r.val / 256, by omega⟩ : Fin 4) G p (r.val % 256)).re * (factor Zr Zi G p ^ (q.val % 256 / 16 + 1) * cOf Cr Ci G (⟨q.val % 16, by omega⟩ : Fin 16) p).re
        + (before Zr Zi Br Bi H (⟨r.val / 256, by omega⟩ : Fin 4) G p (r.val % 256)).im * -(factor Zr Zi G p ^ (q.val % 256 / 16 + 1) * cOf Cr Ci G (⟨q.val % 16, by omega⟩ : Fin 16) p).im := by
    intro p
    rw [Complex.mul_re]
    ring
  rw [sum_congr rfl (fun p _ => u p), ← t, coe_sum]
  refine sum_congr rfl fun p _ => ?_
  unfold opOut
  rw [pairOut_at]
  have hp := p.isLt
  have eG : (⟨2 * g.val + q.val / 256, by omega⟩ : Fin 128) = G := hG
  have eC : (⟨q.val % 256 % 16, by omega⟩ : Fin 16) = (⟨q.val % 16, by omega⟩ : Fin 16) := Fin.ext (by dsimp only; omega)
  by_cases h : p.val % 128 / 64 = q.val / 256
  · rw [if_pos h, if_pos h, eG]
    have o := out_at hr hi hcr hci G (⟨p.val % 64, by omega⟩ : Fin 64) (⟨q.val % 256, by omega⟩ : Fin 256)
    dsimp only at o
    rw [eC] at o
    unfold halves
    by_cases h2 : p.val < 128
    · rw [if_pos h2, if_pos h2, dif_pos h2, o.1, state_at hH hr hi hbr hbi, ← EReal.coe_mul]
      have e1 : groupOf g ((⟨p.val, h2⟩ : Fin 128).val / 64) (by dsimp only; omega) = G := by
        rw [← hG]
        exact Fin.ext (by dsimp only; omega)
      rw [e1]
    · rw [if_neg h2, if_neg h2, dif_neg h2, state_at hH hr hi hbr hbi]
      have e1 : groupOf g ((⟨p.val - 128, by omega⟩ : Fin 128).val / 64) (by dsimp only; omega) = G := by
        rw [← hG]
        exact Fin.ext (by dsimp only; omega)
      have e2 : stateOf (⟨p.val - 128, by omega⟩ : Fin 128).val = (⟨p.val % 64, by omega⟩ : Fin 64) := Fin.ext (by dsimp only; omega)
      rw [e1, e2]
      show (_ * -(outI (powR Zr Zi) (powI Zr Zi) Cr Ci _) : EReal) = _
      rw [o.2, ← EReal.coe_neg, ← EReal.coe_mul]
  · rw [if_neg h, if_neg h, mul_zero]
    rfl

include hH hr hi hbr hbi hcr hci in
/-- What a chunk gives to its own outputs. -/
theorem within_at (g : Fin 64) (r : Fin 1024) (q : Fin 512) :
    ∑ k : Fin 512, (chunkIn H g r k * opInside Zr Zi Br Bi Cr Ci (ix3 g k q) : EReal)
      = ((∑ p : Fin 64, (cOf Cr Ci (groupOf g (q.val / 256) (by omega)) (⟨q.val % 16, by omega⟩ : Fin 16) p
          * ∑ i ∈ range (q.val % 256 / 16 + 1), factor Zr Zi (groupOf g (q.val / 256) (by omega)) p ^ (q.val % 256 / 16 - i) * feed H Br Bi (⟨r.val / 256, by omega⟩ : Fin 4) (groupOf g (q.val / 256) (by omega)) p (16 * (r.val % 256) + i)).re : ℝ) : EReal) := by
  generalize hG : groupOf g (q.val / 256) (by omega) = G
  generalize hb : (⟨r.val / 256, by omega⟩ : Fin 4) = b
  generalize ho : (⟨q.val % 16, by omega⟩ : Fin 16) = o
  have hl : q.val % 256 / 16 + 1 ≤ 16 := by omega
  generalize hl' : q.val % 256 / 16 = l at hl ⊢
  have t := sum_chunk (fun i c => act H b G (16 * (r.val % 256) + i) c * if i < l + 1 then ∑ p : Fin 64, (cOf Cr Ci G o p * factor Zr Zi G p ^ (l - i) * bOf Br Bi G p c).re else 0) (q.val / 256) (by omega)
  have u : ∑ i ∈ range 16, ∑ c : Fin 16, (act H b G (16 * (r.val % 256) + i) c * if i < l + 1 then ∑ p : Fin 64, (cOf Cr Ci G o p * factor Zr Zi G p ^ (l - i) * bOf Br Bi G p c).re else 0)
      = ∑ p : Fin 64, (cOf Cr Ci G o p * ∑ i ∈ range (l + 1), factor Zr Zi G p ^ (l - i) * feed H Br Bi b G p (16 * (r.val % 256) + i)).re := by
    have v : ∀ i, ∑ c : Fin 16, (act H b G (16 * (r.val % 256) + i) c * if i < l + 1 then ∑ p : Fin 64, (cOf Cr Ci G o p * factor Zr Zi G p ^ (l - i) * bOf Br Bi G p c).re else 0)
        = if i < l + 1 then ∑ p : Fin 64, (cOf Cr Ci G o p * (factor Zr Zi G p ^ (l - i) * feed H Br Bi b G p (16 * (r.val % 256) + i))).re else 0 := by
      intro i
      by_cases h : i < l + 1
      · simp only [if_pos h]
        rw [sum_congr rfl (fun c _ => Finset.mul_sum _ _ _), sum_comm]
        refine sum_congr rfl fun p _ => ?_
        unfold feed
        rw [Finset.mul_sum, Finset.mul_sum, Complex.re_sum]
        refine sum_congr rfl fun c _ => ?_
        rw [← mul_assoc (factor Zr Zi G p ^ (l - i)), ← mul_assoc, Complex.re_mul_ofReal, mul_comm, mul_assoc]
      · simp only [if_neg h, mul_zero, sum_const_zero]
    rw [sum_congr rfl (fun i _ => v i), Finset.sum_range, sum_masked 16 (l + 1) hl (fun i => ∑ p : Fin 64, (cOf Cr Ci G o p * (factor Zr Zi G p ^ (l - i) * feed H Br Bi b G p (16 * (r.val % 256) + i))).re), sum_comm]
    refine sum_congr rfl fun p _ => ?_
    rw [Finset.mul_sum, Complex.re_sum]
  refine Eq.trans ?_ (congrArg Real.toEReal (t.trans u))
  rw [coe_sum]
  refine sum_congr rfl fun k _ => ?_
  unfold opInside
  rw [pairInside_at, chunkIn_at hH, hb]
  have eC : (⟨k.val % 256 % 16, by omega⟩ : Fin 16) = (⟨k.val % 16, by omega⟩ : Fin 16) := Fin.ext (by dsimp only; omega)
  have eO : (⟨q.val % 256 % 16, by omega⟩ : Fin 16) = o := by
    rw [← ho]
    exact Fin.ext (by dsimp only; omega)
  by_cases h : k.val / 256 = q.val / 256
  · have eG : groupOf g (k.val / 256) (by omega) = G := by
      rw [← hG]
      exact Fin.ext (by dsimp only; omega)
    have i1 := inside_at hr hi hbr hbi hcr hci G (⟨k.val % 256, by omega⟩ : Fin 256) (⟨q.val % 256, by omega⟩ : Fin 256)
    dsimp only at i1
    rw [eC, eO, hl'] at i1
    have eG2 : (⟨2 * g.val + k.val / 256, by omega⟩ : Fin 128) = G := eG
    rw [if_pos h, if_pos h, eG, eG2, i1, ← EReal.coe_mul]
    refine congrArg (fun x : ℝ => (((_ * x : ℝ)) : EReal)) ?_
    by_cases h2 : k.val % 256 / 16 ≤ l
    · rw [if_pos h2, if_pos (by omega)]
    · rw [if_neg h2, if_neg (by omega)]
  · rw [if_neg h, if_neg h, mul_zero]
    rfl

include hH hr hi hbr hbi hcr hci in
/-- The closed form's entry is the recurrence's output. -/
theorem entry_at (g : Fin 64) (r : Fin 1024) (q : Fin 512) :
    entry H (opIn Zr Zi Br Bi) (opInside Zr Zi Br Bi Cr Ci) (opOut Zr Zi Cr Ci) Zr Zi g r q
      = ((total H Zr Zi Br Bi Cr Ci (⟨r.val / 256, by omega⟩ : Fin 4) (⟨2 * g.val + q.val / 256, by omega⟩ : Fin 128) (16 * (r.val % 256) + q.val % 256 / 16) (⟨q.val % 16, by omega⟩ : Fin 16) : ℝ) : EReal) := by
  unfold entry
  rw [within_at hH hr hi hbr hbi hcr hci, readOut_at hH hr hi hbr hbi hcr hci, ← EReal.coe_add, ← sum_add_distrib]
  unfold total
  refine congrArg Real.toEReal (sum_congr rfl fun p _ => ?_)
  unfold solution
  rw [add_assoc (16 * (r.val % 256)), split (feed H Br Bi _ _ p), mul_add, Complex.add_re]
  refine congrArg₂ (· + ·) rfl (congrArg Complex.re ?_)
  unfold before ofChunk
  ring

end

end Cert.ScanIdeal.Scan

end
-- ==== Proof.ScanReads.lean ====
/-
  What the S5 call's inputs hold when it is entered, as the operators' terms over the arguments.
-/
module

public import proofs.«01_k».proof.Proof.ScanOperators

@[expose] public section

set_option maxRecDepth 65536
set_option maxHeartbeats 4000000

noncomputable section

namespace Cert.ScanIdeal.Scan

open Cert.ScanIdeal Cert.ScanIdeal.Gen Idealize.ShloMosaic Idealize.ShloMosaic.TcCoe Idealize.SL.Sem

variable (m : (ℓ : Loc nD τ sig) → Buf (Elt Ideal) ℓ) (c : Dev nD)

abbrev memH : FVec Ideal S16384x2048 .bf16 := m ((c : Thread nD τ).loc main_arg0)
abbrev memR : FVec Ideal S128x64 .f32 := m ((c : Thread nD τ).loc main_arg1)
abbrev memI : FVec Ideal S128x64 .f32 := m ((c : Thread nD τ).loc main_arg2)
abbrev memBR : FVec Ideal S128x64x16 .f32 := m ((c : Thread nD τ).loc main_arg3)
abbrev memBI : FVec Ideal S128x64x16 .f32 := m ((c : Thread nD τ).loc main_arg4)
abbrev memCR : FVec Ideal S128x16x64 .f32 := m ((c : Thread nD τ).loc main_arg5)
abbrev memCI : FVec Ideal S128x16x64 .f32 := m ((c : Thread nD τ).loc main_arg6)

theorem in_eq : (V m c main_v233 : S64x512x256.Idx → Elt Ideal .bf16)
    = pairIn (inR (powR (memR m c) (memI m c)) (powI (memR m c) (memI m c)) (memBR m c) (memBI m c)) (inI (powR (memR m c) (memI m c)) (powI (memR m c) (memI m c)) (memBR m c) (memBI m c)) := by
  unfold V
  after_reads_simp <;> rfl
theorem toep_eq : (V m c main_v237 : S64x512x512.Idx → Elt Ideal .bf16)
    = pairInside (inside (byLag (powR (memR m c) (memI m c)) (powI (memR m c) (memI m c)) (memBR m c) (memBI m c) (memCR m c) (memCI m c))) := by
  unfold V
  after_reads_simp <;> rfl
theorem out_op_eq : (V m c main_v235 : S64x256x512.Idx → Elt Ideal .bf16)
    = pairOut (outR (powR (memR m c) (memI m c)) (powI (memR m c) (memI m c)) (memCR m c) (memCI m c)) (outI (powR (memR m c) (memI m c)) (powI (memR m c) (memI m c)) (memCR m c) (memCI m c)) := by
  unfold V
  after_reads_simp <;> rfl

end Cert.ScanIdeal.Scan

end
-- ==== Proof.ScanStage.lean ====
/-
  One doubling step of the S5 scan as the kernel does it on a block of 4 sequences of 256 chunks: rows shifted down
  within their sequence, and the two halves of a complex multiplication.
-/
module

public import proofs.«01_k».proof.Proof.ScanMath
public import proofs.«01_k».proof.Proof.Gen.ScanIdeal.Value
public import Idealize.ShloMosaic.Lib.Pipeline.ValueKit

@[expose] public section

set_option maxRecDepth 16384

noncomputable section

namespace Cert.ScanIdeal.Scan

open Cert.ScanIdeal Cert.ScanIdeal.Gen Cert.Scan Idealize.ShloMosaic Idealize.ShloMosaic.TcCoe Idealize.SL.Sem

/-- The rows shifted down by `d`, zero where that leaves the row's sequence. -/
def shifted (d : BitVec 32) (x : FVec Ideal S1024x128 .f32) : FVec Ideal S1024x128 .f32 :=
  select (broadcastTo S1024x128 (shapeCast S1024x1 (cmpi .sge k0_pay4 (broadcast S1024x1 d)) shapeCasts_S1024x1_S1024x1) broadcasts_S1024x1_S1024x128)
    (dynamicRotate 0 d none x rotates_S1024x128_d0) (broadcast S1024x128 (Scalar.ofBits .f32 0x00000000#32))

/-- One row for all rows. -/
abbrev each (l : FVec Ideal S1x128 .f32) : FVec Ideal S1024x128 .f32 := broadcastTo S1024x128 l broadcasts_S1x128_S1024x128

/-- The doubling step's real part … -/
def stepR (d : BitVec 32) (lr li : FVec Ideal S1x128 .f32) (xr xi : FVec Ideal S1024x128 .f32) : FVec Ideal S1024x128 .f32 :=
  addf xr (subf (mulf (each lr) (shifted d xr)) (mulf (each li) (shifted d xi)))

/-- … and its imaginary part. -/
def stepI (d : BitVec 32) (lr li : FVec Ideal S1x128 .f32) (xr xi : FVec Ideal S1024x128 .f32) : FVec Ideal S1024x128 .f32 :=
  addf xi (addf (mulf (each lr) (shifted d xi)) (mulf (each li) (shifted d xr)))

/-- A row's number masked to its last eight bits is its chunk within its sequence. -/
theorem chunk_eq (r : ℕ) (hr : r < 1024) : IntOp.andi (BitVec.ofNat 32 r) 255#32 = BitVec.ofNat 32 (r % 256) := by
  apply BitVec.eq_of_toNat_eq
  show (BitVec.ofNat 32 r &&& 255#32).toNat = _
  rw [BitVec.toNat_and, BitVec.toNat_ofNat, BitVec.toNat_ofNat, BitVec.toNat_ofNat,
    Nat.mod_eq_of_lt (show r < 2 ^ 32 by omega), Nat.mod_eq_of_lt (show r % 256 < 2 ^ 32 by omega)]
  exact Nat.and_two_pow_sub_one_eq_mod r 8

/-- The shift at an entry. -/
theorem shifted_apply (d : ℕ) (hd : d < 256) (x : FVec Ideal S1024x128 .f32) (r : Fin 1024) (p : Fin 128) :
    shifted (BitVec.ofNat 32 d) x (ix2 r p) = if d ≤ r.val % 256 then x (ix2 (⟨r.val - d, by omega⟩ : Fin 1024) p) else 0 := by
  pointwise [shifted, k0_pay4]
  rw [chunk_eq r.val r.isLt, WordCmp.cmpi_sge_ofNat (by norm_num; omega) (by norm_num; omega), WordCmp.select_decide]
  by_cases h : d ≤ r.val % 256
  · rw [if_pos h, if_pos h]
    congr 2
    apply Fin.ext
    show (r.val + 1024 - (BitVec.ofNat 32 d).toNat % 1024) % 1024 = r.val - d
    rw [BitVec.toNat_ofNat]
    omega
  · rw [if_neg h, if_neg h]

/-- The two vectors hold, at a row and a state, the real and imaginary part of the window of `d` chunks before it. -/
def Holds (xr xi : FVec Ideal S1024x128 .f32) (v : ℕ → Fin 128 → ℕ → ℂ) (w : Fin 128 → ℂ) (d : ℕ) : Prop :=
  ∀ (r : Fin 1024) (p : Fin 128), xr (ix2 r p) = ((window (v (r.val / 256) p) (w p) d (r.val % 256)).re : EReal)
    ∧ xi (ix2 r p) = ((window (v (r.val / 256) p) (w p) d (r.val % 256)).im : EReal)

/-- The two rows hold, at a state, the real and imaginary part of the decay over `d` chunks. -/
def Powers (lr li : FVec Ideal S1x128 .f32) (w : Fin 128 → ℂ) (d : ℕ) : Prop :=
  ∀ p : Fin 128, lr (ix2 0 p) = (((w p ^ d).re : ℝ) : EReal) ∧ li (ix2 0 p) = (((w p ^ d).im : ℝ) : EReal)

variable {xr xi : FVec Ideal S1024x128 .f32} {lr li : FVec Ideal S1x128 .f32} {v : ℕ → Fin 128 → ℕ → ℂ} {w : Fin 128 → ℂ}

/-- A window shifted by its width. -/
theorem shifted_holds (d : ℕ) (hd : d < 256) (hX : Holds xr xi v w d) (r : Fin 1024) (p : Fin 128) :
    shifted (BitVec.ofNat 32 d) xr (ix2 r p) = (((if d ≤ r.val % 256 then window (v (r.val / 256) p) (w p) d (r.val % 256 - d) else 0 : ℂ).re : ℝ) : EReal)
    ∧ shifted (BitVec.ofNat 32 d) xi (ix2 r p) = (((if d ≤ r.val % 256 then window (v (r.val / 256) p) (w p) d (r.val % 256 - d) else 0 : ℂ).im : ℝ) : EReal) := by
  rw [shifted_apply d hd, shifted_apply d hd]
  by_cases h : d ≤ r.val % 256
  · rw [if_pos h, if_pos h, if_pos h]
    have e := hX (⟨r.val - d, by omega⟩ : Fin 1024) p
    rw [show (r.val - d) / 256 = r.val / 256 by omega, show (r.val - d) % 256 = r.val % 256 - d by omega] at e
    exact e
  · rw [if_neg h, if_neg h, if_neg h]
    exact ⟨rfl, rfl⟩

/-- The step doubles the window. -/
theorem step_holds (d : ℕ) (hd : d < 256) (hL : Powers lr li w d) (hX : Holds xr xi v w d) :
    Holds (stepR (BitVec.ofNat 32 d) lr li xr xi) (stepI (BitVec.ofNat 32 d) lr li xr xi) v w (d + d) := by
  intro r p
  have e := shifted_holds d hd hX r p
  have e0 := hX r p
  have el := hL p
  have ar : each lr (ix2 r p) = lr (ix2 0 p) := by pointwise
  have ai : each li (ix2 r p) = li (ix2 0 p) := by pointwise
  rw [window_double]
  have z : (if d ≤ r.val % 256 then w p ^ d * window (v (r.val / 256) p) (w p) d (r.val % 256 - d) else 0)
      = w p ^ d * (if d ≤ r.val % 256 then window (v (r.val / 256) p) (w p) d (r.val % 256 - d) else 0) := by
    split <;> simp
  rw [z]
  constructor
  · show xr (ix2 r p) + (each lr (ix2 r p) * shifted (BitVec.ofNat 32 d) xr (ix2 r p) - each li (ix2 r p) * shifted (BitVec.ofNat 32 d) xi (ix2 r p)) = _
    rw [ar, ai, e0.1, e.1, e.2, el.1, el.2, Complex.add_re, Complex.mul_re]
    push_cast
    rfl
  · show xi (ix2 r p) + (each lr (ix2 r p) * shifted (BitVec.ofNat 32 d) xi (ix2 r p) + each li (ix2 r p) * shifted (BitVec.ofNat 32 d) xr (ix2 r p)) = _
    rw [ar, ai, e0.2, e.1, e.2, el.1, el.2, Complex.add_im, Complex.mul_im]
    push_cast
    rfl

/-- The first window is the chunk before. -/
theorem first_holds (hV : ∀ (r : Fin 1024) (p : Fin 128), xr (ix2 r p) = ((v (r.val / 256) p (r.val % 256)).re : EReal)
      ∧ xi (ix2 r p) = ((v (r.val / 256) p (r.val % 256)).im : EReal)) :
    Holds (shifted 1#32 xr) (shifted 1#32 xi) v w 1 := by
  intro r p
  rw [window_one, shifted_apply 1 (by norm_num), shifted_apply 1 (by norm_num)]
  by_cases h : 1 ≤ r.val % 256
  · rw [if_pos h, if_pos h, if_pos h]
    have e := hV (⟨r.val - 1, by omega⟩ : Fin 1024) p
    rw [show (r.val - 1) / 256 = r.val / 256 by omega, show (r.val - 1) % 256 = r.val % 256 - 1 by omega] at e
    exact e
  · rw [if_neg h, if_neg h, if_neg h]
    exact ⟨rfl, rfl⟩

end Cert.ScanIdeal.Scan

end
-- ==== Proof.ScanBody.lean ====
/-
  The S5 scan's body on one pair of groups: eight doubling steps from the chunk before to the whole sequence before, and
  the two products that read the inputs and the states out.
-/
module

public import proofs.«01_k».proof.Proof.ScanStage

@[expose] public section

set_option maxRecDepth 65536

noncomputable section

namespace Cert.ScanIdeal.Scan

open Cert.ScanIdeal Cert.ScanIdeal.Gen Cert.Scan Idealize.ShloMosaic Idealize.ShloMosaic.TcCoe Idealize.SL.Sem

variable (x0 : Vec Ideal S1x1024x512 .bf16) (x1 : Vec Ideal S1x512x256 .bf16) (x2 : Vec Ideal S1x512x512 .bf16)
  (x3 : Vec Ideal S1x256x512 .bf16) (x4 : Vec Ideal S1x8x256 .f32)

/-- The state after windows of one, two, four, … chunks: real parts and imaginary parts. -/
def re1 : FVec Ideal S1024x128 .f32 := shifted 1#32 (extractStridedSlice S1024x128 ![0, 0] (k0_pay3 (View.ld x0 r0_0) (View.ld x1 r0_1)) slices_S1024x256_o0_0_S1024x128)
def im1 : FVec Ideal S1024x128 .f32 := shifted 1#32 (extractStridedSlice S1024x128 ![0, 128] (k0_pay3 (View.ld x0 r0_0) (View.ld x1 r0_1)) slices_S1024x256_o0_128_S1024x128)
def re2 : FVec Ideal S1024x128 .f32 := stepR 1#32 (k0_pay7 (View.ld x4 r0_2)) (k0_pay7 (View.ld x4 r0_3)) (re1 x0 x1) (im1 x0 x1)
def im2 : FVec Ideal S1024x128 .f32 := stepI 1#32 (k0_pay7 (View.ld x4 r0_2)) (k0_pay7 (View.ld x4 r0_3)) (re1 x0 x1) (im1 x0 x1)
def re4 : FVec Ideal S1024x128 .f32 := stepR 2#32 (k0_pay7 (View.ld x4 r0_4)) (k0_pay7 (View.ld x4 r0_5)) (re2 x0 x1 x4) (im2 x0 x1 x4)
def im4 : FVec Ideal S1024x128 .f32 := stepI 2#32 (k0_pay7 (View.ld x4 r0_4)) (k0_pay7 (View.ld x4 r0_5)) (re2 x0 x1 x4) (im2 x0 x1 x4)
def re8 : FVec Ideal S1024x128 .f32 := stepR 4#32 (k0_pay7 (View.ld x4 r0_6)) (k0_pay7 (View.ld x4 r0_7)) (re4 x0 x1 x4) (im4 x0 x1 x4)
def im8 : FVec Ideal S1024x128 .f32 := stepI 4#32 (k0_pay7 (View.ld x4 r0_6)) (k0_pay7 (View.ld x4 r0_7)) (re4 x0 x1 x4) (im4 x0 x1 x4)
def re16 : FVec Ideal S1024x128 .f32 := stepR 8#32 (k0_pay7 (View.ld x4 r0_8)) (k0_pay7 (View.ld x4 r0_9)) (re8 x0 x1 x4) (im8 x0 x1 x4)
def im16 : FVec Ideal S1024x128 .f32 := stepI 8#32 (k0_pay7 (View.ld x4 r0_8)) (k0_pay7 (View.ld x4 r0_9)) (re8 x0 x1 x4) (im8 x0 x1 x4)
def re32 : FVec Ideal S1024x128 .f32 := stepR 16#32 (k0_pay7 (View.ld x4 r0_10)) (k0_pay7 (View.ld x4 r0_11)) (re16 x0 x1 x4) (im16 x0 x1 x4)
def im32 : FVec Ideal S1024x128 .f32 := stepI 16#32 (k0_pay7 (View.ld x4 r0_10)) (k0_pay7 (View.ld x4 r0_11)) (re16 x0 x1 x4) (im16 x0 x1 x4)
def re64 : FVec Ideal S1024x128 .f32 := stepR 32#32 (k0_pay7 (View.ld x4 r0_12)) (k0_pay7 (View.ld x4 r0_13)) (re32 x0 x1 x4) (im32 x0 x1 x4)
def im64 : FVec Ideal S1024x128 .f32 := stepI 32#32 (k0_pay7 (View.ld x4 r0_12)) (k0_pay7 (View.ld x4 r0_13)) (re32 x0 x1 x4) (im32 x0 x1 x4)
def re128 : FVec Ideal S1024x128 .f32 := stepR 64#32 (k0_pay7 (View.ld x4 r0_14)) (k0_pay7 (View.ld x4 r0_15)) (re64 x0 x1 x4) (im64 x0 x1 x4)
def im128 : FVec Ideal S1024x128 .f32 := stepI 64#32 (k0_pay7 (View.ld x4 r0_14)) (k0_pay7 (View.ld x4 r0_15)) (re64 x0 x1 x4) (im64 x0 x1 x4)
def re256 : FVec Ideal S1024x128 .f32 := stepR 128#32 (k0_pay7 (View.ld x4 r0_16)) (k0_pay7 (View.ld x4 r0_17)) (re128 x0 x1 x4) (im128 x0 x1 x4)
def im256 : FVec Ideal S1024x128 .f32 := stepI 128#32 (k0_pay7 (View.ld x4 r0_16)) (k0_pay7 (View.ld x4 r0_17)) (re128 x0 x1 x4) (im128 x0 x1 x4)

/-- What the body stores. -/
def stored : FVec Ideal S1x1024x512 .bf16 :=
  shapeCast S1x1024x512 (truncf .bf16 (addf
    (matmul dot_S1024x512_S512x512_S1024x512_1_0_0_1_n_n none (k0_pay2 (View.ld x0 r0_0)) (shapeCast S512x512 (View.ld x2 r0_18) shapeCasts_S1x512x512_S512x512 : FVec Ideal S512x512 .bf16) (constant S1024x512 .f32 0x00000000#32))
    (matmul dot_S1024x256_S256x512_S1024x512_1_0_0_1_n_n none
      (truncf .bf16 (concatenate S1024x256 1 [⟨S1024x128, re256 x0 x1 x4⟩, ⟨S1024x128, im256 x0 x1 x4⟩] concatenates_S1024x128_S1024x128_S1024x256_d1) bitsLt_bf16_f32)
      (shapeCast S256x512 (View.ld x3 r0_19) shapeCasts_S1x256x512_S256x512 : FVec Ideal S256x512 .bf16) (constant S1024x512 .f32 0x00000000#32))) bitsLt_bf16_f32) shapeCasts_S1024x512_S1x1024x512

theorem re1_eq : k0_pay61 x0 x1 x2 x3 x4 = re1 x0 x1 := rfl
theorem im1_eq : k0_pay62 x0 x1 x2 x3 x4 = im1 x0 x1 := rfl
theorem im2_eq : k0_pay66 x0 x1 x2 x3 x4 = im2 x0 x1 x4 := rfl
theorem re4_eq : k0_pay68 x0 x1 x2 x3 x4 = re4 x0 x1 x4 := rfl
theorem re8_eq : k0_pay71 x0 x1 x2 x3 x4 = re8 x0 x1 x4 := rfl
theorem im8_eq : k0_pay72 x0 x1 x2 x3 x4 = im8 x0 x1 x4 := rfl
theorem re16_eq : k0_pay77 x0 x1 x2 x3 x4 = re16 x0 x1 x4 := rfl
theorem im16_eq : k0_pay78 x0 x1 x2 x3 x4 = im16 x0 x1 x4 := rfl
theorem re64_eq : k0_pay85 x0 x1 x2 x3 x4 = re64 x0 x1 x4 := rfl
theorem im64_eq : k0_pay86 x0 x1 x2 x3 x4 = im64 x0 x1 x4 := rfl

/-- The body stores that. -/
theorem out_eq : out0_5 x0 x1 x2 x3 x4 = View.canon [⟨r0_0, stored x0 x1 x2 x3 x4⟩] := by
  unfold out0_5
  rw [re64_eq, im64_eq]
  rfl

variable {x0 x1 x4} {v : ℕ → Fin 128 → ℕ → ℂ} {w : Fin 128 → ℂ}

/-- After the last step the states hold the whole sequence before each chunk. -/
theorem all_holds
    (hv : ∀ (r : Fin 1024) (p : Fin 128), (∑ k : Fin 512, x0 (ix3 0 r k) * x1 (ix3 0 k (⟨p.val, by omega⟩ : Fin 256)) : EReal) = ((v (r.val / 256) p (r.val % 256)).re : EReal)
      ∧ (∑ k : Fin 512, x0 (ix3 0 r k) * x1 (ix3 0 k (⟨128 + p.val, by omega⟩ : Fin 256)) : EReal) = ((v (r.val / 256) p (r.val % 256)).im : EReal))
    (hw : ∀ (k : Fin 8) (p : Fin 128), x4 (ix3 0 k (⟨p.val, by omega⟩ : Fin 256)) = (((w p ^ 2 ^ k.val).re : ℝ) : EReal)
      ∧ x4 (ix3 0 k (⟨128 + p.val, by omega⟩ : Fin 256)) = (((w p ^ 2 ^ k.val).im : ℝ) : EReal)) :
    Holds (re256 x0 x1 x4) (im256 x0 x1 x4) v w 256 := by
  have h1 : Holds (re1 x0 x1) (im1 x0 x1) v w 1 := by
    refine first_holds fun r p => ?_
    have e := hv r p
    constructor
    · rw [← e.1]
      pointwise [k0_pay3, k0_pay2]
    · rw [← e.2]
      pointwise [k0_pay3, k0_pay2]
  have h2 : Holds (re2 x0 x1 x4) (im2 x0 x1 x4) v w 2 := by
    refine step_holds 1 (by norm_num) (fun p => ?_) h1
    have e := hw 0 p
    constructor
    · refine Eq.trans ?_ e.1
      pointwise [k0_pay7]
    · refine Eq.trans ?_ e.2
      pointwise [k0_pay7]
  have h4 : Holds (re4 x0 x1 x4) (im4 x0 x1 x4) v w 4 := by
    refine step_holds 2 (by norm_num) (fun p => ?_) h2
    have e := hw 1 p
    constructor
    · refine Eq.trans ?_ e.1
      pointwise [k0_pay7]
    · refine Eq.trans ?_ e.2
      pointwise [k0_pay7]
  have h8 : Holds (re8 x0 x1 x4) (im8 x0 x1 x4) v w 8 := by
    refine step_holds 4 (by norm_num) (fun p => ?_) h4
    have e := hw 2 p
    constructor
    · refine Eq.trans ?_ e.1
      pointwise [k0_pay7]
    · refine Eq.trans ?_ e.2
      pointwise [k0_pay7]
  have h16 : Holds (re16 x0 x1 x4) (im16 x0 x1 x4) v w 16 := by
    refine step_holds 8 (by norm_num) (fun p => ?_) h8
    have e := hw 3 p
    constructor
    · refine Eq.trans ?_ e.1
      pointwise [k0_pay7]
    · refine Eq.trans ?_ e.2
      pointwise [k0_pay7]
  have h32 : Holds (re32 x0 x1 x4) (im32 x0 x1 x4) v w 32 := by
    refine step_holds 16 (by norm_num) (fun p => ?_) h16
    have e := hw 4 p
    constructor
    · refine Eq.trans ?_ e.1
      pointwise [k0_pay7]
    · refine Eq.trans ?_ e.2
      pointwise [k0_pay7]
  have h64 : Holds (re64 x0 x1 x4) (im64 x0 x1 x4) v w 64 := by
    refine step_holds 32 (by norm_num) (fun p => ?_) h32
    have e := hw 5 p
    constructor
    · refine Eq.trans ?_ e.1
      pointwise [k0_pay7]
    · refine Eq.trans ?_ e.2
      pointwise [k0_pay7]
  have h128 : Holds (re128 x0 x1 x4) (im128 x0 x1 x4) v w 128 := by
    refine step_holds 64 (by norm_num) (fun p => ?_) h64
    have e := hw 6 p
    constructor
    · refine Eq.trans ?_ e.1
      pointwise [k0_pay7]
    · refine Eq.trans ?_ e.2
      pointwise [k0_pay7]
  have h256 : Holds (re256 x0 x1 x4) (im256 x0 x1 x4) v w 256 := by
    refine step_holds 128 (by norm_num) (fun p => ?_) h128
    have e := hw 7 p
    constructor
    · refine Eq.trans ?_ e.1
      pointwise [k0_pay7]
    · refine Eq.trans ?_ e.2
      pointwise [k0_pay7]
  exact h256

end Cert.ScanIdeal.Scan

end
-- ==== Proof.ScanKernel.lean ====
/-
  The S5 scan's kernel on the arrays: the host's chunked activations and decay powers, what a point stores, and the
  whole array its blocks make.
-/
module

public import proofs.«01_k».proof.Proof.ScanClosed
public import proofs.«01_k».proof.Proof.ScanReads
public import proofs.«01_k».proof.Proof.ScanBody
public import Idealize.ShloMosaic.Lib.Pipeline.Covers
public import Idealize.ShloMosaic.Lib.StableHlo.RunRead

@[expose] public section

set_option maxRecDepth 65536

noncomputable section

namespace Cert.ScanIdeal.Scan

open Cert.ScanIdeal Cert.ScanIdeal.Gen Cert.Scan Idealize.ShloMosaic Idealize.ShloMosaic.TcCoe Idealize.SL.Sem

/-- The stored block, entry by entry. -/
theorem stored_at (x0 : Vec Ideal S1x1024x512 .bf16) (x1 : Vec Ideal S1x512x256 .bf16) (x2 : Vec Ideal S1x512x512 .bf16)
    (x3 : Vec Ideal S1x256x512 .bf16) (x4 : Vec Ideal S1x8x256 .f32) (r : Fin 1024) (q : Fin 512) :
    stored x0 x1 x2 x3 x4 (ix3 0 r q) = ((∑ k : Fin 512, x0 (ix3 0 r k) * x2 (ix3 0 k q))
      + ∑ p : Fin 256, (if h : p.val < 128 then re256 x0 x1 x4 (ix2 r (⟨p.val, h⟩ : Fin 128)) else im256 x0 x1 x4 (ix2 r (⟨p.val - 128, by omega⟩ : Fin 128))) * x3 (ix3 0 p q) : EReal) := by
  unfold stored
  generalize re256 x0 x1 x4 = A
  generalize im256 x0 x1 x4 = B
  pointwise [k0_pay2]

/-! ## The host's arrays -/

/-- The chunked activations. -/
def chunks (H : FVec Ideal S16384x2048 .bf16) : FVec Ideal S64x1024x512 .bf16 :=
  shapeCast S64x1024x512 (transpose S64x4x256x2x16x16 [3, 0, 1, 4, 2, 5] (shapeCast S4x256x16x64x2x16 H shapeCasts_S16384x2048_S4x256x16x64x2x16)
    transposes_S4x256x16x64x2x16_S64x4x256x2x16x16_3_0_1_4_2_5) shapeCasts_S64x4x256x2x16x16_S64x1024x512

theorem chunks_at (H : FVec Ideal S16384x2048 .bf16) (g : Fin 64) (r : Fin 1024) (k : Fin 512) : chunks H (ix3 g r k) = chunkIn H g r k := by
  pointwise [chunks, chunkIn]
  exact congrArg H (congrArg₂ ix2 (Fin.ext (by dsimp only; omega)) (Fin.ext (by dsimp only; omega)))

/-- The distances of the eight steps. -/
def hops : FVec Ideal S8 .f32 :=
  mulf (Host.powf (broadcastInDim S8 ![] bcast_S_S8 (constant S_ .f32 0x40000000#32)) (sitofp .f32 (iotaInDim S8 32 0)))
    (broadcastInDim S8 ![] bcast_S_S8 (constant S_ .f32 0x41800000#32))

/-- A rate times the distances. -/
def reach (Z : FVec Ideal S128x64 .f32) : FVec Ideal S128x8x64 .f32 :=
  mulf (broadcastInDim S128x8x64 ![0, 1, 2] bcast_S128x1x64_S128x8x64_0_1_2 (broadcastInDim S128x1x64 ![0, 2] bcast_S128x64_S128x1x64_0_2 Z))
    (broadcastInDim S128x8x64 ![0, 1, 2] bcast_S1x8x1_S128x8x64_0_1_2 (broadcastInDim S1x8x1 ![1] bcast_S8_S1x8x1_1 hops))

/-- States by pairs of groups. -/
def paired (X : FVec Ideal S128x8x64 .f32) : FVec Ideal S64x8x128 .f32 :=
  shapeCast S64x8x128 (transpose S64x8x2x64 [0, 2, 1, 3] (shapeCast S64x2x8x64 X shapeCasts_S128x8x64_S64x2x8x64) transposes_S64x2x8x64_S64x8x2x64_0_2_1_3)
    shapeCasts_S64x8x2x64_S64x8x128

/-- The decay powers. -/
def powers (Zr Zi : FVec Ideal S128x64 .f32) : FVec Ideal S64x8x256 .f32 :=
  concatenate S64x8x256 2 [⟨S64x8x128, paired (mulf (Host.exp (reach Zr)) (Host.cos (reach Zi)))⟩, ⟨S64x8x128, paired (mulf (Host.exp (reach Zr)) (Host.sin (reach Zi)))⟩]
    concatenates_S64x8x128_S64x8x128_S64x8x256_d2

theorem hops_at (k : Fin 8) : hops (ix1 k) = ((16 * ((2 ^ k.val : ℕ) : ℝ) : ℝ) : EReal) := by
  have e : hops (ix1 k) = (Ideal.pow (Ideal.ofBits .f32 0x40000000#32) (((BitVec.ofNat 32 k.val).toInt : ℝ) : EReal) * Ideal.ofBits .f32 0x41800000#32 : EReal) := rfl
  rw [e, show Ideal.ofBits .f32 0x40000000#32 = ((2 : ℝ) : EReal) by simp [Ideal.ofBits, Ideal.ieee]; rw [← EReal.coe_mul]; norm_num,
    show Ideal.ofBits .f32 0x41800000#32 = ((16 : ℝ) : EReal) by simp [Ideal.ofBits, Ideal.ieee]; rw [← EReal.coe_mul]; norm_num,
    show (BitVec.ofNat 32 k.val).toInt = (k.val : ℤ) by fin_cases k <;> rfl, Ideal.pow_coe_coe, ← EReal.coe_mul]
  congr 1
  rw [mul_comm]
  congr 1
  push_cast
  exact Real.rpow_natCast 2 k.val

theorem reach_at (Z : FVec Ideal S128x64 .f32) (g : Fin 64) (k : Fin 8) (p : Fin 128) :
    reach Z (ix3 (⟨2 * g.val + p.val / 64, by omega⟩ : Fin 128) k (⟨p.val % 64, by omega⟩ : Fin 64)) = atState Z g p * ((16 * ((2 ^ k.val : ℕ) : ℝ) : ℝ) : EReal) := by
  have e : reach Z (ix3 (⟨2 * g.val + p.val / 64, by omega⟩ : Fin 128) k (⟨p.val % 64, by omega⟩ : Fin 64))
      = (Z (ix2 (⟨2 * g.val + p.val / 64, by omega⟩ : Fin 128) (⟨p.val % 64, by omega⟩ : Fin 64)) * hops (ix1 k) : EReal) := by
    unfold reach
    generalize hops = h
    pointwise
  rw [e, hops_at]
  rfl

theorem paired_at (X : FVec Ideal S128x8x64 .f32) (g : Fin 64) (k : Fin 8) (p : Fin 128) :
    paired X (ix3 g k p) = X (ix3 (⟨2 * g.val + p.val / 64, by omega⟩ : Fin 128) k (⟨p.val % 64, by omega⟩ : Fin 64)) := by
  pointwise [paired]
  exact congrArg X (congrArg (fun a => ix3 a k _) (Fin.ext (by dsimp only; omega)))

/-- The powers are those of the decay. -/
theorem powers_at (Zr Zi : FVec Ideal S128x64 .f32) (hr : ∀ i, (Zr i : EReal) ≠ ⊤) (hi : ∀ i, Zi i = ((Zi i : EReal).toReal : EReal))
    (g : Fin 64) (k : Fin 8) (p : Fin 128) :
    powers Zr Zi (ix3 g k (⟨p.val, by omega⟩ : Fin 256)) = (((decayOf Zr Zi g p ^ 2 ^ k.val).re : ℝ) : EReal)
    ∧ powers Zr Zi (ix3 g k (⟨128 + p.val, by omega⟩ : Fin 256)) = (((decayOf Zr Zi g p ^ 2 ^ k.val).im : ℝ) : EReal) := by
  have a : powers Zr Zi (ix3 g k (⟨p.val, by omega⟩ : Fin 256)) = paired (mulf (Host.exp (reach Zr)) (Host.cos (reach Zi))) (ix3 g k p) := by
    unfold powers
    generalize paired (mulf (Host.exp (reach Zr)) (Host.cos (reach Zi))) = A
    generalize paired (mulf (Host.exp (reach Zr)) (Host.sin (reach Zi))) = B
    pointwise
  have b : powers Zr Zi (ix3 g k (⟨128 + p.val, by omega⟩ : Fin 256)) = paired (mulf (Host.exp (reach Zr)) (Host.sin (reach Zi))) (ix3 g k p) := by
    unfold powers
    generalize paired (mulf (Host.exp (reach Zr)) (Host.cos (reach Zi))) = A
    generalize paired (mulf (Host.exp (reach Zr)) (Host.sin (reach Zi))) = B
    pointwise
  rw [a, b, paired_at, paired_at]
  have e := decay_parts hr hi g p (2 ^ k.val)
  constructor
  · show (Ideal.exp (reach Zr _) * Ideal.cos (reach Zi _) : EReal) = _
    rw [reach_at, reach_at]
    exact e.1
  · show (Ideal.exp (reach Zr _) * Ideal.sin (reach Zi _) : EReal) = _
    rw [reach_at, reach_at]
    exact e.2

variable (m : (ℓ : Loc nD τ sig) → Buf (Elt Ideal) ℓ) (c : Dev nD)

theorem chunks_eq : (V m c main_v247 : S64x1024x512.Idx → Elt Ideal .bf16) = chunks (memH m c) := by
  unfold V
  after_reads_simp <;> rfl

theorem powers_eq : (V m c main_v244 : S64x8x256.Idx → Elt Ideal .f32) = powers (memR m c) (memI m c) := by
  unfold V
  after_reads_simp <;> rfl

/-- An operator over the arguments, kept closed. -/
@[irreducible] def memIn : FVec Ideal S64x512x256 .bf16 := opIn (memR m c) (memI m c) (memBR m c) (memBI m c)
/-- An operator over the arguments, kept closed. -/
@[irreducible] def memToep : FVec Ideal S64x512x512 .bf16 := opInside (memR m c) (memI m c) (memBR m c) (memBI m c) (memCR m c) (memCI m c)
/-- An operator over the arguments, kept closed. -/
@[irreducible] def memOut : FVec Ideal S64x256x512 .bf16 := opOut (memR m c) (memI m c) (memCR m c) (memCI m c)

theorem memIn_eq : memIn m c = opIn (memR m c) (memI m c) (memBR m c) (memBI m c) := by unfold memIn; rfl
theorem memToep_eq : memToep m c = opInside (memR m c) (memI m c) (memBR m c) (memBI m c) (memCR m c) (memCI m c) := by unfold memToep; rfl
theorem memOut_eq : memOut m c = opOut (memR m c) (memI m c) (memCR m c) (memCI m c) := by unfold memOut; rfl

theorem in_holds : (V m c main_v233 : S64x512x256.Idx → Elt Ideal .bf16) = memIn m c := (in_eq m c).trans (memIn_eq m c).symm
theorem toep_holds : (V m c main_v237 : S64x512x512.Idx → Elt Ideal .bf16) = memToep m c := (toep_eq m c).trans (memToep_eq m c).symm
theorem out_holds : (V m c main_v235 : S64x256x512.Idx → Elt Ideal .bf16) = memOut m c := (out_op_eq m c).trans (memOut_eq m c).symm

theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] :=
  (by decide +kernel : ∀ t : Fin grid0.N, _)

/-- A point's pair of groups. -/
abbrev pair (t : Fin cfg0.N) : Fin 64 := ⟨t.val, lt_of_lt_of_eq t.isLt N_0⟩

theorem in0 (t : Fin cfg0.N) (r : Fin 1024) (k : Fin 512) : (iblk m c 0 t : S1x1024x512.Idx → Elt Ideal .bf16) (ix3 0 r k) = chunkIn (memH m c) (pair t) r k := by
  rw [← chunks_at, ← chunks_eq]
  blk_point [iblk, idx t]

theorem read1 (t : Fin cfg0.N) (X : S64x512x256.Idx → Elt Ideal .bf16) (k : Fin 512) (p : Fin 256) :
    (((cfg0.win 1).blk t).view.read (Elt Ideal) X : S1x512x256.Idx → Elt Ideal .bf16) (ix3 0 k p) = X (ix3 (pair t) k p) := by
  blk_point [idx t]

theorem in1 (t : Fin cfg0.N) (k : Fin 512) (p : Fin 256) : (iblk m c 1 t : S1x512x256.Idx → Elt Ideal .bf16) (ix3 0 k p) = memIn m c (ix3 (pair t) k p) := by
  rw [← in_holds]
  exact read1 t (V m c main_v233) k p

theorem read2 (t : Fin cfg0.N) (X : S64x512x512.Idx → Elt Ideal .bf16) (k : Fin 512) (p : Fin 512) :
    (((cfg0.win 2).blk t).view.read (Elt Ideal) X : S1x512x512.Idx → Elt Ideal .bf16) (ix3 0 k p) = X (ix3 (pair t) k p) := by
  blk_point [idx t]

theorem in2 (t : Fin cfg0.N) (k : Fin 512) (p : Fin 512) : (iblk m c 2 t : S1x512x512.Idx → Elt Ideal .bf16) (ix3 0 k p) = memToep m c (ix3 (pair t) k p) := by
  rw [← toep_holds]
  exact read2 t (V m c main_v237) k p

theorem read3 (t : Fin cfg0.N) (X : S64x256x512.Idx → Elt Ideal .bf16) (k : Fin 256) (p : Fin 512) :
    (((cfg0.win 3).blk t).view.read (Elt Ideal) X : S1x256x512.Idx → Elt Ideal .bf16) (ix3 0 k p) = X (ix3 (pair t) k p) := by
  blk_point [idx t]

theorem in3 (t : Fin cfg0.N) (k : Fin 256) (p : Fin 512) : (iblk m c 3 t : S1x256x512.Idx → Elt Ideal .bf16) (ix3 0 k p) = memOut m c (ix3 (pair t) k p) := by
  rw [← out_holds]
  exact read3 t (V m c main_v235) k p

theorem in4 (t : Fin cfg0.N) (k : Fin 8) (p : Fin 256) : (iblk m c 4 t : S1x8x256.Idx → Elt Ideal .f32) (ix3 0 k p) = powers (memR m c) (memI m c) (ix3 (pair t) k p) := by
  rw [← powers_eq]
  blk_point [iblk, idx t]

/-- The arrays' entries are real numbers. -/
structure Finite : Prop where
  h : Real' (memH m c)
  re : Real' (memR m c)
  im : Real' (memI m c)
  br : Real' (memBR m c)
  bi : Real' (memBI m c)
  cr : Real' (memCR m c)
  ci : Real' (memCI m c)

variable {m c} in
/-- What a point stores is the closed form's entry. -/
theorem point (hF : Finite m c) (t : Fin cfg0.N) (r : Fin 1024) (q : Fin 512) :
    stored (iblk m c 0 t) (iblk m c 1 t) (iblk m c 2 t) (iblk m c 3 t) (iblk m c 4 t) (ix3 0 r q)
      = entry (memH m c) (memIn m c) (memToep m c) (memOut m c) (memR m c) (memI m c) (pair t) r q := by
  have hw : Real' (memIn m c) := by
    rw [memIn_eq]
    exact opIn_real hF.re hF.im hF.br hF.bi
  have hs : Holds (re256 (iblk m c 0 t) (iblk m c 1 t) (iblk m c 4 t)) (im256 (iblk m c 0 t) (iblk m c 1 t) (iblk m c 4 t))
      (input (memH m c) (memIn m c) (pair t)) (decayOf (memR m c) (memI m c) (pair t)) 256 := by
    refine all_holds (fun r p => ?_) (fun k p => ?_)
    · have e := input_parts hF.h hw (pair t) r p
      constructor
      · refine Eq.trans (Finset.sum_congr rfl fun k _ => ?_) e.1
        rw [in0, in1]
      · refine Eq.trans (Finset.sum_congr rfl fun k _ => ?_) e.2
        rw [in0, in1]
    · rw [in4, in4]
      exact powers_at _ _ (fun i => by rw [hF.re]; exact EReal.coe_ne_top _) hF.im (pair t) k p
  rw [stored_at]
  refine congrArg₂ (· + ·) (Finset.sum_congr rfl fun k _ => ?_) (Finset.sum_congr rfl fun p _ => ?_)
  · rw [in0, in2]
  · rw [in3]
    refine congrArg (· * (_ : EReal)) ?_
    unfold halves
    by_cases h : p.val < 128
    · rw [dif_pos h, dif_pos h]
      exact (hs r ⟨p.val, h⟩).1
    · rw [dif_neg h, dif_neg h]
      exact (hs r ⟨p.val - 128, by omega⟩).2

/-- The closed form as an array. -/
def whole (H : FVec Ideal S16384x2048 .bf16) (Win : FVec Ideal S64x512x256 .bf16) (Toep : FVec Ideal S64x512x512 .bf16) (Wout : FVec Ideal S64x256x512 .bf16)
    (Zr Zi : FVec Ideal S128x64 .f32) : FVec Ideal S64x1024x512 .bf16 := fun y => entry H Win Toep Wout Zr Zi (y 0) (y 1) (y 2)

variable {m c} in
/-- The blocks make the whole array. -/
theorem final (hF : Finite m c) : (dats m 0 c).arrAt 5 cfg0.N
    = whole (memH m c) (memIn m c) (memToep m c) (memOut m c) (memR m c) (memI m c) := by
  refine (dats m 0 c).arrAt_eq_of_covers 5 _ (by decide +kernel) fun t _ y => ?_
  blk_simp
  rw [after0_5, out_eq]
  frame_out
  have hy : y = ix3 0 (y 1) (y 2) := by
    funext x
    fin_cases x
    · exact Fin.ext (show (y 0).val = 0 from Nat.lt_one_iff.1 (y 0).isLt)
    · rfl
    · rfl
  have h := point hF t (y 1) (y 2)
  refine (congrArg (stored (iblk m c 0 t) (iblk m c 1 t) (iblk m c 2 t) (iblk m c 3 t) (iblk m c 4 t)) hy).trans (h.trans ?_)
  show entry _ _ _ _ _ _ _ _ _ = entry _ _ _ _ _ _ _ _ _
  congr 1
  · refine Fin.ext ?_
    show t.val = win0_5.index t 0 * 1 + 1 * (y 0).val
    rw [(idx t).2.2.2.2.2]
    have h0 : (y 0).val = 0 := Nat.lt_one_iff.1 (y 0).isLt
    show t.val = t.val * 1 + 1 * (y 0).val
    omega
  · refine Fin.ext ?_
    show (y 1).val = win0_5.index t 1 * 1024 + 1 * (y 1).val
    rw [(idx t).2.2.2.2.2]
    show (y 1).val = 0 * 1024 + 1 * (y 1).val
    omega
  · refine Fin.ext ?_
    show (y 2).val = win0_5.index t 2 * 512 + 1 * (y 2).val
    rw [(idx t).2.2.2.2.2]
    show (y 2).val = 0 * 512 + 1 * (y 2).val
    omega

end Cert.ScanIdeal.Scan

end
-- ==== Proof.ScanReference.lean ====
/-
  The S5 scan's reference over the real numbers: its composed term in stages, and each stage's entries, up to the
  recurrence's solution at every position.
-/
module

public import proofs.«01_k».proof.Proof.ScanFactor
public import proofs.«01_k».proof.Proof.Gen.ScanRefIdeal.Run
public import Idealize.ShloMosaic.Lib.WordCmp

@[expose] public section

set_option maxRecDepth 65536

noncomputable section

namespace Cert.ScanRefIdeal.Scan

open Cert.ScanRefIdeal Cert.ScanRefIdeal.Gen Cert.Scan Idealize.ShloMosaic Idealize.ShloMosaic.TcCoe Idealize.SL.Sem

variable (H : FVec Ideal S16384x2048 .bf16) (Zr Zi : FVec Ideal S128x64 .f32) (Br Bi : FVec Ideal S128x64x16 .f32) (Cr Ci : FVec Ideal S128x16x64 .f32)

/-- The activations by sequence, position, group and channel. -/
def acts : FVec Ideal S4x4096x128x16 .f32 := shapeCast _ (extf .f32 H bitsLt_bf16_f32) shapeCasts_S16384x2048_S4x4096x128x16

/-- What every position puts into the states. -/
def puts (B : FVec Ideal S128x64x16 .f32) : FVec Ideal S4x4096x128x64 .f32 :=
  transpose S4x4096x128x64 [2, 3, 0, 1] (Host.dotGeneral dot_S128x64x16_S4x4096x128x16_S128x64x4x4096_2_3_1_01_0_2 none B (acts H)) transposes_S128x64x4x4096_S4x4096x128x64_2_3_0_1

/-- How many positions lie between two positions. -/
def lag : IVec S1x4096x4096x1 32 :=
  broadcastInDim S1x4096x4096x1 ![1, 2] bcast_S4096x4096_S1x4096x4096x1_1_2 (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0))))

/-- A rate times the positions between. -/
def spread (Z : FVec Ideal S128x64 .f32) : FVec Ideal S128x4096x4096x64 .f32 :=
  mulf (broadcastInDim S128x4096x4096x64 ![0, 1, 2, 3] bcast_S128x1x1x64_S128x4096x4096x64_0_1_2_3 (broadcastInDim S128x1x1x64 ![0, 3] bcast_S128x64_S128x1x1x64_0_3 Z)) (broadcastInDim S128x4096x4096x64 ![0, 1, 2, 3] bcast_S1x4096x4096x1_S128x4096x4096x64_0_1_2_3 (sitofp .f32 lag))

/-- Only positions not after count. -/
def masked (X : FVec Ideal S128x4096x4096x64 .f32) : FVec Ideal S128x4096x4096x64 .f32 :=
  select (broadcastInDim S128x4096x4096x64 ![0, 1, 2, 3] bcast_S1x4096x4096x1_S128x4096x4096x64_0_1_2_3 (cmpi .sge lag (broadcastInDim S1x4096x4096x1 ![] bcast_S_S1x4096x4096x1 (constantI S_ 32 0#32)))) X (broadcastInDim S128x4096x4096x64 ![] bcast_S_S128x4096x4096x64 (id (constant S_ .f32 0x00000000#32)))

/-- The powers between positions, real and imaginary parts. -/
def kerR : FVec Ideal S128x4096x4096x64 .f32 := masked (mulf (Host.exp (spread Zr)) (Host.cos (spread Zi)))
def kerI : FVec Ideal S128x4096x4096x64 .f32 := masked (mulf (Host.exp (spread Zr)) (Host.sin (spread Zi)))

/-- The sum over the positions up to one. -/
def along (V : FVec Ideal S4x4096x128x64 .f32) (P : FVec Ideal S128x4096x4096x64 .f32) : FVec Ideal S4x4096x128x64 .f32 :=
  transpose S4x4096x128x64 [2, 3, 0, 1] (Host.dotGeneral dot_S4x4096x128x64_S128x4096x4096x64_S128x64x4x4096_1_2_0_1_23_03 none V P) transposes_S128x64x4x4096_S4x4096x128x64_2_3_0_1

def statesR : FVec Ideal S4x4096x128x64 .f32 := subf (along (puts H Br) (kerR Zr Zi)) (along (puts H Bi) (kerI Zr Zi))
def statesI : FVec Ideal S4x4096x128x64 .f32 := addf (along (puts H Bi) (kerR Zr Zi)) (along (puts H Br) (kerI Zr Zi))

/-- The states read out. -/
def read (C : FVec Ideal S128x16x64 .f32) (X : FVec Ideal S4x4096x128x64 .f32) : FVec Ideal S4x4096x128x16 .f32 :=
  transpose S4x4096x128x16 [2, 3, 0, 1] (Host.dotGeneral dot_S128x16x64_S4x4096x128x64_S128x16x4x4096_2_3_1_01_0_2 none C X) transposes_S128x16x4x4096_S4x4096x128x16_2_3_0_1

/-- The result in the chunked layout. -/
def result (Y : FVec Ideal S4x4096x128x16 .f32) : FVec Ideal S64x1024x512 .bf16 :=
  truncf .bf16 (shapeCast _ (transpose S64x4x256x2x16x16 [3, 0, 1, 4, 2, 5] (shapeCast _ Y shapeCasts_S4x4096x128x16_S4x256x16x64x2x16) transposes_S4x256x16x64x2x16_S64x4x256x2x16x16_3_0_1_4_2_5) shapeCasts_S64x4x256x2x16x16_S64x1024x512) bitsLt_bf16_f32

/-- The outputs at every position. -/
def outputs : FVec Ideal S4x4096x128x16 .f32 := subf (read Cr (statesR H Zr Zi Br Bi)) (read Ci (statesI H Zr Zi Br Bi))

/-- The reference's term in these stages. -/
theorem stages (m : (ℓ : Loc nD τ sig) → Buf (Elt Ideal) ℓ) (c : Dev nD) :
    Value.res_main_v54 m c = result (outputs (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))) := by
  unfold Value.res_main_v54
  rfl

/-! ## The stages' entries -/

theorem acts_at (hH : Real' H) (b : Fin 4) (s : Fin 4096) (G : Fin 128) (c : Fin 16) : acts H (ix4 b s G c) = ((act H b G s.val c : ℝ) : EReal) := by
  unfold act
  rw [← hH]
  pointwise [acts]
  exact congrArg H (congrArg₂ ix2 (Fin.ext (by dsimp only; omega)) (Fin.ext (by dsimp only; omega)))

theorem puts_at (hH : Real' H) (hr : Real' Br) (hi : Real' Bi) (b : Fin 4) (s : Fin 4096) (G : Fin 128) (p : Fin 64) :
    puts H Br (ix4 b s G p) = (((feed H Br Bi b G p s.val).re : ℝ) : EReal) ∧ puts H Bi (ix4 b s G p) = (((feed H Br Bi b G p s.val).im : ℝ) : EReal) := by
  have e (B : FVec Ideal S128x64x16 .f32) : puts H B (ix4 b s G p) = ∑ c : Fin 16, (B (ix3 G p c) * acts H (ix4 b s G c) : EReal) := by
    unfold puts
    generalize acts H = U
    pointwise
  rw [e, e]
  unfold feed
  rw [Complex.re_sum, Complex.im_sum, coe_sum, coe_sum]
  constructor
  · refine Finset.sum_congr rfl fun c _ => ?_
    rw [acts_at H hH, hr, ← EReal.coe_mul, Complex.re_mul_ofReal]
    rfl
  · refine Finset.sum_congr rfl fun c _ => ?_
    rw [acts_at H hH, hi, ← EReal.coe_mul, Complex.im_mul_ofReal]
    rfl

/-- The number of positions between, as a word. -/
abbrev between (t s : Fin 4096) : BitVec 32 := BitVec.ofNat 32 t.val - BitVec.ofNat 32 s.val

theorem between_before (t s : Fin 4096) (h : s.val ≤ t.val) : between t s = BitVec.ofNat 32 (t.val - s.val) := by
  apply BitVec.eq_of_toNat_eq
  simp only [BitVec.toNat_sub, BitVec.toNat_ofNat]
  omega

theorem between_after (t s : Fin 4096) (h : ¬ s.val ≤ t.val) : IntOp.cmpi .sge (between t s) 0#32 = 0#1 := by
  have e : between t s = BitVec.ofNat 32 (2 ^ 32 - (s.val - t.val)) := by
    apply BitVec.eq_of_toNat_eq
    simp only [BitVec.toNat_sub, BitVec.toNat_ofNat]
    omega
  show BitVec.ofBool (BitVec.sle 0#32 (between t s)) = 0#1
  rw [e, BitVec.sle, decide_eq_false]
  · rfl
  · rw [BitVec.toInt_zero, BitVec.toInt_ofNat', Int.not_le]
    have := t.isLt
    have := s.isLt
    rw [Int.bmod_def]
    omega

theorem masked_at (X : FVec Ideal S128x4096x4096x64 .f32) (G : Fin 128) (t s : Fin 4096) (p : Fin 64) :
    masked X (ix4 G t s p) = if s.val ≤ t.val then X (ix4 G t s p) else (0 : EReal) := by
  have e : masked X (ix4 G t s p) = Scalar.select (IntOp.cmpi .sge (between t s) 0#32) (X (ix4 G t s p)) (Ideal.ofBits .f32 0x00000000#32) := rfl
  rw [e]
  by_cases h : s.val ≤ t.val
  · rw [if_pos h, between_before t s h]
    rw [show (0#32 : BitVec 32) = BitVec.ofNat 32 0 from rfl, WordCmp.cmpi_sge_ofNat (by norm_num; omega) (by norm_num), WordCmp.select_decide, if_pos (Nat.zero_le _)]
  · rw [if_neg h, between_after t s h]
    show Ideal.ofBits .f32 0x00000000#32 = 0
    simp

theorem spread_at (Z : FVec Ideal S128x64 .f32) (G : Fin 128) (t s : Fin 4096) (h : s.val ≤ t.val) (p : Fin 64) :
    spread Z (ix4 G t s p) = (Z (ix2 G p) * (((t.val - s.val : ℕ) : ℝ) : EReal) : EReal) := by
  have e : spread Z (ix4 G t s p) = (Z (ix2 G p) * (((between t s).toInt : ℝ) : EReal) : EReal) := by
    pointwise [spread, lag]
    rfl
  rw [e, between_before t s h,
    show (BitVec.ofNat 32 (t.val - s.val)).toInt = ((t.val - s.val : ℕ) : ℤ) by
      rw [BitVec.toInt_ofNat', Int.bmod_def]; have := t.isLt; omega]
  rfl

theorem ker_at (hr : Real' Zr) (hi : Real' Zi) (G : Fin 128) (t s : Fin 4096) (p : Fin 64) :
    kerR Zr Zi (ix4 G t s p) = (((if s.val ≤ t.val then factor Zr Zi G p ^ (t.val - s.val) else 0 : ℂ).re : ℝ) : EReal)
    ∧ kerI Zr Zi (ix4 G t s p) = (((if s.val ≤ t.val then factor Zr Zi G p ^ (t.val - s.val) else 0 : ℂ).im : ℝ) : EReal) := by
  unfold kerR kerI
  rw [masked_at, masked_at]
  by_cases h : s.val ≤ t.val
  · rw [if_pos h, if_pos h, if_pos h]
    constructor
    · show (Ideal.exp (spread Zr _) * Ideal.cos (spread Zi _) : EReal) = _
      rw [spread_at Zr G t s h, spread_at Zi G t s h]
      exact (factor_parts hr hi G p (t.val - s.val)).1
    · show (Ideal.exp (spread Zr _) * Ideal.sin (spread Zi _) : EReal) = _
      rw [spread_at Zr G t s h, spread_at Zi G t s h]
      exact (factor_parts hr hi G p (t.val - s.val)).2
  · rw [if_neg h, if_neg h, if_neg h]
    exact ⟨rfl, rfl⟩

theorem along_at (V : FVec Ideal S4x4096x128x64 .f32) (P : FVec Ideal S128x4096x4096x64 .f32) (b : Fin 4) (t : Fin 4096) (G : Fin 128) (p : Fin 64) :
    along V P (ix4 b t G p) = ∑ s : Fin 4096, (V (ix4 b s G p) * P (ix4 G t s p) : EReal) := by
  pointwise [along]

/-- A sum of real products is real. -/
theorem sum_products {n : ℕ} (f h : Fin n → ℝ) : ∑ s, ((f s : EReal) * (h s : EReal)) = ((∑ s, f s * h s : ℝ) : EReal) := by
  rw [coe_sum]
  exact Finset.sum_congr rfl fun s _ => (EReal.coe_mul _ _).symm

section
variable {H Zr Zi Br Bi Cr Ci}
variable (hH : Real' H) (hr : Real' Zr) (hi : Real' Zi) (hbr : Real' Br) (hbi : Real' Bi) (hcr : Real' Cr) (hci : Real' Ci)
include hH hr hi hbr hbi

/-- The states are the recurrence's solution. -/
theorem states_at (b : Fin 4) (t : Fin 4096) (G : Fin 128) (p : Fin 64) :
    statesR H Zr Zi Br Bi (ix4 b t G p) = (((solution H Zr Zi Br Bi b G p t.val).re : ℝ) : EReal)
    ∧ statesI H Zr Zi Br Bi (ix4 b t G p) = (((solution H Zr Zi Br Bi b G p t.val).im : ℝ) : EReal) := by
  have sol : solution H Zr Zi Br Bi b G p t.val = ∑ s : Fin 4096, feed H Br Bi b G p s.val * (if s.val ≤ t.val then factor Zr Zi G p ^ (t.val - s.val) else 0) := by
    unfold solution
    rw [← sum_masked 4096 (t.val + 1) (by omega) (fun s => factor Zr Zi G p ^ (t.val - s) * feed H Br Bi b G p s)]
    refine Finset.sum_congr rfl fun s _ => ?_
    by_cases h : s.val ≤ t.val
    · rw [if_pos h, if_pos (by omega), mul_comm]
    · rw [if_neg h, if_neg (by omega), mul_zero]
  rw [sol]
  have a1 : along (puts H Br) (kerR Zr Zi) (ix4 b t G p) = _ := (along_at _ _ b t G p).trans ((Finset.sum_congr rfl fun s _ => by
    rw [(puts_at H Br Bi hH hbr hbi b s G p).1, (ker_at Zr Zi hr hi G t s p).1]).trans (sum_products _ _))
  have a2 : along (puts H Bi) (kerI Zr Zi) (ix4 b t G p) = _ := (along_at _ _ b t G p).trans ((Finset.sum_congr rfl fun s _ => by
    rw [(puts_at H Br Bi hH hbr hbi b s G p).2, (ker_at Zr Zi hr hi G t s p).2]).trans (sum_products _ _))
  have a3 : along (puts H Bi) (kerR Zr Zi) (ix4 b t G p) = _ := (along_at _ _ b t G p).trans ((Finset.sum_congr rfl fun s _ => by
    rw [(puts_at H Br Bi hH hbr hbi b s G p).2, (ker_at Zr Zi hr hi G t s p).1]).trans (sum_products _ _))
  have a4 : along (puts H Br) (kerI Zr Zi) (ix4 b t G p) = _ := (along_at _ _ b t G p).trans ((Finset.sum_congr rfl fun s _ => by
    rw [(puts_at H Br Bi hH hbr hbi b s G p).1, (ker_at Zr Zi hr hi G t s p).2]).trans (sum_products _ _))
  constructor
  · show (along (puts H Br) (kerR Zr Zi) (ix4 b t G p) - along (puts H Bi) (kerI Zr Zi) (ix4 b t G p) : EReal) = _
    rw [a1, a2, ← EReal.coe_sub, ← Finset.sum_sub_distrib, Complex.re_sum]
    refine congrArg Real.toEReal (Finset.sum_congr rfl fun s _ => ?_)
    rw [Complex.mul_re]
  · show (along (puts H Bi) (kerR Zr Zi) (ix4 b t G p) + along (puts H Br) (kerI Zr Zi) (ix4 b t G p) : EReal) = _
    rw [a3, a4, ← EReal.coe_add, ← Finset.sum_add_distrib, Complex.im_sum]
    refine congrArg Real.toEReal (Finset.sum_congr rfl fun s _ => ?_)
    rw [Complex.mul_im, add_comm]

include hcr hci

/-- The outputs are the recurrence's. -/
theorem outputs_at (b : Fin 4) (t : Fin 4096) (G : Fin 128) (o : Fin 16) :
    outputs H Zr Zi Br Bi Cr Ci (ix4 b t G o) = ((total H Zr Zi Br Bi Cr Ci b G t.val o : ℝ) : EReal) := by
  have e (C : FVec Ideal S128x16x64 .f32) (X : FVec Ideal S4x4096x128x64 .f32) : read C X (ix4 b t G o) = ∑ p : Fin 64, (C (ix3 G o p) * X (ix4 b t G p) : EReal) := by
    pointwise [read]
  have a1 : read Cr (statesR H Zr Zi Br Bi) (ix4 b t G o) = _ := (e _ _).trans ((Finset.sum_congr rfl fun p _ => by
    rw [(states_at hH hr hi hbr hbi b t G p).1, hcr]).trans (sum_products _ _))
  have a2 : read Ci (statesI H Zr Zi Br Bi) (ix4 b t G o) = _ := (e _ _).trans ((Finset.sum_congr rfl fun p _ => by
    rw [(states_at hH hr hi hbr hbi b t G p).2, hci]).trans (sum_products _ _))
  show (read Cr (statesR H Zr Zi Br Bi) (ix4 b t G o) - read Ci (statesI H Zr Zi Br Bi) (ix4 b t G o) : EReal) = _
  rw [a1, a2, ← EReal.coe_sub, ← Finset.sum_sub_distrib]
  unfold total
  refine congrArg Real.toEReal (Finset.sum_congr rfl fun p _ => ?_)
  rw [Complex.mul_re]
  rfl

/-- The result, entry by entry. -/
theorem result_at (g : Fin 64) (r : Fin 1024) (q : Fin 512) :
    result (outputs H Zr Zi Br Bi Cr Ci) (ix3 g r q)
      = ((total H Zr Zi Br Bi Cr Ci (⟨r.val / 256, by omega⟩ : Fin 4) (⟨2 * g.val + q.val / 256, by omega⟩ : Fin 128) (16 * (r.val % 256) + q.val % 256 / 16) (⟨q.val % 16, by omega⟩ : Fin 16) : ℝ) : EReal) := by
  rw [← outputs_at hH hr hi hbr hbi hcr hci (⟨r.val / 256, by omega⟩ : Fin 4) (⟨16 * (r.val % 256) + q.val % 256 / 16, by omega⟩ : Fin 4096) (⟨2 * g.val + q.val / 256, by omega⟩ : Fin 128) (⟨q.val % 16, by omega⟩ : Fin 16)]
  generalize outputs H Zr Zi Br Bi Cr Ci = Y
  pointwise [result]
  exact congrArg Y (congrArg₂ (fun a b => ix4 _ a b _) (Fin.ext (by dsimp only; omega)) (Fin.ext (by dsimp only; omega)))

end

end Cert.ScanRefIdeal.Scan

end
-- ==== Proof.ScanValue.lean ====
/-
  The S5 scan's kernel and its reference end with the same array.
-/
module

public import proofs.«01_k».proof.Defs
public import proofs.«01_k».proof.Proof.Gen.Pre_pre_s5
public import proofs.«01_k».proof.Proof.MLstmPre
public import proofs.«01_k».proof.Proof.ScanKernel
public import proofs.«01_k».proof.Proof.ScanReference
public import Idealize.ShloMosaic.Lib.Claim

@[expose] public section

set_option maxRecDepth 16384

noncomputable section

namespace Cert.ScanIdeal.Scan

open Cert.ScanIdeal Cert.ScanIdeal.Gen Cert.Scan Idealize.ShloMosaic Idealize.ShloMosaic.TcCoe Idealize.SL.Sem

/-- What the precondition says of the arrays. -/
theorem finite_of_pre (m : (ℓ : Loc nD τ sig) → Buf (Elt Ideal) ℓ) (hp : @Cert.Pre_ScanIdeal_pre_s5 Cert.Pre_pre_s5.Gen.facts m) (c : Dev nD) : Finite m c where
  h i := by
    have e := congrFun (hp c).1 i
    revert e
    pointwise [Cert.Pre_pre_s5.fn]
    exact Cert.KernelIdeal.MLstm.real_of_abs_lt _
  re i := by
    have e := congrFun (hp c).2.1 i
    revert e
    pointwise [Cert.Pre_pre_s5.fn]
    exact Cert.KernelIdeal.MLstm.real_of_abs_lt _
  im i := by
    have e := congrFun (hp c).2.2.1 i
    revert e
    pointwise [Cert.Pre_pre_s5.fn]
    exact Cert.KernelIdeal.MLstm.real_of_abs_lt _
  br i := by
    have e := congrFun (hp c).2.2.2.1 i
    revert e
    pointwise [Cert.Pre_pre_s5.fn]
    exact Cert.KernelIdeal.MLstm.real_of_abs_lt _
  bi i := by
    have e := congrFun (hp c).2.2.2.2.1 i
    revert e
    pointwise [Cert.Pre_pre_s5.fn]
    exact Cert.KernelIdeal.MLstm.real_of_abs_lt _
  cr i := by
    have e := congrFun (hp c).2.2.2.2.2.1 i
    revert e
    pointwise [Cert.Pre_pre_s5.fn]
    exact Cert.KernelIdeal.MLstm.real_of_abs_lt _
  ci i := by
    have e := congrFun (hp c).2.2.2.2.2.2 i
    revert e
    pointwise [Cert.Pre_pre_s5.fn]
    exact Cert.KernelIdeal.MLstm.real_of_abs_lt _

end Cert.ScanIdeal.Scan

namespace Cert.Proof

open Idealize.ShloMosaic Idealize.ShloMosaic.TcCoe Idealize.SL.Sem

attribute [local instance] Cert.ScanIdeal.Gen.facts Cert.ScanRefIdeal.Gen.facts Cert.Pre_pre_s5.Gen.facts

/-- Kernel and reference of the scan end with the same array. -/
theorem scan_algebraic : Cert.algebraic_ScanIdeal_ScanRefIdeal_pre_pre_s5 := by
  pair_intro
  · run_from Cert.ScanIdeal.Value.run_blocks m g
  · run_from Cert.ScanRefIdeal.Value.run m' g'
    have F := Cert.ScanIdeal.Scan.finite_of_pre m hpre c
    obtain ⟨h0, h1, h2, h3, h4, h5, h6⟩ := hagree c
    rw [Cert.ScanRefIdeal.Scan.stages, h0, h1, h2, h3, h4, h5, h6, Cert.ScanIdeal.Scan.final F, Cert.ScanIdeal.Scan.memIn_eq, Cert.ScanIdeal.Scan.memToep_eq, Cert.ScanIdeal.Scan.memOut_eq]
    funext y
    idx_vars y
    exact (Cert.ScanRefIdeal.Scan.result_at F.h F.re F.im F.br F.bi F.cr F.ci _ _ _).trans (Cert.ScanIdeal.Scan.entry_at F.h F.re F.im F.br F.bi F.cr F.ci _ _ _).symm

/-- The reference leaves its arguments as they were; it has no semaphore. -/
theorem scan_reference_frame : Cert.quiescent_ScanRefIdeal := fun m g _ =>
  (θ_run Cert.ScanRefIdeal.defs _ _).mono
    (fun r h => ⟨fun c => (h c).2, sem_eq_zero_of_no_sems (by decide) r.2⟩) (Cert.ScanRefIdeal.Value.run m g)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_pre_mlstm
public import proofs.«01_k».proof.Proof.Gen.KernelIdeal.Value
public import proofs.«01_k».proof.Proof.Gen.ReferenceIdeal.Run
public import proofs.«01_k».proof.Proof.MLstmClaim
public import proofs.«01_k».proof.Proof.Gen.InProj.Frame
public import proofs.«01_k».proof.Proof.Gen.Glu.Frame
public import proofs.«01_k».proof.Proof.Gen.OutProj.Frame
public import proofs.«01_k».proof.Proof.InProjection
public import proofs.«01_k».proof.Proof.GluUnit
public import proofs.«01_k».proof.Proof.OutProjection
public import proofs.«01_k».proof.Proof.ExpertsTables
public import proofs.«01_k».proof.Proof.ExpertsValue
public import proofs.«01_k».proof.Proof.CombineTables
public import proofs.«01_k».proof.Proof.CombineValue
public import proofs.«01_k».proof.Proof.Gen.Scan.Frame
public import proofs.«01_k».proof.Proof.Gen.ScanIdeal.Value
public import proofs.«01_k».proof.Proof.Gen.ScanRefIdeal.Run
public import proofs.«01_k».proof.Proof.Gen.Pre_pre_s5
public import proofs.«01_k».proof.Proof.ScanValue
public import proofs.«01_k».proof.Proof.Gen.Experts.Launch
public import proofs.«01_k».proof.Proof.Gen.Experts.Skeleton
public import proofs.«01_k».proof.Proof.Gen.ExpertsIdeal.Skeleton
public import proofs.«01_k».proof.Proof.Gen.Pre_pre_moe
public import proofs.«01_k».proof.Proof.Gen.ExpertsIdeal.Launch
public import proofs.«01_k».proof.Proof.Gen.ExpertsRefIdeal.Run
public import proofs.«01_k».proof.Proof.Gen.Combine.Launch
public import proofs.«01_k».proof.Proof.Gen.CombineIdeal.Launch
public import proofs.«01_k».proof.Proof.Gen.CombineIdeal.Skeleton
public import proofs.«01_k».proof.Proof.Gen.Combine.Skeleton
public import proofs.«01_k».proof.Proof.Gen.CombineRefIdeal.Run
public import proofs.«01_k».proof.Proof.Gen.Pre_pre_mix
public import Idealize.ShloMosaic.Lib.Claim
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.InProj.Gen.facts, Cert.InProjIdeal.Gen.facts,
    Cert.InProjRefIdeal.Gen.facts, Cert.Glu.Gen.facts, Cert.GluIdeal.Gen.facts, Cert.GluRefIdeal.Gen.facts, Cert.OutProj.Gen.facts,
    Cert.OutProjIdeal.Gen.facts, Cert.OutProjRefIdeal.Gen.facts, Cert.Experts.Gen.facts, Cert.ExpertsIdeal.Gen.facts,
    Cert.ExpertsRefIdeal.Gen.facts, Cert.Combine.Gen.facts, Cert.CombineIdeal.Gen.facts, Cert.CombineRefIdeal.Gen.facts,
    Cert.Scan.Gen.facts, Cert.ScanIdeal.Gen.facts, Cert.ScanRefIdeal.Gen.facts,
    Cert.Pre_pre_mlstm.Gen.facts, Cert.Pre_pre_moe.Gen.facts, Cert.Pre_pre_mix.Gen.facts, Cert.Pre_pre_s5.Gen.facts,
    fun m ρ _ => Cert.Kernel.Gen.frame m ρ, fun m ρ _ => Cert.KernelIdeal.Gen.frame m ρ, fun m ρ _ => Cert.KernelIdeal.Gen.frame m ρ,
    mlstm_reference_frame, fun m g _ => mlstm_reference_frame m g trivial,
    fun m ρ _ => Cert.InProj.Gen.frame m ρ, fun m ρ _ => Cert.InProjIdeal.Gen.frame m ρ, in_reference_frame,
    fun m ρ _ => Cert.Glu.Gen.frame m ρ, fun m ρ _ => Cert.GluIdeal.Gen.frame m ρ, glu_reference_frame,
    fun m ρ _ => Cert.OutProj.Gen.frame m ρ, fun m ρ _ => Cert.OutProjIdeal.Gen.frame m ρ, out_reference_frame,
    fun m ρ h => Cert.Experts.Body.frame (Cert.Experts.Body.admOf m h) m ρ (Cert.Experts.Body.tables_hold m h),
    fun m ρ h => Cert.ExpertsIdeal.Body.frame (Cert.ExpertsIdeal.Body.admOf m h) m ρ (Cert.ExpertsIdeal.Body.tables_hold m h),
    experts_reference_frame, fun m g _ => experts_reference_frame m g trivial,
    fun m ρ h => Cert.Combine.Body.frame m ρ (Cert.Combine.Body.ranges m h),
    fun m ρ h => Cert.CombineIdeal.Body.frame m ρ (Cert.CombineIdeal.Body.ranges m h),
    combine_reference_frame, fun m g _ => combine_reference_frame m g trivial,
    fun m ρ _ => Cert.Scan.Gen.frame m ρ, fun m ρ _ => Cert.ScanIdeal.Gen.frame m ρ, fun m ρ _ => Cert.ScanIdeal.Gen.frame m ρ,
    scan_reference_frame, fun m g _ => scan_reference_frame m g trivial,
    trivial, mlstm_algebraic, trivial, in_algebraic, trivial, glu_algebraic, trivial, out_algebraic, trivial,
    experts_algebraic, trivial, combine_algebraic, trivial, scan_algebraic⟩

end Cert.Proof

end
